-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2))) = (fun _ => 1#1)

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_NprojKernel (m : (ℓ : Loc Cert.NprojKernel.nD Cert.NprojKernel.τ Cert.NprojKernel.sig) → Buf (Elt Bits) ℓ) : Prop :=
  True

def Pre_NprojKernelIdeal (m : (ℓ : Loc Cert.NprojKernelIdeal.nD Cert.NprojKernelIdeal.τ Cert.NprojKernelIdeal.sig) → Buf (Elt Ideal) ℓ) : Prop :=
  True

def Pre_NprojReferenceIdeal (m : (ℓ : Loc Cert.NprojReferenceIdeal.nD Cert.NprojReferenceIdeal.τ Cert.NprojReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_WoutKernel (m : (ℓ : Loc Cert.WoutKernel.nD Cert.WoutKernel.τ Cert.WoutKernel.sig) → Buf (Elt Bits) ℓ) : Prop :=
  True

def Pre_WoutKernelIdeal (m : (ℓ : Loc Cert.WoutKernelIdeal.nD Cert.WoutKernelIdeal.τ Cert.WoutKernelIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_RestKernel (m : (ℓ : Loc Cert.RestKernel.nD Cert.RestKernel.τ Cert.RestKernel.sig) → Buf (Elt Bits) ℓ) : Prop :=
  True

def Pre_RestKernelIdeal (m : (ℓ : Loc Cert.RestKernelIdeal.nD Cert.RestKernelIdeal.τ Cert.RestKernelIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def Pre_HeadKernel (m : (ℓ : Loc Cert.HeadKernel.nD Cert.HeadKernel.τ Cert.HeadKernel.sig) → Buf (Elt Bits) ℓ) : Prop :=
  True

def Pre_HeadKernelIdeal (m : (ℓ : Loc Cert.HeadKernelIdeal.nD Cert.HeadKernelIdeal.τ Cert.HeadKernelIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_NprojKernel [hNprojKernel : Cert.NprojKernel.Facts] : Prop :=
  ∀ (m : (ℓ : Loc Cert.NprojKernel.nD Cert.NprojKernel.τ Cert.NprojKernel.sig) → Buf (Elt Bits) ℓ) (g : Dev Cert.NprojKernel.nD → PrngReg), Pre_NprojKernel m →
    θ_run (Cert.NprojKernel.defs (F := Bits)) (onTc (τ := Cert.NprojKernel.τ) (Cert.NprojKernel.main (F := Bits))) ⟨m, fun _ => 0, g⟩ (fun r => (∀ c : Dev Cert.NprojKernel.nD,
      r.2.mem ((c.tc : Thread Cert.NprojKernel.nD Cert.NprojKernel.τ).loc Cert.NprojKernel.main_arg0) = m ((c.tc : Thread Cert.NprojKernel.nD Cert.NprojKernel.τ).loc Cert.NprojKernel.main_arg0)
      ∧ r.2.mem ((c.tc : Thread Cert.NprojKernel.nD Cert.NprojKernel.τ).loc Cert.NprojKernel.main_arg1) = m ((c.tc : Thread Cert.NprojKernel.nD Cert.NprojKernel.τ).loc Cert.NprojKernel.main_arg1)
      ∧ r.2.mem ((c.tc : Thread Cert.NprojKernel.nD Cert.NprojKernel.τ).loc Cert.NprojKernel.main_arg2) = m ((c.tc : Thread Cert.NprojKernel.nD Cert.NprojKernel.τ).loc Cert.NprojKernel.main_arg2)
      ∧ r.2.mem ((c.tc : Thread Cert.NprojKernel.nD Cert.NprojKernel.τ).loc Cert.NprojKernel.main_arg3) = m ((c.tc : Thread Cert.NprojKernel.nD Cert.NprojKernel.τ).loc Cert.NprojKernel.main_arg3)
      ∧ r.2.mem ((c.tc : Thread Cert.NprojKernel.nD Cert.NprojKernel.τ).loc Cert.NprojKernel.main_arg4) = m ((c.tc : Thread Cert.NprojKernel.nD Cert.NprojKernel.τ).loc Cert.NprojKernel.main_arg4)
      ∧ r.2.mem ((c.tc : Thread Cert.NprojKernel.nD Cert.NprojKernel.τ).loc Cert.NprojKernel.main_arg5) = m ((c.tc : Thread Cert.NprojKernel.nD Cert.NprojKernel.τ).loc Cert.NprojKernel.main_arg5))
      ∧ r.2.sem = fun _ => 0)

def quiescent_NprojKernelIdeal [hNprojKernelIdeal : Cert.NprojKernelIdeal.Facts] : Prop :=
  ∀ (m : (ℓ : Loc Cert.NprojKernelIdeal.nD Cert.NprojKernelIdeal.τ Cert.NprojKernelIdeal.sig) → Buf (Elt Ideal) ℓ) (g : Dev Cert.NprojKernelIdeal.nD → PrngReg), Pre_NprojKernelIdeal m →
    θ_run (Cert.NprojKernelIdeal.defs (F := Ideal)) (onTc (τ := Cert.NprojKernelIdeal.τ) (Cert.NprojKernelIdeal.main (F := Ideal))) ⟨m, fun _ => 0, g⟩ (fun r => (∀ c : Dev Cert.NprojKernelIdeal.nD,
      r.2.mem ((c.tc : Thread Cert.NprojKernelIdeal.nD Cert.NprojKernelIdeal.τ).loc Cert.NprojKernelIdeal.main_arg0) = m ((c.tc : Thread Cert.NprojKernelIdeal.nD Cert.NprojKernelIdeal.τ).loc Cert.NprojKernelIdeal.main_arg0)
      ∧ r.2.mem ((c.tc : Thread Cert.NprojKernelIdeal.nD Cert.NprojKernelIdeal.τ).loc Cert.NprojKernelIdeal.main_arg1) = m ((c.tc : Thread Cert.NprojKernelIdeal.nD Cert.NprojKernelIdeal.τ).loc Cert.NprojKernelIdeal.main_arg1)
      ∧ r.2.mem ((c.tc : Thread Cert.NprojKernelIdeal.nD Cert.NprojKernelIdeal.τ).loc Cert.NprojKernelIdeal.main_arg2) = m ((c.tc : Thread Cert.NprojKernelIdeal.nD Cert.NprojKernelIdeal.τ).loc Cert.NprojKernelIdeal.main_arg2)
      ∧ r.2.mem ((c.tc : Thread Cert.NprojKernelIdeal.nD Cert.NprojKernelIdeal.τ).loc Cert.NprojKernelIdeal.main_arg3) = m ((c.tc : Thread Cert.NprojKernelIdeal.nD Cert.NprojKernelIdeal.τ).loc Cert.NprojKernelIdeal.main_arg3)
      ∧ r.2.mem ((c.tc : Thread Cert.NprojKernelIdeal.nD Cert.NprojKernelIdeal.τ).loc Cert.NprojKernelIdeal.main_arg4) = m ((c.tc : Thread Cert.NprojKernelIdeal.nD Cert.NprojKernelIdeal.τ).loc Cert.NprojKernelIdeal.main_arg4)
      ∧ r.2.mem ((c.tc : Thread Cert.NprojKernelIdeal.nD Cert.NprojKernelIdeal.τ).loc Cert.NprojKernelIdeal.main_arg5) = m ((c.tc : Thread Cert.NprojKernelIdeal.nD Cert.NprojKernelIdeal.τ).loc Cert.NprojKernelIdeal.main_arg5))
      ∧ r.2.sem = fun _ => 0)

def quiescent_NprojReferenceIdeal [hNprojReferenceIdeal : Cert.NprojReferenceIdeal.Facts] : Prop :=
  ∀ (m : (ℓ : Loc Cert.NprojReferenceIdeal.nD Cert.NprojReferenceIdeal.τ Cert.NprojReferenceIdeal.sig) → Buf (Elt Ideal) ℓ) (g : Dev Cert.NprojReferenceIdeal.nD → PrngReg), Pre_NprojReferenceIdeal m →
    θ_run (Cert.NprojReferenceIdeal.defs (F := Ideal)) (onTc (τ := Cert.NprojReferenceIdeal.τ) (Cert.NprojReferenceIdeal.main (F := Ideal))) ⟨m, fun _ => 0, g⟩ (fun r => (∀ c : Dev Cert.NprojReferenceIdeal.nD,
      r.2.mem ((c.tc : Thread Cert.NprojReferenceIdeal.nD Cert.NprojReferenceIdeal.τ).loc Cert.NprojReferenceIdeal.main_arg0) = m ((c.tc : Thread Cert.NprojReferenceIdeal.nD Cert.NprojReferenceIdeal.τ).loc Cert.NprojReferenceIdeal.main_arg0)
      ∧ r.2.mem ((c.tc : Thread Cert.NprojReferenceIdeal.nD Cert.NprojReferenceIdeal.τ).loc Cert.NprojReferenceIdeal.main_arg1) = m ((c.tc : Thread Cert.NprojReferenceIdeal.nD Cert.NprojReferenceIdeal.τ).loc Cert.NprojReferenceIdeal.main_arg1)
      ∧ r.2.mem ((c.tc : Thread Cert.NprojReferenceIdeal.nD Cert.NprojReferenceIdeal.τ).loc Cert.NprojReferenceIdeal.main_arg2) = m ((c.tc : Thread Cert.NprojReferenceIdeal.nD Cert.NprojReferenceIdeal.τ).loc Cert.NprojReferenceIdeal.main_arg2)
      ∧ r.2.mem ((c.tc : Thread Cert.NprojReferenceIdeal.nD Cert.NprojReferenceIdeal.τ).loc Cert.NprojReferenceIdeal.main_arg3) = m ((c.tc : Thread Cert.NprojReferenceIdeal.nD Cert.NprojReferenceIdeal.τ).loc Cert.NprojReferenceIdeal.main_arg3)
      ∧ r.2.mem ((c.tc : Thread Cert.NprojReferenceIdeal.nD Cert.NprojReferenceIdeal.τ).loc Cert.NprojReferenceIdeal.main_arg4) = m ((c.tc : Thread Cert.NprojReferenceIdeal.nD Cert.NprojReferenceIdeal.τ).loc Cert.NprojReferenceIdeal.main_arg4)
      ∧ r.2.mem ((c.tc : Thread Cert.NprojReferenceIdeal.nD Cert.NprojReferenceIdeal.τ).loc Cert.NprojReferenceIdeal.main_arg5) = m ((c.tc : Thread Cert.NprojReferenceIdeal.nD Cert.NprojReferenceIdeal.τ).loc Cert.NprojReferenceIdeal.main_arg5))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3))
      ∧ r.2.sem = fun _ => 0)

def quiescent_WoutKernel [hWoutKernel : Cert.WoutKernel.Facts] : Prop :=
  ∀ (m : (ℓ : Loc Cert.WoutKernel.nD Cert.WoutKernel.τ Cert.WoutKernel.sig) → Buf (Elt Bits) ℓ) (g : Dev Cert.WoutKernel.nD → PrngReg), Pre_WoutKernel m →
    θ_run (Cert.WoutKernel.defs (F := Bits)) (onTc (τ := Cert.WoutKernel.τ) (Cert.WoutKernel.main (F := Bits))) ⟨m, fun _ => 0, g⟩ (fun r => (∀ c : Dev Cert.WoutKernel.nD,
      r.2.mem ((c.tc : Thread Cert.WoutKernel.nD Cert.WoutKernel.τ).loc Cert.WoutKernel.main_arg0) = m ((c.tc : Thread Cert.WoutKernel.nD Cert.WoutKernel.τ).loc Cert.WoutKernel.main_arg0)
      ∧ r.2.mem ((c.tc : Thread Cert.WoutKernel.nD Cert.WoutKernel.τ).loc Cert.WoutKernel.main_arg1) = m ((c.tc : Thread Cert.WoutKernel.nD Cert.WoutKernel.τ).loc Cert.WoutKernel.main_arg1)
      ∧ r.2.mem ((c.tc : Thread Cert.WoutKernel.nD Cert.WoutKernel.τ).loc Cert.WoutKernel.main_arg2) = m ((c.tc : Thread Cert.WoutKernel.nD Cert.WoutKernel.τ).loc Cert.WoutKernel.main_arg2)
      ∧ r.2.mem ((c.tc : Thread Cert.WoutKernel.nD Cert.WoutKernel.τ).loc Cert.WoutKernel.main_arg3) = m ((c.tc : Thread Cert.WoutKernel.nD Cert.WoutKernel.τ).loc Cert.WoutKernel.main_arg3))
      ∧ r.2.sem = fun _ => 0)

def quiescent_WoutKernelIdeal [hWoutKernelIdeal : Cert.WoutKernelIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg), Pre_WoutKernelIdeal m →
    θ_run (Cert.WoutKernelIdeal.defs (F := Ideal)) (onTc (τ := Cert.WoutKernelIdeal.τ) (Cert.WoutKernelIdeal.main (F := Ideal))) ⟨m, fun _ => 0, g⟩ (fun r => (∀ c : Dev Cert.WoutKernelIdeal.nD,
      r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
      ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
      ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2)
      ∧ r.2.mem ((c.tc : Thread Cert.WoutKernelIdeal.nD Cert.WoutKernelIdeal.τ).loc Cert.WoutKernelIdeal.main_arg3) = m ((c.tc : Thread Cert.WoutKernelIdeal.nD Cert.WoutKernelIdeal.τ).loc Cert.WoutKernelIdeal.main_arg3))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1)
      ∧ r.2.mem ((c.tc : Thread Cert.WoutReferenceIdeal.nD Cert.WoutReferenceIdeal.τ).loc Cert.WoutReferenceIdeal.main_arg2) = m ((c.tc : Thread Cert.WoutReferenceIdeal.nD Cert.WoutReferenceIdeal.τ).loc Cert.WoutReferenceIdeal.main_arg2)
      ∧ r.2.mem ((c.tc : Thread Cert.WoutReferenceIdeal.nD Cert.WoutReferenceIdeal.τ).loc Cert.WoutReferenceIdeal.main_arg3) = m ((c.tc : Thread Cert.WoutReferenceIdeal.nD Cert.WoutReferenceIdeal.τ).loc Cert.WoutReferenceIdeal.main_arg3))
      ∧ r.2.sem = fun _ => 0)

def quiescent_RestKernel [hRestKernel : Cert.RestKernel.Facts] : Prop :=
  ∀ (m : (ℓ : Loc Cert.RestKernel.nD Cert.RestKernel.τ Cert.RestKernel.sig) → Buf (Elt Bits) ℓ) (g : Dev Cert.RestKernel.nD → PrngReg), Pre_RestKernel m →
    θ_run (Cert.RestKernel.defs (F := Bits)) (onTc (τ := Cert.RestKernel.τ) (Cert.RestKernel.main (F := Bits))) ⟨m, fun _ => 0, g⟩ (fun r => (∀ c : Dev Cert.RestKernel.nD,
      r.2.mem ((c.tc : Thread Cert.RestKernel.nD Cert.RestKernel.τ).loc Cert.RestKernel.main_arg0) = m ((c.tc : Thread Cert.RestKernel.nD Cert.RestKernel.τ).loc Cert.RestKernel.main_arg0)
      ∧ r.2.mem ((c.tc : Thread Cert.RestKernel.nD Cert.RestKernel.τ).loc Cert.RestKernel.main_arg1) = m ((c.tc : Thread Cert.RestKernel.nD Cert.RestKernel.τ).loc Cert.RestKernel.main_arg1)
      ∧ r.2.mem ((c.tc : Thread Cert.RestKernel.nD Cert.RestKernel.τ).loc Cert.RestKernel.main_arg2) = m ((c.tc : Thread Cert.RestKernel.nD Cert.RestKernel.τ).loc Cert.RestKernel.main_arg2)
      ∧ r.2.mem ((c.tc : Thread Cert.RestKernel.nD Cert.RestKernel.τ).loc Cert.RestKernel.main_arg3) = m ((c.tc : Thread Cert.RestKernel.nD Cert.RestKernel.τ).loc Cert.RestKernel.main_arg3))
      ∧ r.2.sem = fun _ => 0)

def quiescent_RestKernelIdeal [hRestKernelIdeal : Cert.RestKernelIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg), Pre_RestKernelIdeal m →
    θ_run (Cert.RestKernelIdeal.defs (F := Ideal)) (onTc (τ := Cert.RestKernelIdeal.τ) (Cert.RestKernelIdeal.main (F := Ideal))) ⟨m, fun _ => 0, g⟩ (fun r => (∀ c : Dev Cert.RestKernelIdeal.nD,
      r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
      ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1)
      ∧ r.2.mem ((c.tc : Thread Cert.RestKernelIdeal.nD Cert.RestKernelIdeal.τ).loc Cert.RestKernelIdeal.main_arg2) = m ((c.tc : Thread Cert.RestKernelIdeal.nD Cert.RestKernelIdeal.τ).loc Cert.RestKernelIdeal.main_arg2)
      ∧ r.2.mem ((c.tc : Thread Cert.RestKernelIdeal.nD Cert.RestKernelIdeal.τ).loc Cert.RestKernelIdeal.main_arg3) = m ((c.tc : Thread Cert.RestKernelIdeal.nD Cert.RestKernelIdeal.τ).loc Cert.RestKernelIdeal.main_arg3))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3))
      ∧ r.2.sem = fun _ => 0)

def quiescent_HeadKernel [hHeadKernel : Cert.HeadKernel.Facts] : Prop :=
  ∀ (m : (ℓ : Loc Cert.HeadKernel.nD Cert.HeadKernel.τ Cert.HeadKernel.sig) → Buf (Elt Bits) ℓ) (g : Dev Cert.HeadKernel.nD → PrngReg), Pre_HeadKernel m →
    θ_run (Cert.HeadKernel.defs (F := Bits)) (onTc (τ := Cert.HeadKernel.τ) (Cert.HeadKernel.main (F := Bits))) ⟨m, fun _ => 0, g⟩ (fun r => (∀ c : Dev Cert.HeadKernel.nD,
      r.2.mem ((c.tc : Thread Cert.HeadKernel.nD Cert.HeadKernel.τ).loc Cert.HeadKernel.main_arg0) = m ((c.tc : Thread Cert.HeadKernel.nD Cert.HeadKernel.τ).loc Cert.HeadKernel.main_arg0)
      ∧ r.2.mem ((c.tc : Thread Cert.HeadKernel.nD Cert.HeadKernel.τ).loc Cert.HeadKernel.main_arg1) = m ((c.tc : Thread Cert.HeadKernel.nD Cert.HeadKernel.τ).loc Cert.HeadKernel.main_arg1)
      ∧ r.2.mem ((c.tc : Thread Cert.HeadKernel.nD Cert.HeadKernel.τ).loc Cert.HeadKernel.main_arg2) = m ((c.tc : Thread Cert.HeadKernel.nD Cert.HeadKernel.τ).loc Cert.HeadKernel.main_arg2)
      ∧ r.2.mem ((c.tc : Thread Cert.HeadKernel.nD Cert.HeadKernel.τ).loc Cert.HeadKernel.main_arg3) = m ((c.tc : Thread Cert.HeadKernel.nD Cert.HeadKernel.τ).loc Cert.HeadKernel.main_arg3)
      ∧ r.2.mem ((c.tc : Thread Cert.HeadKernel.nD Cert.HeadKernel.τ).loc Cert.HeadKernel.main_arg4) = m ((c.tc : Thread Cert.HeadKernel.nD Cert.HeadKernel.τ).loc Cert.HeadKernel.main_arg4))
      ∧ r.2.sem = fun _ => 0)

def quiescent_HeadKernelIdeal [hHeadKernelIdeal : Cert.HeadKernelIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg), Pre_HeadKernelIdeal m →
    θ_run (Cert.HeadKernelIdeal.defs (F := Ideal)) (onTc (τ := Cert.HeadKernelIdeal.τ) (Cert.HeadKernelIdeal.main (F := Ideal))) ⟨m, fun _ => 0, g⟩ (fun r => (∀ c : Dev Cert.HeadKernelIdeal.nD,
      r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
      ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
      ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
      ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
      ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)) →
    ∃ (v0 : (c : Dev Cert.DhKernelIdeal.nD) → Buf (Elt Ideal) ((c.tc : Thread Cert.DhKernelIdeal.nD Cert.DhKernelIdeal.τ).loc Cert.DhKernelIdeal.main_v52_0)) (v1 : (c : Dev Cert.DhKernelIdeal.nD) → Buf (Elt Ideal) ((c.tc : Thread Cert.DhKernelIdeal.nD Cert.DhKernelIdeal.τ).loc Cert.DhKernelIdeal.main_v52_1)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v52_0) = v0 c
          ∧ r.2.mem ((c.tc : Thread Cert.DhKernelIdeal.nD Cert.DhKernelIdeal.τ).loc Cert.DhKernelIdeal.main_v52_1) = v1 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v39) = v0 c
          ∧ r.2.mem ((c.tc : Thread Cert.DhReferenceIdeal.nD Cert.DhReferenceIdeal.τ).loc Cert.DhReferenceIdeal.main_v40) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)) →
    ∃ (v0 : (c : Dev Cert.DwKernelIdeal.nD) → Buf (Elt Ideal) ((c.tc : Thread Cert.DwKernelIdeal.nD Cert.DwKernelIdeal.τ).loc Cert.DwKernelIdeal.main_v45)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v45) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v35) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)) →
    ∃ (v0 : (c : Dev Cert.PostKernelIdeal.nD) → Buf (Elt Ideal) ((c.tc : Thread Cert.PostKernelIdeal.nD Cert.PostKernelIdeal.τ).loc Cert.PostKernelIdeal.main_v4_0)) (v1 : (c : Dev Cert.PostKernelIdeal.nD) → Buf (Elt Ideal) ((c.tc : Thread Cert.PostKernelIdeal.nD Cert.PostKernelIdeal.τ).loc Cert.PostKernelIdeal.main_v4_1)) (v2 : (c : Dev Cert.PostKernelIdeal.nD) → Buf (Elt Ideal) ((c.tc : Thread Cert.PostKernelIdeal.nD Cert.PostKernelIdeal.τ).loc Cert.PostKernelIdeal.main_v4_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v4_0) = v0 c
          ∧ r.2.mem ((c.tc : Thread Cert.PostKernelIdeal.nD Cert.PostKernelIdeal.τ).loc Cert.PostKernelIdeal.main_v4_1) = v1 c
          ∧ r.2.mem ((c.tc : Thread Cert.PostKernelIdeal.nD Cert.PostKernelIdeal.τ).loc Cert.PostKernelIdeal.main_v4_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v40) = v0 c
          ∧ r.2.mem ((c.tc : Thread Cert.PostReferenceIdeal.nD Cert.PostReferenceIdeal.τ).loc Cert.PostReferenceIdeal.main_v42) = v1 c
          ∧ r.2.mem ((c.tc : Thread Cert.PostReferenceIdeal.nD Cert.PostReferenceIdeal.τ).loc Cert.PostReferenceIdeal.main_v43) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v13)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v13) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v7_0)) (v1 : (c : Dev Cert.ConvKernelIdeal.nD) → Buf (Elt Ideal) ((c.tc : Thread Cert.ConvKernelIdeal.nD Cert.ConvKernelIdeal.τ).loc Cert.ConvKernelIdeal.main_v7_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v7_0) = v0 c
          ∧ r.2.mem ((c.tc : Thread Cert.ConvKernelIdeal.nD Cert.ConvKernelIdeal.τ).loc Cert.ConvKernelIdeal.main_v7_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v90) = v0 c
          ∧ r.2.mem ((c.tc : Thread Cert.ConvReferenceIdeal.nD Cert.ConvReferenceIdeal.τ).loc Cert.ConvReferenceIdeal.main_v92) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v29) = v0 c
          ∧ r.2.mem ((c.tc : Thread Cert.MixReferenceIdeal.nD Cert.MixReferenceIdeal.τ).loc Cert.MixReferenceIdeal.main_v31) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)) →
    ∃ (v0 : (c : Dev Cert.OprojKernelIdeal.nD) → Buf (Elt Ideal) ((c.tc : Thread Cert.OprojKernelIdeal.nD Cert.OprojKernelIdeal.τ).loc Cert.OprojKernelIdeal.main_v14_0)) (v1 : (c : Dev Cert.OprojKernelIdeal.nD) → Buf (Elt Ideal) ((c.tc : Thread Cert.OprojKernelIdeal.nD Cert.OprojKernelIdeal.τ).loc Cert.OprojKernelIdeal.main_v14_1)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v14_0) = v0 c
          ∧ r.2.mem ((c.tc : Thread Cert.OprojKernelIdeal.nD Cert.OprojKernelIdeal.τ).loc Cert.OprojKernelIdeal.main_v14_1) = v1 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v1) = v0 c
          ∧ r.2.mem ((c.tc : Thread Cert.OprojReferenceIdeal.nD Cert.OprojReferenceIdeal.τ).loc Cert.OprojReferenceIdeal.main_v16) = v1 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_NprojKernel_NprojKernelIdeal : Prop :=
  True

def algebraic_NprojKernelIdeal_NprojReferenceIdeal [hNprojKernelIdeal : Cert.NprojKernelIdeal.Facts] [hNprojReferenceIdeal : Cert.NprojReferenceIdeal.Facts] : Prop :=
  ∀ (m : (ℓ : Loc Cert.NprojKernelIdeal.nD Cert.NprojKernelIdeal.τ Cert.NprojKernelIdeal.sig) → Buf (Elt Ideal) ℓ) (g : Dev Cert.NprojKernelIdeal.nD → PrngReg)
    (m' : (ℓ : Loc Cert.NprojReferenceIdeal.nD Cert.NprojReferenceIdeal.τ Cert.NprojReferenceIdeal.sig) → Buf (Elt Ideal) ℓ) (g' : Dev Cert.NprojReferenceIdeal.nD → PrngReg), Pre_NprojKernelIdeal m →
    (∀ c : Dev Cert.NprojKernelIdeal.nD,
      m' ((c.tc : Thread Cert.NprojReferenceIdeal.nD Cert.NprojReferenceIdeal.τ).loc Cert.NprojReferenceIdeal.main_arg0) = m ((c.tc : Thread Cert.NprojKernelIdeal.nD Cert.NprojKernelIdeal.τ).loc Cert.NprojKernelIdeal.main_arg0)
      ∧ m' ((c.tc : Thread Cert.NprojReferenceIdeal.nD Cert.NprojReferenceIdeal.τ).loc Cert.NprojReferenceIdeal.main_arg1) = m ((c.tc : Thread Cert.NprojKernelIdeal.nD Cert.NprojKernelIdeal.τ).loc Cert.NprojKernelIdeal.main_arg1)
      ∧ m' ((c.tc : Thread Cert.NprojReferenceIdeal.nD Cert.NprojReferenceIdeal.τ).loc Cert.NprojReferenceIdeal.main_arg2) = m ((c.tc : Thread Cert.NprojKernelIdeal.nD Cert.NprojKernelIdeal.τ).loc Cert.NprojKernelIdeal.main_arg2)
      ∧ m' ((c.tc : Thread Cert.NprojReferenceIdeal.nD Cert.NprojReferenceIdeal.τ).loc Cert.NprojReferenceIdeal.main_arg3) = m ((c.tc : Thread Cert.NprojKernelIdeal.nD Cert.NprojKernelIdeal.τ).loc Cert.NprojKernelIdeal.main_arg3)
      ∧ m' ((c.tc : Thread Cert.NprojReferenceIdeal.nD Cert.NprojReferenceIdeal.τ).loc Cert.NprojReferenceIdeal.main_arg4) = m ((c.tc : Thread Cert.NprojKernelIdeal.nD Cert.NprojKernelIdeal.τ).loc Cert.NprojKernelIdeal.main_arg4)
      ∧ m' ((c.tc : Thread Cert.NprojReferenceIdeal.nD Cert.NprojReferenceIdeal.τ).loc Cert.NprojReferenceIdeal.main_arg5) = m ((c.tc : Thread Cert.NprojKernelIdeal.nD Cert.NprojKernelIdeal.τ).loc Cert.NprojKernelIdeal.main_arg5)) →
    ∃ (v0 : (c : Dev Cert.NprojKernelIdeal.nD) → Buf (Elt Ideal) ((c.tc : Thread Cert.NprojKernelIdeal.nD Cert.NprojKernelIdeal.τ).loc Cert.NprojKernelIdeal.main_v41_0)) (v1 : (c : Dev Cert.NprojKernelIdeal.nD) → Buf (Elt Ideal) ((c.tc : Thread Cert.NprojKernelIdeal.nD Cert.NprojKernelIdeal.τ).loc Cert.NprojKernelIdeal.main_v41_1)) (v2 : (c : Dev Cert.NprojKernelIdeal.nD) → Buf (Elt Ideal) ((c.tc : Thread Cert.NprojKernelIdeal.nD Cert.NprojKernelIdeal.τ).loc Cert.NprojKernelIdeal.main_v41_2)) (v3 : (c : Dev Cert.NprojKernelIdeal.nD) → Buf (Elt Ideal) ((c.tc : Thread Cert.NprojKernelIdeal.nD Cert.NprojKernelIdeal.τ).loc Cert.NprojKernelIdeal.main_v41_3)),
      θ_run (Cert.NprojKernelIdeal.defs (F := Ideal)) (onTc (τ := Cert.NprojKernelIdeal.τ) (Cert.NprojKernelIdeal.main (F := Ideal))) ⟨m, fun _ => 0, g⟩ (fun r => ∀ c : Dev Cert.NprojKernelIdeal.nD,
          r.2.mem ((c.tc : Thread Cert.NprojKernelIdeal.nD Cert.NprojKernelIdeal.τ).loc Cert.NprojKernelIdeal.main_v41_0) = v0 c
          ∧ r.2.mem ((c.tc : Thread Cert.NprojKernelIdeal.nD Cert.NprojKernelIdeal.τ).loc Cert.NprojKernelIdeal.main_v41_1) = v1 c
          ∧ r.2.mem ((c.tc : Thread Cert.NprojKernelIdeal.nD Cert.NprojKernelIdeal.τ).loc Cert.NprojKernelIdeal.main_v41_2) = v2 c
          ∧ r.2.mem ((c.tc : Thread Cert.NprojKernelIdeal.nD Cert.NprojKernelIdeal.τ).loc Cert.NprojKernelIdeal.main_v41_3) = v3 c
          ∧ r.2.mem ((c.tc : Thread Cert.NprojKernelIdeal.nD Cert.NprojKernelIdeal.τ).loc Cert.NprojKernelIdeal.main_arg0) = m ((c.tc : Thread Cert.NprojKernelIdeal.nD Cert.NprojKernelIdeal.τ).loc Cert.NprojKernelIdeal.main_arg0)
          ∧ r.2.mem ((c.tc : Thread Cert.NprojKernelIdeal.nD Cert.NprojKernelIdeal.τ).loc Cert.NprojKernelIdeal.main_arg1) = m ((c.tc : Thread Cert.NprojKernelIdeal.nD Cert.NprojKernelIdeal.τ).loc Cert.NprojKernelIdeal.main_arg1)
          ∧ r.2.mem ((c.tc : Thread Cert.NprojKernelIdeal.nD Cert.NprojKernelIdeal.τ).loc Cert.NprojKernelIdeal.main_arg2) = m ((c.tc : Thread Cert.NprojKernelIdeal.nD Cert.NprojKernelIdeal.τ).loc Cert.NprojKernelIdeal.main_arg2)
          ∧ r.2.mem ((c.tc : Thread Cert.NprojKernelIdeal.nD Cert.NprojKernelIdeal.τ).loc Cert.NprojKernelIdeal.main_arg3) = m ((c.tc : Thread Cert.NprojKernelIdeal.nD Cert.NprojKernelIdeal.τ).loc Cert.NprojKernelIdeal.main_arg3)
          ∧ r.2.mem ((c.tc : Thread Cert.NprojKernelIdeal.nD Cert.NprojKernelIdeal.τ).loc Cert.NprojKernelIdeal.main_arg4) = m ((c.tc : Thread Cert.NprojKernelIdeal.nD Cert.NprojKernelIdeal.τ).loc Cert.NprojKernelIdeal.main_arg4)
          ∧ r.2.mem ((c.tc : Thread Cert.NprojKernelIdeal.nD Cert.NprojKernelIdeal.τ).loc Cert.NprojKernelIdeal.main_arg5) = m ((c.tc : Thread Cert.NprojKernelIdeal.nD Cert.NprojKernelIdeal.τ).loc Cert.NprojKernelIdeal.main_arg5))
      ∧ θ_run (Cert.NprojReferenceIdeal.defs (F := Ideal)) (onTc (τ := Cert.NprojReferenceIdeal.τ) (Cert.NprojReferenceIdeal.main (F := Ideal))) ⟨m', fun _ => 0, g'⟩ (fun r => ∀ c : Dev Cert.NprojReferenceIdeal.nD,
          r.2.mem ((c.tc : Thread Cert.NprojReferenceIdeal.nD Cert.NprojReferenceIdeal.τ).loc Cert.NprojReferenceIdeal.main_v108) = v0 c
          ∧ r.2.mem ((c.tc : Thread Cert.NprojReferenceIdeal.nD Cert.NprojReferenceIdeal.τ).loc Cert.NprojReferenceIdeal.main_v110) = v1 c
          ∧ r.2.mem ((c.tc : Thread Cert.NprojReferenceIdeal.nD Cert.NprojReferenceIdeal.τ).loc Cert.NprojReferenceIdeal.main_v112) = v2 c
          ∧ r.2.mem ((c.tc : Thread Cert.NprojReferenceIdeal.nD Cert.NprojReferenceIdeal.τ).loc Cert.NprojReferenceIdeal.main_v115) = v3 c
          ∧ r.2.mem ((c.tc : Thread Cert.NprojReferenceIdeal.nD Cert.NprojReferenceIdeal.τ).loc Cert.NprojReferenceIdeal.main_arg0) = m' ((c.tc : Thread Cert.NprojReferenceIdeal.nD Cert.NprojReferenceIdeal.τ).loc Cert.NprojReferenceIdeal.main_arg0)
          ∧ r.2.mem ((c.tc : Thread Cert.NprojReferenceIdeal.nD Cert.NprojReferenceIdeal.τ).loc Cert.NprojReferenceIdeal.main_arg1) = m' ((c.tc : Thread Cert.NprojReferenceIdeal.nD Cert.NprojReferenceIdeal.τ).loc Cert.NprojReferenceIdeal.main_arg1)
          ∧ r.2.mem ((c.tc : Thread Cert.NprojReferenceIdeal.nD Cert.NprojReferenceIdeal.τ).loc Cert.NprojReferenceIdeal.main_arg2) = m' ((c.tc : Thread Cert.NprojReferenceIdeal.nD Cert.NprojReferenceIdeal.τ).loc Cert.NprojReferenceIdeal.main_arg2)
          ∧ r.2.mem ((c.tc : Thread Cert.NprojReferenceIdeal.nD Cert.NprojReferenceIdeal.τ).loc Cert.NprojReferenceIdeal.main_arg3) = m' ((c.tc : Thread Cert.NprojReferenceIdeal.nD Cert.NprojReferenceIdeal.τ).loc Cert.NprojReferenceIdeal.main_arg3)
          ∧ r.2.mem ((c.tc : Thread Cert.NprojReferenceIdeal.nD Cert.NprojReferenceIdeal.τ).loc Cert.NprojReferenceIdeal.main_arg4) = m' ((c.tc : Thread Cert.NprojReferenceIdeal.nD Cert.NprojReferenceIdeal.τ).loc Cert.NprojReferenceIdeal.main_arg4)
          ∧ r.2.mem ((c.tc : Thread Cert.NprojReferenceIdeal.nD Cert.NprojReferenceIdeal.τ).loc Cert.NprojReferenceIdeal.main_arg5) = m' ((c.tc : Thread Cert.NprojReferenceIdeal.nD Cert.NprojReferenceIdeal.τ).loc Cert.NprojReferenceIdeal.main_arg5))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)
      ∧ m' ((c.tc : Thread Cert.WinReferenceIdeal.nD Cert.WinReferenceIdeal.τ).loc Cert.WinReferenceIdeal.main_arg3) = m ((c.tc : Thread Cert.WinKernelIdeal.nD Cert.WinKernelIdeal.τ).loc Cert.WinKernelIdeal.main_arg3)) →
    ∃ (v0 : (c : Dev Cert.WinKernelIdeal.nD) → Buf (Elt Ideal) ((c.tc : Thread Cert.WinKernelIdeal.nD Cert.WinKernelIdeal.τ).loc Cert.WinKernelIdeal.main_v1_0)) (v1 : (c : Dev Cert.WinKernelIdeal.nD) → Buf (Elt Ideal) ((c.tc : Thread Cert.WinKernelIdeal.nD Cert.WinKernelIdeal.τ).loc Cert.WinKernelIdeal.main_v1_1)) (v2 : (c : Dev Cert.WinKernelIdeal.nD) → Buf (Elt Ideal) ((c.tc : Thread Cert.WinKernelIdeal.nD Cert.WinKernelIdeal.τ).loc Cert.WinKernelIdeal.main_v1_2)) (v3 : (c : Dev Cert.WinKernelIdeal.nD) → Buf (Elt Ideal) ((c.tc : Thread Cert.WinKernelIdeal.nD Cert.WinKernelIdeal.τ).loc Cert.WinKernelIdeal.main_v1_3)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v1_0) = v0 c
          ∧ r.2.mem ((c.tc : Thread Cert.WinKernelIdeal.nD Cert.WinKernelIdeal.τ).loc Cert.WinKernelIdeal.main_v1_1) = v1 c
          ∧ r.2.mem ((c.tc : Thread Cert.WinKernelIdeal.nD Cert.WinKernelIdeal.τ).loc Cert.WinKernelIdeal.main_v1_2) = v2 c
          ∧ r.2.mem ((c.tc : Thread Cert.WinKernelIdeal.nD Cert.WinKernelIdeal.τ).loc Cert.WinKernelIdeal.main_v1_3) = v3 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v0) = v0 c
          ∧ r.2.mem ((c.tc : Thread Cert.WinReferenceIdeal.nD Cert.WinReferenceIdeal.τ).loc Cert.WinReferenceIdeal.main_v24) = v1 c
          ∧ r.2.mem ((c.tc : Thread Cert.WinReferenceIdeal.nD Cert.WinReferenceIdeal.τ).loc Cert.WinReferenceIdeal.main_v5) = v2 c
          ∧ r.2.mem ((c.tc : Thread Cert.WinReferenceIdeal.nD Cert.WinReferenceIdeal.τ).loc Cert.WinReferenceIdeal.main_v11) = v3 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3))

def preserves_WoutKernel_WoutKernelIdeal : Prop :=
  True

def algebraic_WoutKernelIdeal_WoutReferenceIdeal [hWoutKernelIdeal : Cert.WoutKernelIdeal.Facts] [hWoutReferenceIdeal : Cert.WoutReferenceIdeal.Facts] : Prop :=
  ∀ (m : (ℓ : Loc Cert.WoutKernelIdeal.nD Cert.WoutKernelIdeal.τ Cert.WoutKernelIdeal.sig) → Buf (Elt Ideal) ℓ) (g : Dev Cert.WoutKernelIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutKernelIdeal m →
    (∀ c : Dev Cert.WoutKernelIdeal.nD,
      m' ((c.tc : Thread Cert.WoutReferenceIdeal.nD Cert.WoutReferenceIdeal.τ).loc Cert.WoutReferenceIdeal.main_arg0) = m ((c.tc : Thread Cert.WoutKernelIdeal.nD Cert.WoutKernelIdeal.τ).loc Cert.WoutKernelIdeal.main_arg0)
      ∧ m' ((c.tc : Thread Cert.WoutReferenceIdeal.nD Cert.WoutReferenceIdeal.τ).loc Cert.WoutReferenceIdeal.main_arg1) = m ((c.tc : Thread Cert.WoutKernelIdeal.nD Cert.WoutKernelIdeal.τ).loc Cert.WoutKernelIdeal.main_arg1)
      ∧ m' ((c.tc : Thread Cert.WoutReferenceIdeal.nD Cert.WoutReferenceIdeal.τ).loc Cert.WoutReferenceIdeal.main_arg2) = m ((c.tc : Thread Cert.WoutKernelIdeal.nD Cert.WoutKernelIdeal.τ).loc Cert.WoutKernelIdeal.main_arg2)
      ∧ m' ((c.tc : Thread Cert.WoutReferenceIdeal.nD Cert.WoutReferenceIdeal.τ).loc Cert.WoutReferenceIdeal.main_arg3) = m ((c.tc : Thread Cert.WoutKernelIdeal.nD Cert.WoutKernelIdeal.τ).loc Cert.WoutKernelIdeal.main_arg3)) →
    ∃ (v0 : (c : Dev Cert.WoutKernelIdeal.nD) → Buf (Elt Ideal) ((c.tc : Thread Cert.WoutKernelIdeal.nD Cert.WoutKernelIdeal.τ).loc Cert.WoutKernelIdeal.main_v1_0)) (v1 : (c : Dev Cert.WoutKernelIdeal.nD) → Buf (Elt Ideal) ((c.tc : Thread Cert.WoutKernelIdeal.nD Cert.WoutKernelIdeal.τ).loc Cert.WoutKernelIdeal.main_v1_1)) (v2 : (c : Dev Cert.WoutKernelIdeal.nD) → Buf (Elt Ideal) ((c.tc : Thread Cert.WoutKernelIdeal.nD Cert.WoutKernelIdeal.τ).loc Cert.WoutKernelIdeal.main_v1_2)) (v3 : (c : Dev Cert.WoutKernelIdeal.nD) → Buf (Elt Ideal) ((c.tc : Thread Cert.WoutKernelIdeal.nD Cert.WoutKernelIdeal.τ).loc Cert.WoutKernelIdeal.main_v1_3)),
      θ_run (Cert.WoutKernelIdeal.defs (F := Ideal)) (onTc (τ := Cert.WoutKernelIdeal.τ) (Cert.WoutKernelIdeal.main (F := Ideal))) ⟨m, fun _ => 0, g⟩ (fun r => ∀ c : Dev Cert.WoutKernelIdeal.nD,
          r.2.mem ((c.tc : Thread Cert.WoutKernelIdeal.nD Cert.WoutKernelIdeal.τ).loc Cert.WoutKernelIdeal.main_v1_0) = v0 c
          ∧ r.2.mem ((c.tc : Thread Cert.WoutKernelIdeal.nD Cert.WoutKernelIdeal.τ).loc Cert.WoutKernelIdeal.main_v1_1) = v1 c
          ∧ r.2.mem ((c.tc : Thread Cert.WoutKernelIdeal.nD Cert.WoutKernelIdeal.τ).loc Cert.WoutKernelIdeal.main_v1_2) = v2 c
          ∧ r.2.mem ((c.tc : Thread Cert.WoutKernelIdeal.nD Cert.WoutKernelIdeal.τ).loc Cert.WoutKernelIdeal.main_v1_3) = v3 c
          ∧ r.2.mem ((c.tc : Thread Cert.WoutKernelIdeal.nD Cert.WoutKernelIdeal.τ).loc Cert.WoutKernelIdeal.main_arg0) = m ((c.tc : Thread Cert.WoutKernelIdeal.nD Cert.WoutKernelIdeal.τ).loc Cert.WoutKernelIdeal.main_arg0)
          ∧ r.2.mem ((c.tc : Thread Cert.WoutKernelIdeal.nD Cert.WoutKernelIdeal.τ).loc Cert.WoutKernelIdeal.main_arg1) = m ((c.tc : Thread Cert.WoutKernelIdeal.nD Cert.WoutKernelIdeal.τ).loc Cert.WoutKernelIdeal.main_arg1)
          ∧ r.2.mem ((c.tc : Thread Cert.WoutKernelIdeal.nD Cert.WoutKernelIdeal.τ).loc Cert.WoutKernelIdeal.main_arg2) = m ((c.tc : Thread Cert.WoutKernelIdeal.nD Cert.WoutKernelIdeal.τ).loc Cert.WoutKernelIdeal.main_arg2)
          ∧ r.2.mem ((c.tc : Thread Cert.WoutKernelIdeal.nD Cert.WoutKernelIdeal.τ).loc Cert.WoutKernelIdeal.main_arg3) = m ((c.tc : Thread Cert.WoutKernelIdeal.nD Cert.WoutKernelIdeal.τ).loc Cert.WoutKernelIdeal.main_arg3))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v0) = v0 c
          ∧ r.2.mem ((c.tc : Thread Cert.WoutReferenceIdeal.nD Cert.WoutReferenceIdeal.τ).loc Cert.WoutReferenceIdeal.main_v24) = v1 c
          ∧ r.2.mem ((c.tc : Thread Cert.WoutReferenceIdeal.nD Cert.WoutReferenceIdeal.τ).loc Cert.WoutReferenceIdeal.main_v5) = v2 c
          ∧ r.2.mem ((c.tc : Thread Cert.WoutReferenceIdeal.nD Cert.WoutReferenceIdeal.τ).loc Cert.WoutReferenceIdeal.main_v11) = v3 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1)
          ∧ r.2.mem ((c.tc : Thread Cert.WoutReferenceIdeal.nD Cert.WoutReferenceIdeal.τ).loc Cert.WoutReferenceIdeal.main_arg2) = m' ((c.tc : Thread Cert.WoutReferenceIdeal.nD Cert.WoutReferenceIdeal.τ).loc Cert.WoutReferenceIdeal.main_arg2)
          ∧ r.2.mem ((c.tc : Thread Cert.WoutReferenceIdeal.nD Cert.WoutReferenceIdeal.τ).loc Cert.WoutReferenceIdeal.main_arg3) = m' ((c.tc : Thread Cert.WoutReferenceIdeal.nD Cert.WoutReferenceIdeal.τ).loc Cert.WoutReferenceIdeal.main_arg3))

def preserves_RestKernel_RestKernelIdeal : Prop :=
  True

def algebraic_RestKernelIdeal_RestReferenceIdeal [hRestKernelIdeal : Cert.RestKernelIdeal.Facts] [hRestReferenceIdeal : Cert.RestReferenceIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestKernelIdeal m →
    (∀ c : Dev Cert.RestKernelIdeal.nD,
      m' ((c.tc : Thread Cert.RestReferenceIdeal.nD Cert.RestReferenceIdeal.τ).loc Cert.RestReferenceIdeal.main_arg0) = m ((c.tc : Thread Cert.RestKernelIdeal.nD Cert.RestKernelIdeal.τ).loc Cert.RestKernelIdeal.main_arg0)
      ∧ m' ((c.tc : Thread Cert.RestReferenceIdeal.nD Cert.RestReferenceIdeal.τ).loc Cert.RestReferenceIdeal.main_arg1) = m ((c.tc : Thread Cert.RestKernelIdeal.nD Cert.RestKernelIdeal.τ).loc Cert.RestKernelIdeal.main_arg1)
      ∧ m' ((c.tc : Thread Cert.RestReferenceIdeal.nD Cert.RestReferenceIdeal.τ).loc Cert.RestReferenceIdeal.main_arg2) = m ((c.tc : Thread Cert.RestKernelIdeal.nD Cert.RestKernelIdeal.τ).loc Cert.RestKernelIdeal.main_arg2)
      ∧ m' ((c.tc : Thread Cert.RestReferenceIdeal.nD Cert.RestReferenceIdeal.τ).loc Cert.RestReferenceIdeal.main_arg3) = m ((c.tc : Thread Cert.RestKernelIdeal.nD Cert.RestKernelIdeal.τ).loc Cert.RestKernelIdeal.main_arg3)) →
    ∃ (v0 : (c : Dev Cert.RestKernelIdeal.nD) → Buf (Elt Ideal) ((c.tc : Thread Cert.RestKernelIdeal.nD Cert.RestKernelIdeal.τ).loc Cert.RestKernelIdeal.main_v0_0)) (v1 : (c : Dev Cert.RestKernelIdeal.nD) → Buf (Elt Ideal) ((c.tc : Thread Cert.RestKernelIdeal.nD Cert.RestKernelIdeal.τ).loc Cert.RestKernelIdeal.main_v0_1)) (v2 : (c : Dev Cert.RestKernelIdeal.nD) → Buf (Elt Ideal) ((c.tc : Thread Cert.RestKernelIdeal.nD Cert.RestKernelIdeal.τ).loc Cert.RestKernelIdeal.main_v0_2)),
      θ_run (Cert.RestKernelIdeal.defs (F := Ideal)) (onTc (τ := Cert.RestKernelIdeal.τ) (Cert.RestKernelIdeal.main (F := Ideal))) ⟨m, fun _ => 0, g⟩ (fun r => ∀ c : Dev Cert.RestKernelIdeal.nD,
          r.2.mem ((c.tc : Thread Cert.RestKernelIdeal.nD Cert.RestKernelIdeal.τ).loc Cert.RestKernelIdeal.main_v0_0) = v0 c
          ∧ r.2.mem ((c.tc : Thread Cert.RestKernelIdeal.nD Cert.RestKernelIdeal.τ).loc Cert.RestKernelIdeal.main_v0_1) = v1 c
          ∧ r.2.mem ((c.tc : Thread Cert.RestKernelIdeal.nD Cert.RestKernelIdeal.τ).loc Cert.RestKernelIdeal.main_v0_2) = v2 c
          ∧ r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
          ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1)
          ∧ r.2.mem ((c.tc : Thread Cert.RestKernelIdeal.nD Cert.RestKernelIdeal.τ).loc Cert.RestKernelIdeal.main_arg2) = m ((c.tc : Thread Cert.RestKernelIdeal.nD Cert.RestKernelIdeal.τ).loc Cert.RestKernelIdeal.main_arg2)
          ∧ r.2.mem ((c.tc : Thread Cert.RestKernelIdeal.nD Cert.RestKernelIdeal.τ).loc Cert.RestKernelIdeal.main_arg3) = m ((c.tc : Thread Cert.RestKernelIdeal.nD Cert.RestKernelIdeal.τ).loc Cert.RestKernelIdeal.main_arg3))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v23) = v0 c
          ∧ r.2.mem ((c.tc : Thread Cert.RestReferenceIdeal.nD Cert.RestReferenceIdeal.τ).loc Cert.RestReferenceIdeal.main_v4) = v1 c
          ∧ r.2.mem ((c.tc : Thread Cert.RestReferenceIdeal.nD Cert.RestReferenceIdeal.τ).loc Cert.RestReferenceIdeal.main_v10) = v2 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3))

def preserves_HeadKernel_HeadKernelIdeal : Prop :=
  True

def algebraic_HeadKernelIdeal_HeadReferenceIdeal [hHeadKernelIdeal : Cert.HeadKernelIdeal.Facts] [hHeadReferenceIdeal : Cert.HeadReferenceIdeal.Facts] : Prop :=
  ∀ (m : (ℓ : Loc Cert.HeadKernelIdeal.nD Cert.HeadKernelIdeal.τ Cert.HeadKernelIdeal.sig) → Buf (Elt Ideal) ℓ) (g : Dev Cert.HeadKernelIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadKernelIdeal m →
    (∀ c : Dev Cert.HeadKernelIdeal.nD,
      m' ((c.tc : Thread Cert.HeadReferenceIdeal.nD Cert.HeadReferenceIdeal.τ).loc Cert.HeadReferenceIdeal.main_arg0) = m ((c.tc : Thread Cert.HeadKernelIdeal.nD Cert.HeadKernelIdeal.τ).loc Cert.HeadKernelIdeal.main_arg0)
      ∧ m' ((c.tc : Thread Cert.HeadReferenceIdeal.nD Cert.HeadReferenceIdeal.τ).loc Cert.HeadReferenceIdeal.main_arg1) = m ((c.tc : Thread Cert.HeadKernelIdeal.nD Cert.HeadKernelIdeal.τ).loc Cert.HeadKernelIdeal.main_arg1)
      ∧ m' ((c.tc : Thread Cert.HeadReferenceIdeal.nD Cert.HeadReferenceIdeal.τ).loc Cert.HeadReferenceIdeal.main_arg2) = m ((c.tc : Thread Cert.HeadKernelIdeal.nD Cert.HeadKernelIdeal.τ).loc Cert.HeadKernelIdeal.main_arg2)
      ∧ m' ((c.tc : Thread Cert.HeadReferenceIdeal.nD Cert.HeadReferenceIdeal.τ).loc Cert.HeadReferenceIdeal.main_arg3) = m ((c.tc : Thread Cert.HeadKernelIdeal.nD Cert.HeadKernelIdeal.τ).loc Cert.HeadKernelIdeal.main_arg3)
      ∧ m' ((c.tc : Thread Cert.HeadReferenceIdeal.nD Cert.HeadReferenceIdeal.τ).loc Cert.HeadReferenceIdeal.main_arg4) = m ((c.tc : Thread Cert.HeadKernelIdeal.nD Cert.HeadKernelIdeal.τ).loc Cert.HeadKernelIdeal.main_arg4)) →
    ∃ (v0 : (c : Dev Cert.HeadKernelIdeal.nD) → Buf (Elt Ideal) ((c.tc : Thread Cert.HeadKernelIdeal.nD Cert.HeadKernelIdeal.τ).loc Cert.HeadKernelIdeal.main_v15_0)) (v1 : (c : Dev Cert.HeadKernelIdeal.nD) → Buf (Elt Ideal) ((c.tc : Thread Cert.HeadKernelIdeal.nD Cert.HeadKernelIdeal.τ).loc Cert.HeadKernelIdeal.main_v15_1)) (v2 : (c : Dev Cert.HeadKernelIdeal.nD) → Buf (Elt Ideal) ((c.tc : Thread Cert.HeadKernelIdeal.nD Cert.HeadKernelIdeal.τ).loc Cert.HeadKernelIdeal.main_v15_2)),
      θ_run (Cert.HeadKernelIdeal.defs (F := Ideal)) (onTc (τ := Cert.HeadKernelIdeal.τ) (Cert.HeadKernelIdeal.main (F := Ideal))) ⟨m, fun _ => 0, g⟩ (fun r => ∀ c : Dev Cert.HeadKernelIdeal.nD,
          r.2.mem ((c.tc : Thread Cert.HeadKernelIdeal.nD Cert.HeadKernelIdeal.τ).loc Cert.HeadKernelIdeal.main_v15_0) = v0 c
          ∧ r.2.mem ((c.tc : Thread Cert.HeadKernelIdeal.nD Cert.HeadKernelIdeal.τ).loc Cert.HeadKernelIdeal.main_v15_1) = v1 c
          ∧ r.2.mem ((c.tc : Thread Cert.HeadKernelIdeal.nD Cert.HeadKernelIdeal.τ).loc Cert.HeadKernelIdeal.main_v15_2) = v2 c
          ∧ r.2.mem ((c.tc : Thread Cert.HeadKernelIdeal.nD Cert.HeadKernelIdeal.τ).loc Cert.HeadKernelIdeal.main_arg0) = m ((c.tc : Thread Cert.HeadKernelIdeal.nD Cert.HeadKernelIdeal.τ).loc Cert.HeadKernelIdeal.main_arg0)
          ∧ r.2.mem ((c.tc : Thread Cert.HeadKernelIdeal.nD Cert.HeadKernelIdeal.τ).loc Cert.HeadKernelIdeal.main_arg1) = m ((c.tc : Thread Cert.HeadKernelIdeal.nD Cert.HeadKernelIdeal.τ).loc Cert.HeadKernelIdeal.main_arg1)
          ∧ r.2.mem ((c.tc : Thread Cert.HeadKernelIdeal.nD Cert.HeadKernelIdeal.τ).loc Cert.HeadKernelIdeal.main_arg2) = m ((c.tc : Thread Cert.HeadKernelIdeal.nD Cert.HeadKernelIdeal.τ).loc Cert.HeadKernelIdeal.main_arg2)
          ∧ r.2.mem ((c.tc : Thread Cert.HeadKernelIdeal.nD Cert.HeadKernelIdeal.τ).loc Cert.HeadKernelIdeal.main_arg3) = m ((c.tc : Thread Cert.HeadKernelIdeal.nD Cert.HeadKernelIdeal.τ).loc Cert.HeadKernelIdeal.main_arg3)
          ∧ r.2.mem ((c.tc : Thread Cert.HeadKernelIdeal.nD Cert.HeadKernelIdeal.τ).loc Cert.HeadKernelIdeal.main_arg4) = m ((c.tc : Thread Cert.HeadKernelIdeal.nD Cert.HeadKernelIdeal.τ).loc Cert.HeadKernelIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v30) = v0 c
          ∧ r.2.mem ((c.tc : Thread Cert.HeadReferenceIdeal.nD Cert.HeadReferenceIdeal.τ).loc Cert.HeadReferenceIdeal.main_v31) = v1 c
          ∧ r.2.mem ((c.tc : Thread Cert.HeadReferenceIdeal.nD Cert.HeadReferenceIdeal.τ).loc Cert.HeadReferenceIdeal.main_v32) = v2 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def Claim : Prop :=
  ∃ (hKernel : Cert.Kernel.Facts) (hKernelIdeal : Cert.KernelIdeal.Facts) (hReferenceIdeal : Cert.ReferenceIdeal.Facts) (hDhKernel : Cert.DhKernel.Facts) (hDhKernelIdeal : Cert.DhKernelIdeal.Facts) (hDhReferenceIdeal : Cert.DhReferenceIdeal.Facts) (hDwKernel : Cert.DwKernel.Facts) (hDwKernelIdeal : Cert.DwKernelIdeal.Facts) (hDwReferenceIdeal : Cert.DwReferenceIdeal.Facts) (hPostKernel : Cert.PostKernel.Facts) (hPostKernelIdeal : Cert.PostKernelIdeal.Facts) (hPostReferenceIdeal : Cert.PostReferenceIdeal.Facts) (hOutKernel : Cert.OutKernel.Facts) (hOutKernelIdeal : Cert.OutKernelIdeal.Facts) (hOutReferenceIdeal : Cert.OutReferenceIdeal.Facts) (hConvKernel : Cert.ConvKernel.Facts) (hConvKernelIdeal : Cert.ConvKernelIdeal.Facts) (hConvReferenceIdeal : Cert.ConvReferenceIdeal.Facts) (hMixKernel : Cert.MixKernel.Facts) (hMixKernelIdeal : Cert.MixKernelIdeal.Facts) (hMixReferenceIdeal : Cert.MixReferenceIdeal.Facts) (hOprojKernel : Cert.OprojKernel.Facts) (hOprojKernelIdeal : Cert.OprojKernelIdeal.Facts) (hOprojReferenceIdeal : Cert.OprojReferenceIdeal.Facts) (hNprojKernel : Cert.NprojKernel.Facts) (hNprojKernelIdeal : Cert.NprojKernelIdeal.Facts) (hNprojReferenceIdeal : Cert.NprojReferenceIdeal.Facts) (hWinKernel : Cert.WinKernel.Facts) (hWinKernelIdeal : Cert.WinKernelIdeal.Facts) (hWinReferenceIdeal : Cert.WinReferenceIdeal.Facts) (hWoutKernel : Cert.WoutKernel.Facts) (hWoutKernelIdeal : Cert.WoutKernelIdeal.Facts) (hWoutReferenceIdeal : Cert.WoutReferenceIdeal.Facts) (hRestKernel : Cert.RestKernel.Facts) (hRestKernelIdeal : Cert.RestKernelIdeal.Facts) (hRestReferenceIdeal : Cert.RestReferenceIdeal.Facts) (hHeadKernel : Cert.HeadKernel.Facts) (hHeadKernelIdeal : Cert.HeadKernelIdeal.Facts) (hHeadReferenceIdeal : Cert.HeadReferenceIdeal.Facts) (hPre_finite : Cert.Pre_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ quiescent_NprojKernel (hNprojKernel := hNprojKernel)
    ∧ quiescent_NprojKernelIdeal (hNprojKernelIdeal := hNprojKernelIdeal)
    ∧ quiescent_NprojReferenceIdeal (hNprojReferenceIdeal := hNprojReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ quiescent_WoutKernel (hWoutKernel := hWoutKernel)
    ∧ quiescent_WoutKernelIdeal (hWoutKernelIdeal := hWoutKernelIdeal)
    ∧ quiescent_WoutReferenceIdeal (hWoutReferenceIdeal := hWoutReferenceIdeal)
    ∧ quiescent_RestKernel (hRestKernel := hRestKernel)
    ∧ quiescent_RestKernelIdeal (hRestKernelIdeal := hRestKernelIdeal)
    ∧ quiescent_RestReferenceIdeal (hRestReferenceIdeal := hRestReferenceIdeal)
    ∧ quiescent_HeadKernel (hHeadKernel := hHeadKernel)
    ∧ quiescent_HeadKernelIdeal (hHeadKernelIdeal := hHeadKernelIdeal)
    ∧ quiescent_HeadReferenceIdeal (hHeadReferenceIdeal := hHeadReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DhKernel_DhKernelIdeal
    ∧ algebraic_DhKernelIdeal_DhReferenceIdeal (hDhKernelIdeal := hDhKernelIdeal) (hDhReferenceIdeal := hDhReferenceIdeal)
    ∧ preserves_DwKernel_DwKernelIdeal
    ∧ algebraic_DwKernelIdeal_DwReferenceIdeal (hDwKernelIdeal := hDwKernelIdeal) (hDwReferenceIdeal := hDwReferenceIdeal)
    ∧ preserves_PostKernel_PostKernelIdeal
    ∧ algebraic_PostKernelIdeal_PostReferenceIdeal (hPostKernelIdeal := hPostKernelIdeal) (hPostReferenceIdeal := hPostReferenceIdeal)
    ∧ preserves_OutKernel_OutKernelIdeal
    ∧ algebraic_OutKernelIdeal_OutReferenceIdeal (hOutKernelIdeal := hOutKernelIdeal) (hOutReferenceIdeal := hOutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_OprojKernel_OprojKernelIdeal
    ∧ algebraic_OprojKernelIdeal_OprojReferenceIdeal (hOprojKernelIdeal := hOprojKernelIdeal) (hOprojReferenceIdeal := hOprojReferenceIdeal)
    ∧ preserves_NprojKernel_NprojKernelIdeal
    ∧ algebraic_NprojKernelIdeal_NprojReferenceIdeal (hNprojKernelIdeal := hNprojKernelIdeal) (hNprojReferenceIdeal := hNprojReferenceIdeal)
    ∧ preserves_WinKernel_WinKernelIdeal
    ∧ algebraic_WinKernelIdeal_WinReferenceIdeal (hWinKernelIdeal := hWinKernelIdeal) (hWinReferenceIdeal := hWinReferenceIdeal)
    ∧ preserves_WoutKernel_WoutKernelIdeal
    ∧ algebraic_WoutKernelIdeal_WoutReferenceIdeal (hWoutKernelIdeal := hWoutKernelIdeal) (hWoutReferenceIdeal := hWoutReferenceIdeal)
    ∧ preserves_RestKernel_RestKernelIdeal
    ∧ algebraic_RestKernelIdeal_RestReferenceIdeal (hRestKernelIdeal := hRestKernelIdeal) (hRestReferenceIdeal := hRestReferenceIdeal)
    ∧ preserves_HeadKernel_HeadKernelIdeal
    ∧ algebraic_HeadKernelIdeal_HeadReferenceIdeal (hHeadKernelIdeal := hHeadKernelIdeal) (hHeadReferenceIdeal := hHeadReferenceIdeal)
-- ==== Pre_finite.lean ====
abbrev S2x2048x1024 : Shape := ⟨3, ![2, 2048, 1024]⟩
abbrev S3x256 : Shape := ⟨2, ![3, 256]⟩
abbrev S2x2048x256 : Shape := ⟨3, ![2, 2048, 256]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3x256 : S_.BroadcastsInDim S3x256 (![] : Fin 0 → Fin S3x256.rank)
  reducesTo_S3x256_S_d0_1 : S3x256.ReducesTo [0, 1] S_
  bcast_S_S2x2048x256 : S_.BroadcastsInDim S2x2048x256 (![] : Fin 0 → Fin S2x2048x256.rank)
  reducesTo_S2x2048x256_S_d0_1_2 : S2x2048x256.ReducesTo [0, 1, 2] S_

variable [Facts]

def fn {F : FTy → Type} [FloatOps F] (main_arg0 : FVec F S2x2048x1024 .f32) (main_arg1 : FVec F S3x256 .f32) (main_arg2 : FVec F S2x2048x256 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S2x2048x256 .f32 := Host.absf main_arg2
  let main_cst_2 : FVec F S_ .f32 := constant S_ .f32 0x7F800000#32
  let main_v10 : FVec F S2x2048x256 .f32 := broadcastInDim S2x2048x256 ![] bcast_S_S2x2048x256 main_cst_2
  let main_v11 : IVec S2x2048x256 1 := cmpf .olt main_v9 main_v10
  let main_c_3 : IVec S_ 1 := constantI S_ 1 1#1
  let main_v12 : IVec S_ 1 := (fun x v => Host.reduce IntOp.andi x v reducesTo_S2x2048x256_S_d0_1_2 h_S_) main_v11 main_c_3
  let main_v13 : IVec S_ 1 := andi main_v8 main_v12
  main_v13
-- ==== Pre_mix_finite.lean ====
abbrev S2x2048x1152 : Shape := ⟨3, ![2, 2048, 1152]⟩
abbrev S1152 : Shape := ⟨1, ![1152]⟩
abbrev S_ : Shape := ⟨0, ![]⟩

class Facts : Prop where
  bcast_S_S2x2048x1152 : S_.BroadcastsInDim S2x2048x1152 (![] : Fin 0 → Fin S2x2048x1152.rank)
  reducesTo_S2x2048x1152_S_d0_1_2 : S2x2048x1152.ReducesTo [0, 1, 2] S_
  h_S_ : 0 < S_.numel

variable [Facts]

def fn {F : FTy → Type} [FloatOps F] (main_arg0 : FVec F S2x2048x1152 .f32) (main_arg1 : FVec F S1152 .f32) (main_arg2 : FVec F S2x2048x1152 .f32) : IVec S_ 1 :=
  let main_v0 : FVec F S2x2048x1152 .f32 := Host.absf main_arg2
  let main_cst : FVec F S_ .f32 := constant S_ .f32 0x7F800000#32
  let main_v1 : FVec F S2x2048x1152 .f32 := broadcastInDim S2x2048x1152 ![] bcast_S_S2x2048x1152 main_cst
  let main_v2 : IVec S2x2048x1152 1 := cmpf .olt main_v0 main_v1
  let main_c : IVec S_ 1 := constantI S_ 1 1#1
  let main_v3 : IVec S_ 1 := (fun x v => Host.reduce IntOp.andi x v reducesTo_S2x2048x1152_S_d0_1_2 h_S_) main_v2 main_c
  main_v3
-- ==== Kernel.lean ====
abbrev S2x2048x1024 : Shape := ⟨3, ![2, 2048, 1024]⟩
abbrev S3x256 : Shape := ⟨2, ![3, 256]⟩
abbrev S2x2048x256 : Shape := ⟨3, ![2, 2048, 256]⟩
abbrev S4096x4x4x64 : Shape := ⟨4, ![4096, 4, 4, 64]⟩
abbrev S4x4x4096x64 : Shape := ⟨4, ![4, 4, 4096, 64]⟩
abbrev S16x4096x64 : Shape := ⟨3, ![16, 4096, 64]⟩
abbrev S_ : Shape := ⟨0, ![]⟩
abbrev S68x4096x64 : Shape := ⟨3, ![68, 4096, 64]⟩
abbrev S4096x4x64 : Shape := ⟨3, ![4096, 4, 64]⟩
abbrev S4x4096x64 : Shape := ⟨3, ![4, 4096, 64]⟩
abbrev S3x4x64 : Shape := ⟨3, ![3, 4, 64]⟩
abbrev S4x3x64 : Shape := ⟨3, ![4, 3, 64]⟩
abbrev S4x2x3x64 : Shape := ⟨4, ![4, 2, 3, 64]⟩
abbrev S4x2048x64 : Shape := ⟨3, ![4, 2048, 64]⟩
abbrev S1x3x64 : Shape := ⟨3, ![1, 3, 64]⟩
abbrev S1x2048x64 : Shape := ⟨3, ![1, 2048, 64]⟩
abbrev S1x1x3x64 : Shape := ⟨4, ![1, 1, 3, 64]⟩
abbrev S2048x64 : Shape := ⟨2, ![2048, 64]⟩
abbrev S1x1x64 : Shape := ⟨3, ![1, 1, 64]⟩
abbrev S1x64 : Shape := ⟨2, ![1, 64]⟩
abbrev S64 : Shape := ⟨1, ![64]⟩
abbrev S1x1x1x64 : Shape := ⟨4, ![1, 1, 1, 64]⟩

abbrev nBuf : Space → Nat
  | .hbm => 18
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S3x256, .f32⟩
  | .hbm, ⟨2, _⟩ => ⟨S2x2048x256, .f32⟩
  | .hbm, ⟨3, _⟩ => ⟨S4096x4x4x64, .f32⟩
  | .hbm, ⟨4, _⟩ => ⟨S4x4x4096x64, .f32⟩
  | .hbm, ⟨5, _⟩ => ⟨S16x4096x64, .f32⟩
  | .hbm, ⟨6, _⟩ => ⟨S_, .i32⟩
  | .hbm, ⟨7, _⟩ => ⟨S_, .f32⟩
  | .hbm, ⟨8, _⟩ => ⟨S68x4096x64, .f32⟩
  | .hbm, ⟨9, _⟩ => ⟨S4096x4x64, .f32⟩
  | .hbm, ⟨10, _⟩ => ⟨S4x4096x64, .f32⟩
  | .hbm, ⟨11, _⟩ => ⟨S_, .i32⟩
  | .hbm, ⟨12, _⟩ => ⟨S_, .f32⟩
  | .hbm, ⟨13, _⟩ => ⟨S16x4096x64, .f32⟩
  | .hbm, ⟨14, _⟩ => ⟨S3x4x64, .f32⟩
  | .hbm, ⟨15, _⟩ => ⟨S4x3x64, .f32⟩
  | .hbm, ⟨16, _⟩ => ⟨S16x4096x64, .bf16⟩
  | .hbm, ⟨17, _⟩ => ⟨S4x2x3x64, .f32⟩
  | .local _ .vmem, ⟨0, _⟩ => ⟨S4x2048x64, .f32⟩
  | .local _ .vmem, ⟨1, _⟩ => ⟨S4x2048x64, .f32⟩
  | .local _ .vmem, ⟨2, _⟩ => ⟨S1x3x64, .f32⟩
  | .local _ .vmem, ⟨3, _⟩ => ⟨S1x3x64, .f32⟩
  | .local _ .vmem, ⟨4, _⟩ => ⟨S1x2048x64, .f32⟩
  | .local _ .vmem, ⟨5, _⟩ => ⟨S1x2048x64, .f32⟩
  | .local _ .vmem, ⟨6, _⟩ => ⟨S4x2048x64, .bf16⟩
  | .local _ .vmem, ⟨7, _⟩ => ⟨S4x2048x64, .bf16⟩
  | .local _ .vmem, ⟨8, _⟩ => ⟨S1x1x3x64, .f32⟩
  | .local _ .vmem, ⟨9, _⟩ => ⟨S1x1x3x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x2048x1024 : Shape := ⟨3, ![2, 2048, 1024]⟩
abbrev S3x256 : Shape := ⟨2, ![3, 256]⟩
abbrev S2x2048x256 : Shape := ⟨3, ![2, 2048, 256]⟩
abbrev S2x1x2048x1024 : Shape := ⟨4, ![2, 1, 2048, 1024]⟩
abbrev S2x1x2048x256 : Shape := ⟨4, ![2, 1, 2048, 256]⟩
abbrev S_ : Shape := ⟨0, ![]⟩
abbrev S1x2x256 : Shape := ⟨3, ![1, 2, 256]⟩
abbrev S2x1x2x256 : Shape := ⟨4, ![2, 1, 2, 256]⟩
abbrev S2x1x2050x256 : Shape := ⟨4, ![2, 1, 2050, 256]⟩
abbrev S1x256 : Shape := ⟨2, ![1, 256]⟩
abbrev S256 : Shape := ⟨1, ![256]⟩
abbrev S1x1x256 : Shape := ⟨3, ![1, 1, 256]⟩
abbrev S1x1x1x256 : Shape := ⟨4, ![1, 1, 1, 256]⟩
abbrev S2x1x256 : Shape := ⟨3, ![2, 1, 256]⟩
abbrev S2x1x1x256 : Shape := ⟨4, ![2, 1, 1, 256]⟩
abbrev S2x256 : Shape := ⟨2, ![2, 256]⟩
abbrev S2x3x256 : Shape := ⟨3, ![2, 3, 256]⟩
abbrev S4096x4x4x64 : Shape := ⟨4, ![4096, 4, 4, 64]⟩
abbrev S4x4x4096x64 : Shape := ⟨4, ![4, 4, 4096, 64]⟩
abbrev S16x4096x64 : Shape := ⟨3, ![16, 4096, 64]⟩
abbrev S2x3x4x64 : Shape := ⟨4, ![2, 3, 4, 64]⟩
abbrev S4x2x3x64 : Shape := ⟨4, ![4, 2, 3, 64]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3x256, .f32⟩
  | .hbm, ⟨2, _⟩ => ⟨S2x2048x256, .f32⟩
  | .hbm, ⟨3, _⟩ => ⟨S2x1x2048x1024, .f32⟩
  | .hbm, ⟨4, _⟩ => ⟨S2x1x2048x256, .f32⟩
  | .hbm, ⟨5, _⟩ => ⟨S2x1x2048x256, .f32⟩
  | .hbm, ⟨6, _⟩ => ⟨S2x1x2048x256, .f32⟩
  | .hbm, ⟨7, _⟩ => ⟨S2x1x2048x256, .f32⟩
  | .hbm, ⟨8, _⟩ => ⟨S2x1x2048x256, .f32⟩
  | .hbm, ⟨9, _⟩ => ⟨S_, .f32⟩
  | .hbm, ⟨10, _⟩ => ⟨S1x2x256, .f32⟩
  | .hbm, ⟨11, _⟩ => ⟨S2x1x2x256, .f32⟩
  | .hbm, ⟨12, _⟩ => ⟨S2x1x2050x256, .f32⟩
  | .hbm, ⟨13, _⟩ => ⟨S_, .f32⟩
  | .hbm, ⟨14, _⟩ => ⟨S1x2x256, .f32⟩
  | .hbm, ⟨15, _⟩ => ⟨S2x1x2048x256, .f32⟩
  | .hbm, ⟨16, _⟩ => ⟨S1x256, .f32⟩
  | .hbm, ⟨17, _⟩ => ⟨S256, .f32⟩
  | .hbm, ⟨18, _⟩ => ⟨S1x1x256, .f32⟩
  | .hbm, ⟨19, _⟩ => ⟨S1x1x1x256, .f32⟩
  | .hbm, ⟨20, _⟩ => ⟨S2x1x2048x256, .f32⟩
  | .hbm, ⟨21, _⟩ => ⟨S2x1x2048x256, .f32⟩
  | .hbm, ⟨22, _⟩ => ⟨S_, .f32⟩
  | .hbm, ⟨23, _⟩ => ⟨S2x1x2048x256, .f32⟩
  | .hbm, ⟨24, _⟩ => ⟨S2x1x2048x256, .f32⟩
  | .hbm, ⟨25, _⟩ => ⟨S2x1x2048x256, .f32⟩
  | .hbm, ⟨26, _⟩ => ⟨S1x256, .f32⟩
  | .hbm, ⟨27, _⟩ => ⟨S256, .f32⟩
  | .hbm, ⟨28, _⟩ => ⟨S1x1x256, .f32⟩
  | .hbm, ⟨29, _⟩ => ⟨S1x1x1x256, .f32⟩
  | .hbm, ⟨30, _⟩ => ⟨S2x1x2048x256, .f32⟩
  | .hbm, ⟨31, _⟩ => ⟨S2x1x2048x256, .f32⟩
  | .hbm, ⟨32, _⟩ => ⟨S2x1x2048x256, .f32⟩
  | .hbm, ⟨33, _⟩ => ⟨S2x1x2048x256, .f32⟩
  | .hbm, ⟨34, _⟩ => ⟨S1x256, .f32⟩
  | .hbm, ⟨35, _⟩ => ⟨S256, .f32⟩
  | .hbm, ⟨36, _⟩ => ⟨S1x1x256, .f32⟩
  | .hbm, ⟨37, _⟩ => ⟨S1x1x1x256, .f32⟩
  | .hbm, ⟨38, _⟩ => ⟨S2x1x2048x256, .f32⟩
  | .hbm, ⟨39, _⟩ => ⟨S2x1x2048x256, .f32⟩
  | .hbm, ⟨40, _⟩ => ⟨S2x1x2048x256, .f32⟩
  | .hbm, ⟨41, _⟩ => ⟨S2x1x2048x256, .f32⟩
  | .hbm, ⟨42, _⟩ => ⟨S2x1x2048x256, .f32⟩
  | .hbm, ⟨43, _⟩ => ⟨S2x1x2048x256, .f32⟩
  | .hbm, ⟨44, _⟩ => ⟨S_, .f32⟩
  | .hbm, ⟨45, _⟩ => ⟨S2x1x2048x256, .f32⟩
  | .hbm, ⟨46, _⟩ => ⟨S2x1x2048x256, .f32⟩
  | .hbm, ⟨47, _⟩ => ⟨S_, .f32⟩
  | .hbm, ⟨48, _⟩ => ⟨S2x1x2048x256, .f32⟩
  | .hbm, ⟨49, _⟩ => ⟨S2x1x2048x256, .f32⟩
  | .hbm, ⟨50, _⟩ => ⟨S_, .f32⟩
  | .hbm, ⟨51, _⟩ => ⟨S2x1x2048x256, .f32⟩
  | .hbm, ⟨52, _⟩ => ⟨S2x1x2048x256, .f32⟩
  | .hbm, ⟨53, _⟩ => ⟨S2x1x2048x256, .f32⟩
  | .hbm, ⟨54, _⟩ => ⟨S2x1x2048x256, .f32⟩
  | .hbm, ⟨55, _⟩ => ⟨S2x1x2048x256, .f32⟩
  | .hbm, ⟨56, _⟩ => ⟨S2x1x2048x256, .f32⟩
  | .hbm, ⟨57, _⟩ => ⟨S2x1x2048x256, .f32⟩
  | .hbm, ⟨58, _⟩ => ⟨S2x1x2048x256, .f32⟩
  | .hbm, ⟨59, _⟩ => ⟨S2x1x2048x256, .f32⟩
  | .hbm, ⟨60, _⟩ => ⟨S2x1x2048x256, .f32⟩
  | .hbm, ⟨61, _⟩ => ⟨S2x1x2048x256, .f32⟩
  | .hbm, ⟨62, _⟩ => ⟨S2x1x2048x256, .f32⟩
  | .hbm, ⟨63, _⟩ => ⟨S2x1x2048x256, .f32⟩
  | .hbm, ⟨64, _⟩ => ⟨S2x1x2048x256, .f32⟩
  | .hbm, ⟨65, _⟩ => ⟨S2x1x2048x256, .f32⟩
  | .hbm, ⟨66, _⟩ => ⟨S_, .f32⟩
  | .hbm, ⟨67, _⟩ => ⟨S2x1x256, .f32⟩
  | .hbm, ⟨68, _⟩ => ⟨S2x1x1x256, .f32⟩
  | .hbm, ⟨69, _⟩ => ⟨S1x1x1x256, .f32⟩
  | .hbm, ⟨70, _⟩ => ⟨S2x1x2048x256, .f32⟩
  | .hbm, ⟨71, _⟩ => ⟨S2x1x2048x256, .f32⟩
  | .hbm, ⟨72, _⟩ => ⟨S_, .f32⟩
  | .hbm, ⟨73, _⟩ => ⟨S2x256, .f32⟩
  | .hbm, ⟨74, _⟩ => ⟨S2x1x256, .f32⟩
  | .hbm, ⟨75, _⟩ => ⟨S_, .f32⟩
  | .hbm, ⟨76, _⟩ => ⟨S2x3x256, .f32⟩
  | .hbm, ⟨77, _⟩ => ⟨S_, .f32⟩
  | .hbm, ⟨78, _⟩ => ⟨S2x1x2050x256, .f32⟩
  | .hbm, ⟨79, _⟩ => ⟨S2x1x2048x256, .f32⟩
  | .hbm, ⟨80, _⟩ => ⟨S_, .f32⟩
  | .hbm, ⟨81, _⟩ => ⟨S2x1x256, .f32⟩
  | .hbm, ⟨82, _⟩ => ⟨S2x1x1x256, .f32⟩
  | .hbm, ⟨83, _⟩ => ⟨S1x1x1x256, .f32⟩
  | .hbm, ⟨84, _⟩ => ⟨S2x1x2048x256, .f32⟩
  | .hbm, ⟨85, _⟩ => ⟨S2x1x2048x256, .f32⟩
  | .hbm, ⟨86, _⟩ => ⟨S_, .f32⟩
  | .hbm, ⟨87, _⟩ => ⟨S2x256, .f32⟩
  | .hbm, ⟨88, _⟩ => ⟨S2x1x256, .f32⟩
  | .hbm, ⟨89, _⟩ => ⟨S_, .f32⟩
  | .hbm, ⟨90, _⟩ => ⟨S2x3x256, .f32⟩
  | .hbm, ⟨91, _⟩ => ⟨S2x3x256, .f32⟩
  | .hbm, ⟨92, _⟩ => ⟨S_, .f32⟩
  | .hbm, ⟨93, _⟩ => ⟨S2x1x2050x256, .f32⟩
  | .hbm, ⟨94, _⟩ => ⟨S2x1x2050x256, .f32⟩
  | .hbm, ⟨95, _⟩ => ⟨S2x1x2048x256, .f32⟩
  | .hbm, ⟨96, _⟩ => ⟨S_, .f32⟩
  | .hbm, ⟨97, _⟩ => ⟨S2x1x256, .f32⟩
  | .hbm, ⟨98, _⟩ => ⟨S2x1x1x256, .f32⟩
  | .hbm, ⟨99, _⟩ => ⟨S1x1x1x256, .f32⟩
  | .hbm, ⟨100, _⟩ => ⟨S2x1x2048x256, .f32⟩
  | .hbm, ⟨101, _⟩ => ⟨S2x1x2048x256, .f32⟩
  | .hbm, ⟨102, _⟩ => ⟨S_, .f32⟩
  | .hbm, ⟨103, _⟩ => ⟨S2x256, .f32⟩
  | .hbm, ⟨104, _⟩ => ⟨S2x1x256, .f32⟩
  | .hbm, ⟨105, _⟩ => ⟨S_, .f32⟩
  | .hbm, ⟨106, _⟩ => ⟨S2x3x256, .f32⟩
  | .hbm, ⟨107, _⟩ => ⟨S2x3x256, .f32⟩
  | .hbm, ⟨108, _⟩ => ⟨S_, .f32⟩
  | .hbm, ⟨109, _⟩ => ⟨S2x1x2050x256, .f32⟩
  | .hbm, ⟨110, _⟩ => ⟨S2x1x2050x256, .f32⟩
  | .hbm, ⟨111, _⟩ => ⟨S2x1x2x256, .f32⟩
  | .hbm, ⟨112, _⟩ => ⟨S2x1x2048x256, .f32⟩
  | .hbm, ⟨113, _⟩ => ⟨S2x1x2048x256, .f32⟩
  | .hbm, ⟨114, _⟩ => ⟨S2x1x2048x256, .f32⟩
  | .hbm, ⟨115, _⟩ => ⟨S2x1x2048x1024, .f32⟩
  | .hbm, ⟨116, _⟩ => ⟨S2x2048x1024, .f32⟩
  | .hbm, ⟨117, _⟩ => ⟨S4096x4x4x64, .f32⟩
  | .hbm, ⟨118, _⟩ => ⟨S4x4x4096x64, .f32⟩
  | .hbm, ⟨119, _⟩ => ⟨S16x4096x64, .f32⟩
  | .hbm, ⟨120, _⟩ => ⟨S16x4096x64, .bf16⟩
  | .hbm, ⟨121, _⟩ => ⟨S2x3x4x64, .f32⟩
  | .hbm, ⟨122, _⟩ => ⟨S4x2x3x64, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v36_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v36_1 : Ref sig .tc := ⟨.hbm, 53, rfl⟩
abbrev main_v36_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_3 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_11 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== DhKernel.lean ====
abbrev S2x2048x1024 : Shape := ⟨3, ![2, 2048, 1024]⟩
abbrev S1024 : Shape := ⟨1, ![1024]⟩
abbrev S1024x3992 : Shape := ⟨2, ![1024, 3992]⟩
abbrev S2x2048x3992 : Shape := ⟨3, ![2, 2048, 3992]⟩
abbrev S1024x1024 : Shape := ⟨2, ![1024, 1024]⟩
abbrev S1024x8 : Shape := ⟨2, ![1024, 8]⟩
abbrev S1024x128 : Shape := ⟨2, ![1024, 128]⟩
abbrev S1024x4x4x64 : Shape := ⟨4, ![1024, 4, 4, 64]⟩
abbrev S1024x256 : Shape := ⟨2, ![1024, 256]⟩
abbrev S1024x8x32 : Shape := ⟨3, ![1024, 8, 32]⟩
abbrev S_ : Shape := ⟨0, ![]⟩
abbrev S1024x8x64 : Shape := ⟨3, ![1024, 8, 64]⟩
abbrev S1024x512 : Shape := ⟨2, ![1024, 512]⟩
abbrev S1024x16 : Shape := ⟨2, ![1024, 16]⟩
abbrev S1024x64 : Shape := ⟨2, ![1024, 64]⟩
abbrev S1024x4352 : Shape := ⟨2, ![1024, 4352]⟩
abbrev S1024x17x256 : Shape := ⟨3, ![1024, 17, 256]⟩
abbrev S17x1024x256 : Shape := ⟨3, ![17, 1024, 256]⟩
abbrev S4096x3992 : Shape := ⟨2, ![4096, 3992]⟩
abbrev S4096x1024 : Shape := ⟨2, ![4096, 1024]⟩
abbrev S4096x8 : Shape := ⟨2, ![4096, 8]⟩
abbrev S4096x128 : Shape := ⟨2, ![4096, 128]⟩
abbrev S4096x4x4x64 : Shape := ⟨4, ![4096, 4, 4, 64]⟩
abbrev S4096x256 : Shape := ⟨2, ![4096, 256]⟩
abbrev S4096x8x32 : Shape := ⟨3, ![4096, 8, 32]⟩
abbrev S4096x8x64 : Shape := ⟨3, ![4096, 8, 64]⟩
abbrev S4096x512 : Shape := ⟨2, ![4096, 512]⟩
abbrev S4096x16 : Shape := ⟨2, ![4096, 16]⟩
abbrev S4096x64 : Shape := ⟨2, ![4096, 64]⟩
abbrev S4096x4352 : Shape := ⟨2, ![4096, 4352]⟩
abbrev S4096x68x64 : Shape := ⟨3, ![4096, 68, 64]⟩
abbrev S68x4096x64 : Shape := ⟨3, ![68, 4096, 64]⟩
abbrev S16x4096x64 : Shape := ⟨3, ![16, 4096, 64]⟩
abbrev S2x4096x64 : Shape := ⟨3, ![2, 4096, 64]⟩
abbrev S18x4096x64 : Shape := ⟨3, ![18, 4096, 64]⟩
abbrev S12x4096x64 : Shape := ⟨3, ![12, 4096, 64]⟩
abbrev S4x4096x64 : Shape := ⟨3, ![4, 4096, 64]⟩
abbrev S1x1024 : Shape := ⟨2, ![1, 1024]⟩
abbrev S4x1024x64 : Shape := ⟨3, ![4, 1024, 64]⟩
abbrev S1x1024x256 : Shape := ⟨3, ![1, 1024, 256]⟩
abbrev S1x1024x64 : Shape := ⟨3, ![1, 1024, 64]⟩
abbrev S1024x1 : Shape := ⟨2, ![1024, 1]⟩

abbrev nBuf : Space → Nat
  | .hbm => 71
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3992, .f32⟩
  | .hbm, ⟨3, _⟩ => ⟨S2x2048x3992, .f32⟩
  | .hbm, ⟨4, _⟩ => ⟨S2x2048x1024, .f32⟩
  | .hbm, ⟨5, _⟩ => ⟨S1024x1024, .f32⟩
  | .hbm, ⟨6, _⟩ => ⟨S1024x8, .f32⟩
  | .hbm, ⟨7, _⟩ => ⟨S1024x1024, .f32⟩
  | .hbm, ⟨8, _⟩ => ⟨S1024x128, .f32⟩
  | .hbm, ⟨9, _⟩ => ⟨S1024x1024, .f32⟩
  | .hbm, ⟨10, _⟩ => ⟨S1024x4x4x64, .f32⟩
  | .hbm, ⟨11, _⟩ => ⟨S1024x4x4x64, .f32⟩
  | .hbm, ⟨12, _⟩ => ⟨S1024x1024, .f32⟩
  | .hbm, ⟨13, _⟩ => ⟨S1024x256, .f32⟩
  | .hbm, ⟨14, _⟩ => ⟨S1024x8x32, .f32⟩
  | .hbm, ⟨15, _⟩ => ⟨S_, .i32⟩
  | .hbm, ⟨16, _⟩ => ⟨S_, .f32⟩
  | .hbm, ⟨17, _⟩ => ⟨S1024x8x64, .f32⟩
  | .hbm, ⟨18, _⟩ => ⟨S1024x512, .f32⟩
  | .hbm, ⟨19, _⟩ => ⟨S1024x512, .f32⟩
  | .hbm, ⟨20, _⟩ => ⟨S1024x16, .f32⟩
  | .hbm, ⟨21, _⟩ => ⟨S_, .i32⟩
  | .hbm, ⟨22, _⟩ => ⟨S_, .f32⟩
  | .hbm, ⟨23, _⟩ => ⟨S1024x64, .f32⟩
  | .hbm, ⟨24, _⟩ => ⟨S_, .i32⟩
  | .hbm, ⟨25, _⟩ => ⟨S_, .f32⟩
  | .hbm, ⟨26, _⟩ => ⟨S1024x64, .f32⟩
  | .hbm, ⟨27, _⟩ => ⟨S1024x4352, .f32⟩
  | .hbm, ⟨28, _⟩ => ⟨S1024x17x256, .f32⟩
  | .hbm, ⟨29, _⟩ => ⟨S17x1024x256, .f32⟩
  | .hbm, ⟨30, _⟩ => ⟨S17x1024x256, .bf16⟩
  | .hbm, ⟨31, _⟩ => ⟨S4096x3992, .f32⟩
  | .hbm, ⟨32, _⟩ => ⟨S4096x1024, .f32⟩
  | .hbm, ⟨33, _⟩ => ⟨S4096x8, .f32⟩
  | .hbm, ⟨34, _⟩ => ⟨S4096x1024, .f32⟩
  | .hbm, ⟨35, _⟩ => ⟨S4096x128, .f32⟩
  | .hbm, ⟨36, _⟩ => ⟨S4096x1024, .f32⟩
  | .hbm, ⟨37, _⟩ => ⟨S4096x4x4x64, .f32⟩
  | .hbm, ⟨38, _⟩ => ⟨S4096x4x4x64, .f32⟩
  | .hbm, ⟨39, _⟩ => ⟨S4096x1024, .f32⟩
  | .hbm, ⟨40, _⟩ => ⟨S4096x256, .f32⟩
  | .hbm, ⟨41, _⟩ => ⟨S4096x8x32, .f32⟩
  | .hbm, ⟨42, _⟩ => ⟨S_, .i32⟩
  | .hbm, ⟨43, _⟩ => ⟨S_, .f32⟩
  | .hbm, ⟨44, _⟩ => ⟨S4096x8x64, .f32⟩
  | .hbm, ⟨45, _⟩ => ⟨S4096x512, .f32⟩
  | .hbm, ⟨46, _⟩ => ⟨S4096x512, .f32⟩
  | .hbm, ⟨47, _⟩ => ⟨S4096x16, .f32⟩
  | .hbm, ⟨48, _⟩ => ⟨S_, .i32⟩
  | .hbm, ⟨49, _⟩ => ⟨S_, .f32⟩
  | .hbm, ⟨50, _⟩ => ⟨S4096x64, .f32⟩
  | .hbm, ⟨51, _⟩ => ⟨S_, .i32⟩
  | .hbm, ⟨52, _⟩ => ⟨S_, .f32⟩
  | .hbm, ⟨53, _⟩ => ⟨S4096x64, .f32⟩
  | .hbm, ⟨54, _⟩ => ⟨S4096x4352, .f32⟩
  | .hbm, ⟨55, _⟩ => ⟨S4096x68x64, .f32⟩
  | .hbm, ⟨56, _⟩ => ⟨S68x4096x64, .f32⟩
  | .hbm, ⟨57, _⟩ => ⟨S68x4096x64, .bf16⟩
  | .hbm, ⟨58, _⟩ => ⟨S16x4096x64, .bf16⟩
  | .hbm, ⟨59, _⟩ => ⟨S2x4096x64, .bf16⟩
  | .hbm, ⟨60, _⟩ => ⟨S18x4096x64, .bf16⟩
  | .hbm, ⟨61, _⟩ => ⟨S12x4096x64, .bf16⟩
  | .hbm, ⟨62, _⟩ => ⟨S4x4096x64, .bf16⟩
  | .hbm, ⟨63, _⟩ => ⟨S16x4096x64, .bf16⟩
  | .hbm, ⟨64, _⟩ => ⟨S16x4096x64, .bf16⟩
  | .hbm, ⟨65, _⟩ => ⟨S4x4096x64, .bf16⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S1x1024, .f32⟩
  | .local _ .vmem, ⟨0, _⟩ => ⟨S4x1024x64, .bf16⟩
  | .local _ .vmem, ⟨1, _⟩ => ⟨S4x1024x64, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S4x1024x64, .bf16⟩
  | .local _ .vmem, ⟨9, _⟩ => ⟨S4x1024x64, .bf16⟩
  | .local _ .vmem, ⟨10, _⟩ => ⟨S4x1024x64, .bf16⟩
  | .local _ .vmem, ⟨11, _⟩ => ⟨S4x1024x64, .bf16⟩
  | .local _ .vmem, ⟨12, _⟩ => ⟨S1x1024x256, .bf16⟩
  | .local _ .vmem, ⟨13, _⟩ => ⟨S1x1024x256, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | .local _ .vmem, ⟨22, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_call3_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_call4_v0 : Ref sig .tc := ⟨.hbm, 49, rfl⟩
abbrev main_v35 : Ref sig .tc := ⟨.hbm, 50, rfl⟩
abbrev main_c_4 : Ref sig .tc := ⟨.hbm, 51, rfl⟩
abbrev main_call5_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![4, 17], ![false, false]⟩

def k0_cond9 (i : grid0.Coords) : BitVec 1 :=
  let arg1 : BitVec 32 := BitVec.ofNat 32 (i 1).val
  let c16_i32_16 : BitVec 32 := 16#32
  let v38 : BitVec 1 := Scalar.cmpi .eq arg1 c16_i32_16
  let v39 : BitVec 32 := Scalar.extui v38
  let c0_i32_17 : BitVec 32 := 0#32
  let v40 : BitVec 1 := Scalar.cmpi .ne v39 c0_i32_17
  v40

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![v2.toNat, arg0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, arg0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, arg0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== DhReferenceIdeal.lean ====
abbrev S2x2048x1024 : Shape := ⟨3, ![2, 2048, 1024]⟩
abbrev S1024 : Shape := ⟨1, ![1024]⟩
abbrev S1024x3992 : Shape := ⟨2, ![1024, 3992]⟩
abbrev S2x2048x3992 : Shape := ⟨3, ![2, 2048, 3992]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3992, .f32⟩
  | .hbm, ⟨3, _⟩ => ⟨S2x2048x3992, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x3992, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwKernel.lean ====
abbrev S2x2048x1024 : Shape := ⟨3, ![2, 2048, 1024]⟩
abbrev S1024 : Shape := ⟨1, ![1024]⟩
abbrev S2x2048x3992 : Shape := ⟨3, ![2, 2048, 3992]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x3992 : Shape := ⟨2, ![4096, 3992]⟩
abbrev S4096x8 : Shape := ⟨2, ![4096, 8]⟩
abbrev S4096x128 : Shape := ⟨2, ![4096, 128]⟩
abbrev S4096x4x4x64 : Shape := ⟨4, ![4096, 4, 4, 64]⟩
abbrev S4096x256 : Shape := ⟨2, ![4096, 256]⟩
abbrev S4096x8x32 : Shape := ⟨3, ![4096, 8, 32]⟩
abbrev S4096x8x64 : Shape := ⟨3, ![4096, 8, 64]⟩
abbrev S4096x512 : Shape := ⟨2, ![4096, 512]⟩
abbrev S4096x16 : Shape := ⟨2, ![4096, 16]⟩
abbrev S4096x64 : Shape := ⟨2, ![4096, 64]⟩
abbrev S4096x4352 : Shape := ⟨2, ![4096, 4352]⟩
abbrev S4096x68x64 : Shape := ⟨3, ![4096, 68, 64]⟩
abbrev S68x4096x64 : Shape := ⟨3, ![68, 4096, 64]⟩
abbrev S16x4096x64 : Shape := ⟨3, ![16, 4096, 64]⟩
abbrev S2x4096x64 : Shape := ⟨3, ![2, 4096, 64]⟩
abbrev S18x4096x64 : Shape := ⟨3, ![18, 4096, 64]⟩
abbrev S12x4096x64 : Shape := ⟨3, ![12, 4096, 64]⟩
abbrev S4x4096x64 : Shape := ⟨3, ![4, 4096, 64]⟩
abbrev S1024x4096 : Shape := ⟨2, ![1024, 4096]⟩
abbrev S17x1024x256 : Shape := ⟨3, ![17, 1024, 256]⟩
abbrev S1024x1024 : Shape := ⟨2, ![1024, 1024]⟩
abbrev S4x1024x64 : Shape := ⟨3, ![4, 1024, 64]⟩
abbrev S1x1024x64 : Shape := ⟨3, ![1, 1024, 64]⟩
abbrev S1024x64 : Shape := ⟨2, ![1024, 64]⟩
abbrev S1024x256 : Shape := ⟨2, ![1024, 256]⟩
abbrev S1x1024x256 : Shape := ⟨3, ![1, 1024, 256]⟩

abbrev nBuf : Space → Nat
  | .hbm => 58
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x3992, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | .hbm, ⟨21, _⟩ => ⟨S4096x3992, .f32⟩
  | .hbm, ⟨22, _⟩ => ⟨S4096x1024, .f32⟩
  | .hbm, ⟨23, _⟩ => ⟨S4096x8, .f32⟩
  | .hbm, ⟨24, _⟩ => ⟨S4096x1024, .f32⟩
  | .hbm, ⟨25, _⟩ => ⟨S4096x128, .f32⟩
  | .hbm, ⟨26, _⟩ => ⟨S4096x1024, .f32⟩
  | .hbm, ⟨27, _⟩ => ⟨S4096x4x4x64, .f32⟩
  | .hbm, ⟨28, _⟩ => ⟨S4096x4x4x64, .f32⟩
  | .hbm, ⟨29, _⟩ => ⟨S4096x1024, .f32⟩
  | .hbm, ⟨30, _⟩ => ⟨S4096x256, .f32⟩
  | .hbm, ⟨31, _⟩ => ⟨S4096x8x32, .f32⟩
  | .hbm, ⟨32, _⟩ => ⟨S_, .i32⟩
  | .hbm, ⟨33, _⟩ => ⟨S_, .f32⟩
  | .hbm, ⟨34, _⟩ => ⟨S4096x8x64, .f32⟩
  | .hbm, ⟨35, _⟩ => ⟨S4096x512, .f32⟩
  | .hbm, ⟨36, _⟩ => ⟨S4096x512, .f32⟩
  | .hbm, ⟨37, _⟩ => ⟨S4096x16, .f32⟩
  | .hbm, ⟨38, _⟩ => ⟨S_, .i32⟩
  | .hbm, ⟨39, _⟩ => ⟨S_, .f32⟩
  | .hbm, ⟨40, _⟩ => ⟨S4096x64, .f32⟩
  | .hbm, ⟨41, _⟩ => ⟨S_, .i32⟩
  | .hbm, ⟨42, _⟩ => ⟨S_, .f32⟩
  | .hbm, ⟨43, _⟩ => ⟨S4096x64, .f32⟩
  | .hbm, ⟨44, _⟩ => ⟨S4096x4352, .f32⟩
  | .hbm, ⟨45, _⟩ => ⟨S4096x68x64, .f32⟩
  | .hbm, ⟨46, _⟩ => ⟨S68x4096x64, .f32⟩
  | .hbm, ⟨47, _⟩ => ⟨S68x4096x64, .bf16⟩
  | .hbm, ⟨48, _⟩ => ⟨S16x4096x64, .bf16⟩
  | .hbm, ⟨49, _⟩ => ⟨S2x4096x64, .bf16⟩
  | .hbm, ⟨50, _⟩ => ⟨S18x4096x64, .bf16⟩
  | .hbm, ⟨51, _⟩ => ⟨S12x4096x64, .bf16⟩
  | .hbm, ⟨52, _⟩ => ⟨S4x4096x64, .bf16⟩
  | .hbm, ⟨53, _⟩ => ⟨S16x4096x64, .bf16⟩
  | .hbm, ⟨54, _⟩ => ⟨S16x4096x64, .bf16⟩
  | .hbm, ⟨55, _⟩ => ⟨S4x4096x64, .bf16⟩
  | .hbm, ⟨56, _⟩ => ⟨S1024x4096, .bf16⟩
  | .hbm, ⟨57, _⟩ => ⟨S17x1024x256, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S4x1024x64, .bf16⟩
  | .local _ .vmem, ⟨9, _⟩ => ⟨S4x1024x64, .bf16⟩
  | .local _ .vmem, ⟨10, _⟩ => ⟨S4x1024x64, .bf16⟩
  | .local _ .vmem, ⟨11, _⟩ => ⟨S4x1024x64, .bf16⟩
  | .local _ .vmem, ⟨12, _⟩ => ⟨S4x1024x64, .bf16⟩
  | .local _ .vmem, ⟨13, _⟩ => ⟨S4x1024x64, .bf16⟩
  | .local _ .vmem, ⟨14, _⟩ => ⟨S17x1024x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_call1_v0 : Ref sig .tc := ⟨.hbm, 39, rfl⟩
abbrev main_v30 : Ref sig .tc := ⟨.hbm, 40, rfl⟩
abbrev main_c_3 : Ref sig .tc := ⟨.hbm, 41, rfl⟩
abbrev main_call2_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_3 : BitVec 32 := 0#32
  let v7 : BitVec 1 := Scalar.cmpi .sge arg1 c0_i32_3
  let c3_i32 : BitVec 32 := 3#32
  let v8 : BitVec 1 := Scalar.cmpi .slt arg1 c3_i32
  let v9 : BitVec 1 := Scalar.andi v7 v8
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def k0_cond3 (i : grid0.Coords) : BitVec 1 :=
  let arg1 : BitVec 32 := BitVec.ofNat 32 (i 1).val
  let c3_i32_5 : BitVec 32 := 3#32
  let v12 : BitVec 1 := Scalar.cmpi .sge arg1 c3_i32_5
  let c4_i32 : BitVec 32 := 4#32
  let v13 : BitVec 1 := Scalar.cmpi .slt arg1 c4_i32
  let v14 : BitVec 1 := Scalar.andi v12 v13
  let v15 : BitVec 32 := Scalar.extui v14
  let c0_i32_6 : BitVec 32 := 0#32
  let v16 : BitVec 1 := Scalar.cmpi .ne v15 c0_i32_6
  v16

def k0_off2 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def k0_cond4 (i : grid0.Coords) : BitVec 1 :=
  let arg1 : BitVec 32 := BitVec.ofNat 32 (i 1).val
  let c4_i32_7 : BitVec 32 := 4#32
  let v17 : BitVec 1 := Scalar.cmpi .sge arg1 c4_i32_7
  let c8_i32 : BitVec 32 := 8#32
  let v18 : BitVec 1 := Scalar.cmpi .slt arg1 c8_i32
  let v19 : BitVec 1 := Scalar.andi v17 v18
  let v20 : BitVec 32 := Scalar.extui v19
  let c0_i32_8 : BitVec 32 := 0#32
  let v21 : BitVec 1 := Scalar.cmpi .ne v20 c0_i32_8
  v21

def k0_off3 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def k0_cond5 (i : grid0.Coords) : BitVec 1 :=
  let arg1 : BitVec 32 := BitVec.ofNat 32 (i 1).val
  let c8_i32_9 : BitVec 32 := 8#32
  let v22 : BitVec 1 := Scalar.cmpi .sge arg1 c8_i32_9
  let c12_i32 : BitVec 32 := 12#32
  let v23 : BitVec 1 := Scalar.cmpi .slt arg1 c12_i32
  let v24 : BitVec 1 := Scalar.andi v22 v23
  let v25 : BitVec 32 := Scalar.extui v24
  let c0_i32_10 : BitVec 32 := 0#32
  let v26 : BitVec 1 := Scalar.cmpi .ne v25 c0_i32_10
  v26

def k0_off4 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def k0_cond6 (i : grid0.Coords) : BitVec 1 :=
  let arg1 : BitVec 32 := BitVec.ofNat 32 (i 1).val
  let c12_i32_11 : BitVec 32 := 12#32
  let v27 : BitVec 1 := Scalar.cmpi .sge arg1 c12_i32_11
  let c16_i32 : BitVec 32 := 16#32
  let v28 : BitVec 1 := Scalar.cmpi .slt arg1 c16_i32
  let v29 : BitVec 1 := Scalar.andi v27 v28
  let v30 : BitVec 32 := Scalar.extui v29
  let c0_i32_12 : BitVec 32 := 0#32
  let v31 : BitVec 1 := Scalar.cmpi .ne v30 c0_i32_12
  v31

def k0_off5 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def k0_cond7 (i : grid0.Coords) : BitVec 1 :=
  let arg1 : BitVec 32 := BitVec.ofNat 32 (i 1).val
  let c16_i32_13 : BitVec 32 := 16#32
  let v32 : BitVec 1 := Scalar.cmpi .sge arg1 c16_i32_13
  let c17_i32 : BitVec 32 := 17#32
  let v33 : BitVec 1 := Scalar.cmpi .slt arg1 c17_i32
  let v34 : BitVec 1 := Scalar.andi v32 v33
  let v35 : BitVec 32 := Scalar.extui v34
  let c0_i32_14 : BitVec 32 := 0#32
  let v36 : BitVec 1 := Scalar.cmpi .ne v35 c0_i32_14
  v36

def k0_off6 (i : grid0.Coords) : Fin 3 → Nat :=
  let arg1 : BitVec 32 := BitVec.ofNat 32 (i 1).val
  let v51 : Index := Scalar.indexCast arg1
  let c0_27 : Index := 0#32
  let c0_28 : Index := 0#32
  ![v51.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![v2.toNat, arg0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, arg0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, arg0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DwReferenceIdeal.lean ====
abbrev S2x2048x1024 : Shape := ⟨3, ![2, 2048, 1024]⟩
abbrev S1024 : Shape := ⟨1, ![1024]⟩
abbrev S2x2048x3992 : Shape := ⟨3, ![2, 2048, 3992]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3992 : Shape := ⟨2, ![1024, 3992]⟩
abbrev S3992x1024 : Shape := ⟨2, ![3992, 1024]⟩
abbrev S1024x1024 : Shape := ⟨2, ![1024, 1024]⟩
abbrev S1024x8 : Shape := ⟨2, ![1024, 8]⟩
abbrev S1024x128 : Shape := ⟨2, ![1024, 128]⟩
abbrev S1024x256 : Shape := ⟨2, ![1024, 256]⟩
abbrev S1024x512 : Shape := ⟨2, ![1024, 512]⟩
abbrev S1024x16 : Shape := ⟨2, ![1024, 16]⟩
abbrev S1024x4x4x64 : Shape := ⟨4, ![1024, 4, 4, 64]⟩
abbrev S1024x8x32 : Shape := ⟨3, ![1024, 8, 32]⟩
abbrev S1024x8x64 : Shape := ⟨3, ![1024, 8, 64]⟩
abbrev S1024x64 : Shape := ⟨2, ![1024, 64]⟩
abbrev S1024x4352 : Shape := ⟨2, ![1024, 4352]⟩
abbrev S1024x17x256 : Shape := ⟨3, ![1024, 17, 256]⟩
abbrev S17x1024x256 : Shape := ⟨3, ![17, 1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x3992, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S1024x3992, .f32⟩
  | .hbm, ⟨21, _⟩ => ⟨S2x2048x3992, .f32⟩
  | .hbm, ⟨22, _⟩ => ⟨S3992x1024, .f32⟩
  | .hbm, ⟨23, _⟩ => ⟨S1024x3992, .f32⟩
  | .hbm, ⟨24, _⟩ => ⟨S1024x1024, .f32⟩
  | .hbm, ⟨25, _⟩ => ⟨S1024x8, .f32⟩
  | .hbm, ⟨26, _⟩ => ⟨S1024x1024, .f32⟩
  | .hbm, ⟨27, _⟩ => ⟨S1024x128, .f32⟩
  | .hbm, ⟨28, _⟩ => ⟨S1024x1024, .f32⟩
  | .hbm, ⟨29, _⟩ => ⟨S1024x256, .f32⟩
  | .hbm, ⟨30, _⟩ => ⟨S1024x512, .f32⟩
  | .hbm, ⟨31, _⟩ => ⟨S1024x16, .f32⟩
  | .hbm, ⟨32, _⟩ => ⟨S1024x4x4x64, .f32⟩
  | .hbm, ⟨33, _⟩ => ⟨S1024x4x4x64, .f32⟩
  | .hbm, ⟨34, _⟩ => ⟨S1024x1024, .f32⟩
  | .hbm, ⟨35, _⟩ => ⟨S1024x8x32, .f32⟩
  | .hbm, ⟨36, _⟩ => ⟨S_, .i32⟩
  | .hbm, ⟨37, _⟩ => ⟨S_, .f32⟩
  | .hbm, ⟨38, _⟩ => ⟨S1024x8x64, .f32⟩
  | .hbm, ⟨39, _⟩ => ⟨S1024x512, .f32⟩
  | .hbm, ⟨40, _⟩ => ⟨S_, .i32⟩
  | .hbm, ⟨41, _⟩ => ⟨S_, .f32⟩
  | .hbm, ⟨42, _⟩ => ⟨S1024x64, .f32⟩
  | .hbm, ⟨43, _⟩ => ⟨S_, .i32⟩
  | .hbm, ⟨44, _⟩ => ⟨S_, .f32⟩
  | .hbm, ⟨45, _⟩ => ⟨S1024x64, .f32⟩
  | .hbm, ⟨46, _⟩ => ⟨S1024x4352, .f32⟩
  | .hbm, ⟨47, _⟩ => ⟨S1024x17x256, .f32⟩
  | .hbm, ⟨48, _⟩ => ⟨S17x1024x256, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_call0_v0 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_call1_v0 : Ref sig .tc := ⟨.hbm, 41, rfl⟩
abbrev main_v31 : Ref sig .tc := ⟨.hbm, 42, rfl⟩
abbrev main_c_4 : Ref sig .tc := ⟨.hbm, 43, rfl⟩
abbrev main_call2_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== PostKernel.lean ====
abbrev S2x2048x1024 : Shape := ⟨3, ![2, 2048, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S16x4096x64 : Shape := ⟨3, ![16, 4096, 64]⟩
abbrev S16x1024x64 : Shape := ⟨3, ![16, 1024, 64]⟩
abbrev S1024x1 : Shape := ⟨2, ![1024, 1]⟩
abbrev S1024x64 : Shape := ⟨2, ![1024, 64]⟩
abbrev S1x1024x64 : Shape := ⟨3, ![1, 1024, 64]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S4096x1024, .bf16⟩
  | .hbm, ⟨9, _⟩ => ⟨S16x4096x64, .f32⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024x64, .f32⟩
  | .local _ .vmem, ⟨9, _⟩ => ⟨S16x1024x64, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostReferenceIdeal.lean ====
abbrev S2x2048x1024 : Shape := ⟨3, ![2, 2048, 1024]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x16x64 : Shape := ⟨3, ![4096, 16, 64]⟩
abbrev S16x4096x64 : Shape := ⟨3, ![16, 4096, 64]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S2x2048x1024, .f32⟩
  | .hbm, ⟨37, _⟩ => ⟨S2x2048x1024, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S_, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S4096x1024, .bf16⟩
  | .hbm, ⟨55, _⟩ => ⟨S4096x16x64, .f32⟩
  | .hbm, ⟨56, _⟩ => ⟨S16x4096x64, .f32⟩
  | .hbm, ⟨57, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== OutKernel.lean ====
abbrev S2x2048x1024 : Shape := ⟨3, ![2, 2048, 1024]⟩
abbrev S4096x4x4x64 : Shape := ⟨4, ![4096, 4, 4, 64]⟩
abbrev S4x4x4096x64 : Shape := ⟨4, ![4, 4, 4096, 64]⟩
abbrev S1x4x4096x64 : Shape := ⟨4, ![1, 4, 4096, 64]⟩
abbrev S4x4096x64 : Shape := ⟨3, ![4, 4096, 64]⟩
abbrev S4096x1024 : Shape := ⟨2, ![4096, 1024]⟩
abbrev S1024x1024 : Shape := ⟨2, ![1024, 1024]⟩
abbrev S4x1024x64 : Shape := ⟨3, ![4, 1024, 64]⟩
abbrev S1x1024x64 : Shape := ⟨3, ![1, 1024, 64]⟩
abbrev S1024x64 : Shape := ⟨2, ![1024, 64]⟩

abbrev nBuf : Space → Nat
  | .hbm => 16
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S4096x4x4x64, .f32⟩
  | .hbm, ⟨3, _⟩ => ⟨S4x4x4096x64, .f32⟩
  | .hbm, ⟨4, _⟩ => ⟨S4x4x4096x64, .bf16⟩
  | .hbm, ⟨5, _⟩ => ⟨S1x4x4096x64, .bf16⟩
  | .hbm, ⟨6, _⟩ => ⟨S4x4096x64, .bf16⟩
  | .hbm, ⟨7, _⟩ => ⟨S1x4x4096x64, .bf16⟩
  | .hbm, ⟨8, _⟩ => ⟨S4x4096x64, .bf16⟩
  | .hbm, ⟨9, _⟩ => ⟨S1x4x4096x64, .bf16⟩
  | .hbm, ⟨10, _⟩ => ⟨S4x4096x64, .bf16⟩
  | .hbm, ⟨11, _⟩ => ⟨S1x4x4096x64, .bf16⟩
  | .hbm, ⟨12, _⟩ => ⟨S4x4096x64, .bf16⟩
  | .hbm, ⟨13, _⟩ => ⟨S4096x1024, .f32⟩
  | .hbm, ⟨14, _⟩ => ⟨S4096x1024, .bf16⟩
  | .hbm, ⟨15, _⟩ => ⟨S1024x1024, .f32⟩
  | .local _ .vmem, ⟨0, _⟩ => ⟨S4x1024x64, .bf16⟩
  | .local _ .vmem, ⟨1, _⟩ => ⟨S4x1024x64, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutReferenceIdeal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvKernel.lean ====
abbrev S2x2048x768 : Shape := ⟨3, ![2, 2048, 768]⟩
abbrev S4x768 : Shape := ⟨2, ![4, 768]⟩
abbrev S4096x12x64 : Shape := ⟨3, ![4096, 12, 64]⟩
abbrev S12x4096x64 : Shape := ⟨3, ![12, 4096, 64]⟩
abbrev S_ : Shape := ⟨0, ![]⟩
abbrev S68x4096x64 : Shape := ⟨3, ![68, 4096, 64]⟩
abbrev S4x12x64 : Shape := ⟨3, ![4, 12, 64]⟩
abbrev S12x4x64 : Shape := ⟨3, ![12, 4, 64]⟩
abbrev S12x2x4x64 : Shape := ⟨4, ![12, 2, 4, 64]⟩
abbrev S1x2048x64 : Shape := ⟨3, ![1, 2048, 64]⟩
abbrev S1x4x64 : Shape := ⟨3, ![1, 4, 64]⟩
abbrev S1x1x4x64 : Shape := ⟨4, ![1, 1, 4, 64]⟩
abbrev S2048x64 : Shape := ⟨2, ![2048, 64]⟩
abbrev S1x1x64 : Shape := ⟨3, ![1, 1, 64]⟩
abbrev S1x64 : Shape := ⟨2, ![1, 64]⟩
abbrev S64 : Shape := ⟨1, ![64]⟩
abbrev S1x1x1x64 : Shape := ⟨4, ![1, 1, 1, 64]⟩

abbrev nBuf : Space → Nat
  | .hbm => 14
  | .vmem => 10
  | .smem => 0
  | _ => 0

abbrev bufTy : (tb : Table) → Fin (tcTables nBuf tb) → BufTy
  | .hbm, ⟨0, _⟩ => ⟨S2x2048x768, .f32⟩
  | .hbm, ⟨1, _⟩ => ⟨S4x768, .f32⟩
  | .hbm, ⟨2, _⟩ => ⟨S2x2048x768, .f32⟩
  | .hbm, ⟨3, _⟩ => ⟨S4096x12x64, .f32⟩
  | .hbm, ⟨4, _⟩ => ⟨S12x4096x64, .f32⟩
  | .hbm, ⟨5, _⟩ => ⟨S_, .i32⟩
  | .hbm, ⟨6, _⟩ => ⟨S_, .f32⟩
  | .hbm, ⟨7, _⟩ => ⟨S68x4096x64, .f32⟩
  | .hbm, ⟨8, _⟩ => ⟨S4x12x64, .f32⟩
  | .hbm, ⟨9, _⟩ => ⟨S12x4x64, .f32⟩
  | .hbm, ⟨10, _⟩ => ⟨S4096x12x64, .f32⟩
  | .hbm, ⟨11, _⟩ => ⟨S12x4096x64, .f32⟩
  | .hbm, ⟨12, _⟩ => ⟨S12x4096x64, .bf16⟩
  | .hbm, ⟨13, _⟩ => ⟨S12x2x4x64, .f32⟩
  | .local _ .vmem, ⟨0, _⟩ => ⟨S1x2048x64, .f32⟩
  | .local _ .vmem, ⟨1, _⟩ => ⟨S1x2048x64, .f32⟩
  | .local _ .vmem, ⟨2, _⟩ => ⟨S1x4x64, .f32⟩
  | .local _ .vmem, ⟨3, _⟩ => ⟨S1x4x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .bf16⟩
  | .local _ .vmem, ⟨7, _⟩ => ⟨S1x2048x64, .bf16⟩
  | .local _ .vmem, ⟨8, _⟩ => ⟨S1x1x4x64, .f32⟩
  | .local _ .vmem, ⟨9, _⟩ => ⟨S1x1x4x64, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvReferenceIdeal.lean ====
abbrev S2x2048x768 : Shape := ⟨3, ![2, 2048, 768]⟩
abbrev S4x768 : Shape := ⟨2, ![4, 768]⟩
abbrev S2x1x2048x768 : Shape := ⟨4, ![2, 1, 2048, 768]⟩
abbrev S_ : Shape := ⟨0, ![]⟩
abbrev S1x3x768 : Shape := ⟨3, ![1, 3, 768]⟩
abbrev S2x1x3x768 : Shape := ⟨4, ![2, 1, 3, 768]⟩
abbrev S2x1x2051x768 : Shape := ⟨4, ![2, 1, 2051, 768]⟩
abbrev S1x768 : Shape := ⟨2, ![1, 768]⟩
abbrev S768 : Shape := ⟨1, ![768]⟩
abbrev S1x1x768 : Shape := ⟨3, ![1, 1, 768]⟩
abbrev S1x1x1x768 : Shape := ⟨4, ![1, 1, 1, 768]⟩
abbrev S2x1x768 : Shape := ⟨3, ![2, 1, 768]⟩
abbrev S2x1x1x768 : Shape := ⟨4, ![2, 1, 1, 768]⟩
abbrev S2x768 : Shape := ⟨2, ![2, 768]⟩
abbrev S2x4x768 : Shape := ⟨3, ![2, 4, 768]⟩
abbrev S4096x12x64 : Shape := ⟨3, ![4096, 12, 64]⟩
abbrev S12x4096x64 : Shape := ⟨3, ![12, 4096, 64]⟩
abbrev S2x4x12x64 : Shape := ⟨4, ![2, 4, 12, 64]⟩
abbrev S12x2x4x64 : Shape := ⟨4, ![12, 2, 4, 64]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S4x768, .f32⟩
  | .hbm, ⟨2, _⟩ => ⟨S2x2048x768, .f32⟩
  | .hbm, ⟨3, _⟩ => ⟨S2x1x2048x768, .f32⟩
  | .hbm, ⟨4, _⟩ => ⟨S_, .f32⟩
  | .hbm, ⟨5, _⟩ => ⟨S1x3x768, .f32⟩
  | .hbm, ⟨6, _⟩ => ⟨S2x1x3x768, .f32⟩
  | .hbm, ⟨7, _⟩ => ⟨S2x1x2051x768, .f32⟩
  | .hbm, ⟨8, _⟩ => ⟨S_, .f32⟩
  | .hbm, ⟨9, _⟩ => ⟨S1x3x768, .f32⟩
  | .hbm, ⟨10, _⟩ => ⟨S2x1x2048x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S1x1x1x768, .f32⟩
  | .hbm, ⟨15, _⟩ => ⟨S2x1x2048x768, .f32⟩
  | .hbm, ⟨16, _⟩ => ⟨S2x1x2048x768, .f32⟩
  | .hbm, ⟨17, _⟩ => ⟨S_, .f32⟩
  | .hbm, ⟨18, _⟩ => ⟨S2x1x2048x768, .f32⟩
  | .hbm, ⟨19, _⟩ => ⟨S2x1x2048x768, .f32⟩
  | .hbm, ⟨20, _⟩ => ⟨S2x1x2048x768, .f32⟩
  | .hbm, ⟨21, _⟩ => ⟨S1x768, .f32⟩
  | .hbm, ⟨22, _⟩ => ⟨S768, .f32⟩
  | .hbm, ⟨23, _⟩ => ⟨S1x1x768, .f32⟩
  | .hbm, ⟨24, _⟩ => ⟨S1x1x1x768, .f32⟩
  | .hbm, ⟨25, _⟩ => ⟨S2x1x2048x768, .f32⟩
  | .hbm, ⟨26, _⟩ => ⟨S2x1x2048x768, .f32⟩
  | .hbm, ⟨27, _⟩ => ⟨S2x1x2048x768, .f32⟩
  | .hbm, ⟨28, _⟩ => ⟨S2x1x2048x768, .f32⟩
  | .hbm, ⟨29, _⟩ => ⟨S1x768, .f32⟩
  | .hbm, ⟨30, _⟩ => ⟨S768, .f32⟩
  | .hbm, ⟨31, _⟩ => ⟨S1x1x768, .f32⟩
  | .hbm, ⟨32, _⟩ => ⟨S1x1x1x768, .f32⟩
  | .hbm, ⟨33, _⟩ => ⟨S2x1x2048x768, .f32⟩
  | .hbm, ⟨34, _⟩ => ⟨S2x1x2048x768, .f32⟩
  | .hbm, ⟨35, _⟩ => ⟨S2x1x2048x768, .f32⟩
  | .hbm, ⟨36, _⟩ => ⟨S2x1x2048x768, .f32⟩
  | .hbm, ⟨37, _⟩ => ⟨S1x768, .f32⟩
  | .hbm, ⟨38, _⟩ => ⟨S768, .f32⟩
  | .hbm, ⟨39, _⟩ => ⟨S1x1x768, .f32⟩
  | .hbm, ⟨40, _⟩ => ⟨S1x1x1x768, .f32⟩
  | .hbm, ⟨41, _⟩ => ⟨S2x1x2048x768, .f32⟩
  | .hbm, ⟨42, _⟩ => ⟨S2x1x2048x768, .f32⟩
  | .hbm, ⟨43, _⟩ => ⟨S2x1x2048x768, .f32⟩
  | .hbm, ⟨44, _⟩ => ⟨S2x1x2048x768, .f32⟩
  | .hbm, ⟨45, _⟩ => ⟨S2x1x2048x768, .f32⟩
  | .hbm, ⟨46, _⟩ => ⟨S_, .f32⟩
  | .hbm, ⟨47, _⟩ => ⟨S2x1x768, .f32⟩
  | .hbm, ⟨48, _⟩ => ⟨S2x1x1x768, .f32⟩
  | .hbm, ⟨49, _⟩ => ⟨S1x1x1x768, .f32⟩
  | .hbm, ⟨50, _⟩ => ⟨S2x1x2048x768, .f32⟩
  | .hbm, ⟨51, _⟩ => ⟨S2x1x2048x768, .f32⟩
  | .hbm, ⟨52, _⟩ => ⟨S_, .f32⟩
  | .hbm, ⟨53, _⟩ => ⟨S2x768, .f32⟩
  | .hbm, ⟨54, _⟩ => ⟨S2x1x768, .f32⟩
  | .hbm, ⟨55, _⟩ => ⟨S_, .f32⟩
  | .hbm, ⟨56, _⟩ => ⟨S2x4x768, .f32⟩
  | .hbm, ⟨57, _⟩ => ⟨S_, .f32⟩
  | .hbm, ⟨58, _⟩ => ⟨S2x1x2051x768, .f32⟩
  | .hbm, ⟨59, _⟩ => ⟨S2x1x2048x768, .f32⟩
  | .hbm, ⟨60, _⟩ => ⟨S_, .f32⟩
  | .hbm, ⟨61, _⟩ => ⟨S2x1x768, .f32⟩
  | .hbm, ⟨62, _⟩ => ⟨S2x1x1x768, .f32⟩
  | .hbm, ⟨63, _⟩ => ⟨S1x1x1x768, .f32⟩
  | .hbm, ⟨64, _⟩ => ⟨S2x1x2048x768, .f32⟩
  | .hbm, ⟨65, _⟩ => ⟨S2x1x2048x768, .f32⟩
  | .hbm, ⟨66, _⟩ => ⟨S_, .f32⟩
  | .hbm, ⟨67, _⟩ => ⟨S2x768, .f32⟩
  | .hbm, ⟨68, _⟩ => ⟨S2x1x768, .f32⟩
  | .hbm, ⟨69, _⟩ => ⟨S_, .f32⟩
  | .hbm, ⟨70, _⟩ => ⟨S2x4x768, .f32⟩
  | .hbm, ⟨71, _⟩ => ⟨S2x4x768, .f32⟩
  | .hbm, ⟨72, _⟩ => ⟨S_, .f32⟩
  | .hbm, ⟨73, _⟩ => ⟨S2x1x2051x768, .f32⟩
  | .hbm, ⟨74, _⟩ => ⟨S2x1x2051x768, .f32⟩
  | .hbm, ⟨75, _⟩ => ⟨S2x1x2048x768, .f32⟩
  | .hbm, ⟨76, _⟩ => ⟨S_, .f32⟩
  | .hbm, ⟨77, _⟩ => ⟨S2x1x768, .f32⟩
  | .hbm, ⟨78, _⟩ => ⟨S2x1x1x768, .f32⟩
  | .hbm, ⟨79, _⟩ => ⟨S1x1x1x768, .f32⟩
  | .hbm, ⟨80, _⟩ => ⟨S2x1x2048x768, .f32⟩
  | .hbm, ⟨81, _⟩ => ⟨S2x1x2048x768, .f32⟩
  | .hbm, ⟨82, _⟩ => ⟨S_, .f32⟩
  | .hbm, ⟨83, _⟩ => ⟨S2x768, .f32⟩
  | .hbm, ⟨84, _⟩ => ⟨S2x1x768, .f32⟩
  | .hbm, ⟨85, _⟩ => ⟨S_, .f32⟩
  | .hbm, ⟨86, _⟩ => ⟨S2x4x768, .f32⟩
  | .hbm, ⟨87, _⟩ => ⟨S2x4x768, .f32⟩
  | .hbm, ⟨88, _⟩ => ⟨S_, .f32⟩
  | .hbm, ⟨89, _⟩ => ⟨S2x1x2051x768, .f32⟩
  | .hbm, ⟨90, _⟩ => ⟨S2x1x2051x768, .f32⟩
  | .hbm, ⟨91, _⟩ => ⟨S2x1x2048x768, .f32⟩
  | .hbm, ⟨92, _⟩ => ⟨S_, .f32⟩
  | .hbm, ⟨93, _⟩ => ⟨S2x1x768, .f32⟩
  | .hbm, ⟨94, _⟩ => ⟨S2x1x1x768, .f32⟩
  | .hbm, ⟨95, _⟩ => ⟨S1x1x1x768, .f32⟩
  | .hbm, ⟨96, _⟩ => ⟨S2x1x2048x768, .f32⟩
  | .hbm, ⟨97, _⟩ => ⟨S2x1x2048x768, .f32⟩
  | .hbm, ⟨98, _⟩ => ⟨S_, .f32⟩
  | .hbm, ⟨99, _⟩ => ⟨S2x768, .f32⟩
  | .hbm, ⟨100, _⟩ => ⟨S2x1x768, .f32⟩
  | .hbm, ⟨101, _⟩ => ⟨S_, .f32⟩
  | .hbm, ⟨102, _⟩ => ⟨S2x4x768, .f32⟩
  | .hbm, ⟨103, _⟩ => ⟨S2x4x768, .f32⟩
  | .hbm, ⟨104, _⟩ => ⟨S_, .f32⟩
  | .hbm, ⟨105, _⟩ => ⟨S2x1x2051x768, .f32⟩
  | .hbm, ⟨106, _⟩ => ⟨S2x1x2051x768, .f32⟩
  | .hbm, ⟨107, _⟩ => ⟨S2x1x3x768, .f32⟩
  | .hbm, ⟨108, _⟩ => ⟨S2x1x2048x768, .f32⟩
  | .hbm, ⟨109, _⟩ => ⟨S2x2048x768, .f32⟩
  | .hbm, ⟨110, _⟩ => ⟨S4096x12x64, .f32⟩
  | .hbm, ⟨111, _⟩ => ⟨S12x4096x64, .f32⟩
  | .hbm, ⟨112, _⟩ => ⟨S12x4096x64, .bf16⟩
  | .hbm, ⟨113, _⟩ => ⟨S2x4x12x64, .f32⟩
  | .hbm, ⟨114, _⟩ => ⟨S12x2x4x64, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_11 : Ref sig .tc := ⟨.hbm, 82, rfl⟩
abbrev main_v67 : Ref sig .tc := ⟨.hbm, 83, rfl⟩
abbrev main_v68 : Ref sig .tc := ⟨.hbm, 84, rfl⟩
abbrev main_cst_12 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_15 : Ref sig .tc := ⟨.hbm, 98, rfl⟩
abbrev main_v79 : Ref sig .tc := ⟨.hbm, 99, rfl⟩
abbrev main_v80 : Ref sig .tc := ⟨.hbm, 100, rfl⟩
abbrev main_cst_16 : Ref sig .tc := ⟨.hbm, 101, rfl⟩
abbrev main_v81 : Ref sig .tc := ⟨.hbm, 102, rfl⟩
abbrev main_v82 : Ref sig .tc := ⟨.hbm, 103, rfl⟩
abbrev main_cst_17 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩

abbrev nD : Nat := 1
abbrev τ : Topo := Topo.v7x

variable {F : FTy → Type} [FloatOps F]
-- ==== MixKernel.lean ====
abbrev S2x2048x1152 : Shape := ⟨3, ![2, 2048, 1152]⟩
abbrev S1152 : Shape := ⟨1, ![1152]⟩
abbrev S4096x18x64 : Shape := ⟨3, ![4096, 18, 64]⟩
abbrev S18x4096x64 : Shape := ⟨3, ![18, 4096, 64]⟩
abbrev S16x4096x64 : Shape := ⟨3, ![16, 4096, 64]⟩
abbrev S_ : Shape := ⟨0, ![]⟩
abbrev S65x4096x64 : Shape := ⟨3, ![65, 4096, 64]⟩
abbrev S2x4096x64 : Shape := ⟨3, ![2, 4096, 64]⟩
abbrev S3x4096x64 : Shape := ⟨3, ![3, 4096, 64]⟩
abbrev S68x4096x64 : Shape := ⟨3, ![68, 4096, 64]⟩
abbrev S18x1x64 : Shape := ⟨3, ![18, 1, 64]⟩
abbrev S18x2x1x64 : Shape := ⟨4, ![18, 2, 1, 64]⟩
abbrev S1x2048x64 : Shape := ⟨3, ![1, 2048, 64]⟩
abbrev S1x1x64 : Shape := ⟨3, ![1, 1, 64]⟩
abbrev S1x1x1x64 : Shape := ⟨4, ![1, 1, 1, 64]⟩
abbrev S2048x64 : Shape := ⟨2, ![2048, 64]⟩
abbrev S1x64 : Shape := ⟨2, ![1, 64]⟩
abbrev S64 : Shape := ⟨1, ![64]⟩

abbrev nBuf : Space → Nat
  | .hbm => 19
  | .vmem => 10
  | .smem => 0
  | _ => 0

abbrev bufTy : (tb : Table) → Fin (tcTables nBuf tb) → BufTy
  | .hbm, ⟨0, _⟩ => ⟨S2x2048x1152, .f32⟩
  | .hbm, ⟨1, _⟩ => ⟨S1152, .f32⟩
  | .hbm, ⟨2, _⟩ => ⟨S2x2048x1152, .f32⟩
  | .hbm, ⟨3, _⟩ => ⟨S4096x18x64, .f32⟩
  | .hbm, ⟨4, _⟩ => ⟨S18x4096x64, .f32⟩
  | .hbm, ⟨5, _⟩ => ⟨S16x4096x64, .f32⟩
  | .hbm, ⟨6, _⟩ => ⟨S_, .i32⟩
  | .hbm, ⟨7, _⟩ => ⟨S_, .f32⟩
  | .hbm, ⟨8, _⟩ => ⟨S65x4096x64, .f32⟩
  | .hbm, ⟨9, _⟩ => ⟨S2x4096x64, .f32⟩
  | .hbm, ⟨10, _⟩ => ⟨S_, .i32⟩
  | .hbm, ⟨11, _⟩ => ⟨S_, .f32⟩
  | .hbm, ⟨12, _⟩ => ⟨S3x4096x64, .f32⟩
  | .hbm, ⟨13, _⟩ => ⟨S68x4096x64, .f32⟩
  | .hbm, ⟨14, _⟩ => ⟨S18x1x64, .f32⟩
  | .hbm, ⟨15, _⟩ => ⟨S4096x18x64, .f32⟩
  | .hbm, ⟨16, _⟩ => ⟨S18x4096x64, .f32⟩
  | .hbm, ⟨17, _⟩ => ⟨S18x4096x64, .bf16⟩
  | .hbm, ⟨18, _⟩ => ⟨S18x2x1x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1x64, .f32⟩
  | .local _ .vmem, ⟨3, _⟩ => ⟨S1x1x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .bf16⟩
  | .local _ .vmem, ⟨7, _⟩ => ⟨S1x2048x64, .bf16⟩
  | .local _ .vmem, ⟨8, _⟩ => ⟨S1x1x1x64, .f32⟩
  | .local _ .vmem, ⟨9, _⟩ => ⟨S1x1x1x64, .f32⟩
  | _, _ => ⟨S2x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 2], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.addi c16_i32_0 arg0
  let c65_i32 : BitVec 32 := 65#32
  let v2 : BitVec 32 := Scalar.addi c65_i32 arg0
  let c16_i32_1 : BitVec 32 := 16#32
  let v3 : BitVec 32 := Scalar.subi v2 c16_i32_1
  let v4 : BitVec 32 := Scalar.select v0 v1 v3
  let c0_i32 : BitVec 32 := 0#32
  let c0_i32_2 : BitVec 32 := 0#32
  ![v4.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixReferenceIdeal.lean ====
abbrev S2x2048x1152 : Shape := ⟨3, ![2, 2048, 1152]⟩
abbrev S1152 : Shape := ⟨1, ![1152]⟩
abbrev S2x1x2048x1152 : Shape := ⟨4, ![2, 1, 2048, 1152]⟩
abbrev S_ : Shape := ⟨0, ![]⟩
abbrev S1x1x1152 : Shape := ⟨3, ![1, 1, 1152]⟩
abbrev S2x1x2047x1152 : Shape := ⟨4, ![2, 1, 2047, 1152]⟩
abbrev S2x1x1x1152 : Shape := ⟨4, ![2, 1, 1, 1152]⟩
abbrev S1x1x1x1152 : Shape := ⟨4, ![1, 1, 1, 1152]⟩
abbrev S2x1x1152 : Shape := ⟨3, ![2, 1, 1152]⟩
abbrev S2x1152 : Shape := ⟨2, ![2, 1152]⟩
abbrev S4096x18x64 : Shape := ⟨3, ![4096, 18, 64]⟩
abbrev S18x4096x64 : Shape := ⟨3, ![18, 4096, 64]⟩
abbrev S2x1x18x64 : Shape := ⟨4, ![2, 1, 18, 64]⟩
abbrev S18x2x1x64 : Shape := ⟨4, ![18, 2, 1, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1152, .f32⟩
  | .hbm, ⟨1, _⟩ => ⟨S1152, .f32⟩
  | .hbm, ⟨2, _⟩ => ⟨S2x2048x1152, .f32⟩
  | .hbm, ⟨3, _⟩ => ⟨S2x1x2048x1152, .f32⟩
  | .hbm, ⟨4, _⟩ => ⟨S_, .f32⟩
  | .hbm, ⟨5, _⟩ => ⟨S1x1x1152, .f32⟩
  | .hbm, ⟨6, _⟩ => ⟨S2x1x2047x1152, .f32⟩
  | .hbm, ⟨7, _⟩ => ⟨S2x1x1x1152, .f32⟩
  | .hbm, ⟨8, _⟩ => ⟨S2x1x2048x1152, .f32⟩
  | .hbm, ⟨9, _⟩ => ⟨S_, .f32⟩
  | .hbm, ⟨10, _⟩ => ⟨S1x1x1152, .f32⟩
  | .hbm, ⟨11, _⟩ => ⟨S2x1x2048x1152, .f32⟩
  | .hbm, ⟨12, _⟩ => ⟨S1x1x1152, .f32⟩
  | .hbm, ⟨13, _⟩ => ⟨S1x1x1x1152, .f32⟩
  | .hbm, ⟨14, _⟩ => ⟨S2x1x2048x1152, .f32⟩
  | .hbm, ⟨15, _⟩ => ⟨S2x1x2048x1152, .f32⟩
  | .hbm, ⟨16, _⟩ => ⟨S2x1x2048x1152, .f32⟩
  | .hbm, ⟨17, _⟩ => ⟨S2x1x2048x1152, .f32⟩
  | .hbm, ⟨18, _⟩ => ⟨S1x1x1x1152, .f32⟩
  | .hbm, ⟨19, _⟩ => ⟨S2x1x2048x1152, .f32⟩
  | .hbm, ⟨20, _⟩ => ⟨S2x1x2048x1152, .f32⟩
  | .hbm, ⟨21, _⟩ => ⟨S2x1x2048x1152, .f32⟩
  | .hbm, ⟨22, _⟩ => ⟨S_, .f32⟩
  | .hbm, ⟨23, _⟩ => ⟨S2x1x1152, .f32⟩
  | .hbm, ⟨24, _⟩ => ⟨S2x1x1x1152, .f32⟩
  | .hbm, ⟨25, _⟩ => ⟨S_, .f32⟩
  | .hbm, ⟨26, _⟩ => ⟨S2x1152, .f32⟩
  | .hbm, ⟨27, _⟩ => ⟨S2x1x2048x1152, .f32⟩
  | .hbm, ⟨28, _⟩ => ⟨S2x1x2048x1152, .f32⟩
  | .hbm, ⟨29, _⟩ => ⟨S2x1x1x1152, .f32⟩
  | .hbm, ⟨30, _⟩ => ⟨S2x1x2047x1152, .f32⟩
  | .hbm, ⟨31, _⟩ => ⟨S_, .f32⟩
  | .hbm, ⟨32, _⟩ => ⟨S2x1x2048x1152, .f32⟩
  | .hbm, ⟨33, _⟩ => ⟨S2x1x2048x1152, .f32⟩
  | .hbm, ⟨34, _⟩ => ⟨S2x2048x1152, .f32⟩
  | .hbm, ⟨35, _⟩ => ⟨S4096x18x64, .f32⟩
  | .hbm, ⟨36, _⟩ => ⟨S18x4096x64, .f32⟩
  | .hbm, ⟨37, _⟩ => ⟨S18x4096x64, .bf16⟩
  | .hbm, ⟨38, _⟩ => ⟨S2x1x18x64, .f32⟩
  | .hbm, ⟨39, _⟩ => ⟨S18x2x1x64, .f32⟩
  | _, _ => ⟨S2x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== OprojKernel.lean ====
abbrev S2x2048x1024 : Shape := ⟨3, ![2, 2048, 1024]⟩
abbrev S1024x1024 : Shape := ⟨2, ![1024, 1024]⟩
abbrev S1024 : Shape := ⟨1, ![1024]⟩
abbrev S4096x4x4x64 : Shape := ⟨4, ![4096, 4, 4, 64]⟩
abbrev S4x4x4096x64 : Shape := ⟨4, ![4, 4, 4096, 64]⟩
abbrev S1x4x4096x64 : Shape := ⟨4, ![1, 4, 4096, 64]⟩
abbrev S4x4096x64 : Shape := ⟨3, ![4, 4096, 64]⟩
abbrev S4096x1024 : Shape := ⟨2, ![4096, 1024]⟩
abbrev S1x1024 : Shape := ⟨2, ![1, 1024]⟩
abbrev S4x1024x64 : Shape := ⟨3, ![4, 1024, 64]⟩
abbrev S1x1024x64 : Shape := ⟨3, ![1, 1024, 64]⟩
abbrev S1024x64 : Shape := ⟨2, ![1024, 64]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S4096x4x4x64, .f32⟩
  | .hbm, ⟨5, _⟩ => ⟨S4x4x4096x64, .f32⟩
  | .hbm, ⟨6, _⟩ => ⟨S4x4x4096x64, .bf16⟩
  | .hbm, ⟨7, _⟩ => ⟨S1x4x4096x64, .bf16⟩
  | .hbm, ⟨8, _⟩ => ⟨S4x4096x64, .bf16⟩
  | .hbm, ⟨9, _⟩ => ⟨S1x4x4096x64, .bf16⟩
  | .hbm, ⟨10, _⟩ => ⟨S4x4096x64, .bf16⟩
  | .hbm, ⟨11, _⟩ => ⟨S1x4x4096x64, .bf16⟩
  | .hbm, ⟨12, _⟩ => ⟨S4x4096x64, .bf16⟩
  | .hbm, ⟨13, _⟩ => ⟨S1x4x4096x64, .bf16⟩
  | .hbm, ⟨14, _⟩ => ⟨S4x4096x64, .bf16⟩
  | .hbm, ⟨15, _⟩ => ⟨S1024x1024, .bf16⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .local _ .vmem, ⟨0, _⟩ => ⟨S4x1024x64, .bf16⟩
  | .local _ .vmem, ⟨1, _⟩ => ⟨S4x1024x64, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojReferenceIdeal.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S4096x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== NprojKernel.lean ====
abbrev S2x2048x1024 : Shape := ⟨3, ![2, 2048, 1024]⟩
abbrev S1024 : Shape := ⟨1, ![1024]⟩
abbrev S1024x3992 : Shape := ⟨2, ![1024, 3992]⟩
abbrev S4x768 : Shape := ⟨2, ![4, 768]⟩
abbrev S1152 : Shape := ⟨1, ![1152]⟩
abbrev S3x256 : Shape := ⟨2, ![3, 256]⟩
abbrev S1024x1024 : Shape := ⟨2, ![1024, 1024]⟩
abbrev S1024x8 : Shape := ⟨2, ![1024, 8]⟩
abbrev S1024x128 : Shape := ⟨2, ![1024, 128]⟩
abbrev S1024x4x4x64 : Shape := ⟨4, ![1024, 4, 4, 64]⟩
abbrev S1024x256 : Shape := ⟨2, ![1024, 256]⟩
abbrev S1024x8x32 : Shape := ⟨3, ![1024, 8, 32]⟩
abbrev S_ : Shape := ⟨0, ![]⟩
abbrev S1024x8x64 : Shape := ⟨3, ![1024, 8, 64]⟩
abbrev S1024x512 : Shape := ⟨2, ![1024, 512]⟩
abbrev S1024x16 : Shape := ⟨2, ![1024, 16]⟩
abbrev S1024x64 : Shape := ⟨2, ![1024, 64]⟩
abbrev S1024x4352 : Shape := ⟨2, ![1024, 4352]⟩
abbrev S1024x17x256 : Shape := ⟨3, ![1024, 17, 256]⟩
abbrev S17x1024x256 : Shape := ⟨3, ![17, 1024, 256]⟩
abbrev S4x12x64 : Shape := ⟨3, ![4, 12, 64]⟩
abbrev S12x4x64 : Shape := ⟨3, ![12, 4, 64]⟩
abbrev S3x4x4x64 : Shape := ⟨4, ![3, 4, 4, 64]⟩
abbrev S3x4x256 : Shape := ⟨3, ![3, 4, 256]⟩
abbrev S17x4x256 : Shape := ⟨3, ![17, 4, 256]⟩
abbrev S18x1x64 : Shape := ⟨3, ![18, 1, 64]⟩
abbrev S2x1x64 : Shape := ⟨3, ![2, 1, 64]⟩
abbrev S1x1x128 : Shape := ⟨3, ![1, 1, 128]⟩
abbrev S1x1x256 : Shape := ⟨3, ![1, 1, 256]⟩
abbrev S4x1x256 : Shape := ⟨3, ![4, 1, 256]⟩
abbrev S16x1x64 : Shape := ⟨3, ![16, 1, 64]⟩
abbrev S4x4x1x64 : Shape := ⟨4, ![4, 4, 1, 64]⟩
abbrev S4x1x4x64 : Shape := ⟨4, ![4, 1, 4, 64]⟩
abbrev S8x1x256 : Shape := ⟨3, ![8, 1, 256]⟩
abbrev S17x1x256 : Shape := ⟨3, ![17, 1, 256]⟩
abbrev S3x4x64 : Shape := ⟨3, ![3, 4, 64]⟩
abbrev S4x3x64 : Shape := ⟨3, ![4, 3, 64]⟩
abbrev S4096x1024 : Shape := ⟨2, ![4096, 1024]⟩
abbrev S1x1024 : Shape := ⟨2, ![1, 1024]⟩
abbrev S68x4096x64 : Shape := ⟨3, ![68, 4096, 64]⟩
abbrev S32x4096x64 : Shape := ⟨3, ![32, 4096, 64]⟩
abbrev S4x4096x64 : Shape := ⟨3, ![4, 4096, 64]⟩
abbrev S1x1024x256 : Shape := ⟨3, ![1, 1024, 256]⟩
abbrev S1x4x256 : Shape := ⟨3, ![1, 4, 256]⟩
abbrev S1x3x64 : Shape := ⟨3, ![1, 3, 64]⟩
abbrev S4x1024x64 : Shape := ⟨3, ![4, 1024, 64]⟩
abbrev S1x1024x64 : Shape := ⟨3, ![1, 1024, 64]⟩
abbrev S17x8x256 : Shape := ⟨3, ![17, 8, 256]⟩
abbrev S1024x1 : Shape := ⟨2, ![1024, 1]⟩
abbrev S1x8x256 : Shape := ⟨3, ![1, 8, 256]⟩
abbrev S8x256 : Shape := ⟨2, ![8, 256]⟩
abbrev S1016x256 : Shape := ⟨2, ![1016, 256]⟩
abbrev S1x256 : Shape := ⟨2, ![1, 256]⟩
abbrev S8x64 : Shape := ⟨2, ![8, 64]⟩
abbrev S1016x64 : Shape := ⟨2, ![1016, 64]⟩
abbrev S1x1x64 : Shape := ⟨3, ![1, 1, 64]⟩
abbrev S1x64 : Shape := ⟨2, ![1, 64]⟩

abbrev nBuf : Space → Nat
  | .hbm => 63
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x3992, .f32⟩
  | .hbm, ⟨3, _⟩ => ⟨S4x768, .f32⟩
  | .hbm, ⟨4, _⟩ => ⟨S1152, .f32⟩
  | .hbm, ⟨5, _⟩ => ⟨S3x256, .f32⟩
  | .hbm, ⟨6, _⟩ => ⟨S1024x1024, .f32⟩
  | .hbm, ⟨7, _⟩ => ⟨S1024x8, .f32⟩
  | .hbm, ⟨8, _⟩ => ⟨S1024x1024, .f32⟩
  | .hbm, ⟨9, _⟩ => ⟨S1024x128, .f32⟩
  | .hbm, ⟨10, _⟩ => ⟨S1024x1024, .f32⟩
  | .hbm, ⟨11, _⟩ => ⟨S1024x4x4x64, .f32⟩
  | .hbm, ⟨12, _⟩ => ⟨S1024x4x4x64, .f32⟩
  | .hbm, ⟨13, _⟩ => ⟨S1024x1024, .f32⟩
  | .hbm, ⟨14, _⟩ => ⟨S1024x256, .f32⟩
  | .hbm, ⟨15, _⟩ => ⟨S1024x8x32, .f32⟩
  | .hbm, ⟨16, _⟩ => ⟨S_, .i32⟩
  | .hbm, ⟨17, _⟩ => ⟨S_, .f32⟩
  | .hbm, ⟨18, _⟩ => ⟨S1024x8x64, .f32⟩
  | .hbm, ⟨19, _⟩ => ⟨S1024x512, .f32⟩
  | .hbm, ⟨20, _⟩ => ⟨S1024x512, .f32⟩
  | .hbm, ⟨21, _⟩ => ⟨S1024x16, .f32⟩
  | .hbm, ⟨22, _⟩ => ⟨S_, .i32⟩
  | .hbm, ⟨23, _⟩ => ⟨S_, .f32⟩
  | .hbm, ⟨24, _⟩ => ⟨S1024x64, .f32⟩
  | .hbm, ⟨25, _⟩ => ⟨S_, .i32⟩
  | .hbm, ⟨26, _⟩ => ⟨S_, .f32⟩
  | .hbm, ⟨27, _⟩ => ⟨S1024x64, .f32⟩
  | .hbm, ⟨28, _⟩ => ⟨S1024x4352, .f32⟩
  | .hbm, ⟨29, _⟩ => ⟨S1024x17x256, .f32⟩
  | .hbm, ⟨30, _⟩ => ⟨S17x1024x256, .f32⟩
  | .hbm, ⟨31, _⟩ => ⟨S17x1024x256, .bf16⟩
  | .hbm, ⟨32, _⟩ => ⟨S4x12x64, .f32⟩
  | .hbm, ⟨33, _⟩ => ⟨S12x4x64, .f32⟩
  | .hbm, ⟨34, _⟩ => ⟨S3x4x4x64, .f32⟩
  | .hbm, ⟨35, _⟩ => ⟨S3x4x4x64, .f32⟩
  | .hbm, ⟨36, _⟩ => ⟨S3x4x256, .f32⟩
  | .hbm, ⟨37, _⟩ => ⟨S_, .i32⟩
  | .hbm, ⟨38, _⟩ => ⟨S_, .f32⟩
  | .hbm, ⟨39, _⟩ => ⟨S17x4x256, .f32⟩
  | .hbm, ⟨40, _⟩ => ⟨S18x1x64, .f32⟩
  | .hbm, ⟨41, _⟩ => ⟨S2x1x64, .f32⟩
  | .hbm, ⟨42, _⟩ => ⟨S1x1x128, .f32⟩
  | .hbm, ⟨43, _⟩ => ⟨S_, .i32⟩
  | .hbm, ⟨44, _⟩ => ⟨S_, .f32⟩
  | .hbm, ⟨45, _⟩ => ⟨S1x1x256, .f32⟩
  | .hbm, ⟨46, _⟩ => ⟨S_, .f32⟩
  | .hbm, ⟨47, _⟩ => ⟨S4x1x256, .f32⟩
  | .hbm, ⟨48, _⟩ => ⟨S16x1x64, .f32⟩
  | .hbm, ⟨49, _⟩ => ⟨S4x4x1x64, .f32⟩
  | .hbm, ⟨50, _⟩ => ⟨S4x1x4x64, .f32⟩
  | .hbm, ⟨51, _⟩ => ⟨S4x1x256, .f32⟩
  | .hbm, ⟨52, _⟩ => ⟨S_, .f32⟩
  | .hbm, ⟨53, _⟩ => ⟨S8x1x256, .f32⟩
  | .hbm, ⟨54, _⟩ => ⟨S17x1x256, .f32⟩
  | .hbm, ⟨55, _⟩ => ⟨S3x4x64, .f32⟩
  | .hbm, ⟨56, _⟩ => ⟨S4x3x64, .f32⟩
  | .hbm, ⟨57, _⟩ => ⟨S4096x1024, .f32⟩
  | .hbm, ⟨58, _⟩ => ⟨S1x1024, .f32⟩
  | .hbm, ⟨59, _⟩ => ⟨S4096x1024, .bf16⟩
  | .hbm, ⟨60, _⟩ => ⟨S68x4096x64, .f32⟩
  | .hbm, ⟨61, _⟩ => ⟨S32x4096x64, .f32⟩
  | .hbm, ⟨62, _⟩ => ⟨S4x4096x64, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x4x256, .f32⟩
  | .local _ .vmem, ⟨6, _⟩ => ⟨S1x4x256, .f32⟩
  | .local _ .vmem, ⟨7, _⟩ => ⟨S1x1x256, .f32⟩
  | .local _ .vmem, ⟨8, _⟩ => ⟨S1x1x256, .f32⟩
  | .local _ .vmem, ⟨9, _⟩ => ⟨S1x3x64, .f32⟩
  | .local _ .vmem, ⟨10, _⟩ => ⟨S1x3x64, .f32⟩
  | .local _ .vmem, ⟨11, _⟩ => ⟨S1024x1024, .bf16⟩
  | .local _ .vmem, ⟨12, _⟩ => ⟨S1024x1024, .bf16⟩
  | .local _ .vmem, ⟨13, _⟩ => ⟨S4x1024x64, .f32⟩
  | .local _ .vmem, ⟨14, _⟩ => ⟨S4x1024x64, .f32⟩
  | .local _ .vmem, ⟨15, _⟩ => ⟨S4x1024x64, .f32⟩
  | .local _ .vmem, ⟨16, _⟩ => ⟨S4x1024x64, .f32⟩
  | .local _ .vmem, ⟨17, _⟩ => ⟨S1x1024x64, .bf16⟩
  | .local _ .vmem, ⟨18, _⟩ => ⟨S1x1024x64, .bf16⟩
  | .local _ .vmem, ⟨19, _⟩ => ⟨S17x8x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_call3_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_call4_v0 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v41_2 : Ref sig .tc := ⟨.hbm, 61, rfl⟩
abbrev main_v41_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_14 : BitVec 32 := 0#32
  let v24 : BitVec 1 := Scalar.cmpi .eq arg1 c0_i32_14
  let c1_i32 : BitVec 32 := 1#32
  let v25 : BitVec 1 := Scalar.cmpi .eq arg1 c1_i32
  let v27 : BitVec 1 := Scalar.ori v24 v25
  let c2_i32 : BitVec 32 := 2#32
  let v26 : BitVec 1 := Scalar.cmpi .eq arg1 c2_i32
  let v28 : BitVec 1 := Scalar.ori v27 v26
  let v29 : BitVec 32 := Scalar.extui v28
  let c0_i32_15 : BitVec 32 := 0#32
  let v30 : BitVec 1 := Scalar.cmpi .ne v29 c0_i32_15
  v30

def k0_off1 (i : grid0.Coords) : Fin 3 → Nat :=
  let arg1 : BitVec 32 := BitVec.ofNat 32 (i 1).val
  let v58 : Index := Scalar.indexCast arg1
  let c0_25 : Index := 0#32
  let c0_26 : Index := 0#32
  ![v58.toNat, 0, 0]
def k0_cond3 (i : grid0.Coords) : BitVec 1 :=
  let arg1 : BitVec 32 := BitVec.ofNat 32 (i 1).val
  let c4_i32 : BitVec 32 := 4#32
  let v31 : BitVec 1 := Scalar.cmpi .eq arg1 c4_i32
  let c5_i32 : BitVec 32 := 5#32
  let v32 : BitVec 1 := Scalar.cmpi .eq arg1 c5_i32
  let v36 : BitVec 1 := Scalar.ori v31 v32
  let c6_i32 : BitVec 32 := 6#32
  let v33 : BitVec 1 := Scalar.cmpi .eq arg1 c6_i32
  let v37 : BitVec 1 := Scalar.ori v36 v33
  let c7_i32 : BitVec 32 := 7#32
  let v34 : BitVec 1 := Scalar.cmpi .eq arg1 c7_i32
  let v38 : BitVec 1 := Scalar.ori v37 v34
  let c16_i32 : BitVec 32 := 16#32
  let v35 : BitVec 1 := Scalar.cmpi .eq arg1 c16_i32
  let v39 : BitVec 1 := Scalar.ori v38 v35
  let v40 : BitVec 32 := Scalar.extui v39
  let c0_i32_16 : BitVec 32 := 0#32
  let v41 : BitVec 1 := Scalar.cmpi .ne v40 c0_i32_16
  v41

def k0_off2 (i : grid0.Coords) : Fin 3 → Nat :=
  let arg1 : BitVec 32 := BitVec.ofNat 32 (i 1).val
  let v58 : Index := Scalar.indexCast arg1
  let c0_25 : Index := 0#32
  let c0_26 : Index := 0#32
  ![v58.toNat, 0, 0]
def k0_cond4 (i : grid0.Coords) : BitVec 1 :=
  let arg1 : BitVec 32 := BitVec.ofNat 32 (i 1).val
  let c8_i32 : BitVec 32 := 8#32
  let v42 : BitVec 1 := Scalar.cmpi .sge arg1 c8_i32
  let c12_i32 : BitVec 32 := 12#32
  let v43 : BitVec 1 := Scalar.cmpi .slt arg1 c12_i32
  let v44 : BitVec 1 := Scalar.andi v42 v43
  let v45 : BitVec 32 := Scalar.extui v44
  let c0_i32_17 : BitVec 32 := 0#32
  let v46 : BitVec 1 := Scalar.cmpi .ne v45 c0_i32_17
  v46

def k0_off3 (i : grid0.Coords) : Fin 3 → Nat :=
  let arg1 : BitVec 32 := BitVec.ofNat 32 (i 1).val
  let v58 : Index := Scalar.indexCast arg1
  let c0_25 : Index := 0#32
  let c0_26 : Index := 0#32
  ![v58.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c6_i32 : BitVec 32 := 6#32
  let c7_i32 : BitVec 32 := 7#32
  let v1 : BitVec 32 := Scalar.select v0 c6_i32 c7_i32
  let c7_i32_0 : BitVec 32 := 7#32
  let v2 : BitVec 1 := Scalar.cmpi .slt arg1 c7_i32_0
  let c5_i32 : BitVec 32 := 5#32
  let v3 : BitVec 32 := Scalar.select v2 c5_i32 v1
  let c6_i32_1 : BitVec 32 := 6#32
  let v4 : BitVec 1 := Scalar.cmpi .slt arg1 c6_i32_1
  let c4_i32 : BitVec 32 := 4#32
  let v5 : BitVec 32 := Scalar.select v4 c4_i32 v3
  let c5_i32_2 : BitVec 32 := 5#32
  let v6 : BitVec 1 := Scalar.cmpi .slt arg1 c5_i32_2
  let c3_i32 : BitVec 32 := 3#32
  let v7 : BitVec 32 := Scalar.select v6 c3_i32 v5
  let c4_i32_3 : BitVec 32 := 4#32
  let v8 : BitVec 1 := Scalar.cmpi .slt arg1 c4_i32_3
  let c2_i32 : BitVec 32 := 2#32
  let v9 : BitVec 32 := Scalar.select v8 c2_i32 v7
  let c2_i32_4 : BitVec 32 := 2#32
  let v10 : BitVec 1 := Scalar.cmpi .slt arg1 c2_i32_4
  let c1_i32 : BitVec 32 := 1#32
  let v11 : BitVec 32 := Scalar.select v10 c1_i32 v9
  let c1_i32_5 : BitVec 32 := 1#32
  let v12 : BitVec 1 := Scalar.cmpi .slt arg1 c1_i32_5
  let c0_i32 : BitVec 32 := 0#32
  let v13 : BitVec 32 := Scalar.select v12 c0_i32 v11
  let c0_i32_6 : BitVec 32 := 0#32
  let v14 : BitVec 1 := Scalar.cmpi .slt arg1 c0_i32_6
  let c0_i32_7 : BitVec 32 := 0#32
  let v15 : BitVec 32 := Scalar.select v14 c0_i32_7 v13
  let c0_i32_8 : BitVec 32 := 0#32
  let v16 : BitVec 1 := Scalar.cmpi .eq arg1 c0_i32_8
  let c0_i32_9 : BitVec 32 := 0#32
  let v17 : BitVec 32 := Scalar.select v16 c0_i32_9 v15
  let c1_i32_10 : BitVec 32 := 1#32
  let v18 : BitVec 1 := Scalar.cmpi .eq arg1 c1_i32_10
  let c1_i32_11 : BitVec 32 := 1#32
  let v19 : BitVec 32 := Scalar.select v18 c1_i32_11 v17
  let c2_i32_12 : BitVec 32 := 2#32
  let v20 : BitVec 1 := Scalar.cmpi .eq arg1 c2_i32_12
  let c2_i32_13 : BitVec 32 := 2#32
  let v21 : BitVec 32 := Scalar.select v20 c2_i32_13 v19
  let c4_i32_14 : BitVec 32 := 4#32
  let v22 : BitVec 1 := Scalar.cmpi .eq arg1 c4_i32_14
  let c3_i32_15 : BitVec 32 := 3#32
  let v23 : BitVec 32 := Scalar.select v22 c3_i32_15 v21
  let c5_i32_16 : BitVec 32 := 5#32
  let v24 : BitVec 1 := Scalar.cmpi .eq arg1 c5_i32_16
  let c4_i32_17 : BitVec 32 := 4#32
  let v25 : BitVec 32 := Scalar.select v24 c4_i32_17 v23
  let c6_i32_18 : BitVec 32 := 6#32
  let v26 : BitVec 1 := Scalar.cmpi .eq arg1 c6_i32_18
  let c5_i32_19 : BitVec 32 := 5#32
  let v27 : BitVec 32 := Scalar.select v26 c5_i32_19 v25
  let c7_i32_20 : BitVec 32 := 7#32
  let v28 : BitVec 1 := Scalar.cmpi .eq arg1 c7_i32_20
  let c6_i32_21 : BitVec 32 := 6#32
  let v29 : BitVec 32 := Scalar.select v28 c6_i32_21 v27
  let c16_i32_22 : BitVec 32 := 16#32
  let v30 : BitVec 1 := Scalar.cmpi .eq arg1 c16_i32_22
  let c7_i32_23 : BitVec 32 := 7#32
  let v31 : BitVec 32 := Scalar.select v30 c7_i32_23 v29
  let c0_i32_24 : BitVec 32 := 0#32
  let c0_i32_25 : BitVec 32 := 0#32
  ![v31.toNat, arg0.toNat, c0_i32_24.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== NprojReferenceIdeal.lean ====
abbrev S2x2048x1024 : Shape := ⟨3, ![2, 2048, 1024]⟩
abbrev S1024 : Shape := ⟨1, ![1024]⟩
abbrev S1024x3992 : Shape := ⟨2, ![1024, 3992]⟩
abbrev S4x768 : Shape := ⟨2, ![4, 768]⟩
abbrev S1152 : Shape := ⟨1, ![1152]⟩
abbrev S3x256 : Shape := ⟨2, ![3, 256]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x3992 : Shape := ⟨3, ![2, 2048, 3992]⟩
abbrev S2x2048x8 : Shape := ⟨3, ![2, 2048, 8]⟩
abbrev S2x2048x1152 : Shape := ⟨3, ![2, 2048, 1152]⟩
abbrev S2x2048x256 : Shape := ⟨3, ![2, 2048, 256]⟩
abbrev S2x2048x512 : Shape := ⟨3, ![2, 2048, 512]⟩
abbrev S2x2048x16 : Shape := ⟨3, ![2, 2048, 16]⟩
abbrev S2x2048x768 : Shape := ⟨3, ![2, 2048, 768]⟩
abbrev S2x3x768 : Shape := ⟨3, ![2, 3, 768]⟩
abbrev S2x2051x768 : Shape := ⟨3, ![2, 2051, 768]⟩
abbrev S1x768 : Shape := ⟨2, ![1, 768]⟩
abbrev S768 : Shape := ⟨1, ![768]⟩
abbrev S1x1x768 : Shape := ⟨3, ![1, 1, 768]⟩
abbrev S2x1x1152 : Shape := ⟨3, ![2, 1, 1152]⟩
abbrev S2x2047x1152 : Shape := ⟨3, ![2, 2047, 1152]⟩
abbrev S1x1x1152 : Shape := ⟨3, ![1, 1, 1152]⟩
abbrev S2x2x256 : Shape := ⟨3, ![2, 2, 256]⟩
abbrev S2x2050x256 : Shape := ⟨3, ![2, 2050, 256]⟩
abbrev S1x256 : Shape := ⟨2, ![1, 256]⟩
abbrev S256 : Shape := ⟨1, ![256]⟩
abbrev S1x1x256 : Shape := ⟨3, ![1, 1, 256]⟩
abbrev S2x2048x4x4x64 : Shape := ⟨5, ![2, 2048, 4, 4, 64]⟩
abbrev S2x2048x8x32 : Shape := ⟨4, ![2, 2048, 8, 32]⟩
abbrev S2x2048x8x64 : Shape := ⟨4, ![2, 2048, 8, 64]⟩
abbrev S2x2048x64 : Shape := ⟨3, ![2, 2048, 64]⟩
abbrev S2x2048x128 : Shape := ⟨3, ![2, 2048, 128]⟩
abbrev S2x2048x4352 : Shape := ⟨3, ![2, 2048, 4352]⟩
abbrev S2x2048x2048 : Shape := ⟨3, ![2, 2048, 2048]⟩
abbrev S4096x1024 : Shape := ⟨2, ![4096, 1024]⟩
abbrev S4096x68x64 : Shape := ⟨3, ![4096, 68, 64]⟩
abbrev S68x4096x64 : Shape := ⟨3, ![68, 4096, 64]⟩
abbrev S4096x32x64 : Shape := ⟨3, ![4096, 32, 64]⟩
abbrev S32x4096x64 : Shape := ⟨3, ![32, 4096, 64]⟩
abbrev S4096x4x64 : Shape := ⟨3, ![4096, 4, 64]⟩
abbrev S4x4096x64 : Shape := ⟨3, ![4, 4096, 64]⟩

abbrev nBuf : Space → Nat
  | .hbm => 141
  | .vmem => 0
  | .smem => 0
  | _ => 0

abbrev hbmTy0_0 (i : Nat) : BufTy := match i % 128 with
  | 0 => ⟨S2x2048x1024, .f32⟩
  | 1 => ⟨S1024, .f32⟩
  | 2 => ⟨S1024x3992, .f32⟩
  | 3 => ⟨S4x768, .f32⟩
  | 4 => ⟨S1152, .f32⟩
  | 5 => ⟨S3x256, .f32⟩
  | 6 => ⟨S2x2048x1024, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x1, .f32⟩
  | 17 => ⟨S2x2048x1024, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x3992, .f32⟩
  | 23 => ⟨S2x2048x1024, .f32⟩
  | 24 => ⟨S2x2048x8, .f32⟩
  | 25 => ⟨S2x2048x1152, .f32⟩
  | 26 => ⟨S2x2048x1024, .f32⟩
  | 27 => ⟨S2x2048x256, .f32⟩
  | 28 => ⟨S2x2048x512, .f32⟩
  | 29 => ⟨S2x2048x16, .f32⟩
  | 30 => ⟨S2x2048x768, .f32⟩
  | 31 => ⟨S_, .f32⟩
  | 32 => ⟨S2x3x768, .f32⟩
  | 33 => ⟨S2x2051x768, .f32⟩
  | 34 => ⟨S2x2048x768, .f32⟩
  | 35 => ⟨S1x768, .f32⟩
  | 36 => ⟨S768, .f32⟩
  | 37 => ⟨S1x1x768, .f32⟩
  | 38 => ⟨S2x2048x768, .f32⟩
  | 39 => ⟨S2x2048x768, .f32⟩
  | 40 => ⟨S_, .f32⟩
  | 41 => ⟨S2x2048x768, .f32⟩
  | 42 => ⟨S2x2048x768, .f32⟩
  | 43 => ⟨S2x2048x768, .f32⟩
  | 44 => ⟨S1x768, .f32⟩
  | 45 => ⟨S768, .f32⟩
  | 46 => ⟨S1x1x768, .f32⟩
  | 47 => ⟨S2x2048x768, .f32⟩
  | 48 => ⟨S2x2048x768, .f32⟩
  | 49 => ⟨S2x2048x768, .f32⟩
  | 50 => ⟨S2x2048x768, .f32⟩
  | 51 => ⟨S1x768, .f32⟩
  | 52 => ⟨S768, .f32⟩
  | 53 => ⟨S1x1x768, .f32⟩
  | 54 => ⟨S2x2048x768, .f32⟩
  | 55 => ⟨S2x2048x768, .f32⟩
  | 56 => ⟨S2x2048x768, .f32⟩
  | 57 => ⟨S2x2048x768, .f32⟩
  | 58 => ⟨S1x768, .f32⟩
  | 59 => ⟨S768, .f32⟩
  | 60 => ⟨S1x1x768, .f32⟩
  | 61 => ⟨S2x2048x768, .f32⟩
  | 62 => ⟨S2x2048x768, .f32⟩
  | 63 => ⟨S2x2048x768, .f32⟩
  | 64 => ⟨S_, .f32⟩
  | 65 => ⟨S2x1x1152, .f32⟩
  | 66 => ⟨S2x2047x1152, .f32⟩
  | 67 => ⟨S2x2048x1152, .f32⟩
  | 68 => ⟨S2x2048x1152, .f32⟩
  | 69 => ⟨S1x1x1152, .f32⟩
  | 70 => ⟨S2x2048x1152, .f32⟩
  | 71 => ⟨S2x2048x1152, .f32⟩
  | 72 => ⟨S2x2048x1152, .f32⟩
  | 73 => ⟨S2x2048x256, .f32⟩
  | 74 => ⟨S2x2048x256, .f32⟩
  | 75 => ⟨S2x2048x256, .f32⟩
  | 76 => ⟨S2x2048x256, .f32⟩
  | 77 => ⟨S2x2048x256, .f32⟩
  | 78 => ⟨S_, .f32⟩
  | 79 => ⟨S2x2x256, .f32⟩
  | 80 => ⟨S2x2050x256, .f32⟩
  | 81 => ⟨S2x2048x256, .f32⟩
  | 82 => ⟨S1x256, .f32⟩
  | 83 => ⟨S256, .f32⟩
  | 84 => ⟨S1x1x256, .f32⟩
  | 85 => ⟨S2x2048x256, .f32⟩
  | 86 => ⟨S2x2048x256, .f32⟩
  | 87 => ⟨S_, .f32⟩
  | 88 => ⟨S2x2048x256, .f32⟩
  | 89 => ⟨S2x2048x256, .f32⟩
  | 90 => ⟨S2x2048x256, .f32⟩
  | 91 => ⟨S1x256, .f32⟩
  | 92 => ⟨S256, .f32⟩
  | 93 => ⟨S1x1x256, .f32⟩
  | 94 => ⟨S2x2048x256, .f32⟩
  | 95 => ⟨S2x2048x256, .f32⟩
  | 96 => ⟨S2x2048x256, .f32⟩
  | 97 => ⟨S2x2048x256, .f32⟩
  | 98 => ⟨S1x256, .f32⟩
  | 99 => ⟨S256, .f32⟩
  | 100 => ⟨S1x1x256, .f32⟩
  | 101 => ⟨S2x2048x256, .f32⟩
  | 102 => ⟨S2x2048x256, .f32⟩
  | 103 => ⟨S2x2048x256, .f32⟩
  | 104 => ⟨S2x2048x256, .f32⟩
  | 105 => ⟨S2x2048x256, .f32⟩
  | 106 => ⟨S2x2048x256, .f32⟩
  | 107 => ⟨S_, .f32⟩
  | 108 => ⟨S2x2048x256, .f32⟩
  | 109 => ⟨S2x2048x256, .f32⟩
  | 110 => ⟨S_, .f32⟩
  | 111 => ⟨S2x2048x256, .f32⟩
  | 112 => ⟨S2x2048x256, .f32⟩
  | 113 => ⟨S2x2048x256, .f32⟩
  | 114 => ⟨S2x2048x256, .f32⟩
  | 115 => ⟨S2x2048x4x4x64, .f32⟩
  | 116 => ⟨S2x2048x4x4x64, .f32⟩
  | 117 => ⟨S2x2048x1024, .f32⟩
  | 118 => ⟨S2x2048x8x32, .f32⟩
  | 119 => ⟨S_, .f32⟩
  | 120 => ⟨S2x2048x8x64, .f32⟩
  | 121 => ⟨S2x2048x512, .f32⟩
  | 122 => ⟨S_, .f32⟩
  | 123 => ⟨S2x2048x64, .f32⟩
  | 124 => ⟨S_, .f32⟩
  | 125 => ⟨S2x2048x64, .f32⟩
  | 126 => ⟨S2x2048x1024, .f32⟩
  | 127 => ⟨S2x2048x128, .f32⟩
  | _ => ⟨S2x2048x1024, .f32⟩

abbrev hbmTy0_1 (i : Nat) : BufTy := match i % 128 with
  | 0 => ⟨S2x2048x4352, .f32⟩
  | 1 => ⟨S2x2048x1024, .f32⟩
  | 2 => ⟨S2x2048x128, .f32⟩
  | 3 => ⟨S2x2048x2048, .f32⟩
  | 4 => ⟨S4096x1024, .f32⟩
  | 5 => ⟨S4096x1024, .bf16⟩
  | 6 => ⟨S4096x68x64, .f32⟩
  | 7 => ⟨S68x4096x64, .f32⟩
  | 8 => ⟨S4096x32x64, .f32⟩
  | 9 => ⟨S32x4096x64, .f32⟩
  | 10 => ⟨S4096x4x64, .f32⟩
  | 11 => ⟨S4x4096x64, .f32⟩
  | 12 => ⟨S4x4096x64, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_7 : Ref sig .tc := ⟨.hbm, 119, rfl⟩
abbrev main_v97 : Ref sig .tc := ⟨.hbm, 120, rfl⟩
abbrev main_v98 : Ref sig .tc := ⟨.hbm, 121, rfl⟩
abbrev main_cst_8 : Ref sig .tc := ⟨.hbm, 122, rfl⟩
abbrev main_v99 : Ref sig .tc := ⟨.hbm, 123, rfl⟩
abbrev main_cst_9 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩

abbrev nD : Nat := 1
abbrev τ : Topo := Topo.v7x

variable {F : FTy → Type} [FloatOps F]
-- ==== WinKernel.lean ====
abbrev S8x1024x499 : Shape := ⟨3, ![8, 1024, 499]⟩
abbrev S1024x499 : Shape := ⟨2, ![1024, 499]⟩
abbrev S8x128x499 : Shape := ⟨3, ![8, 128, 499]⟩
abbrev S128x499 : Shape := ⟨2, ![128, 499]⟩
abbrev S1x128x499 : Shape := ⟨3, ![1, 128, 499]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x499, .f32⟩
  | .hbm, ⟨1, _⟩ => ⟨S1024x499, .f32⟩
  | .hbm, ⟨2, _⟩ => ⟨S1024x499, .f32⟩
  | .hbm, ⟨3, _⟩ => ⟨S1024x499, .f32⟩
  | .hbm, ⟨4, _⟩ => ⟨S8x1024x499, .bf16⟩
  | .hbm, ⟨5, _⟩ => ⟨S1024x499, .f32⟩
  | .hbm, ⟨6, _⟩ => ⟨S1024x499, .f32⟩
  | .hbm, ⟨7, _⟩ => ⟨S1024x499, .f32⟩
  | .hbm, ⟨8, _⟩ => ⟨S1024x499, .f32⟩
  | .local _ .vmem, ⟨0, _⟩ => ⟨S8x128x499, .bf16⟩
  | .local _ .vmem, ⟨1, _⟩ => ⟨S8x128x499, .bf16⟩
  | .local _ .vmem, ⟨2, _⟩ => ⟨S128x499, .f32⟩
  | .local _ .vmem, ⟨3, _⟩ => ⟨S128x499, .f32⟩
  | .local _ .vmem, ⟨4, _⟩ => ⟨S128x499, .f32⟩
  | .local _ .vmem, ⟨5, _⟩ => ⟨S128x499, .f32⟩
  | .local _ .vmem, ⟨6, _⟩ => ⟨S128x499, .f32⟩
  | .local _ .vmem, ⟨7, _⟩ => ⟨S128x499, .f32⟩
  | .local _ .vmem, ⟨8, _⟩ => ⟨S128x499, .f32⟩
  | .local _ .vmem, ⟨9, _⟩ => ⟨S128x499, .f32⟩
  | .local _ .vmem, ⟨10, _⟩ => ⟨S128x499, .f32⟩
  | .local _ .vmem, ⟨11, _⟩ => ⟨S128x499, .f32⟩
  | .local _ .vmem, ⟨12, _⟩ => ⟨S128x499, .f32⟩
  | .local _ .vmem, ⟨13, _⟩ => ⟨S128x499, .f32⟩
  | .local _ .vmem, ⟨14, _⟩ => ⟨S128x499, .f32⟩
  | .local _ .vmem, ⟨15, _⟩ => ⟨S128x499, .f32⟩
  | _, _ => ⟨S8x1024x499, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x499 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x499 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x499 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x499 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x499 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x499 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x499 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x499 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WinReferenceIdeal.lean ====
abbrev S8x1024x499 : Shape := ⟨3, ![8, 1024, 499]⟩
abbrev S1024x499 : Shape := ⟨2, ![1024, 499]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x499, .f32⟩
  | .hbm, ⟨1, _⟩ => ⟨S1024x499, .f32⟩
  | .hbm, ⟨2, _⟩ => ⟨S1024x499, .f32⟩
  | .hbm, ⟨3, _⟩ => ⟨S1024x499, .f32⟩
  | .hbm, ⟨4, _⟩ => ⟨S_, .f32⟩
  | .hbm, ⟨5, _⟩ => ⟨S1024x499, .f32⟩
  | .hbm, ⟨6, _⟩ => ⟨S_, .f32⟩
  | .hbm, ⟨7, _⟩ => ⟨S1024x499, .f32⟩
  | .hbm, ⟨8, _⟩ => ⟨S1024x499, .f32⟩
  | .hbm, ⟨9, _⟩ => ⟨S_, .f32⟩
  | .hbm, ⟨10, _⟩ => ⟨S1024x499, .f32⟩
  | .hbm, ⟨11, _⟩ => ⟨S1024x499, .f32⟩
  | .hbm, ⟨12, _⟩ => ⟨S1024x499, .f32⟩
  | .hbm, ⟨13, _⟩ => ⟨S_, .f32⟩
  | .hbm, ⟨14, _⟩ => ⟨S1024x499, .f32⟩
  | .hbm, ⟨15, _⟩ => ⟨S1024x499, .f32⟩
  | .hbm, ⟨16, _⟩ => ⟨S1024x499, .f32⟩
  | .hbm, ⟨17, _⟩ => ⟨S_, .f32⟩
  | .hbm, ⟨18, _⟩ => ⟨S1024x499, .f32⟩
  | .hbm, ⟨19, _⟩ => ⟨S1024x499, .f32⟩
  | .hbm, ⟨20, _⟩ => ⟨S1024x499, .f32⟩
  | .hbm, ⟨21, _⟩ => ⟨S_, .f32⟩
  | .hbm, ⟨22, _⟩ => ⟨S1024x499, .f32⟩
  | .hbm, ⟨23, _⟩ => ⟨S1024x499, .f32⟩
  | .hbm, ⟨24, _⟩ => ⟨S_, .f32⟩
  | .hbm, ⟨25, _⟩ => ⟨S1024x499, .f32⟩
  | .hbm, ⟨26, _⟩ => ⟨S1024x499, .f32⟩
  | .hbm, ⟨27, _⟩ => ⟨S1024x499, .f32⟩
  | .hbm, ⟨28, _⟩ => ⟨S_, .f32⟩
  | .hbm, ⟨29, _⟩ => ⟨S1024x499, .f32⟩
  | .hbm, ⟨30, _⟩ => ⟨S1024x499, .f32⟩
  | .hbm, ⟨31, _⟩ => ⟨S1024x499, .f32⟩
  | .hbm, ⟨32, _⟩ => ⟨S_, .f32⟩
  | .hbm, ⟨33, _⟩ => ⟨S1024x499, .f32⟩
  | .hbm, ⟨34, _⟩ => ⟨S1024x499, .f32⟩
  | .hbm, ⟨35, _⟩ => ⟨S1024x499, .f32⟩
  | .hbm, ⟨36, _⟩ => ⟨S_, .f32⟩
  | .hbm, ⟨37, _⟩ => ⟨S1024x499, .f32⟩
  | .hbm, ⟨38, _⟩ => ⟨S1024x499, .f32⟩
  | _, _ => ⟨S8x1024x499, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== WoutKernel.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== WoutReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RestKernel.lean ====
abbrev S192x128 : Shape := ⟨2, ![192, 128]⟩

abbrev nBuf : Space → Nat
  | .hbm => 7
  | .vmem => 7
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RestReferenceIdeal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== HeadKernel.lean ====
abbrev S2x2048x1024 : Shape := ⟨3, ![2, 2048, 1024]⟩
abbrev S1024x1024 : Shape := ⟨2, ![1024, 1024]⟩
abbrev S1024 : Shape := ⟨1, ![1024]⟩
abbrev S4096x4x4x64 : Shape := ⟨4, ![4096, 4, 4, 64]⟩
abbrev S4x4x4096x64 : Shape := ⟨4, ![4, 4, 4096, 64]⟩
abbrev S1x4x4096x64 : Shape := ⟨4, ![1, 4, 4096, 64]⟩
abbrev S4x4096x64 : Shape := ⟨3, ![4, 4096, 64]⟩
abbrev S4096x1024 : Shape := ⟨2, ![4096, 1024]⟩
abbrev S1x1024 : Shape := ⟨2, ![1, 1024]⟩
abbrev S1x128 : Shape := ⟨2, ![1, 128]⟩
abbrev S4x1024x64 : Shape := ⟨3, ![4, 1024, 64]⟩
abbrev S1x1024x64 : Shape := ⟨3, ![1, 1024, 64]⟩
abbrev S1024x64 : Shape := ⟨2, ![1024, 64]⟩
abbrev S1024x1 : Shape := ⟨2, ![1024, 1]⟩
abbrev S1 : Shape := ⟨1, ![1]⟩
abbrev S1x1 : Shape := ⟨2, ![1, 1]⟩

abbrev nBuf : Space → Nat
  | .hbm => 23
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S4096x4x4x64, .f32⟩
  | .hbm, ⟨6, _⟩ => ⟨S4x4x4096x64, .f32⟩
  | .hbm, ⟨7, _⟩ => ⟨S4x4x4096x64, .bf16⟩
  | .hbm, ⟨8, _⟩ => ⟨S1x4x4096x64, .bf16⟩
  | .hbm, ⟨9, _⟩ => ⟨S4x4096x64, .bf16⟩
  | .hbm, ⟨10, _⟩ => ⟨S1x4x4096x64, .bf16⟩
  | .hbm, ⟨11, _⟩ => ⟨S4x4096x64, .bf16⟩
  | .hbm, ⟨12, _⟩ => ⟨S1x4x4096x64, .bf16⟩
  | .hbm, ⟨13, _⟩ => ⟨S4x4096x64, .bf16⟩
  | .hbm, ⟨14, _⟩ => ⟨S1x4x4096x64, .bf16⟩
  | .hbm, ⟨15, _⟩ => ⟨S4x4096x64, .bf16⟩
  | .hbm, ⟨16, _⟩ => ⟨S1024x1024, .bf16⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x128, .f32⟩
  | .local _ .vmem, ⟨0, _⟩ => ⟨S4x1024x64, .bf16⟩
  | .local _ .vmem, ⟨1, _⟩ => ⟨S4x1024x64, .bf16⟩
  | .local _ .vmem, ⟨2, _⟩ => ⟨S4x1024x64, .bf16⟩
  | .local _ .vmem, ⟨3, _⟩ => ⟨S4x1024x64, .bf16⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S4096x1024, .f32⟩
  | .hbm, ⟨48, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Column.lean ====
/-
  The gradient of the gated short convolution on ONE column of ONE sequence, over the real numbers. A column has four
  input series (the gate `B`, the two factors `C` and `X`, the silu gate's argument `Z`), the incoming gradient `D`, and
  three taps `w 0`, `w 1`, `w 2`. Both programs are shown to compute these functions.
-/
module

public import Idealize.ShloMosaic.Lib.Pointwise

@[expose] public section

noncomputable section

namespace Cert.ShortConv

/-- The length of a sequence. -/
abbrev T : ℕ := 2048

/-- The series moved `s` steps later, zeros entering at the front. -/
def later (s : ℕ) (f : ℕ → ℝ) (t : ℕ) : ℝ := if t < s then 0 else f (t - s)

/-- The series moved `s` steps earlier, zeros entering at the end. -/
def earlier (s : ℕ) (f : ℕ → ℝ) (t : ℕ) : ℝ := if t + s < T then f (t + s) else 0

/-- The logistic function. -/
def lgs (z : ℝ) : ℝ := 1 / (1 + Real.exp (-z))

/-- The convolution's output: three taps on the product series. -/
def conv (C X : ℕ → ℝ) (w : ℕ → ℝ) (t : ℕ) : ℝ :=
  w 0 * later 2 (fun t => C t * X t) t + w 1 * later 1 (fun t => C t * X t) t + w 2 * (C t * X t)

/-- The gradient arriving at the convolution's output. -/
def dconv (B Z D : ℕ → ℝ) (t : ℕ) : ℝ := D t * B t * (Z t * lgs (Z t))

/-- The gradient arriving at the product series: the transposed convolution. -/
def dprod (B Z D : ℕ → ℝ) (w : ℕ → ℝ) (t : ℕ) : ℝ :=
  w 2 * dconv B Z D t + w 1 * earlier 1 (dconv B Z D) t + w 0 * earlier 2 (dconv B Z D) t

/-- The gradient of the gate, of the two factors and of the silu gate's argument, by the number of the series. -/
def grad (B C X Z D : ℕ → ℝ) (w : ℕ → ℝ) (k t : ℕ) : ℝ :=
  match k with
  | 0 => D t * conv C X w t * (Z t * lgs (Z t))
  | 1 => dprod B Z D w t * X t
  | 2 => dprod B Z D w t * C t
  | _ => D t * B t * conv C X w t * (lgs (Z t) * (1 + Z t * (1 - lgs (Z t))))

/-- The gradient of tap `i` from one sequence. -/
def tapGrad (B C X Z D : ℕ → ℝ) (i : ℕ) : ℝ :=
  ∑ t : Fin T, dconv B Z D t * later (2 - i) (fun t => C t * X t) t

/-- The gradient of the projected columns at (group, row, lane): group `4 j + k` is series `k` of columns `64 j …`, and row
`2048 b + t` is time `t` of sequence `b`. -/
def gradAt (P : ℕ → ℕ → ℕ → ℝ) (W : ℕ → ℕ → ℝ) (D : ℕ → ℕ → ℕ → ℝ) (g n l : ℕ) : ℝ :=
  let q := 64 * (g / 4) + l
  grad (fun t => P (n / 2048) t q) (fun t => P (n / 2048) t (256 + q)) (fun t => P (n / 2048) t (512 + q))
    (fun t => P (n / 2048) t (768 + q)) (fun t => D (n / 2048) t q) (fun i => W i q) (g % 4) (n % 2048)

/-- The gradient of tap `i` of column `64 j + l` from sequence `b`. -/
def tapAt (P : ℕ → ℕ → ℕ → ℝ) (D : ℕ → ℕ → ℕ → ℝ) (j b i l : ℕ) : ℝ :=
  let q := 64 * j + l
  tapGrad (fun t => P b t q) (fun t => P b t (256 + q)) (fun t => P b t (512 + q)) (fun t => P b t (768 + q)) (fun t => D b t q) i

/-- The sum of real numbers, read as an extended real, is the extended reals' sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

end Cert.ShortConv

end
-- ==== Proof.KPure.lean ====
/-
  What one grid point of the kernel stores, on blocks whose entries are real numbers: the column functions of
  `Column.lean`, for each of the block's 64 columns.
-/
module

public import proofs.«01_k».proof.Proof.Column
public import proofs.«01_k».proof.Proof.Gen.KernelIdeal.Value
public import Idealize.ShloMosaic.Lib.Pipeline.ValueKit

@[expose] public section

set_option maxRecDepth 16384

noncomputable section

namespace Cert.ShortConv.K

open Idealize.ShloMosaic Idealize.ShloMosaic.TcCoe Idealize.SL.Sem Cert.KernelIdeal Cert.KernelIdeal.Gen

/-- The silu gate at a real number, as the kernel spells it. -/
theorem lgs_eq (z : ℝ) : lgs z = (1 + Real.exp (-z))⁻¹ := one_div _

theorem later_of_lt {s : ℕ} {f : ℕ → ℝ} {t : ℕ} (h : t < s) : later s f t = 0 := if_pos h
theorem later_of_le {s : ℕ} {f : ℕ → ℝ} {t : ℕ} (h : ¬ t < s) : later s f t = f (t - s) := if_neg h
theorem earlier_of_lt {s : ℕ} {f : ℕ → ℝ} {t : ℕ} (h : t + s < T) : earlier s f t = f (t + s) := if_pos h
theorem earlier_of_le {s : ℕ} {f : ℕ → ℝ} {t : ℕ} (h : ¬ t + s < T) : earlier s f t = 0 := if_neg h

variable (x0 : Vec Ideal S4x2048x64 .f32) (x1 : Vec Ideal S1x3x64 .f32) (x2 : Vec Ideal S1x2048x64 .f32)
  (p : ℕ → ℕ → ℕ → ℝ) (w d : ℕ → ℕ → ℝ)

theorem grad_apply (h0 : ∀ (k : Fin 4) (r : Fin 2048) (l : Fin 64), x0 (ix3 k r l) = ((p k l r : ℝ) : EReal))
    (h1 : ∀ (i : Fin 3) (l : Fin 64), x1 (ix3 0 i l) = ((w l i : ℝ) : EReal))
    (h2 : ∀ (r : Fin 2048) (l : Fin 64), x2 (ix3 0 r l) = ((d l r : ℝ) : EReal)) (y : S4x2048x64.Idx) :
    out0_3 (F := Ideal) x0 x1 x2 y
      = ((grad (p 0 (y 2)) (p 1 (y 2)) (p 2 (y 2)) (p 3 (y 2)) (d (y 2)) (w (y 2)) (y 0) (y 1) : ℝ) : EReal) := by
  unfold out0_3
  canon_tiles x e
  all_goals
    open_payloads
    idx_vars x
    pointwise [h0, h1, h2, hlo_ix]
    have g1 : (x1 : ℕ) < 2048 := x1.isLt
    have g0 : (x0 : ℕ) = 0 := by omega
    rw [e0, e1, e2, g0]
    simp only [Ideal.logistic_coe]
    have i1 : ((x1 : ℕ) + 1 < 2048) → ((x1 : ℕ) + 2048 - 2047) % 2048 = x1 + 1 := by omega
    have i2 : ((x1 : ℕ) + 2 < 2048) → ((x1 : ℕ) + 2048 - 2046) % 2048 = x1 + 2 := by omega
    have i3 : (1 ≤ (x1 : ℕ)) → ((x1 : ℕ) + 2048 - 1) % 2048 = x1 - 1 := by omega
    have i4 : (2 ≤ (x1 : ℕ)) → ((x1 : ℕ) + 2048 - 2) % 2048 = x1 - 2 := by omega
    word_cmp
    split_ifs <;> first | (exfalso; omega) |
    (simp (disch := omega) only [i1, i2, i3, i4, ← EReal.coe_zero, ← EReal.coe_one, ← EReal.coe_mul, ← EReal.coe_add, ← EReal.coe_sub]
     refine congrArg _ ?_
     simp (disch := first | omega | (simp only [T]; omega)) only [Nat.add_zero, grad, dprod, dconv, conv, lgs_eq, later_of_lt, later_of_le, earlier_of_lt, earlier_of_le]
     try ring)

theorem tap_apply (h0 : ∀ (k : Fin 4) (r : Fin 2048) (l : Fin 64), x0 (ix3 k r l) = ((p k l r : ℝ) : EReal))
    (h1 : ∀ (i : Fin 3) (l : Fin 64), x1 (ix3 0 i l) = ((w l i : ℝ) : EReal))
    (h2 : ∀ (r : Fin 2048) (l : Fin 64), x2 (ix3 0 r l) = ((d l r : ℝ) : EReal)) (y : S1x1x3x64.Idx) :
    out0_4 (F := Ideal) x0 x1 x2 y
      = ((tapGrad (p 0 (y 3)) (p 1 (y 3)) (p 2 (y 3)) (p 3 (y 3)) (d (y 3)) (y 2) : ℝ) : EReal) := by
  unfold out0_4
  canon_tiles x e
  all_goals
    open_payloads
    idx_vars x
    pointwise [h0, h1, h2, hlo_ix]
    have g2 : (x2 : ℕ) = 0 := by omega
    rw [e2, e3, g2]
    simp only [Ideal.logistic_coe, tapGrad]
    rw [coe_sum]
    refine Finset.sum_congr rfl fun r _ => ?_
    have g1 : (r : ℕ) < 2048 := r.isLt
    have i3 : (1 ≤ (r : ℕ)) → ((r : ℕ) + 2048 - 1) % 2048 = r - 1 := by omega
    have i4 : (2 ≤ (r : ℕ)) → ((r : ℕ) + 2048 - 2) % 2048 = r - 2 := by omega
    try word_cmp
    try split_ifs
    all_goals
      simp (disch := omega) only [i3, i4, ← EReal.coe_zero, ← EReal.coe_one, ← EReal.coe_mul, ← EReal.coe_add, ← EReal.coe_sub]
      refine congrArg _ ?_
      simp (disch := omega) only [Nat.add_zero, dconv, lgs_eq, Nat.sub_self, Nat.sub_zero, Nat.reduceSub, later_of_lt, later_of_le]
      try ring

end Cert.ShortConv.K

end
-- ==== Proof.KArray.lean ====
module

public import proofs.«01_k».proof.Proof.KPure
public import Idealize.ShloMosaic.Lib.Claim

@[expose] public section

set_option maxRecDepth 16384

noncomputable section

namespace Cert.ShortConv.K

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Every entry of the three arguments is the real number that `P`, `W`, `D` give at its coordinates. -/
structure Reals (a0 : Vec Ideal S2x2048x1024 .f32) (a1 : Vec Ideal S3x256 .f32) (a2 : Vec Ideal S2x2048x256 .f32)
    (P : ℕ → ℕ → ℕ → ℝ) (W : ℕ → ℕ → ℝ) (D : ℕ → ℕ → ℕ → ℝ) : Prop where
  p : ∀ b t q, a0 (ix3 b t q) = ((P b t q : ℝ) : EReal)
  w : ∀ i q, a1 (ix2 i q) = ((W i q : ℝ) : EReal)
  d : ∀ b t q, a2 (ix3 b t q) = ((D b t q : ℝ) : EReal)

/-- The entry array of the projected columns: group `32 + 4 j + k` holds columns `256 k + 64 j …`. -/
theorem V0 (c : Dev nD) (g : Fin 68) (n : Fin 4096) (l : Fin 64) (h : 32 ≤ (g : ℕ) ∧ (g : ℕ) - 32 < 16) :
    V (F := Ideal) m c main_v3 (ix3 g n l) = m ((c : Thread nD τ).loc main_arg0)
      (ix3 ⟨n / 2048, by omega⟩ ⟨n % 2048, by omega⟩ ⟨(g - 32) % 4 * 256 + (g - 32) / 4 * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  rw [dif_pos h]

/-- The entry array of the taps. -/
theorem V1 (c : Dev nD) (g : Fin 4) (i : Fin 3) (l : Fin 64)  :
    V (F := Ideal) m c main_v8 (ix3 g i l) = m ((c : Thread nD τ).loc main_arg1) (ix2 i ⟨g * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The entry array of the incoming gradient: group `8 + j` holds columns `64 j …`. -/
theorem V2 (c : Dev nD) (g : Fin 16) (n : Fin 4096) (l : Fin 64) (h : 8 ≤ (g : ℕ) ∧ (g : ℕ) - 8 < 4) :
    V (F := Ideal) m c main_v6 (ix3 g n l) = m ((c : Thread nD τ).loc main_arg2)
      (ix3 ⟨n / 2048, by omega⟩ ⟨n % 2048, by omega⟩ ⟨(g - 8) * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  rw [dif_pos h]

/-- The windows' block indices at each grid point. -/
theorem idx_val : ∀ t : Fin cfg0.N, win0_0.index t = ![8 + t.val / 2, t.val % 2, 0] ∧ win0_1.index t = ![t.val / 2, 0, 0]
    ∧ win0_2.index t = ![8 + t.val / 2, t.val % 2, 0] ∧ win0_3.index t = ![t.val / 2, t.val % 2, 0] ∧ win0_4.index t = ![t.val / 2, t.val % 2, 0, 0] :=
  (by decide +kernel : ∀ t : Fin grid0.N, _)

variable {m} {c : Dev nD} {P : ℕ → ℕ → ℕ → ℝ} {W : ℕ → ℕ → ℝ} {D : ℕ → ℕ → ℕ → ℝ}
  (R : Reals (m ((c : Thread nD τ).loc main_arg0)) (m ((c : Thread nD τ).loc main_arg1)) (m ((c : Thread nD τ).loc main_arg2)) P W D)
include R

/-- The block of projected columns at a grid point. -/
theorem blk0 (t : Fin (cfgs 0).N) (k : Fin 4) (r : Fin 2048) (l : Fin 64) :
    iblk (F := Ideal) m c 0 t (ix3 k r l) = ((P (t.val % 2) r (256 * k + (64 * (t.val / 2) + l)) : ℝ) : EReal) := by
  have ht : t.val < 8 := t.isLt
  have E : iblk (F := Ideal) m c 0 t (ix3 k r l)
      = V (F := Ideal) m c main_v3 (ix3 ⟨32 + 4 * (t.val / 2) + k, by omega⟩ ⟨2048 * (t.val % 2) + r, by omega⟩ l) := by
    blk_ext [iblk, idx_val t]
  rw [E, V0 m c _ _ _ (by constructor <;> dsimp only <;> omega), R.p]
  dsimp only
  congr 2 <;> omega

/-- The block of taps at a grid point. -/
theorem blk1 (t : Fin (cfgs 0).N) (i : Fin 3) (l : Fin 64) :
    iblk (F := Ideal) m c 1 t (ix3 0 i l) = ((W i (64 * (t.val / 2) + l) : ℝ) : EReal) := by
  have ht : t.val < 8 := t.isLt
  have E : iblk (F := Ideal) m c 1 t (ix3 0 i l) = V (F := Ideal) m c main_v8 (ix3 ⟨t.val / 2, by omega⟩ i l) := by
    blk_ext [iblk, idx_val t]
  rw [E, V1, R.w]
  dsimp only
  congr 2
  omega

/-- The block of the incoming gradient at a grid point. -/
theorem blk2 (t : Fin (cfgs 0).N) (r : Fin 2048) (l : Fin 64) :
    iblk (F := Ideal) m c 2 t (ix3 0 r l) = ((D (t.val % 2) r (64 * (t.val / 2) + l) : ℝ) : EReal) := by
  have ht : t.val < 8 := t.isLt
  have E : iblk (F := Ideal) m c 2 t (ix3 0 r l)
      = V (F := Ideal) m c main_v6 (ix3 ⟨8 + t.val / 2, by omega⟩ ⟨2048 * (t.val % 2) + r, by omega⟩ l) := by
    blk_ext [iblk, idx_val t]
  rw [E, V2 m c _ _ _ (by constructor <;> dsimp only <;> omega), R.d]
  dsimp only
  congr 2 <;> omega

/-- The kernel's first result. -/
theorem final3 : (dats (F := Ideal) m 0 c).arrAt 3 (cfgs 0).N
    = fun y : S16x4096x64.Idx => ((gradAt P W D (y 0) (y 1) (y 2) : ℝ) : EReal) := by
  refine (dats (F := Ideal) m 0 c).arrAt_eq_of_covers 3 _ (by decide +kernel) fun t _ y => ?_
  have ht : t.val < 8 := t.isLt
  blk_simp
  rw [after0_3]
  refine (grad_apply (p := fun k l r => P (t.val % 2) r (256 * k + (64 * (t.val / 2) + l))) (w := fun l i => W i (64 * (t.val / 2) + l))
    (d := fun l r => D (t.val % 2) r (64 * (t.val / 2) + l)) _ _ _ (blk0 R t) (blk1 R t) (blk2 R t) y).trans ?_
  idx_vars y
  blk_simp [idx_val t]
  have e1 : (t.val / 2 * 4 + y0.val) / 4 = t.val / 2 := by omega
  have e2 : (t.val / 2 * 4 + y0.val) % 4 = y0.val := by omega
  have e3 : (t.val % 2 * 2048 + y1.val) / 2048 = t.val % 2 := by omega
  have e4 : (t.val % 2 * 2048 + y1.val) % 2048 = y1.val := by omega
  simp only [gradAt, e1, e2, e3, e4, Nat.mul_zero, Nat.zero_add]

/-- The kernel's second result. -/
theorem final4 : (dats (F := Ideal) m 0 c).arrAt 4 (cfgs 0).N
    = fun y : S4x2x3x64.Idx => ((tapAt P D (y 0) (y 1) (y 2) (y 3) : ℝ) : EReal) := by
  refine (dats (F := Ideal) m 0 c).arrAt_eq_of_covers 4 _ (by decide +kernel) fun t _ y => ?_
  have ht : t.val < 8 := t.isLt
  blk_simp
  rw [after0_4]
  refine (tap_apply (p := fun k l r => P (t.val % 2) r (256 * k + (64 * (t.val / 2) + l))) (w := fun l i => W i (64 * (t.val / 2) + l))
    (d := fun l r => D (t.val % 2) r (64 * (t.val / 2) + l)) _ _ _ (blk0 R t) (blk1 R t) (blk2 R t) y).trans ?_
  idx_vars y
  blk_simp [idx_val t]
  simp only [tapAt, Nat.mul_zero, Nat.zero_add]

end Cert.ShortConv.K

end
-- ==== Proof.RPure.lean ====
/-
  The reference's results at an index, stage by stage, as the real functions of `Column`. The arguments are arrays whose
  entries are real numbers.
-/
module

public import proofs.«01_k».proof.Proof.Column
public import proofs.«01_k».proof.Proof.Gen.ReferenceIdeal.Read
public import Idealize.ShloMosaic.Lib.Claim

@[expose] public section

set_option maxRecDepth 16384

noncomputable section

namespace Cert.ShortConv.R

open Idealize.ShloMosaic Idealize.ShloMosaic.TcCoe Cert.ReferenceIdeal Cert.ReferenceIdeal.Read

variable {x0 : Vec Ideal S2x2048x1024 .f32} {x1 : Vec Ideal S3x256 .f32} {x2 : Vec Ideal S2x2048x256 .f32}
  {P : ℕ → ℕ → ℕ → ℝ} {W : ℕ → ℕ → ℝ} {D : ℕ → ℕ → ℕ → ℝ}

/-- A sum over two axes of length one is its only term. -/
theorem sum_unit (h : S2x1x1x256.ReducesTo [1, 2] S2x256) (v : S2x1x1x256.Idx → EReal) (init : EReal) (b : Fin 2) (q : Fin 256) :
    Ideal.hostReduceAdd h v init (ix2 b q) = init + v (ix4 b 0 0 q) := by
  have E : Finset.univ.filter (fun i => h.drop i = (ix2 b q : S2x256.Idx)) = {ix4 b 0 0 q} := by
    ext i
    simp only [Finset.mem_filter, Finset.mem_univ, true_and, Finset.mem_singleton]
    constructor
    · intro e
      funext a; apply Fin.ext
      match a with
      | ⟨0, _⟩ => exact congrArg Fin.val (congrFun e 0)
      | ⟨1, _⟩ => exact Nat.lt_one_iff.mp (i 1).isLt
      | ⟨2, _⟩ => exact Nat.lt_one_iff.mp (i 2).isLt
      | ⟨3, _⟩ => exact congrArg Fin.val (congrFun e 1)
    · rintro rfl
      funext a; apply Fin.ext
      match a with
      | ⟨0, _⟩ => rfl
      | ⟨1, _⟩ => rfl
  rw [Ideal.hostReduceAdd, E, Finset.sum_singleton]

section projected

variable (hp : ∀ (b : Fin 2) (t : Fin 2048) (q : Fin 1024), x0 (ix3 b t q) = ((P b t q : ℝ) : EReal))
include hp

/-- The gate's columns. -/
theorem v1 (b : Fin 2) (u : Fin 1) (t : Fin 2048) (q : Fin 256) : val_main_v1 (F := Ideal) x0 (ix4 b u t q) = ((P b t q : ℝ) : EReal) := by
  pointwise [val_main_v1, val_main_v0, hp]

/-- The first factor's columns. -/
theorem v2 (b : Fin 2) (u : Fin 1) (t : Fin 2048) (q : Fin 256) : val_main_v2 (F := Ideal) x0 (ix4 b u t q) = ((P b t (256 + q) : ℝ) : EReal) := by
  pointwise [val_main_v2, val_main_v0, hp]

/-- The second factor's columns. -/
theorem v3 (b : Fin 2) (u : Fin 1) (t : Fin 2048) (q : Fin 256) : val_main_v3 (F := Ideal) x0 (ix4 b u t q) = ((P b t (512 + q) : ℝ) : EReal) := by
  pointwise [val_main_v3, val_main_v0, hp]

/-- The silu gate's columns. -/
theorem v4 (b : Fin 2) (u : Fin 1) (t : Fin 2048) (q : Fin 256) : val_main_v4 (F := Ideal) x0 (ix4 b u t q) = ((P b t (768 + q) : ℝ) : EReal) := by
  pointwise [val_main_v4, val_main_v0, hp]

/-- The product series with two zeros before it. -/
theorem v8 (b : Fin 2) (u : Fin 1) (t : Fin 2050) (q : Fin 256) : val_main_v8 (F := Ideal) x0 (ix4 b u t q)
    = ((later 2 (fun t => P b t (256 + q) * P b t (512 + q)) t : ℝ) : EReal) := by
  pointwise [val_main_v8, val_main_v7, val_main_v6, val_main_v5, val_main_cst, v2 hp, v3 hp]
  simp only [later, ← EReal.coe_mul, ← EReal.coe_zero]
  split_ifs <;> rfl

/-- The logistic of the silu gate. -/
theorem v36_2 (b : Fin 2) (u : Fin 1) (t : Fin 2048) (q : Fin 256) : val_main_v36_2 (F := Ideal) x0 (ix4 b u t q)
    = ((lgs (P b t (768 + q)) : ℝ) : EReal) := by
  pointwise [val_main_v36_2, val_main_call0_v4, val_main_call0_cst_0, val_main_call0_v3, val_main_call0_v2, val_main_call0_cst, val_main_call0_v1, val_main_call0_v0, v4 hp]
  rw [← EReal.coe_neg, Ideal.exp_coe, ← EReal.coe_one, ← EReal.coe_add,
    Ideal.div_coe (by positivity), ← EReal.coe_mul]
  refine congrArg _ ?_
  simp only [lgs, one_mul]

/-- The silu gate. -/
theorem v36_0 (b : Fin 2) (u : Fin 1) (t : Fin 2048) (q : Fin 256) : val_main_v36_0 (F := Ideal) x0 (ix4 b u t q)
    = ((P b t (768 + q) * lgs (P b t (768 + q)) : ℝ) : EReal) := by
  pointwise [val_main_v36_0, v36_2 hp, v4 hp]
  rw [EReal.coe_mul]

/-- The derivative of the logistic. -/
theorem v36_1 (b : Fin 2) (u : Fin 1) (t : Fin 2048) (q : Fin 256) : val_main_v36_1 (F := Ideal) x0 (ix4 b u t q)
    = ((lgs (P b t (768 + q)) * (1 - lgs (P b t (768 + q))) : ℝ) : EReal) := by
  pointwise [val_main_v36_1, val_main_call0_v7, val_main_call0_v6, val_main_call0_cst_1, v36_2 hp]
  simp only [← EReal.coe_one, ← EReal.coe_mul, ← EReal.coe_sub]

/-- The convolution's output. -/
theorem v34 (hw : ∀ (i : Fin 3) (q : Fin 256), x1 (ix2 i q) = ((W i q : ℝ) : EReal)) (b : Fin 2) (u : Fin 1) (t : Fin 2048) (q : Fin 256) :
    val_main_v34 (F := Ideal) x0 x1 (ix4 b u t q)
      = ((conv (fun t => P b t (256 + q)) (fun t => P b t (512 + q)) (fun i => W i q) t : ℝ) : EReal) := by
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_cst_1, val_main_v16, val_main_v15, val_main_v14, val_main_v13, val_main_v12, val_main_v11, val_main_v10, v8 hp, hw]
  simp only [← EReal.coe_zero, ← EReal.coe_mul, ← EReal.coe_add]
  refine congrArg _ ?_
  have e1 : 1 + t.val - 2 = t.val - 1 := by omega
  have e2 : 2 + t.val - 2 = t.val := by omega
  simp only [conv, later, e1, e2]
  split_ifs <;> first | (exfalso; omega) | ring

/-- The gradient arriving at the convolution's output. -/
theorem v42 (hd : ∀ (b : Fin 2) (t : Fin 2048) (q : Fin 256), x2 (ix3 b t q) = ((D b t q : ℝ) : EReal)) (b : Fin 2) (u : Fin 1) (t : Fin 2048) (q : Fin 256) :
    val_main_v42 (F := Ideal) x0 x2 (ix4 b u t q)
      = ((dconv (fun t => P b t q) (fun t => P b t (768 + q)) (fun t => D b t q) t : ℝ) : EReal) := by
  pointwise [val_main_v42, v1 hp, val_main_v40, val_main_v38, v36_0 hp, hd]
  simp only [← EReal.coe_mul]
  refine congrArg _ ?_
  simp only [dconv]
  ring

/-- The gradient of the taps. -/
theorem v75 (hd : ∀ (b : Fin 2) (t : Fin 2048) (q : Fin 256), x2 (ix3 b t q) = ((D b t q : ℝ) : EReal)) (b : Fin 2) (i : Fin 3) (q : Fin 256) :
    val_main_v75 (F := Ideal) x0 x2 (ix3 b i q)
      = ((tapGrad (fun t => P b t q) (fun t => P b t (256 + q)) (fun t => P b t (512 + q)) (fun t => P b t (768 + q)) (fun t => D b t q) i : ℝ) : EReal) := by
  pointwise [val_main_v75, val_main_v74, val_main_v73, val_main_v72, val_main_v68, val_main_v67, val_main_v66, val_main_v10,
    val_main_v63, val_main_v62, val_main_v61, val_main_v60, val_main_v56, val_main_v55, val_main_v54, val_main_v19,
    val_main_v52, val_main_v51, val_main_v50, val_main_v46, val_main_v45, val_main_v44, val_main_v27, v8 hp, v42 hp hd, sum_unit,
    val_main_cst_2, val_main_cst_3, val_main_cst_4, val_main_cst_6, val_main_cst_7, val_main_cst_8, val_main_cst_10, val_main_cst_11, val_main_cst_12]
  have E : ∀ (k : ℕ) (t : ℕ), k ≤ 2 → later 2 (fun t => P b t (256 + q) * P b t (512 + q)) (k + t)
      = later (2 - k) (fun t => P b t (256 + q) * P b t (512 + q)) t := by
    intro k t hk
    have e : k + t - 2 = t - (2 - k) := by omega
    simp only [later, e]
    split_ifs <;> first | (exfalso; omega) | rfl
  have E0 := fun t => E 0 t (by omega)
  simp only [Nat.zero_add, Nat.sub_zero] at E0
  simp only [E 2 _ (by omega), E 1 _ (by omega), ← EReal.coe_mul, ← coe_sum, tapGrad, T]
  obtain ⟨i, hi⟩ := i
  interval_cases i <;> simp [mul_comm]

section both

variable (hw : ∀ (i : Fin 3) (q : Fin 256), x1 (ix2 i q) = ((W i q : ℝ) : EReal))
  (hd : ∀ (b : Fin 2) (t : Fin 2048) (q : Fin 256), x2 (ix3 b t q) = ((D b t q : ℝ) : EReal))
include hw hd

/-- The gradient arriving at the product series. -/
theorem v79 (b : Fin 2) (u : Fin 1) (t : Fin 2048) (q : Fin 256) : val_main_v79 (F := Ideal) x0 x1 x2 (ix4 b u t q)
    = ((dprod (fun t => P b t q) (fun t => P b t (768 + q)) (fun t => D b t q) (fun i => W i q) t : ℝ) : EReal) := by
  pointwise [val_main_v79, val_main_v77, val_main_v76, val_main_cst_13, val_main_v71, val_main_v70, val_main_v69, val_main_v13, val_main_v12, val_main_v11,
    val_main_v65, val_main_v64, val_main_cst_9, val_main_v59, val_main_v58, val_main_v57, val_main_v22, val_main_v21, val_main_v20,
    val_main_v53, val_main_cst_5, val_main_v49, val_main_v48, val_main_v47, val_main_v30, val_main_v29, val_main_v28, v42 hp hd, hw]
  simp only [← EReal.coe_zero, ← EReal.coe_mul, ← EReal.coe_add]
  have e1 : t.val + 2 - 1 = t.val + 1 := by omega
  simp only [Nat.add_comm 2 t.val, e1, dprod, earlier, T]
  split_ifs <;> first | (exfalso; omega) | (simp only [← EReal.coe_zero, ← EReal.coe_mul, ← EReal.coe_add]; refine congrArg _ ?_; ring)

/-- The gradient of the projected columns, at (sequence, time, column `256 k + q`). -/
theorem v82 (b : Fin 2) (u : Fin 1) (t : Fin 2048) (r : Fin 1024) : val_main_v82 (F := Ideal) x0 x1 x2 (ix4 b u t r)
    = ((grad (fun t => P b t (r % 256)) (fun t => P b t (256 + r % 256)) (fun t => P b t (512 + r % 256)) (fun t => P b t (768 + r % 256))
        (fun t => D b t (r % 256)) (fun i => W i (r % 256)) (r / 256) t : ℝ) : EReal) := by
  pointwise [val_main_v82, val_main_v81, val_main_v80, val_main_v43, val_main_v41, val_main_call1_v2, val_main_call1_v1, val_main_call1_v0, val_main_v39, val_main_v35,
    val_main_v40, val_main_v38, hd, v1 hp, v2 hp, v3 hp, v4 hp, v36_0 hp, v36_1 hp, v36_2 hp, v34 hp hw, v79 hp hw hd]
  split_ifs
  · have e1 : r.val % 256 = r.val := by omega
    have e2 : r.val / 256 = 0 := by omega
    simp only [e1, e2, grad, ← EReal.coe_mul, ← EReal.coe_add]
    refine congrArg _ ?_
    ring
  · have e1 : r.val % 256 = r.val - 256 := by omega
    have e2 : r.val / 256 = 1 := by omega
    simp only [e1, e2, grad, ← EReal.coe_mul, ← EReal.coe_add]
  · have e1 : r.val % 256 = r.val - 256 - 256 := by omega
    have e2 : r.val / 256 = 2 := by omega
    simp only [e1, e2, grad, ← EReal.coe_mul, ← EReal.coe_add]
    refine congrArg _ ?_
    ring
  · have e1 : r.val % 256 = r.val - 256 - 256 - 256 := by omega
    have e2 : r.val / 256 = 3 := by omega
    simp only [e1, e2, grad, ← EReal.coe_mul, ← EReal.coe_add]
    refine congrArg _ ?_
    ring

/-- The reference's first result. -/
theorem v87 (g : Fin 16) (n : Fin 4096) (l : Fin 64) : val_main_v87 (F := Ideal) x0 x1 x2 (ix3 g n l)
    = ((gradAt P W D g n l : ℝ) : EReal) := by
  pointwise [val_main_v87, val_main_v86, val_main_v85, val_main_v84, val_main_v83]
  rw [v82 hp hw hd]
  have e1 : (g.val % 4 * 256 + g.val / 4 * 64 + l.val) % 256 = 64 * (g.val / 4) + l.val := by omega
  have e2 : (g.val % 4 * 256 + g.val / 4 * 64 + l.val) / 256 = g.val % 4 := by omega
  simp only [gradAt, e1, e2]

end both

/-- The reference's second result. -/
theorem v89 (hd : ∀ (b : Fin 2) (t : Fin 2048) (q : Fin 256), x2 (ix3 b t q) = ((D b t q : ℝ) : EReal)) (j : Fin 4) (b : Fin 2) (i : Fin 3) (l : Fin 64) :
    val_main_v89 (F := Ideal) x0 x2 (ix4 j b i l) = ((tapAt P D j b i l : ℝ) : EReal) := by
  pointwise [val_main_v89, val_main_v88, v75 hp hd]
  simp only [tapAt, Nat.mul_comm 64 j.val]

end projected

end Cert.ShortConv.R

end
-- ==== Proof.Finite.lean ====
/-
  The precondition read back: arguments whose entries are all finite have real entries.
-/
module

public import proofs.«01_k».proof.Pre_finite
public import proofs.«01_k».proof.Proof.Gen.Pre_finite
public import Idealize.ShloMosaic.Lib.ReduceAll
public import Idealize.ShloMosaic.Lib.Pointwise
public import Idealize.ShloMosaic.Lib.Claim

@[expose] public section

noncomputable section

namespace Cert.ShortConv

open Idealize.ShloMosaic Cert.Pre_finite

/-- An extended real whose absolute value is below something is a real number. -/
theorem real_of_abs_lt {x y : EReal} (h : Ideal.cmp .olt (max x (-x)) y = 1#1) : x = ((x.toReal : ℝ) : EReal) := by
  have h' : max x (-x) < y := by
    by_contra hn
    have e : Ideal.cmp .olt (max x (-x)) y = 0#1 := by simp [Ideal.cmp, hn]
    rw [e] at h
    exact absurd h (by decide)
  refine (EReal.coe_toReal ?_ ?_).symm
  · rintro rfl
    exact absurd ((le_max_left _ _).trans_lt h') (not_lt.mpr le_top)
  · rintro rfl
    exact absurd ((le_max_right _ _).trans_lt h') (not_lt.mpr (by simp))

/-- There is one index of an array with no axes. -/
instance : Subsingleton S_.Idx := ⟨fun a b => funext fun i => i.elim0⟩

variable {a0 : Vec Ideal S2x2048x1024 .f32} {a1 : Vec Ideal S3x256 .f32} {a2 : Vec Ideal S2x2048x256 .f32}

/-- Under the precondition every entry of every argument is a real number. -/
theorem real_of_finite (h : Cert.Pre_finite.fn (F := Ideal) a0 a1 a2 = fun _ => 1#1) :
    (∀ i, a0 i = (((a0 i : EReal).toReal : ℝ) : EReal)) ∧ (∀ i, a1 i = (((a1 i : EReal).toReal : ℝ) : EReal))
      ∧ ∀ i, a2 i = (((a2 i : EReal).toReal : ℝ) : EReal) := by
  have h0 := congrFun h (fun a => a.elim0)
  unfold Cert.Pre_finite.fn at h0
  obtain ⟨h01, h2⟩ := IntOp.andi_eq_one.1 h0
  obtain ⟨h0, h1⟩ := IntOp.andi_eq_one.1 h01
  exact ⟨fun i => real_of_abs_lt (Host.reduce_andi_all _ _ _ _ _ h0 i), fun i => real_of_abs_lt (Host.reduce_andi_all _ _ _ _ _ h1 i),
    fun i => real_of_abs_lt (Host.reduce_andi_all _ _ _ _ _ h2 i)⟩

/-- The real numbers of an array of three axes, by its coordinates; zero outside it. -/
def real3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

/-- The real numbers of an array of two axes, by its coordinates; zero outside it. -/
def real2 {a b : ℕ} (x : (⟨2, ![a, b]⟩ : Shape).Idx → EReal) (i j : ℕ) : ℝ :=
  if h : i < a ∧ j < b then (x (ix2 ⟨i, h.1⟩ ⟨j, h.2⟩)).toReal else 0

/-- The real numbers of an array of one axis; zero outside it. -/
def real1 {a : ℕ} (x : (⟨1, ![a]⟩ : Shape).Idx → EReal) (i : ℕ) : ℝ :=
  if h : i < a then (x (ix1 ⟨i, h⟩)).toReal else 0

/-- The real numbers of an array of three axes whose first two are read as one axis of rows. -/
def rows {a b c : ℕ} (x : (⟨3, ![a, b, c]⟩ : Shape).Idx → EReal) (n k : ℕ) : ℝ := real3 x (n / b) (n % b) k

theorem real3_eq {a b c : ℕ} {x : (⟨3, ![a, b, c]⟩ : Shape).Idx → EReal} (h : ∀ i, x i = (((x i).toReal : ℝ) : EReal))
    (i : Fin a) (j : Fin b) (k : Fin c) : x (ix3 i j k) = ((real3 x i j k : ℝ) : EReal) := by
  rw [real3, dif_pos ⟨i.isLt, j.isLt, k.isLt⟩]; exact h _

theorem real2_eq {a b : ℕ} {x : (⟨2, ![a, b]⟩ : Shape).Idx → EReal} (h : ∀ i, x i = (((x i).toReal : ℝ) : EReal))
    (i : Fin a) (j : Fin b) : x (ix2 i j) = ((real2 x i j : ℝ) : EReal) := by
  rw [real2, dif_pos ⟨i.isLt, j.isLt⟩]; exact h _

theorem real1_eq {a : ℕ} {x : (⟨1, ![a]⟩ : Shape).Idx → EReal} (h : ∀ i, x i = (((x i).toReal : ℝ) : EReal))
    (i : Fin a) : x (ix1 i) = ((real1 x i : ℝ) : EReal) := by
  rw [real1, dif_pos i.isLt]; exact h _

theorem rows_eq {a b c : ℕ} {x : (⟨3, ![a, b, c]⟩ : Shape).Idx → EReal} (h : ∀ i, x i = (((x i).toReal : ℝ) : EReal))
    (i : Fin a) (j : Fin b) (k : Fin c) : x (ix3 i j k) = ((rows x (b * i + j) k : ℝ) : EReal) := by
  have hb : 0 < b := Nat.lt_of_le_of_lt (Nat.zero_le _) j.isLt
  rw [rows, Nat.mul_add_div hb, Nat.div_eq_of_lt j.isLt, Nat.add_zero, Nat.mul_add_mod, Nat.mod_eq_of_lt j.isLt]
  exact real3_eq h i j k

end Cert.ShortConv

end
-- ==== Proof.Lay.lean ====
/-
  The order in which the 3992 columns of the projection stand in groups of 64, the short groups filled up with zeros.
-/
module

public import Idealize.ShloMosaic.Lib.Pointwise
public import Idealize.ShloMosaic.Lib.Claim

@[expose] public section

set_option maxRecDepth 16384

noncomputable section

namespace Cert.Proj

/-- The 3992 projection columns in the order of the 68 groups: a group shorter than 64 columns ends in zeros. -/
def lay {α : Type} [Zero α] (f : ℕ → α) (q : ℕ) : α :=
  if q < 1024 then f q
  else if q < 2048 then f (1032 + (q - 1024))
  else if q < 3072 then f (2184 + ((q - 2048) / 64 % 4 * 256 + (q - 2048) / 256 * 64 + (q - 2048) % 64))
  else if q < 3584 then if (q - 3072) % 64 < 32 then f (3208 + ((q - 3072) / 64 * 32 + (q - 3072) % 64)) else 0
  else if q < 4096 then f (3464 + (q - 3584))
  else if q < 4160 then if q - 4096 < 8 then f (1024 + (q - 4096)) else 0
  else if q < 4288 then f (2056 + (q - 4160))
  else if q - 4288 < 16 then f (3976 + (q - 4288)) else 0

open Idealize.ShloMosaic in
/-- The padded columns as a ladder of the pieces laid side by side. -/
theorem lay_ladder (f : ℕ → EReal) (q : ℕ) {n : ℕ} (hn : q = n) :
    (if h : q < 1024 then f q
    else
      if h : q - 1024 < 1024 then f (1032 + (q - 1024))
      else
        if h : q - 1024 - 1024 < 1024 then
          f (2184 + ((q - 1024 - 1024) / 64 % 4 * 256 + (q - 1024 - 1024) / 256 * 64 + (q - 1024 - 1024) % 64))
        else
          if h : q - 1024 - 1024 - 1024 < 512 then
            if h : (q - 1024 - 1024 - 1024) / 64 < 8 ∧ (q - 1024 - 1024 - 1024) % 64 < 32 then
              f (3208 + ((q - 1024 - 1024 - 1024) / 64 * 32 + (q - 1024 - 1024 - 1024) % 64))
            else (FloatOps.sitofp FTy.f32 0#32 : Ideal .f32)
          else
            if h : q - 1024 - 1024 - 1024 - 512 < 512 then f (3464 + (q - 1024 - 1024 - 1024 - 512))
            else
              if h : q - 1024 - 1024 - 1024 - 512 - 512 < 64 then
                if h : q - 1024 - 1024 - 1024 - 512 - 512 < 8 then
                  f (1024 + (q - 1024 - 1024 - 1024 - 512 - 512))
                else (FloatOps.sitofp FTy.f32 0#32 : Ideal .f32)
              else
                if h : q - 1024 - 1024 - 1024 - 512 - 512 - 64 < 128 then
                  f (2056 + (q - 1024 - 1024 - 1024 - 512 - 512 - 64))
                else
                  if h : q - 1024 - 1024 - 1024 - 512 - 512 - 64 - 128 < 16 then
                    f (3976 + (q - 1024 - 1024 - 1024 - 512 - 512 - 64 - 128))
                  else (FloatOps.sitofp FTy.f32 0#32 : Ideal .f32)) = lay f n := by
  have z : (FloatOps.sitofp FTy.f32 0#32 : Ideal .f32) = 0 := by
    simp [FloatOps.sitofp]
  subst hn
  unfold lay
  rw [z]
  simp only [Nat.sub_sub, Nat.reduceAdd]
  by_cases h1 : q < 1024
  · rw [dif_pos h1, if_pos h1]
  rw [dif_neg h1, if_neg h1]
  by_cases h2 : q - 1024 < 1024
  · rw [dif_pos h2, if_pos (by omega)]
  rw [dif_neg h2, if_neg (by omega)]
  by_cases h3 : q - 2048 < 1024
  · rw [dif_pos h3, if_pos (by omega)]
  rw [dif_neg h3, if_neg (by omega)]
  by_cases h4 : q - 3072 < 512
  · rw [dif_pos h4, if_pos (by omega)]
    by_cases h : (q - 3072) % 64 < 32
    · rw [dif_pos ⟨by omega, h⟩, if_pos h]
    · rw [dif_neg (fun e => h e.2), if_neg h]
  rw [dif_neg h4, if_neg (by omega)]
  by_cases h5 : q - 3584 < 512
  · rw [dif_pos h5, if_pos (by omega)]
  rw [dif_neg h5, if_neg (by omega)]
  by_cases h6 : q - 4096 < 64
  · rw [dif_pos h6, if_pos (by omega)]
    by_cases h : q - 4096 < 8
    · rw [dif_pos h, if_pos h]
    · rw [dif_neg h, if_neg h]
  rw [dif_neg h6, if_neg (by omega)]
  by_cases h7 : q - 4160 < 128
  · rw [dif_pos h7, if_pos (by omega)]
  rw [dif_neg h7, if_neg (by omega)]
  by_cases h : q - 4288 < 16
  · rw [dif_pos h, if_pos h]
  · rw [dif_neg h, if_neg h]

/-- Where column `k` stands among the groups. -/
def pos (k : ℕ) : ℕ :=
  if k < 1024 then k
  else if k < 1032 then 4096 + (k - 1024)
  else if k < 2056 then 1024 + (k - 1032)
  else if k < 2184 then 4160 + (k - 2056)
  else if k < 3208 then 2048 + ((k - 2184) % 256 / 64 * 256 + (k - 2184) / 256 * 64 + (k - 2184) % 64)
  else if k < 3464 then 3072 + ((k - 3208) / 32 * 64 + (k - 3208) % 32)
  else if k < 3976 then 3584 + (k - 3464)
  else 4288 + (k - 3976)

/-- The column that stands at place `q` among the groups, if there is one. -/
def col (q : ℕ) : ℕ :=
  if q < 1024 then q
  else if q < 2048 then 1032 + (q - 1024)
  else if q < 3072 then 2184 + ((q - 2048) / 64 % 4 * 256 + (q - 2048) / 256 * 64 + (q - 2048) % 64)
  else if q < 3584 then if (q - 3072) % 64 < 32 then 3208 + ((q - 3072) / 64 * 32 + (q - 3072) % 64) else 3992
  else if q < 4096 then 3464 + (q - 3584)
  else if q < 4160 then if q - 4096 < 8 then 1024 + (q - 4096) else 3992
  else if q < 4288 then 2056 + (q - 4160)
  else if q - 4288 < 16 then 3976 + (q - 4288) else 3992

theorem lay_col (f : ℕ → EReal) (q : ℕ) (h : q < 4352) : lay f q = if col q < 3992 then f (col q) else 0 := by
  unfold lay col
  split_ifs <;> first | rfl | (exfalso; omega)

theorem pos_lt : ∀ k : Fin 3992, pos k < 4352 := by decide +kernel
theorem col_pos : ∀ k : Fin 3992, col (pos k) = k := by decide +kernel
theorem pos_col : ∀ q : Fin 4352, col q < 3992 → pos (col q) = q := by decide +kernel

/-- A sum over the groups' places is the sum over the columns. -/
theorem sum_lay (f : ℕ → EReal) : ∑ q : Fin 4352, lay f q = ∑ k : Fin 3992, f k := by
  rw [Finset.sum_congr rfl fun (q : Fin 4352) _ => lay_col f q q.isLt, ← Finset.sum_filter]
  refine Finset.sum_bij' (fun q h => ⟨col q, (Finset.mem_filter.mp h).2⟩) (fun k _ => ⟨pos k, pos_lt k⟩)
    ?_ ?_ ?_ ?_ ?_
  · intro q h; exact Finset.mem_univ _
  · intro k _
    refine Finset.mem_filter.mpr ⟨Finset.mem_univ _, ?_⟩
    show col (pos k) < 3992
    rw [col_pos k]; exact k.isLt
  · intro q h; exact Fin.ext (pos_col q (Finset.mem_filter.mp h).2)
  · intro k _; exact Fin.ext (col_pos k)
  · intro q h; rfl

theorem lay_mul (f g : ℕ → EReal) (q : ℕ) : lay f q * lay g q = lay (fun k => f k * g k) q := by
  unfold lay
  split_ifs <;> simp

end Cert.Proj

end
-- ==== Proof.DhHost.lean ====
/-
  The arrays that the kernel of the input projection's backward pass is launched on, as the host operations prepare them: the
  weight and the gradient laid out in groups of 64 columns.
-/
module

public import proofs.«01_k».proof.Proof.Lay
public import proofs.«01_k».proof.Proof.Gen.DhKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proj.K

open Idealize.ShloMosaic Idealize.ShloMosaic.TcCoe Idealize.SL.Sem Cert.DhKernelIdeal Cert.DhKernelIdeal.Gen
open Idealize.ShloMosaic.Pipeline (Dat)

variable (m : (ℓ : Loc nD τ sig) → Buf (Elt Ideal) ℓ)

/-- Every entry of the five arguments is what the functions give at its row and column. -/
structure Args (a0 : Vec Ideal S2x2048x1024 .f32) (a1 : Vec Ideal S1024 .f32) (a2 : Vec Ideal S1024x3992 .f32)
    (a3 : Vec Ideal S2x2048x3992 .f32) (a4 : Vec Ideal S2x2048x1024 .f32)
    (X : ℕ → ℕ → EReal) (w : ℕ → EReal) (W P D : ℕ → ℕ → EReal) : Prop where
  x : ∀ b t k, a0 (ix3 b t k) = X (2048 * b + t) k
  n : ∀ k, a1 (ix1 k) = w k
  w : ∀ k q, a2 (ix2 k q) = W k q
  p : ∀ b t q, a3 (ix3 b t q) = P (2048 * b + t) q
  d : ∀ b t k, a4 (ix3 b t k) = D (2048 * b + t) k

variable {m} {c : Dev nD} {X : ℕ → ℕ → EReal} {w : ℕ → EReal} {W P D : ℕ → ℕ → EReal}
  (R : Args (m ((c : Thread nD τ).loc main_arg0)) (m ((c : Thread nD τ).loc main_arg1)) (m ((c : Thread nD τ).loc main_arg2))
    (m ((c : Thread nD τ).loc main_arg3)) (m ((c : Thread nD τ).loc main_arg4)) X w W P D)
include R

/-- The entry array of the weight. -/
theorem Vw (j : Fin 17) (k : Fin 1024) (l : Fin 256) :
    V (F := Ideal) m c main_v19 (ix3 j k l) = lay (W k) (256 * j + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.w]
  rw [Nat.mul_comm 256]
  exact lay_ladder _ _ rfl

/-- The entry array of one source: groups 0 to 11. -/
theorem V44 (g : Fin 12) (n : Fin 4096) (l : Fin 64) :
    V (F := Ideal) m c main_v44 (ix3 g n l) = lay (P n) (64 * g + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 12 to 15. -/
theorem V45 (g : Fin 4) (n : Fin 4096) (l : Fin 64) :
    V (F := Ideal) m c main_v45 (ix3 g n l) = lay (P n) (64 * (12 + g) + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 32 to 47. -/
theorem V46 (g : Fin 16) (n : Fin 4096) (l : Fin 64) :
    V (F := Ideal) m c main_v46 (ix3 g n l) = lay (P n) (64 * (32 + g) + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 48 to 63. -/
theorem V47 (g : Fin 16) (n : Fin 4096) (l : Fin 64) :
    V (F := Ideal) m c main_v47 (ix3 g n l) = lay (P n) (64 * (48 + g) + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 64 to 67. -/
theorem V48 (g : Fin 4) (n : Fin 4096) (l : Fin 64) :
    V (F := Ideal) m c main_v48 (ix3 g n l) = lay (P n) (64 * (64 + g) + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

set_option maxHeartbeats 1600000 in
/-- The entry array of the third source: groups 16 to 31 (and two more that are not read). -/
theorem V43 (g : Fin 18) (h : (g : ℕ) < 16) (n : Fin 4096) (l : Fin 64) :
    V (F := Ideal) m c main_v43 (ix3 g n l) = lay (P n) (64 * (16 + g) + l) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  rw [dif_pos h]
  after_results_simp
  pointwise [R.p]
  simp only [Nat.div_add_mod]
  exact lay_ladder _ _ (by omega)

theorem V49 (n : Fin 4096) (k : Fin 1024) :
    V (F := Ideal) m c main_v49 (ix2 n k) = X n k := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.x]
  simp only [Nat.div_add_mod]

theorem V50 (k : Fin 1024) :
    V (F := Ideal) m c main_v50 (ix2 0 k) = w k := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.n]

theorem V51 (n : Fin 4096) (k : Fin 1024) :
    V (F := Ideal) m c main_v51 (ix2 n k) = D n k := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.d]
  simp only [Nat.div_add_mod]

end Cert.Proj.K

end
-- ==== Proof.DhStep.lean ====
/-
  One grid point of the input projection's backward pass: how the accumulator and the two results follow from the blocks.
-/
module

public import proofs.«01_k».proof.Proof.Gen.DhKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Proj.K

open Idealize.ShloMosaic Idealize.ShloMosaic.TcCoe Idealize.SL.Sem Cert.DhKernelIdeal Cert.DhKernelIdeal.Gen
open Idealize.ShloMosaic.Pipeline (Dat)

variable (m : (ℓ : Loc nD τ sig) → Buf (Elt Ideal) ℓ) (c : Dev nD)

/-- Four groups of 64 columns side by side, read at lane `l`. -/
def lane (B : Vec Ideal S4x1024x64 .bf16) (r : Fin 1024) (l : Fin 256) : EReal :=
  B (ix3 ⟨l / 64, by omega⟩ r ⟨l % 64, by omega⟩)

/-- The accumulated block after one more product. -/
def plus (A : Vec Ideal S1024x1024 .f32) (B : Vec Ideal S4x1024x64 .bf16) (W : Vec Ideal S1x1024x256 .bf16)
    (r k : Fin 1024) : EReal :=
  A (ix2 r k) + ∑ l : Fin 256, lane B r l * W (ix3 0 k l)

/-! Each source's product, its four groups loaded one by one. -/

theorem pay10_ld (A : Vec Ideal S1024x1024 .f32) (B : Vec Ideal S4x1024x64 .bf16) (W : Vec Ideal S1x1024x256 .bf16)
    (r k : Fin 1024) :
    k0_pay10 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay10, plus, lane]
  refine congrArg (A (ix2 r k) + ·) (Finset.sum_congr rfl fun x _ => congrArg (· * W (ix3 0 k x)) ?_)
  split_ifs <;> (congr 2 <;> (apply Fin.ext; simp; omega))

theorem pay11_ld (A : Vec Ideal S1024x1024 .f32) (B : Vec Ideal S4x1024x64 .bf16) (W : Vec Ideal S1x1024x256 .bf16)
    (r k : Fin 1024) :
    k0_pay11 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay11, plus, lane]
  refine congrArg (A (ix2 r k) + ·) (Finset.sum_congr rfl fun x _ => congrArg (· * W (ix3 0 k x)) ?_)
  split_ifs <;> (congr 2 <;> (apply Fin.ext; simp; omega))

theorem pay12_ld (A : Vec Ideal S1024x1024 .f32) (B : Vec Ideal S4x1024x64 .bf16) (W : Vec Ideal S1x1024x256 .bf16)
    (r k : Fin 1024) :
    k0_pay12 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay12, plus, lane]
  refine congrArg (A (ix2 r k) + ·) (Finset.sum_congr rfl fun x _ => congrArg (· * W (ix3 0 k x)) ?_)
  split_ifs <;> (congr 2 <;> (apply Fin.ext; simp; omega))

theorem pay13_ld (A : Vec Ideal S1024x1024 .f32) (B : Vec Ideal S4x1024x64 .bf16) (W : Vec Ideal S1x1024x256 .bf16)
    (r k : Fin 1024) :
    k0_pay13 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay13, plus, lane]
  refine congrArg (A (ix2 r k) + ·) (Finset.sum_congr rfl fun x _ => congrArg (· * W (ix3 0 k x)) ?_)
  split_ifs <;> (congr 2 <;> (apply Fin.ext; simp; omega))

theorem pay1_ld (A : Vec Ideal S1024x1024 .f32) (B : Vec Ideal S4x1024x64 .bf16) (W : Vec Ideal S1x1024x256 .bf16)
    (r k : Fin 1024) :
    k0_pay1 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay1, plus, lane]
  refine congrArg (A (ix2 r k) + ·) (Finset.sum_congr rfl fun x _ => congrArg (· * W (ix3 0 k x)) ?_)
  split_ifs <;> (congr 2 <;> (apply Fin.ext; simp; omega))

theorem pay2_ld (A : Vec Ideal S1024x1024 .f32) (B : Vec Ideal S4x1024x64 .bf16) (W : Vec Ideal S1x1024x256 .bf16)
    (r k : Fin 1024) :
    k0_pay2 (F := Ideal) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A W (ix2 r k) = plus A B W r k := by
  pointwise [k0_pay2, plus, lane]
  refine congrArg (A (ix2 r k) + ·) (Finset.sum_congr rfl fun x _ => congrArg (· * W (ix3 0 k x)) ?_)
  split_ifs <;> (congr 2 <;> (apply Fin.ext; simp; omega))

/-- What the point before left in the accumulator. -/
abbrev prev (t : Fin cfg0.N) : Vec Ideal S1024x1024 .f32 :=
  (outsAt0 (F := Ideal) m c (t.val - 1) (Nat.lt_of_le_of_lt (Nat.sub_le _ _) t.isLt)).2.2

/-- The accumulator after a point. -/
abbrev acc (t : Fin cfg0.N) : Vec Ideal S1024x1024 .f32 := (outsAt0 (F := Ideal) m c t.val t.isLt).2.2

theorem step_B (t : Fin cfg0.N) (h : 1 ≤ t.val % 17 ∧ t.val % 17 ≤ 2) (r k : Fin 1024) :
    acc m c t (ix2 r k) = plus (prev m c t) (iblk m c 0 t) (iblk m c 6 t) r k := by
  unfold acc
  rw [outsAt0_B m c t (by omega) (by omega) (by omega) (by omega) (by omega) (by omega) (by omega) (by omega) (by omega) ]
  frame_out
  refine Eq.trans ?_ (pay10_ld _ _ _ r k)
  exact congrArg (fun A => k0_pay10 (F := Ideal) _ _ _ _ A _ (ix2 r k)) (Memref.IsWhole.read_unread _ _)

theorem step_C (t : Fin cfg0.N) (h : t.val % 17 = 3) (r k : Fin 1024) :
    acc m c t (ix2 r k) = plus (prev m c t) (iblk m c 1 t) (iblk m c 6 t) r k := by
  unfold acc
  rw [outsAt0_C m c t (by omega) (by omega) (by omega) (by omega) (by omega) (by omega) (by omega) (by omega) (by omega) ]
  frame_out
  refine Eq.trans ?_ (pay11_ld _ _ _ r k)
  exact congrArg (fun A => k0_pay11 (F := Ideal) _ _ _ _ A _ (ix2 r k)) (Memref.IsWhole.read_unread _ _)

theorem step_D (t : Fin cfg0.N) (h : 4 ≤ t.val % 17 ∧ t.val % 17 ≤ 7) (r k : Fin 1024) :
    acc m c t (ix2 r k) = plus (prev m c t) (X0_2 m c t) (iblk m c 6 t) r k := by
  unfold acc
  rw [outsAt0_D m c t (by omega) (by omega) (by omega) (by omega) (by omega) (by omega) (by omega) (by omega) (by omega) ]
  frame_out
  refine Eq.trans ?_ (pay12_ld _ _ _ r k)
  exact congrArg (fun A => k0_pay12 (F := Ideal) _ _ _ _ A _ (ix2 r k)) (Memref.IsWhole.read_unread _ _)

theorem step_E (t : Fin cfg0.N) (h : 8 ≤ t.val % 17 ∧ t.val % 17 ≤ 11) (r k : Fin 1024) :
    acc m c t (ix2 r k) = plus (prev m c t) (iblk m c 3 t) (iblk m c 6 t) r k := by
  unfold acc
  rw [outsAt0_E m c t (by omega) (by omega) (by omega) (by omega) (by omega) (by omega) (by omega) (by omega) (by omega) ]
  frame_out
  refine Eq.trans ?_ (pay13_ld _ _ _ r k)
  exact congrArg (fun A => k0_pay13 (F := Ideal) _ _ _ _ A _ (ix2 r k)) (Memref.IsWhole.read_unread _ _)

theorem step_F (t : Fin cfg0.N) (h : 12 ≤ t.val % 17 ∧ t.val % 17 ≤ 15) (r k : Fin 1024) :
    acc m c t (ix2 r k) = plus (prev m c t) (iblk m c 4 t) (iblk m c 6 t) r k := by
  unfold acc
  rw [outsAt0_F m c t (by omega) (by omega) (by omega) (by omega) (by omega) (by omega) (by omega) (by omega) (by omega) ]
  frame_out
  refine Eq.trans ?_ (pay1_ld _ _ _ r k)
  exact congrArg (fun A => k0_pay1 (F := Ideal) _ _ _ _ A _ (ix2 r k)) (Memref.IsWhole.read_unread _ _)

theorem step_G (t : Fin cfg0.N) (h : t.val % 17 = 16) (r k : Fin 1024) :
    acc m c t (ix2 r k) = plus (prev m c t) (iblk m c 5 t) (iblk m c 6 t) r k := by
  unfold acc
  rw [outsAt0_G m c t (by omega) (by omega) (by omega) (by omega) (by omega) (by omega) (by omega) (by omega) (by omega) ]
  frame_out
  refine Eq.trans ?_ (pay2_ld _ _ _ r k)
  exact congrArg (fun A => k0_pay2 (F := Ideal) _ _ _ _ A _ (ix2 r k)) (Memref.IsWhole.read_unread _ _)

theorem step_A (t : Fin cfg0.N) (h : t.val % 68 = 0) (r k : Fin 1024) :
    acc m c t (ix2 r k) = plus (k0_pay9 (F := Ideal)) (iblk m c 0 t) (iblk m c 6 t) r k := by
  unfold acc
  rw [outsAt0_A m c t (by omega) (by omega) (by omega) (by omega) (by omega) (by omega) (by omega) (by omega) (by omega) ]
  frame_out
  refine Eq.trans ?_ (pay10_ld _ _ _ r k)
  rfl

theorem step_H (t : Fin cfg0.N) (h : t.val % 17 = 0 ∧ ¬ t.val % 68 = 0) (r k : Fin 1024) :
    acc m c t (ix2 r k) = plus (k0_pay9 (F := Ideal)) (iblk m c 0 t) (iblk m c 6 t) r k := by
  unfold acc
  rw [outsAt0_H m c t (by omega) (by omega) (by omega) (by omega) (by omega) (by omega) (by omega) (by omega) (by omega) ]
  frame_out
  refine Eq.trans ?_ (pay10_ld _ _ _ r k)
  rfl

/-! The two results at the points where they are stored, and the norm weight's gradient carried elsewhere. -/

theorem out_G (t : Fin cfg0.N) (h : t.val % 17 = 16) (i : S1024x1024.Idx) :
    (outsAt0 (F := Ideal) m c t.val t.isLt).1 i
      = k0_pay6 (F := Ideal) (iblk m c 7 t) (iblk m c 8 t) (acc m c t) (iblk m c 9 t) i := by
  unfold acc
  rw [outsAt0_G m c t (by omega) (by omega) (by omega) (by omega) (by omega) (by omega) (by omega) (by omega) (by omega) ]
  frame_out

theorem sum_G (t : Fin cfg0.N) (h : t.val % 17 = 16) (i : S1x1024.Idx) :
    (outsAt0 (F := Ideal) m c t.val t.isLt).2.1 i
      = k0_pay7 (F := Ideal) (iblk m c 7 t) (acc m c t)
          (outsAt0 (F := Ideal) m c (t.val - 1) (Nat.lt_of_le_of_lt (Nat.sub_le _ _) t.isLt)).2.1 i := by
  unfold acc
  rw [outsAt0_G m c t (by omega) (by omega) (by omega) (by omega) (by omega) (by omega) (by omega) (by omega) (by omega) ]
  frame_out

theorem sum_A (t : Fin cfg0.N) (h : t.val % 68 = 0) :
    (outsAt0 (F := Ideal) m c t.val t.isLt).2.1 = k0_pay8 (F := Ideal) := by
  funext i
  rw [outsAt0_A m c t (by omega) (by omega) (by omega) (by omega) (by omega) (by omega) (by omega) (by omega) (by omega) ]
  frame_out

theorem sum_keep (t : Fin cfg0.N) (h : ¬ t.val % 17 = 16) (h0 : ¬ t.val % 68 = 0) :
    (outsAt0 (F := Ideal) m c t.val t.isLt).2.1
      = (outsAt0 (F := Ideal) m c (t.val - 1) (Nat.lt_of_le_of_lt (Nat.sub_le _ _) t.isLt)).2.1 := by
  rcases (by omega : t.val % 17 = 0 ∨ (1 ≤ t.val % 17 ∧ t.val % 17 ≤ 2) ∨ t.val % 17 = 3 ∨ (4 ≤ t.val % 17 ∧ t.val % 17 ≤ 7)
    ∨ (8 ≤ t.val % 17 ∧ t.val % 17 ≤ 11) ∨ (12 ≤ t.val % 17 ∧ t.val % 17 ≤ 15)) with h | h | h | h | h | h
  · rw [outsAt0_H m c t (by omega) (by omega) (by omega) (by omega) (by omega) (by omega) (by omega) (by omega) (by omega) ]
    try rfl
  · rw [outsAt0_B m c t (by omega) (by omega) (by omega) (by omega) (by omega) (by omega) (by omega) (by omega) (by omega) ]
    try rfl
  · rw [outsAt0_C m c t (by omega) (by omega) (by omega) (by omega) (by omega) (by omega) (by omega) (by omega) (by omega) ]
    try rfl
  · rw [outsAt0_D m c t (by omega) (by omega) (by omega) (by omega) (by omega) (by omega) (by omega) (by omega) (by omega) ]
    try rfl
  · rw [outsAt0_E m c t (by omega) (by omega) (by omega) (by omega) (by omega) (by omega) (by omega) (by omega) (by omega) ]
    try rfl
  · rw [outsAt0_F m c t (by omega) (by omega) (by omega) (by omega) (by omega) (by omega) (by omega) (by omega) (by omega) ]
    try rfl

end Cert.Proj.K

end
-- ==== Proof.DhAcc.lean ====
/-
  The accumulator of the input projection's backward pass: after each grid point it holds the product over the columns met so far.
-/
module

public import proofs.«01_k».proof.Proof.DhHost
public import proofs.«01_k».proof.Proof.DhStep
public import proofs.«01_k».proof.Proof.Column

@[expose] public section

set_option maxRecDepth 16384

noncomputable section

namespace Cert.Proj.K

open Idealize.ShloMosaic Idealize.ShloMosaic.TcCoe Idealize.SL.Sem Cert.DhKernelIdeal Cert.DhKernelIdeal.Gen
open Idealize.ShloMosaic.Pipeline (Dat)

/-- The windows' block indices at each grid point. -/
theorem idx_val : ∀ t : Fin cfg0.N, win0_0.index t = ![min (t.val % 17) 2, t.val / 17, 0]
    ∧ win0_1.index t = ![0, t.val / 17, 0] ∧ win0_2.index t = ![min (t.val % 17 - 4) 3, t.val / 17, 0]
    ∧ win0_3.index t = ![min (t.val % 17 - 8) 3, t.val / 17, 0] ∧ win0_4.index t = ![min (t.val % 17 - 12) 3, t.val / 17, 0]
    ∧ win0_5.index t = ![0, t.val / 17, 0] ∧ win0_6.index t = ![t.val % 17, 0, 0] ∧ win0_7.index t = ![t.val / 17, 0]
    ∧ win0_8.index t = ![0, 0] ∧ win0_9.index t = ![t.val / 17, 0] ∧ win0_10.index t = ![t.val / 17, 0]
    ∧ win0_11.index t = ![0, 0] :=
  (by decide +kernel : ∀ t : Fin grid0.N, _)

variable {m : (ℓ : Loc nD τ sig) → Buf (Elt Ideal) ℓ}
  {c : Dev nD} {X : ℕ → ℕ → EReal} {w : ℕ → EReal} {W P D : ℕ → ℕ → EReal}
  (R : Args (m ((c : Thread nD τ).loc main_arg0)) (m ((c : Thread nD τ).loc main_arg1)) (m ((c : Thread nD τ).loc main_arg2))
    (m ((c : Thread nD τ).loc main_arg3)) (m ((c : Thread nD τ).loc main_arg4)) X w W P D)
include R

theorem lane0 (t : Fin cfg0.N) (h : t.val % 17 ≤ 2) (r : Fin 1024) (l : Fin 256) :
    lane (iblk (F := Ideal) m c 0 t) r l = lay (P (1024 * (t.val / 17) + r)) (256 * (t.val % 17) + l) := by
  have ht : t.val < 68 := t.isLt
  have E : iblk (F := Ideal) m c 0 t (ix3 ⟨l / 64, by omega⟩ r ⟨l % 64, by omega⟩)
      = V (F := Ideal) m c main_v44 (ix3 ⟨4 * (t.val % 17) + l / 64, by omega⟩ ⟨1024 * (t.val / 17) + r, by omega⟩ ⟨l % 64, by omega⟩) := by
    blk_ext [iblk, idx_val t]
  unfold lane
  rw [E, V44 R]
  dsimp only
  congr 1
  omega

theorem lane1 (t : Fin cfg0.N) (h : t.val % 17 = 3) (r : Fin 1024) (l : Fin 256) :
    lane (iblk (F := Ideal) m c 1 t) r l = lay (P (1024 * (t.val / 17) + r)) (256 * (t.val % 17) + l) := by
  have ht : t.val < 68 := t.isLt
  have E : iblk (F := Ideal) m c 1 t (ix3 ⟨l / 64, by omega⟩ r ⟨l % 64, by omega⟩)
      = V (F := Ideal) m c main_v45 (ix3 ⟨4 * (t.val % 17 - 3) + l / 64, by omega⟩ ⟨1024 * (t.val / 17) + r, by omega⟩ ⟨l % 64, by omega⟩) := by
    blk_ext [iblk, idx_val t]
  unfold lane
  rw [E, V45 R]
  dsimp only
  congr 1
  omega

theorem lane3 (t : Fin cfg0.N) (h : 8 ≤ t.val % 17 ∧ t.val % 17 ≤ 11) (r : Fin 1024) (l : Fin 256) :
    lane (iblk (F := Ideal) m c 3 t) r l = lay (P (1024 * (t.val / 17) + r)) (256 * (t.val % 17) + l) := by
  have ht : t.val < 68 := t.isLt
  have E : iblk (F := Ideal) m c 3 t (ix3 ⟨l / 64, by omega⟩ r ⟨l % 64, by omega⟩)
      = V (F := Ideal) m c main_v46 (ix3 ⟨4 * (t.val % 17 - 8) + l / 64, by omega⟩ ⟨1024 * (t.val / 17) + r, by omega⟩ ⟨l % 64, by omega⟩) := by
    blk_ext [iblk, idx_val t]
  unfold lane
  rw [E, V46 R]
  dsimp only
  congr 1
  omega

theorem lane4 (t : Fin cfg0.N) (h : 12 ≤ t.val % 17 ∧ t.val % 17 ≤ 15) (r : Fin 1024) (l : Fin 256) :
    lane (iblk (F := Ideal) m c 4 t) r l = lay (P (1024 * (t.val / 17) + r)) (256 * (t.val % 17) + l) := by
  have ht : t.val < 68 := t.isLt
  have E : iblk (F := Ideal) m c 4 t (ix3 ⟨l / 64, by omega⟩ r ⟨l % 64, by omega⟩)
      = V (F := Ideal) m c main_v47 (ix3 ⟨4 * (t.val % 17 - 12) + l / 64, by omega⟩ ⟨1024 * (t.val / 17) + r, by omega⟩ ⟨l % 64, by omega⟩) := by
    blk_ext [iblk, idx_val t]
  unfold lane
  rw [E, V47 R]
  dsimp only
  congr 1
  omega

theorem lane5 (t : Fin cfg0.N) (h : t.val % 17 = 16) (r : Fin 1024) (l : Fin 256) :
    lane (iblk (F := Ideal) m c 5 t) r l = lay (P (1024 * (t.val / 17) + r)) (256 * (t.val % 17) + l) := by
  have ht : t.val < 68 := t.isLt
  have E : iblk (F := Ideal) m c 5 t (ix3 ⟨l / 64, by omega⟩ r ⟨l % 64, by omega⟩)
      = V (F := Ideal) m c main_v48 (ix3 ⟨4 * (t.val % 17 - 16) + l / 64, by omega⟩ ⟨1024 * (t.val / 17) + r, by omega⟩ ⟨l % 64, by omega⟩) := by
    blk_ext [iblk, idx_val t]
  unfold lane
  rw [E, V48 R]
  dsimp only
  congr 1
  omega

theorem lane2 (t : Fin cfg0.N) (h : 4 ≤ t.val % 17 ∧ t.val % 17 ≤ 7) (r : Fin 1024) (l : Fin 256) :
    lane (X0_2 (F := Ideal) m c t) r l = lay (P (1024 * (t.val / 17) + r)) (256 * (t.val % 17) + l) := by
  have ht : t.val < 68 := t.isLt
  have E : X0_2 (F := Ideal) m c t (ix3 ⟨l / 64, by omega⟩ r ⟨l % 64, by omega⟩)
      = V (F := Ideal) m c main_v43 (ix3 ⟨4 * (t.val % 17 - 4) + l / 64, by omega⟩ ⟨1024 * (t.val / 17) + r, by omega⟩ ⟨l % 64, by omega⟩) := by
    unfold X0_2 Pipeline.Window.fill
    rw [dif_pos (moved0_2 t _)]
    blk_ext [iblk, idx_val t]
  unfold lane
  rw [E, V43 R _ (by dsimp only; omega)]
  dsimp only
  congr 1
  omega

theorem blk6 (t : Fin cfg0.N) (k : Fin 1024) (l : Fin 256) :
    iblk (F := Ideal) m c 6 t (ix3 0 k l) = lay (W k) (256 * (t.val % 17) + l) := by
  have ht : t.val < 68 := t.isLt
  have E : iblk (F := Ideal) m c 6 t (ix3 0 k l) = V (F := Ideal) m c main_v19 (ix3 ⟨t.val % 17, by omega⟩ k l) := by
    blk_ext [iblk, idx_val t]
  rw [E, Vw R]

theorem blk7 (t : Fin cfg0.N) (r k : Fin 1024) :
    iblk (F := Ideal) m c 7 t (ix2 r k) = X (1024 * (t.val / 17) + r) k := by
  have ht : t.val < 68 := t.isLt
  have E : iblk (F := Ideal) m c 7 t (ix2 r k) = V (F := Ideal) m c main_v49 (ix2 ⟨1024 * (t.val / 17) + r, by omega⟩ k) := by
    blk_ext [iblk, idx_val t]
  rw [E, V49 R]

theorem blk8 (t : Fin cfg0.N) (k : Fin 1024) :
    iblk (F := Ideal) m c 8 t (ix2 0 k) = w k := by
  have E : iblk (F := Ideal) m c 8 t (ix2 0 k) = V (F := Ideal) m c main_v50 (ix2 0 k) := by
    blk_ext [iblk, idx_val t]
  rw [E, V50 R]

theorem blk9 (t : Fin cfg0.N) (r k : Fin 1024) :
    iblk (F := Ideal) m c 9 t (ix2 r k) = D (1024 * (t.val / 17) + r) k := by
  have ht : t.val < 68 := t.isLt
  have E : iblk (F := Ideal) m c 9 t (ix2 r k) = V (F := Ideal) m c main_v51 (ix2 ⟨1024 * (t.val / 17) + r, by omega⟩ k) := by
    blk_ext [iblk, idx_val t]
  rw [E, V51 R]

/-- One more product on top of the accumulator. -/
theorem plus_eq (A : Vec Ideal S1024x1024 .f32) (B : Vec Ideal S4x1024x64 .bf16) (t : Fin cfg0.N) (r k : Fin 1024)
    (hA : A (ix2 r k) = ∑ q ∈ Finset.range (256 * (t.val % 17)), lay (P (1024 * (t.val / 17) + r)) q * lay (W k) q)
    (hB : ∀ l, lane B r l = lay (P (1024 * (t.val / 17) + r)) (256 * (t.val % 17) + l)) :
    plus A B (iblk (F := Ideal) m c 6 t) r k
      = ∑ q ∈ Finset.range (256 * (t.val % 17 + 1)), lay (P (1024 * (t.val / 17) + r)) q * lay (W k) q := by
  unfold plus
  rw [hA, Nat.mul_add, Nat.mul_one, Finset.sum_range_add]
  refine congrArg (_ + ·) ?_
  rw [Finset.sum_range]
  exact Finset.sum_congr rfl fun l _ => by rw [hB l, blk6 R]

/-- What the accumulator holds after each point: the product over the columns met so far. -/
theorem acc_eq : ∀ (n : ℕ) (hn : n < cfg0.N) (r k : Fin 1024), acc m c ⟨n, hn⟩ (ix2 r k)
    = ∑ q ∈ Finset.range (256 * (n % 17 + 1)), lay (P (1024 * (n / 17) + r)) q * lay (W k) q := by
  intro n
  induction n using Nat.strong_induction_on with
  | _ n ih =>
    intro hn r k
    have hn' : n < 68 := hn
    by_cases h0 : n % 17 = 0
    · have z : (k0_pay9 (F := Ideal)) (ix2 r k)
          = ∑ q ∈ Finset.range (256 * (n % 17)), lay (P (1024 * (n / 17) + r)) q * lay (W k) q := by
        rw [h0]; pointwise [k0_pay9]; simp
      have e := plus_eq R (k0_pay9 (F := Ideal)) (iblk m c 0 ⟨n, hn⟩) ⟨n, hn⟩ r k z
        (lane0 R ⟨n, hn⟩ (by dsimp only; omega) r)
      by_cases h1 : n % 68 = 0
      · exact (step_A m c ⟨n, hn⟩ h1 r k).trans e
      · exact (step_H m c ⟨n, hn⟩ ⟨h0, h1⟩ r k).trans e
    · have p : prev m c ⟨n, hn⟩ (ix2 r k)
          = ∑ q ∈ Finset.range (256 * (n % 17)), lay (P (1024 * (n / 17) + r)) q * lay (W k) q := by
        have := ih (n - 1) (by omega) (lt_of_le_of_lt (Nat.sub_le _ _) hn) r k
        rw [show (n - 1) % 17 + 1 = n % 17 by omega, show (n - 1) / 17 = n / 17 by omega] at this
        exact this
      rcases (by omega : (1 ≤ n % 17 ∧ n % 17 ≤ 2) ∨ n % 17 = 3 ∨ (4 ≤ n % 17 ∧ n % 17 ≤ 7)
        ∨ (8 ≤ n % 17 ∧ n % 17 ≤ 11) ∨ (12 ≤ n % 17 ∧ n % 17 ≤ 15) ∨ n % 17 = 16) with h | h | h | h | h | h
      · exact (step_B m c ⟨n, hn⟩ h r k).trans (plus_eq R _ _ _ r k p (lane0 R ⟨n, hn⟩ h.2 r))
      · exact (step_C m c ⟨n, hn⟩ h r k).trans (plus_eq R _ _ _ r k p (lane1 R ⟨n, hn⟩ h r))
      · exact (step_D m c ⟨n, hn⟩ h r k).trans (plus_eq R _ _ _ r k p (lane2 R ⟨n, hn⟩ h r))
      · exact (step_E m c ⟨n, hn⟩ h r k).trans (plus_eq R _ _ _ r k p (lane3 R ⟨n, hn⟩ h r))
      · exact (step_F m c ⟨n, hn⟩ h r k).trans (plus_eq R _ _ _ r k p (lane4 R ⟨n, hn⟩ h r))
      · exact (step_G m c ⟨n, hn⟩ h r k).trans (plus_eq R _ _ _ r k p (lane5 R ⟨n, hn⟩ h r))

/-- At the last point of a row of the grid it is the whole product over the 3992 columns. -/
theorem acc_last (t : Fin cfg0.N) (h : t.val % 17 = 16) (r k : Fin 1024) :
    acc m c t (ix2 r k) = ∑ e : Fin 3992, P (1024 * (t.val / 17) + r) e * W k e := by
  have e := acc_eq R t.val t.isLt r k
  rw [h, Finset.sum_range, Finset.sum_congr rfl fun (q : Fin (256 * (16 + 1))) _ => lay_mul _ _ _] at e
  exact e.trans (sum_lay _)

end Cert.Proj.K

end
-- ==== Proof.Norm.lean ====
module

public import proofs.«01_k».proof.Proof.Column
public import Idealize.ShloMosaic.Lib.Pointwise

@[expose] public section

noncomputable section

/-! # The root-mean-square norm of a row of 1024 numbers, and its gradient, over the real numbers -/

namespace Cert.Norm

open Idealize.ShloMosaic

/-- The number the norm adds under the root: the float nearest to a millionth. -/
def eps : ℝ := 8796093 / 2 ^ 43

theorem eps_pos : 0 < eps := by unfold eps; positivity

theorem word_eps : Ideal.ofBits .f32 0x358637BD#32 = ((eps : ℝ) : EReal) := by
  unfold Ideal.ofBits Ideal.ieee eps
  simp [-EReal.coe_mul, -EReal.coe_neg]
  norm_num

theorem word_width : Ideal.ofBits .f32 0x44800000#32 = ((1024 : ℝ) : EReal) := by
  unfold Ideal.ofBits Ideal.ieee
  simp [-EReal.coe_mul, -EReal.coe_neg]
  norm_num

theorem word_half : Ideal.ofBits .f32 0xBF000000#32 = ((-(1 / 2) : ℝ) : EReal) := by
  unfold Ideal.ofBits Ideal.ieee
  simp [-EReal.coe_mul, -EReal.coe_neg]
  norm_num

/-- The mean of a row's squares, and the small number. -/
def msq (x : ℕ → ℝ) : ℝ := (∑ k : Fin 1024, x k * x k) / 1024 + eps

theorem msq_pos (x : ℕ → ℝ) : 0 < msq x :=
  add_pos_of_nonneg_of_pos (div_nonneg (Finset.sum_nonneg fun _ _ => mul_self_nonneg _) (by norm_num)) eps_pos

/-- One over the root of it. -/
def inv (x : ℕ → ℝ) : ℝ := (Real.sqrt (msq x))⁻¹

theorem inv_sq (x : ℕ → ℝ) : inv x * inv x * msq x = 1 := by
  have h := msq_pos x
  have e := Real.mul_self_sqrt h.le
  have n : Real.sqrt (msq x) ≠ 0 := (Real.sqrt_pos.mpr h).ne'
  unfold inv
  rw [← e]
  rw [Real.sqrt_mul_self (Real.sqrt_nonneg _)]
  field_simp

/-- The gradient of the loss with respect to a row before the norm, from the gradient `g` after the norm and its weight `w`. -/
def grad (x w g : ℕ → ℝ) (k : ℕ) : ℝ :=
  inv x * (g k * w k - x k * inv x * ((∑ j : Fin 1024, g j * w j * (x j * inv x)) / 1024))

theorem one_div_msq (x : ℕ → ℝ) : 1 / msq x = inv x * inv x := by
  rw [div_eq_iff (msq_pos x).ne', inv_sq]

/-- The gradient as the chain rule gives it: through the product with the root and through the root. -/
theorem grad_eq (x w g : ℕ → ℝ) (k : ℕ) :
    g k * w k * inv x + x k * ((∑ j : Fin 1024, x j * (g j * w j)) * (-(1 / 2) * (inv x * (1 / msq x))) * (1 / 1024))
      + (∑ j : Fin 1024, x j * (g j * w j)) * (-(1 / 2) * (inv x * (1 / msq x))) * (1 / 1024) * x k = grad x w g k := by
  have e : ∑ j : Fin 1024, g j * w j * (x j * inv x) = (∑ j : Fin 1024, x j * (g j * w j)) * inv x := by
    rw [Finset.sum_mul]
    exact Finset.sum_congr rfl fun j _ => by ring
  rw [grad, e, one_div_msq]
  ring

/-- Read over the extended reals: the mean of the squares of a row of real numbers. -/
theorem msq_coe (x : ℕ → ℝ) : Ideal.div (∑ k : Fin 1024, ((x k : ℝ) : EReal) * ((x k : ℝ) : EReal)) (Ideal.ofBits .f32 0x44800000#32)
    + Ideal.ofBits .f32 0x358637BD#32 = ((msq x : ℝ) : EReal) := by
  simp only [word_eps, word_width, ← EReal.coe_mul]
  rw [← Cert.ShortConv.coe_sum, Ideal.div_coe (by norm_num), ← EReal.coe_mul, ← EReal.coe_add]
  unfold msq
  rw [mul_one_div]

/-- Read over the extended reals: one over the root. -/
theorem inv_coe (x : ℕ → ℝ) : Ideal.rsqrt ((msq x : ℝ) : EReal) = ((inv x : ℝ) : EReal) := by
  rw [Ideal.rsqrt_coe, if_neg (msq_pos x).le.not_gt, if_neg (msq_pos x).ne']
  rfl

end Cert.Norm

end
-- ==== Proof.NormAny.lean ====
/-
  The gradient of the root-mean-square norm of a row, over the extended reals: the kernel's arrangement and the chain rule's agree on
  every row, whether or not its entries are finite.  A row with an infinite entry has root zero, and both arrangements are zero.
-/
module

public import proofs.«01_k».proof.Proof.Norm

@[expose] public section

noncomputable section

namespace Cert.NormAny

open Idealize.ShloMosaic

/-- The mean of a row's squares, and the small number. -/
def msq (x : ℕ → EReal) : EReal :=
  Ideal.div (∑ k : Fin 1024, x k * x k) (Ideal.ofBits .f32 0x44800000#32) + Ideal.ofBits .f32 0x358637BD#32

/-- One over the root of it. -/
def inv (x : ℕ → EReal) : EReal := Ideal.rsqrt (msq x)

/-- The gradient with respect to a row before the norm, from the gradient `g` after it and the norm's weight `w`. -/
def grad (x w g : ℕ → EReal) (k : ℕ) : EReal :=
  inv x * (g k * w k - x k * inv x * Ideal.div (∑ j : Fin 1024, g j * w j * (x j * inv x)) (Ideal.ofBits .f32 0x44800000#32))

/-- What a row passes back through the root, as the chain rule gives it. -/
def thread (x w g : ℕ → EReal) : EReal :=
  Ideal.div ((∑ j : Fin 1024, x j * (g j * w j)) * (Ideal.ofBits .f32 0xBF000000#32 * Ideal.div (inv x) (msq x)))
    (Ideal.ofBits .f32 0x44800000#32)

theorem self_nonneg (x : EReal) : 0 ≤ x * x := by
  induction x with
  | bot => simp
  | top => simp
  | coe a => exact_mod_cast mul_self_nonneg a

theorem div_width (y : EReal) : Ideal.div y (Ideal.ofBits .f32 0x44800000#32) = y * ((1 / 1024 : ℝ) : EReal) := by
  rw [Cert.Norm.word_width, Ideal.div_coe (by norm_num)]

/-- A row of real numbers, or a row whose root is zero. -/
theorem real_or (x : ℕ → EReal) :
    (∃ a : ℕ → ℝ, (∀ j : Fin 1024, x j = ((a j : ℝ) : EReal)) ∧ msq x = ((Cert.Norm.msq a : ℝ) : EReal) ∧ inv x = ((Cert.Norm.inv a : ℝ) : EReal))
      ∨ (msq x = ⊤ ∧ inv x = 0) := by
  by_cases h : ∀ j : Fin 1024, x j ≠ ⊤ ∧ x j ≠ ⊥
  · have e : ∀ j : Fin 1024, x j = (((x j).toReal : ℝ) : EReal) := fun j => (EReal.coe_toReal (h j).1 (h j).2).symm
    have m : msq x = ((Cert.Norm.msq (fun j => (x j).toReal) : ℝ) : EReal) := by
      rw [← Cert.Norm.msq_coe, msq]
      exact congrArg (fun s => Ideal.div s _ + _) (Finset.sum_congr rfl fun j _ => by rw [e j]; rfl)
    exact Or.inl ⟨_, e, m, by rw [inv, m, Cert.Norm.inv_coe]⟩
  · right
    obtain ⟨j, hj⟩ := not_forall.mp h
    have t : x j * x j = ⊤ := by
      by_cases ht : x j = ⊤
      · rw [ht, EReal.top_mul_top]
      · have hb : x j = ⊥ := by_contra fun hb => hj ⟨ht, hb⟩
        rw [hb, EReal.bot_mul_bot]
    have s : ∑ k : Fin 1024, x k * x k = ⊤ := top_le_iff.mp (t ▸
      Finset.single_le_sum (f := fun k : Fin 1024 => x k * x k) (fun k _ => self_nonneg (x k)) (Finset.mem_univ j))
    have m : msq x = ⊤ := by
      rw [msq, s, div_width, EReal.top_mul_coe_of_pos (by norm_num), Cert.Norm.word_eps, EReal.top_add_coe]
    exact ⟨m, by rw [inv, m]; rfl⟩

/-- A number that is not negative multiplies into a sum. -/
theorem sum_mul {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem twice (y : EReal) : y + y = ((2 : ℝ) : EReal) * y := by
  induction y with
  | bot => rw [EReal.coe_mul_bot_of_pos (by norm_num)]; rfl
  | top => rw [EReal.coe_mul_top_of_pos (by norm_num)]; rfl
  | coe a => exact_mod_cast (two_mul a).symm

/-- The two arrangements of the gradient are equal. -/
theorem grad_eq (x w g : ℕ → EReal) (k : Fin 1024) :
    g k * w k * inv x + x k * thread x w g + thread x w g * x k = grad x w g k := by
  rcases real_or x with ⟨a, ha, hm, hi⟩ | ⟨hm, hi⟩
  · have hr : 0 < Cert.Norm.inv a := inv_pos.mpr (Real.sqrt_pos.mpr (Cert.Norm.msq_pos a))
    have hd : Ideal.div (inv x) (msq x) = ((Cert.Norm.inv a * (Cert.Norm.inv a * Cert.Norm.inv a) : ℝ) : EReal) := by
      rw [hi, hm, Ideal.div_coe (Cert.Norm.msq_pos a).ne', Cert.Norm.one_div_msq, ← EReal.coe_mul]
    have hS : ∑ j : Fin 1024, g j * w j * (x j * ((Cert.Norm.inv a : ℝ) : EReal))
        = (∑ j : Fin 1024, x j * (g j * w j)) * ((Cert.Norm.inv a : ℝ) : EReal) := by
      rw [sum_mul _ _ hr.le]
      exact Finset.sum_congr rfl fun j _ => by rw [← mul_assoc, mul_comm (g j * w j)]
    generalize hs : ∑ j : Fin 1024, x j * (g j * w j) = S at hS
    have hT : thread x w g = S * ((-(1 / 2) * (Cert.Norm.inv a * (Cert.Norm.inv a * Cert.Norm.inv a)) * (1 / 1024) : ℝ) : EReal) := by
      rw [thread, hs, hd, Cert.Norm.word_half, div_width, mul_assoc, ← EReal.coe_mul, ← EReal.coe_mul]
    rw [grad, hT, hi, hS, div_width, ha k, add_assoc, mul_comm _ ((a k : ℝ) : EReal), twice,
      EReal.mul_sub_of_nonneg_of_ne_top (by exact_mod_cast hr.le) (EReal.coe_ne_top _), mul_comm (g k * w k), sub_eq_add_neg]
    refine congrArg _ ?_
    generalize Cert.Norm.inv a = r
    generalize a k = y
    have u : ∀ q : ℝ, (r : EReal) * ((y : EReal) * r * (S * r * (q : EReal))) = ((r * (y * r * (r * q)) : ℝ) : EReal) * S := fun q => by
      simp only [EReal.coe_mul]
      ac_rfl
    have v : ∀ q : ℝ, ((2 : ℝ) : EReal) * (y * (S * (q : EReal))) = ((2 * (y * q) : ℝ) : EReal) * S := fun q => by
      simp only [EReal.coe_mul]
      ac_rfl
    rw [u, v, ← EReal.neg_mul, ← EReal.coe_neg]
    refine congrArg (fun q : ℝ => (q : EReal) * S) ?_
    ring
  · have hT : thread x w g = 0 := by
      have hd : Ideal.div (inv x) (msq x) = 0 := by
        rw [hi, hm, Ideal.div, if_neg (by simp), zero_mul]
      rw [thread, hd, mul_zero, mul_zero, div_width, zero_mul]
    rw [grad, hT, hi, zero_mul, mul_zero, mul_zero, zero_mul, add_zero, add_zero]

end Cert.NormAny

end
-- ==== Proof.DhOut.lean ====
/-
  The two results of the input projection's backward pass: what the kernel writes at the last point of a row of its grid, and the
  arrays it leaves.
-/
module

public import proofs.«01_k».proof.Proof.DhAcc
public import proofs.«01_k».proof.Proof.NormAny

@[expose] public section

noncomputable section

namespace Cert.Proj

/-- The gradient at row `n` of the projection's input: the gradient of its output times the weight's transpose. -/
def back (P W : ℕ → ℕ → EReal) (n k : ℕ) : EReal := ∑ e : Fin 3992, P n e * W k e

/-- The gradient of the residual stream. -/
def gradX (X : ℕ → ℕ → EReal) (w : ℕ → EReal) (W P D : ℕ → ℕ → EReal) (n k : ℕ) : EReal := D n k + Cert.NormAny.grad (X n) w (back P W n) k

/-- What row `n` adds to the gradient of the norm's weight. -/
def term (X W P : ℕ → ℕ → EReal) (n k : ℕ) : EReal := back P W n k * (X n k * Cert.NormAny.inv (X n))

/-- The gradient of the norm's weight. -/
def gradN (X W P : ℕ → ℕ → EReal) (k : ℕ) : EReal := ∑ n : Fin 4096, term X W P n k

end Cert.Proj

namespace Cert.Proj.K

open Idealize.ShloMosaic Idealize.ShloMosaic.TcCoe Idealize.SL.Sem Cert.DhKernelIdeal Cert.DhKernelIdeal.Gen
open Idealize.ShloMosaic.Pipeline (Dat)

/-- The row of the residual stream's gradient. -/
theorem pay6_eq {A B D : Vec Ideal S1024x1024 .f32} {w : Vec Ideal S1x1024 .f32} {r : Fin 1024} {x g d u : ℕ → EReal}
    (hA : ∀ k : Fin 1024, A (ix2 r k) = x k) (hB : ∀ k : Fin 1024, B (ix2 r k) = g k)
    (hD : ∀ k : Fin 1024, D (ix2 r k) = d k) (hw : ∀ k : Fin 1024, w (ix2 0 k) = u k) (k : Fin 1024) :
    k0_pay6 A w B D (ix2 r k) = d k + Cert.NormAny.grad x u g k := by
  pointwise [k0_pay6, k0_pay5, k0_pay4, k0_pay3, hA, hB, hD, hw]
  rfl

/-- The running row of the norm's weight's gradient. -/
theorem pay7_eq {A B : Vec Ideal S1024x1024 .f32} {S : Vec Ideal S1x1024 .f32} {x g : ℕ → ℕ → EReal}
    (hA : ∀ r k : Fin 1024, A (ix2 r k) = x r k) (hB : ∀ r k : Fin 1024, B (ix2 r k) = g r k) (k : Fin 1024) :
    k0_pay7 A B S (ix2 0 k) = S (ix2 0 k) + (∑ r : Fin 1024, g r k * (x r k * Cert.NormAny.inv (x r))) := by
  pointwise [k0_pay7, k0_pay5, k0_pay4, k0_pay3, hA, hB]
  rfl

variable {m : (ℓ : Loc nD τ sig) → Buf (Elt Ideal) ℓ}
variable {c : Dev nD} {X : ℕ → ℕ → EReal} {w : ℕ → EReal} {W P D : ℕ → ℕ → EReal}
  (R : Args (m ((c : Thread nD τ).loc main_arg0)) (m ((c : Thread nD τ).loc main_arg1)) (m ((c : Thread nD τ).loc main_arg2))
    (m ((c : Thread nD τ).loc main_arg3)) (m ((c : Thread nD τ).loc main_arg4)) X w W P D)
include R

/-- The running row after each point: the sum over the row tiles finished so far. -/
theorem sum_eq : ∀ (n : ℕ) (hn : n < cfg0.N) (k : Fin 1024), (outsAt0 (F := Ideal) m c n hn).2.1 (ix2 0 k)
    = ∑ q ∈ Finset.range (1024 * ((n + 1) / 17)), term X W P q k := by
  intro n
  induction n with
  | zero =>
    intro hn k
    rw [sum_A m c ⟨0, hn⟩ rfl]
    pointwise [k0_pay8]
    simp
  | succ n ih =>
    intro hn k
    have hn' : n + 1 < 68 := hn
    by_cases h : (n + 1) % 17 = 16
    · refine (sum_G m c ⟨n + 1, hn⟩ h _).trans ?_
      rw [pay7_eq (x := fun r => X (1024 * ((n + 1) / 17) + r)) (blk7 R ⟨n + 1, hn⟩) (g := fun r k => back P W (1024 * ((n + 1) / 17) + r) k) (acc_last R ⟨n + 1, hn⟩ h) k]
      have e := ih (lt_of_le_of_lt (Nat.le_succ _) hn) k
      rw [show (n + 1 + 1) / 17 = (n + 1) / 17 + 1 by omega, Nat.mul_add, Nat.mul_one, Finset.sum_range_add]
      refine congrArg₂ (· + ·) e ?_
      rw [Finset.sum_range]
      rfl
    · rw [sum_keep m c ⟨n + 1, hn⟩ h (by dsimp only; omega)]
      rw [show (n + 1 + 1) / 17 = (n + 1) / 17 by omega]
      exact ih _ k

/-- The kernel's first result. -/
theorem final10 : (dats (F := Ideal) m 0 c).arrAt 10 cfg0.N
    = fun y : S4096x1024.Idx => gradX X w W P D (y 0) (y 1) := by
  refine (dats (F := Ideal) m 0 c).arrAt_eq_of_covers 10 _ (by decide +kernel) fun t hf y => ?_
  have ht : t.val < 68 := t.isLt
  have h : t.val % 17 = 16 := by have := (flush0_10 t).mp hf; omega
  blk_simp
  rw [after0_10]
  refine (out_G m c t h _).trans ?_
  idx_vars y
  rw [pay6_eq (blk7 R t y0) (g := back P W (1024 * (t.val / 17) + y0)) (acc_last R t h y0) (blk9 R t y0) (blk8 R t)]
  blk_simp [idx_val t]
  rw [show t.val / 17 * 1024 + y0.val = 1024 * (t.val / 17) + y0.val by omega]
  rfl

/-- The kernel's second result. -/
theorem final11 : (dats (F := Ideal) m 0 c).arrAt 11 cfg0.N
    = fun y : S1x1024.Idx => gradN X W P (y 1) := by
  refine (dats (F := Ideal) m 0 c).arrAt_eq_of_covers 11 _ (by decide +kernel) fun t hf y => ?_
  have ht : t.val < 68 := t.isLt
  have h : t.val = 67 := by have := (flush0_11 t).mp hf; omega
  blk_simp
  rw [after0_11]
  idx_vars y
  have e := sum_eq R t.val t.isLt y1
  rw [show (t.val + 1) / 17 = 4 by omega, Finset.sum_range] at e
  obtain rfl : y0 = 0 := Subsingleton.elim _ _
  refine e.trans ?_
  blk_simp [idx_val t]
  rfl

end Cert.Proj.K

end
-- ==== Proof.DhRef.lean ====
/-
  The reference of the input projection's backward pass at an index, stage by stage, as the functions of `DhOut`.
-/
module

public import proofs.«01_k».proof.Proof.NormAny
public import proofs.«01_k».proof.Proof.DhOut
public import proofs.«01_k».proof.Proof.Gen.DhReferenceIdeal.Read
public import Idealize.ShloMosaic.Lib.Claim

@[expose] public section

set_option maxRecDepth 16384

noncomputable section

namespace Cert.Proj.R

open Idealize.ShloMosaic Idealize.ShloMosaic.TcCoe Cert.DhReferenceIdeal Cert.DhReferenceIdeal.Read

variable {x0 : Vec Ideal S2x2048x1024 .f32} {x1 : Vec Ideal S1024 .f32} {x2 : Vec Ideal S1024x3992 .f32}
  {x3 : Vec Ideal S2x2048x3992 .f32} {x4 : Vec Ideal S2x2048x1024 .f32} {X : ℕ → ℕ → EReal} {w : ℕ → EReal} {W P D : ℕ → ℕ → EReal}

/-- A sum over the first two axes, as two sums. -/
theorem sum_rows (h : S2x2048x1024.ReducesTo [0, 1] S1024) (v : S2x2048x1024.Idx → EReal) (init : EReal) (k : Fin 1024) :
    Ideal.hostReduceAdd h v init (ix1 k) = init + ∑ p : Fin 2 × Fin 2048, v (ix3 p.1 p.2 k) := by
  rw [Ideal.hostReduceAdd]
  refine congrArg (init + ·) (Finset.sum_nbij' (fun i => ((i 0 : Fin 2), (i 1 : Fin 2048))) (fun p => ix3 p.1 p.2 k) ?_ ?_ ?_ ?_ ?_)
  · intro i _; exact Finset.mem_univ _
  · rintro p -
    simp only [Finset.mem_filter, Finset.mem_univ, true_and]
    funext a; apply Fin.ext
    match a with
    | ⟨0, _⟩ => rfl
  · intro i hi
    simp only [Finset.mem_filter, Finset.mem_univ, true_and] at hi
    funext a; apply Fin.ext
    match a with
    | ⟨0, _⟩ => rfl
    | ⟨1, _⟩ => rfl
    | ⟨2, _⟩ => exact (congrArg Fin.val (congrFun hi 0)).symm
  · rintro p -; rfl
  · intro i hi
    simp only [Finset.mem_filter, Finset.mem_univ, true_and] at hi
    refine congrArg v ?_
    funext a; apply Fin.ext
    match a with
    | ⟨0, _⟩ => rfl
    | ⟨1, _⟩ => rfl
    | ⟨2, _⟩ => exact (congrArg Fin.val (congrFun hi 0))

/-- A sum over two axes of length one is its only term. -/
theorem sum_unit (h : S1x1x1024.ReducesTo [0, 1] S1024) (v : S1x1x1024.Idx → EReal) (init : EReal) (k : Fin 1024) :
    Ideal.hostReduceAdd h v init (ix1 k) = init + v (ix3 0 0 k) := by
  have E : Finset.univ.filter (fun i => h.drop i = (ix1 k : S1024.Idx)) = {ix3 0 0 k} := by
    ext i
    simp only [Finset.mem_filter, Finset.mem_univ, true_and, Finset.mem_singleton]
    constructor
    · intro e
      funext a; apply Fin.ext
      match a with
      | ⟨0, _⟩ => exact Nat.lt_one_iff.mp (i 0).isLt
      | ⟨1, _⟩ => exact Nat.lt_one_iff.mp (i 1).isLt
      | ⟨2, _⟩ => exact congrArg Fin.val (congrFun e 0)
    · rintro rfl
      funext a; apply Fin.ext
      match a with
      | ⟨0, _⟩ => rfl
  rw [Ideal.hostReduceAdd, E, Finset.sum_singleton]

section arguments

variable (hx : ∀ (b : Fin 2) (t : Fin 2048) (k : Fin 1024), x0 (ix3 b t k) = X (2048 * b + t) k)
  (hn : ∀ k : Fin 1024, x1 (ix1 k) = w k)
  (hw : ∀ (k : Fin 1024) (q : Fin 3992), x2 (ix2 k q) = W k q)
  (hp : ∀ (b : Fin 2) (t : Fin 2048) (q : Fin 3992), x3 (ix3 b t q) = P (2048 * b + t) q)
  (hd : ∀ (b : Fin 2) (t : Fin 2048) (k : Fin 1024), x4 (ix3 b t k) = D (2048 * b + t) k)

include hx in
/-- The mean of the squares and the small number. -/
theorem v6 (b : Fin 2) (t : Fin 2048) : val_main_v6 (F := Ideal) x0 (ix3 b t 0) = Cert.NormAny.msq (X (2048 * b + t)) := by
  pointwise [val_main_v6, val_main_v5, val_main_cst_1, val_main_v4, val_main_v3, val_main_cst_0, val_main_v2, val_main_v1, val_main_cst, val_main_v0, hx]
  rfl

include hx in
/-- One over the root. -/
theorem v7 (b : Fin 2) (t : Fin 2048) : val_main_v7 (F := Ideal) x0 (ix3 b t 0) = Cert.NormAny.inv (X (2048 * b + t)) := by
  pointwise [val_main_v7, v6 hx]
  rfl

include hx in
/-- The derivative of one over the root. -/
theorem v10 (b : Fin 2) (t : Fin 2048) (u : Fin 1) : val_main_v10 (F := Ideal) x0 (ix3 b t u)
    = Ideal.ofBits .f32 0xBF000000#32 * Ideal.div (Cert.NormAny.inv (X (2048 * b + t))) (Cert.NormAny.msq (X (2048 * b + t))) := by
  obtain rfl : u = 0 := Subsingleton.elim _ _
  pointwise [val_main_v10, val_main_v9, val_main_cst_2, val_main_v8, v7 hx, v6 hx]

include hw hp in
/-- The gradient at the projection's input. -/
theorem v17 (b : Fin 2) (t : Fin 2048) (k : Fin 1024) : val_main_v17 (F := Ideal) x2 x3 (ix3 b t k)
    = back P W (2048 * b + t) k := by
  pointwise [val_main_v17, hw, hp]
  rfl

include hn hw hp in
/-- The same times the norm's weight. -/
theorem v22 (b : Fin 2) (t : Fin 2048) (k : Fin 1024) : val_main_v22 (F := Ideal) x1 x2 x3 (ix3 b t k)
    = back P W (2048 * b + t) k * w k := by
  pointwise [val_main_v22, val_main_v21, val_main_v13, v17 hw hp, hn]

include hx hn hw hp in
/-- The gradient at the mean of the squares, over the width. -/
theorem v33 (b : Fin 2) (t : Fin 2048) : val_main_v33 (F := Ideal) x0 x1 x2 x3 (ix2 b t)
    = Cert.NormAny.thread (X (2048 * b + t)) w (back P W (2048 * b + t)) := by
  pointwise [val_main_v33, val_main_cst_7, val_main_v32, val_main_v31, val_main_cst_6, val_main_v30, v10 hx, val_main_v26, val_main_v25, val_main_cst_5,
    val_main_v24, v22 hn hw hp, hx]
  simp only [Finset.univ_unique, Finset.sum_singleton]
  rfl

include hx hn hw hp hd in
/-- The reference's first result. -/
theorem v39 (n : Fin 4096) (k : Fin 1024) : val_main_v39 (F := Ideal) x0 x1 x2 x3 x4 (ix2 n k) = gradX X w W P D n k := by
  pointwise [val_main_v39, val_main_v38, val_main_v37, val_main_v36, val_main_v35, val_main_v34, val_main_v29, val_main_v28, val_main_v27,
    v33 hx hn hw hp, v22 hn hw hp, v7 hx, hx, hd]
  simp only [Nat.div_add_mod]
  rw [gradX, ← Cert.NormAny.grad_eq]
  ac_rfl

include hx hw hp in
/-- The reference's second result. -/
theorem v40 (k : Fin 1024) : val_main_v40 (F := Ideal) x0 x2 x3 (ix2 0 k) = gradN X W P k := by
  pointwise [val_main_v40, val_main_v23, val_main_cst_4, sum_unit, val_main_v20, val_main_v19, val_main_cst_3, sum_rows, val_main_v18,
    val_main_v12, val_main_v11, v17 hw hp, v7 hx, hx]
  rw [Fintype.sum_prod_type]
  unfold gradN
  refine Fin.sum_mul_add_congr (f := fun n : Fin 4096 => term X W P n k) fun b t _ => ?_
  dsimp only
  rw [Nat.mul_comm b.val, term, mul_comm]

end arguments

end Cert.Proj.R

end
-- ==== Proof.Entry.lean ====
/-
  The entries of an array of extended reals as a function of natural numbers, zero outside the array.
-/
module

public import Idealize.ShloMosaic.Lib.Pipeline.ValueKit
public import Idealize.ShloMosaic.Lib.Pointwise

@[expose] public section

noncomputable section

namespace Cert.Entry

open Idealize.ShloMosaic

/-- The entries of an array of one axis. -/
def at1 {a : ℕ} (x : (⟨1, ![a]⟩ : Shape).Idx → EReal) (i : ℕ) : EReal :=
  if h : i < a then x (ix1 ⟨i, h⟩) else 0

/-- The entries of an array of two axes. -/
def at2 {a b : ℕ} (x : (⟨2, ![a, b]⟩ : Shape).Idx → EReal) (i j : ℕ) : EReal :=
  if h : i < a ∧ j < b then x (ix2 ⟨i, h.1⟩ ⟨j, h.2⟩) else 0

/-- The entries of an array of three axes. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- The entries of an array of three axes whose first two are read as one axis of rows. -/
def row {a b c : ℕ} (x : (⟨3, ![a, b, c]⟩ : Shape).Idx → EReal) (n k : ℕ) : EReal := at3 x (n / b) (n % b) k

theorem at1_eq {a : ℕ} (x : (⟨1, ![a]⟩ : Shape).Idx → EReal) (i : Fin a) : x (ix1 i) = at1 x i := by
  rw [at1, dif_pos i.isLt]

theorem at2_eq {a b : ℕ} (x : (⟨2, ![a, b]⟩ : Shape).Idx → EReal) (i : Fin a) (j : Fin b) : x (ix2 i j) = at2 x i j := by
  rw [at2, dif_pos ⟨i.isLt, j.isLt⟩]

theorem at3_eq {a b c : ℕ} (x : (⟨3, ![a, b, c]⟩ : Shape).Idx → EReal) (i : Fin a) (j : Fin b) (k : Fin c) :
    x (ix3 i j k) = at3 x i j k := by
  rw [at3, dif_pos ⟨i.isLt, j.isLt, k.isLt⟩]

theorem row_eq {a b c : ℕ} (x : (⟨3, ![a, b, c]⟩ : Shape).Idx → EReal) (i : Fin a) (j : Fin b) (k : Fin c) :
    x (ix3 i j k) = row x (b * i + j) k := by
  have hb : 0 < b := Nat.lt_of_le_of_lt (Nat.zero_le _) j.isLt
  rw [row, Nat.mul_add_div hb, Nat.div_eq_of_lt j.isLt, Nat.add_zero, Nat.mul_add_mod, Nat.mod_eq_of_lt j.isLt]
  exact at3_eq x i j k

end Cert.Entry

end
-- ==== Proof.DhClaim.lean ====
/-
  The claims about the input projection's backward pass: the run that names the kernel's result arrays, the reference's frame and
  the equality of the two over the extended reals.
-/
module

public import proofs.«01_k».proof.Defs
public import proofs.«01_k».proof.Proof.DhOut
public import proofs.«01_k».proof.Proof.DhRef
public import proofs.«01_k».proof.Proof.Entry
public import proofs.«01_k».proof.Proof.Gen.DhKernelIdeal
public import proofs.«01_k».proof.Proof.Gen.DhKernelIdeal.Frame
public import proofs.«01_k».proof.Proof.Gen.DhReferenceIdeal
public import proofs.«01_k».proof.Proof.Gen.DhReferenceIdeal.Run
public import proofs.«01_k».proof.Proof.Gen.DhReferenceIdeal.Read
public import Idealize.ShloMosaic.Adequacy
public import Idealize.ShloMosaic.Init

@[expose] public section

noncomputable section

namespace Cert.Proj

open Idealize.ShloMosaic Idealize.ShloMosaic.TcCoe Idealize.SL.Sem Cert.Entry

namespace K

open Cert.DhKernelIdeal Cert.DhKernelIdeal.Gen

/-- The run of the kernel's program with both result arrays named by the pipeline's final arrays, the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v52_0) = (dats (F := Ideal) m 0 c).arrAt 10 cfg0.N
      ∧ r.2.mem ((c : Thread nD τ).loc main_v52_1) = (dats (F := Ideal) m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 10, (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end K

/-- The reference runs, leaves its arguments as they are, and every counter ends at zero. -/
theorem frame_reference : quiescent_DhReferenceIdeal := fun m ρ _ =>
  (θ_run Cert.DhReferenceIdeal.defs _ _).mono
    (fun r h => ⟨fun c => (h c).2.2, sem_eq_zero_of_no_sems (by decide) r.2⟩)
    (Cert.DhReferenceIdeal.Value.run (F := Ideal) m ρ)

/-- Over the extended reals the kernel computes the gradient of the norm and of the input projection. -/
theorem value : algebraic_DhKernelIdeal_DhReferenceIdeal := by
  intro m ρ m' ρ' _ hagree
  refine ⟨fun c => fun y : Cert.DhKernelIdeal.S4096x1024.Idx => gradX
      (row (m ((c.tc : Thread Cert.DhKernelIdeal.nD Cert.DhKernelIdeal.τ).loc Cert.DhKernelIdeal.main_arg0)))
      (at1 (m ((c.tc : Thread Cert.DhKernelIdeal.nD Cert.DhKernelIdeal.τ).loc Cert.DhKernelIdeal.main_arg1)))
      (at2 (m ((c.tc : Thread Cert.DhKernelIdeal.nD Cert.DhKernelIdeal.τ).loc Cert.DhKernelIdeal.main_arg2)))
      (row (m ((c.tc : Thread Cert.DhKernelIdeal.nD Cert.DhKernelIdeal.τ).loc Cert.DhKernelIdeal.main_arg3)))
      (row (m ((c.tc : Thread Cert.DhKernelIdeal.nD Cert.DhKernelIdeal.τ).loc Cert.DhKernelIdeal.main_arg4))) (y 0) (y 1),
    fun c => fun y : Cert.DhKernelIdeal.S1x1024.Idx => gradN
      (row (m ((c.tc : Thread Cert.DhKernelIdeal.nD Cert.DhKernelIdeal.τ).loc Cert.DhKernelIdeal.main_arg0)))
      (at2 (m ((c.tc : Thread Cert.DhKernelIdeal.nD Cert.DhKernelIdeal.τ).loc Cert.DhKernelIdeal.main_arg2)))
      (row (m ((c.tc : Thread Cert.DhKernelIdeal.nD Cert.DhKernelIdeal.τ).loc Cert.DhKernelIdeal.main_arg3))) (y 1), ?_, ?_⟩
  · exact (θ_run Cert.DhKernelIdeal.defs _ _).mono
      (fun r h c => ⟨(h c).1.trans (K.final10 ⟨row_eq _, at1_eq _, at2_eq _, row_eq _, row_eq _⟩), (h c).2.1.trans (K.final11 ⟨row_eq _, at1_eq _, at2_eq _, row_eq _, row_eq _⟩), (h c).2.2⟩)
      (K.run_arrays m ρ)
  · refine (θ_run Cert.DhReferenceIdeal.defs _ _).mono (fun r h c => ?_) (Cert.DhReferenceIdeal.Value.run (F := Ideal) m' ρ')
    obtain ⟨e0, e1, e2, e3, e4⟩ := hagree c
    refine ⟨(h c).1.trans ((Cert.DhReferenceIdeal.Read.val_main_v39_eq m' c).trans ?_),
      (h c).2.1.trans ((Cert.DhReferenceIdeal.Read.val_main_v40_eq _ _ _).trans ?_), (h c).2.2⟩
    · rw [e0, e1, e2, e3, e4]
      funext y
      idx_vars y
      exact Cert.Proj.R.v39 (row_eq _) (at1_eq _) (at2_eq _) (row_eq _) (row_eq _) _ _
    · rw [e0, e2, e3]
      funext y
      idx_vars y
      obtain rfl : y0 = 0 := Subsingleton.elim _ _
      exact Cert.Proj.R.v40 (row_eq _) (at2_eq _) (row_eq _) _

end Cert.Proj

end
-- ==== Proof.DwReal.lean ====
/-
  The gradient of the input projection's weight over the extended reals: the normed rows times the gradient's columns.
-/
module

public import proofs.«01_k».proof.Proof.Lay
public import proofs.«01_k».proof.Proof.Norm
public import Idealize.ShloMosaic.Lib.Claim

@[expose] public section

noncomputable section

namespace Cert.Proj

open Idealize.ShloMosaic

/-- One over the root of the mean of a row's squares and the small number. -/
def root (x : ℕ → EReal) : EReal :=
  Ideal.rsqrt (Ideal.div (∑ k : Fin 1024, x k * x k) (Ideal.ofBits .f32 0x44800000#32) + Ideal.ofBits .f32 0x358637BD#32)

/-- A row after the norm. -/
def normed (X : ℕ → ℕ → EReal) (w : ℕ → EReal) (n k : ℕ) : EReal := X n k * root (X n) * w k

/-- The gradient of the projection's weight. -/
def gradW (X : ℕ → ℕ → EReal) (w : ℕ → EReal) (P : ℕ → ℕ → EReal) (k q : ℕ) : EReal := ∑ n : Fin 4096, normed X w n k * P n q

/-- Laying columns out commutes with a sum of multiples. -/
theorem lay_sum (s : Finset ℕ) (h : ℕ → EReal) (P : ℕ → ℕ → EReal) (q : ℕ) :
    ∑ n ∈ s, h n * lay (P n) q = lay (fun e => ∑ n ∈ s, h n * P n e) q := by
  unfold lay
  split_ifs <;> simp

/-- The gradient laid out is the sum over all rows of the laid out columns. -/
theorem lay_gradW (X : ℕ → ℕ → EReal) (w : ℕ → EReal) (P : ℕ → ℕ → EReal) (k q : ℕ) :
    ∑ n ∈ Finset.range 4096, normed X w n k * lay (P n) q = lay (gradW X w P k) q := by
  rw [lay_sum (Finset.range 4096) (fun n => normed X w n k) P q]
  refine congrArg (lay · q) (funext fun e => ?_)
  unfold gradW
  rw [Finset.sum_range]

end Cert.Proj

end
-- ==== Proof.DwHost.lean ====
/-
  The entry arrays of the input projection's weight gradient: the normed rows and the six sources of the gradient's columns.
-/
module

public import proofs.«01_k».proof.Proof.DwReal
public import proofs.«01_k».proof.Proof.Gen.DwKernelIdeal.Frame.Runs
public import Idealize.ShloMosaic.Lib.Pipeline.ValueKit
public import Idealize.ShloMosaic.Lib.Pointwise
public import Idealize.ShloMosaic.Lib.Claim

@[expose] public section

set_option maxRecDepth 16384

noncomputable section

namespace Cert.Proj.DwK

open Idealize.ShloMosaic Idealize.ShloMosaic.TcCoe Idealize.SL.Sem Cert.DwKernelIdeal Cert.DwKernelIdeal.Gen
open Idealize.ShloMosaic.Pipeline (Dat)

variable (m : (ℓ : Loc nD τ sig) → Buf (Elt Ideal) ℓ)

/-- Every entry of the three arguments is the number that the functions give at its row and column. -/
structure Entries (a0 : Vec Ideal S2x2048x1024 .f32) (a1 : Vec Ideal S1024 .f32) (a2 : Vec Ideal S2x2048x3992 .f32)
    (X : ℕ → ℕ → EReal) (w : ℕ → EReal) (P : ℕ → ℕ → EReal) : Prop where
  x : ∀ b t k, a0 (ix3 b t k) = X (2048 * b + t) k
  n : ∀ k, a1 (ix1 k) = w k
  p : ∀ b t q, a2 (ix3 b t q) = P (2048 * b + t) q

variable {m} {c : Dev nD} {X : ℕ → ℕ → EReal} {w : ℕ → EReal} {P : ℕ → ℕ → EReal}
  (R : Entries (m ((c : Thread nD τ).loc main_arg0)) (m ((c : Thread nD τ).loc main_arg1)) (m ((c : Thread nD τ).loc main_arg2)) X w P)
include R

/-- The entry array of the normed rows, transposed. -/
theorem V44 (k : Fin 1024) (n : Fin 4096) :
    V (F := Ideal) m c main_v44 (ix2 k n) = normed X w n k := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.x, R.n]
  simp only [Nat.div_add_mod]
  rfl

/-- The entry array of one source: groups 0 to 11. -/
theorem V39 (g : Fin 12) (n : Fin 4096) (l : Fin 64) :
    V (F := Ideal) m c main_v39 (ix3 g n l) = lay (P n) (64 * g + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 12 to 15. -/
theorem V40 (g : Fin 4) (n : Fin 4096) (l : Fin 64) :
    V (F := Ideal) m c main_v40 (ix3 g n l) = lay (P n) (64 * (12 + g) + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 32 to 47. -/
theorem V41 (g : Fin 16) (n : Fin 4096) (l : Fin 64) :
    V (F := Ideal) m c main_v41 (ix3 g n l) = lay (P n) (64 * (32 + g) + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 48 to 63. -/
theorem V42 (g : Fin 16) (n : Fin 4096) (l : Fin 64) :
    V (F := Ideal) m c main_v42 (ix3 g n l) = lay (P n) (64 * (48 + g) + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

/-- The entry array of one source: groups 64 to 67. -/
theorem V43 (g : Fin 4) (n : Fin 4096) (l : Fin 64) :
    V (F := Ideal) m c main_v43 (ix3 g n l) = lay (P n) (64 * (64 + g) + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.p]
  simp only [Nat.div_add_mod]
  exact lay_ladder _ _ (by omega)

set_option maxHeartbeats 1600000 in
/-- The entry array of the third source: groups 16 to 31 (and two more that are not read). -/
theorem V38 (g : Fin 18) (h : (g : ℕ) < 16) (n : Fin 4096) (l : Fin 64) :
    V (F := Ideal) m c main_v38 (ix3 g n l) = lay (P n) (64 * (16 + g) + l) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  rw [dif_pos h]
  after_results_simp
  pointwise [R.p]
  simp only [Nat.div_add_mod]
  exact lay_ladder _ _ (by omega)

end Cert.Proj.DwK

end
-- ==== Proof.DwStep.lean ====
/-
  What one grid point of the input projection's weight gradient does to the accumulator: the block of columns of its turn gets the
  product of the normed rows with four groups of the gradient's columns added, every other block stays.
-/
module

public import proofs.«01_k».proof.Proof.Gen.DwKernelIdeal.Frame
public import Idealize.ShloMosaic.Lib.Pipeline.ValueKit
public import Idealize.ShloMosaic.Lib.WritesUnit
public import Idealize.ShloMosaic.Lib.Pointwise
public import Idealize.ShloMosaic.Lib.Claim

@[expose] public section

set_option maxRecDepth 16384

noncomputable section

namespace Cert.Proj.DwK

open Idealize.ShloMosaic Idealize.ShloMosaic.TcCoe Idealize.SL.Sem Cert.DwKernelIdeal Cert.DwKernelIdeal.Gen
open Idealize.ShloMosaic.Pipeline (Dat)

variable (m : (ℓ : Loc nD τ sig) → Buf (Elt Ideal) ℓ) (c : Dev nD)

/-- Four groups of 64 columns side by side, read at lane `l`. -/
def lane (B : Vec Ideal S4x1024x64 .bf16) (r : Fin 1024) (l : Fin 256) : EReal :=
  B (ix3 ⟨l / 64, by omega⟩ r ⟨l % 64, by omega⟩)

/-- The product that one point adds. -/
def prod (H : Vec Ideal S1024x1024 .bf16) (B : Vec Ideal S4x1024x64 .bf16) (k : Fin 1024) (l : Fin 256) : EReal :=
  ∑ r : Fin 1024, H (ix2 k r) * lane B r l

/-- The accumulator after a point whose turn is the block `q`. -/
def plus (q : ℕ) (A : Vec Ideal S17x1024x256 .f32) (H : Vec Ideal S1024x1024 .bf16) (B : Vec Ideal S4x1024x64 .bf16)
    (j : Fin 17) (k : Fin 1024) (l : Fin 256) : EReal :=
  A (ix3 j k l) + if j.val = q then prod H B k l else 0

/-- What the point before left in the accumulator. -/
abbrev prev (t : Fin cfg0.N) : Vec Ideal S17x1024x256 .f32 :=
  (outsAt0 (F := Ideal) m c (t.val - 1) (Nat.lt_of_le_of_lt (Nat.sub_le _ _) t.isLt)).1

/-- The accumulator after a point. -/
abbrev acc (t : Fin cfg0.N) : Vec Ideal S17x1024x256 .f32 := (outsAt0 (F := Ideal) m c t.val t.isLt).1

/-- Where every source's store and load begin. -/
theorem off_val : ∀ t : Fin cfg0.N, k0_off1 (grid0.coords t) = ![t.val % 17, 0, 0] ∧ k0_off2 (grid0.coords t) = ![t.val % 17, 0, 0]
    ∧ k0_off3 (grid0.coords t) = ![t.val % 17, 0, 0] ∧ k0_off4 (grid0.coords t) = ![t.val % 17, 0, 0]
    ∧ k0_off5 (grid0.coords t) = ![t.val % 17, 0, 0] ∧ k0_off6 (grid0.coords t) = ![t.val % 17, 0, 0] :=
  (by decide +kernel : ∀ t : Fin grid0.N, _)

/-- A load of the block `q`. -/
theorem ld_block (A : Vec Ideal S17x1024x256 .f32) {off : Fin 3 → ℕ} (inb) {q : Fin 17} (h : off = ![q.val, 0, 0]) (k : Fin 1024)
    (l : Fin 256) : View.ld A (Rect.unit (s := S17x1024x256) off ![1, 1024, 256] inb) (ix3 0 k l) = A (ix3 q k l) := by
  subst h
  refine View.ld_unit_apply_of A _ _ inb _ _ fun a => ?_
  match a with
  | ⟨0, _⟩ => simp
  | ⟨1, _⟩ => simp
  | ⟨2, _⟩ => simp

/-- A store of the block `q` over the accumulator `A`. -/
theorem read_block {sg : RefSig} {κ : Kind} {sp : Space} (v : View sg κ sp S17x1024x256 .f32) (f : v.ty.Contents (Elt Ideal))
    {off : Fin 3 → ℕ} (inb) {q : ℕ} (h : off = ![q, 0, 0]) (w : Vec Ideal S1x1024x256 .f32) (L : List (View.Piece (Elt Ideal) S17x1024x256 .f32))
    (j : Fin 17) (k : Fin 1024) (l : Fin 256) :
    v.read (Elt Ideal) (v.writes (Elt Ideal) f ((⟨Rect.unit (s := S17x1024x256) off ![1, 1024, 256] inb, w⟩ : View.Piece (Elt Ideal) S17x1024x256 .f32) :: L)) (ix3 j k l)
      = if j.val = q then w (ix3 0 k l) else v.read (Elt Ideal) (v.writes (Elt Ideal) f L) (ix3 j k l) := by
  by_cases e : j.val = q
  · rw [if_pos e]
    refine View.read_writes_cons_unit_of_mem v f inb w L (ix3 j k l) (ix3 0 k l) h fun a => ?_
    match a with
    | ⟨0, _⟩ => simp [e]
    | ⟨1, _⟩ => simp
    | ⟨2, _⟩ => simp
  · rw [if_neg e]
    refine View.read_writes_cons_unit_of_not_mem v f inb w L (ix3 j k l) h 0 ?_
    simp
    omega

/-- The same over what earlier stores left. -/
theorem canon_block {off : Fin 3 → ℕ} (inb) {q : ℕ} (h : off = ![q, 0, 0]) (w : Vec Ideal S1x1024x256 .f32)
    (L : List (View.Piece (Elt Ideal) S17x1024x256 .f32)) (j : Fin 17) (k : Fin 1024) (l : Fin 256) :
    View.canon ((⟨Rect.unit (s := S17x1024x256) off ![1, 1024, 256] inb, w⟩ : View.Piece (Elt Ideal) S17x1024x256 .f32) :: L) (ix3 j k l)
      = if j.val = q then w (ix3 0 k l) else View.canon L (ix3 j k l) := by
  subst h
  by_cases e : j.val = q
  · rw [if_pos e]
    refine Eq.trans (congrArg _ ?_) (View.canon_cons_emb (Rect.unit (s := S17x1024x256) ![q, 0, 0] ![1, 1024, 256] inb) w L (ix3 0 k l))
    refine funext fun a => Fin.ext ?_
    match a with
    | ⟨0, _⟩ => exact Eq.trans (by simp [e]) (Rect.idx_unit_val (s := S17x1024x256) ![q, 0, 0] ![1, 1024, 256] inb (ix3 0 k l) 0).symm
    | ⟨1, _⟩ => exact Eq.trans (by simp) (Rect.idx_unit_val (s := S17x1024x256) ![q, 0, 0] ![1, 1024, 256] inb (ix3 0 k l) 1).symm
    | ⟨2, _⟩ => exact Eq.trans (by simp) (Rect.idx_unit_val (s := S17x1024x256) ![q, 0, 0] ![1, 1024, 256] inb (ix3 0 k l) 2).symm
  · rw [if_neg e]
    refine View.canon_cons_of_not_mem _ _ fun hm => e ?_
    have := (Rect.mem_set_unit (inb := inb)).mp hm 0
    simp at this
    omega

/-- The accumulator after the store of its old block with the product added. -/
theorem plus_block {q : ℕ} {A : Vec Ideal S17x1024x256 .f32} {H : Vec Ideal S1024x1024 .bf16} {B : Vec Ideal S4x1024x64 .bf16}
    {j : Fin 17} {k : Fin 1024} {l : Fin 256} {w : EReal} (h : ∀ e : j.val = q, w = A (ix3 j k l) + prod H B k l) :
    (if j.val = q then w else A (ix3 j k l)) = plus q A H B j k l := by
  unfold plus
  by_cases e : j.val = q
  · rw [if_pos e, if_pos e, h e]
  · rw [if_neg e, if_neg e, add_zero]

/-- The scratch array read whole is what was put there. -/
theorem kept (h : scM0_0.IsWhole) (A : Vec Ideal S17x1024x256 .f32) :
    View.read (Elt Ideal) (View.whole cc0_scratch0) (h.unread A) = A := h.read_unread A

/-! Each source's product, its four groups loaded one by one. -/

theorem pay4_ld (A : Vec Ideal S1x1024x256 .f32) (B : Vec Ideal S4x1024x64 .bf16) (H : Vec Ideal S1024x1024 .bf16)
    (k : Fin 1024) (l : Fin 256) :
    k0_pay4 (F := Ideal) H (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay4, k0_pay3, prod, lane]
  refine congrArg (A (ix3 0 k l) + ·) (Finset.sum_congr rfl fun x _ => congrArg (H (ix2 k x) * ·) ?_)
  split_ifs <;> (congr 2 <;> (apply Fin.ext; simp; omega))

theorem pay5_ld (A : Vec Ideal S1x1024x256 .f32) (B : Vec Ideal S4x1024x64 .bf16) (H : Vec Ideal S1024x1024 .bf16)
    (k : Fin 1024) (l : Fin 256) :
    k0_pay5 (F := Ideal) H (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay5, k0_pay3, prod, lane]
  refine congrArg (A (ix3 0 k l) + ·) (Finset.sum_congr rfl fun x _ => congrArg (H (ix2 k x) * ·) ?_)
  split_ifs <;> (congr 2 <;> (apply Fin.ext; simp; omega))

theorem pay6_ld (A : Vec Ideal S1x1024x256 .f32) (B : Vec Ideal S4x1024x64 .bf16) (H : Vec Ideal S1024x1024 .bf16)
    (k : Fin 1024) (l : Fin 256) :
    k0_pay6 (F := Ideal) H (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay6, k0_pay3, prod, lane]
  refine congrArg (A (ix3 0 k l) + ·) (Finset.sum_congr rfl fun x _ => congrArg (H (ix2 k x) * ·) ?_)
  split_ifs <;> (congr 2 <;> (apply Fin.ext; simp; omega))

theorem pay7_ld (A : Vec Ideal S1x1024x256 .f32) (B : Vec Ideal S4x1024x64 .bf16) (H : Vec Ideal S1024x1024 .bf16)
    (k : Fin 1024) (l : Fin 256) :
    k0_pay7 (F := Ideal) H (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay7, k0_pay3, prod, lane]
  refine congrArg (A (ix3 0 k l) + ·) (Finset.sum_congr rfl fun x _ => congrArg (H (ix2 k x) * ·) ?_)
  split_ifs <;> (congr 2 <;> (apply Fin.ext; simp; omega))

theorem pay8_ld (A : Vec Ideal S1x1024x256 .f32) (B : Vec Ideal S4x1024x64 .bf16) (H : Vec Ideal S1024x1024 .bf16)
    (k : Fin 1024) (l : Fin 256) :
    k0_pay8 (F := Ideal) H (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay8, k0_pay3, prod, lane]
  refine congrArg (A (ix3 0 k l) + ·) (Finset.sum_congr rfl fun x _ => congrArg (H (ix2 k x) * ·) ?_)
  split_ifs <;> (congr 2 <;> (apply Fin.ext; simp; omega))

theorem pay1_ld (A : Vec Ideal S1x1024x256 .f32) (B : Vec Ideal S4x1024x64 .bf16) (H : Vec Ideal S1024x1024 .bf16)
    (k : Fin 1024) (l : Fin 256) :
    k0_pay1 (F := Ideal) (k0_pay3 (F := Ideal) H) (View.ld B (Rect.unit ![0, 0, 0] ![1, 1024, 64] inb_S4x1024x64_S1x1024x64_0_0_0))
      (View.ld B (Rect.unit ![1, 0, 0] ![1, 1024, 64] inb_S4x1024x64_S1x1024x64_1_0_0))
      (View.ld B (Rect.unit ![2, 0, 0] ![1, 1024, 64] inb_S4x1024x64_S1x1024x64_2_0_0))
      (View.ld B (Rect.unit ![3, 0, 0] ![1, 1024, 64] inb_S4x1024x64_S1x1024x64_3_0_0)) A (ix3 0 k l) = A (ix3 0 k l) + prod H B k l := by
  pointwise [k0_pay1, k0_pay3, prod, lane]
  refine congrArg (A (ix3 0 k l) + ·) (Finset.sum_congr rfl fun x _ => congrArg (H (ix2 k x) * ·) ?_)
  split_ifs <;> (congr 2 <;> (apply Fin.ext; simp; omega))

theorem step_B (t : Fin cfg0.N) (h : 1 ≤ t.val % 17 ∧ t.val % 17 ≤ 2 ∨ t.val % 17 = 0 ∧ ¬ t.val % 68 = 0) (j : Fin 17) (k : Fin 1024) (l : Fin 256) :
    acc m c t (ix3 j k l) = plus (t.val % 17) (prev m c t) (iblk m c 0 t) (iblk m c 1 t) j k l := by
  unfold acc
  rw [outsAt0_B m c t (by omega) (by omega) (by omega) (by omega) (by omega) (by omega) (by omega) (by omega) ]
  frame_out
  refine (read_block _ _ _ (off_val t).1 _ _ j k l).trans ?_
  rw [View.writes_nil, kept]
  refine plus_block fun e => ?_
  refine (pay4_ld _ _ _ k l).trans ?_
  exact congrArg (· + _) (ld_block _ _ ((off_val t).1.trans (by rw [e])) k l)

theorem step_C (t : Fin cfg0.N) (h : t.val % 17 = 3) (j : Fin 17) (k : Fin 1024) (l : Fin 256) :
    acc m c t (ix3 j k l) = plus (t.val % 17) (prev m c t) (iblk m c 0 t) (iblk m c 2 t) j k l := by
  unfold acc
  rw [outsAt0_C m c t (by omega) (by omega) (by omega) (by omega) (by omega) (by omega) (by omega) (by omega) ]
  frame_out
  refine (read_block _ _ _ (off_val t).2.1 _ _ j k l).trans ?_
  rw [View.writes_nil, kept]
  refine plus_block fun e => ?_
  refine (pay5_ld _ _ _ k l).trans ?_
  exact congrArg (· + _) (ld_block _ _ ((off_val t).2.1.trans (by rw [e])) k l)

theorem step_D (t : Fin cfg0.N) (h : 4 ≤ t.val % 17 ∧ t.val % 17 ≤ 7) (j : Fin 17) (k : Fin 1024) (l : Fin 256) :
    acc m c t (ix3 j k l) = plus (t.val % 17) (prev m c t) (iblk m c 0 t) (X0_3 m c t) j k l := by
  unfold acc
  rw [outsAt0_D m c t (by omega) (by omega) (by omega) (by omega) (by omega) (by omega) (by omega) (by omega) ]
  frame_out
  refine (read_block _ _ _ (off_val t).2.2.1 _ _ j k l).trans ?_
  rw [View.writes_nil, kept]
  refine plus_block fun e => ?_
  refine (pay6_ld _ _ _ k l).trans ?_
  exact congrArg (· + _) (ld_block _ _ ((off_val t).2.2.1.trans (by rw [e])) k l)

theorem step_E (t : Fin cfg0.N) (h : 8 ≤ t.val % 17 ∧ t.val % 17 ≤ 11) (j : Fin 17) (k : Fin 1024) (l : Fin 256) :
    acc m c t (ix3 j k l) = plus (t.val % 17) (prev m c t) (iblk m c 0 t) (iblk m c 4 t) j k l := by
  unfold acc
  rw [outsAt0_E m c t (by omega) (by omega) (by omega) (by omega) (by omega) (by omega) (by omega) (by omega) ]
  frame_out
  refine (read_block _ _ _ (off_val t).2.2.2.1 _ _ j k l).trans ?_
  rw [View.writes_nil, kept]
  refine plus_block fun e => ?_
  refine (pay7_ld _ _ _ k l).trans ?_
  exact congrArg (· + _) (ld_block _ _ ((off_val t).2.2.2.1.trans (by rw [e])) k l)

theorem step_F (t : Fin cfg0.N) (h : 12 ≤ t.val % 17 ∧ t.val % 17 ≤ 15) (j : Fin 17) (k : Fin 1024) (l : Fin 256) :
    acc m c t (ix3 j k l) = plus (t.val % 17) (prev m c t) (iblk m c 0 t) (iblk m c 5 t) j k l := by
  unfold acc
  rw [outsAt0_F m c t (by omega) (by omega) (by omega) (by omega) (by omega) (by omega) (by omega) (by omega) ]
  frame_out
  refine (read_block _ _ _ (off_val t).2.2.2.2.1 _ _ j k l).trans ?_
  rw [View.writes_nil, kept]
  refine plus_block fun e => ?_
  refine (pay8_ld _ _ _ k l).trans ?_
  exact congrArg (· + _) (ld_block _ _ ((off_val t).2.2.2.2.1.trans (by rw [e])) k l)

theorem step_G (t : Fin cfg0.N) (h : t.val % 17 = 16 ∧ ¬ t.val % 68 = 67) (j : Fin 17) (k : Fin 1024) (l : Fin 256) :
    acc m c t (ix3 j k l) = plus (t.val % 17) (prev m c t) (iblk m c 0 t) (iblk m c 6 t) j k l := by
  unfold acc
  rw [outsAt0_G m c t (by omega) (by omega) (by omega) (by omega) (by omega) (by omega) (by omega) (by omega) ]
  frame_out
  refine (read_block _ _ _ (off_val t).2.2.2.2.2 _ _ j k l).trans ?_
  rw [View.writes_nil, kept]
  refine plus_block fun e => ?_
  refine (pay1_ld _ _ _ k l).trans ?_
  exact congrArg (· + _) (ld_block _ _ ((off_val t).2.2.2.2.2.trans (by rw [e])) k l)

theorem step_H (t : Fin cfg0.N) (h : t.val % 68 = 67) (j : Fin 17) (k : Fin 1024) (l : Fin 256) :
    acc m c t (ix3 j k l) = plus (t.val % 17) (prev m c t) (iblk m c 0 t) (iblk m c 6 t) j k l := by
  unfold acc
  rw [outsAt0_H m c t (by omega) (by omega) (by omega) (by omega) (by omega) (by omega) (by omega) (by omega) ]
  frame_out
  refine (read_block _ _ _ (off_val t).2.2.2.2.2 _ _ j k l).trans ?_
  rw [View.writes_nil, kept]
  refine plus_block fun e => ?_
  refine (pay1_ld _ _ _ k l).trans ?_
  exact congrArg (· + _) (ld_block _ _ ((off_val t).2.2.2.2.2.trans (by rw [e])) k l)

/-- The first point starts from zeros. -/
theorem step_A (t : Fin cfg0.N) (h : t.val % 68 = 0) (j : Fin 17) (k : Fin 1024) (l : Fin 256) :
    acc m c t (ix3 j k l) = plus (t.val % 17) (k0_pay2 (F := Ideal)) (iblk m c 0 t) (iblk m c 1 t) j k l := by
  unfold acc
  rw [outsAt0_A m c t (by omega) (by omega) (by omega) (by omega) (by omega) (by omega) (by omega) (by omega) ]
  frame_out
  refine (canon_block _ (off_val t).1 _ _ j k l).trans ?_
  rw [show ∀ inb, View.canon [(⟨Rect.unit (s := S17x1024x256) ![0, 0, 0] ![17, 1024, 256] inb, k0_pay2 (F := Ideal)⟩ :
    View.Piece (Elt Ideal) S17x1024x256 .f32)] = k0_pay2 (F := Ideal) from fun inb => View.canon_cons_unit_lit inb _ _ (by decide)]
  refine plus_block fun e => ?_
  refine (pay4_ld _ _ _ k l).trans ?_
  exact congrArg (· + _) (ld_block _ _ ((off_val t).1.trans (by rw [e])) k l)

/-- The last point copies the accumulator to the result. -/
theorem out_H (t : Fin cfg0.N) (h : t.val % 68 = 67) : (outsAt0 (F := Ideal) m c t.val t.isLt).2 = acc m c t := by
  unfold acc
  rw [outsAt0_H m c t (by omega) (by omega) (by omega) (by omega) (by omega) (by omega) (by omega) (by omega) ]
  unfold sout0_H_0 hbw0_H_0
  dsimp only
  unfold kernelRun0_H
  dsimp only
  unfold kernelRun0_H.sl.dma8
  exact View.write_whole_univ _ _ _

end Cert.Proj.DwK

end
-- ==== Proof.DwAcc.lean ====
/-
  The accumulator of the input projection's weight gradient after each grid point, and the result array.
-/
module

public import proofs.«01_k».proof.Proof.DwHost
public import proofs.«01_k».proof.Proof.DwStep

@[expose] public section

set_option maxRecDepth 16384

noncomputable section

namespace Cert.Proj.DwK

open Idealize.ShloMosaic Idealize.ShloMosaic.TcCoe Idealize.SL.Sem Cert.DwKernelIdeal Cert.DwKernelIdeal.Gen
open Idealize.ShloMosaic.Pipeline (Dat)

/-- The windows' block indices at each grid point. -/
theorem idx_val : ∀ t : Fin cfg0.N, win0_0.index t = ![0, t.val / 17] ∧ win0_1.index t = ![min (t.val % 17) 2, t.val / 17, 0]
    ∧ win0_2.index t = ![0, t.val / 17, 0] ∧ win0_3.index t = ![min (t.val % 17 - 4) 3, t.val / 17, 0]
    ∧ win0_4.index t = ![min (t.val % 17 - 8) 3, t.val / 17, 0] ∧ win0_5.index t = ![min (t.val % 17 - 12) 3, t.val / 17, 0]
    ∧ win0_6.index t = ![0, t.val / 17, 0] :=
  (by decide +kernel : ∀ t : Fin grid0.N, _)

/-- How many row tiles block `j` has seen after point `n`. -/
def seen (n j : ℕ) : ℕ := n / 17 + if j ≤ n % 17 then 1 else 0

theorem seen_zero (j : ℕ) : seen 0 j = if j = 0 then 1 else 0 := by
  unfold seen
  split_ifs <;> omega

theorem seen_same {n j : ℕ} (hn : 0 < n) (hj : j < 17) (h : ¬ j = n % 17) : seen n j = seen (n - 1) j := by
  unfold seen
  split_ifs <;> omega

theorem seen_turn {n j : ℕ} (hn : 0 < n) (h : j = n % 17) : seen (n - 1) j = n / 17 ∧ seen n j = n / 17 + 1 := by
  unfold seen
  split_ifs <;> omega

/-- The sum over the rows of the first `u` row tiles. -/
def upto (X : ℕ → ℕ → EReal) (w : ℕ → EReal) (P : ℕ → ℕ → EReal) (u k q : ℕ) : EReal :=
  ∑ r ∈ Finset.range (1024 * u), normed X w r k * lay (P r) q

theorem upto_succ (X : ℕ → ℕ → EReal) (w : ℕ → EReal) (P : ℕ → ℕ → EReal) (u k q : ℕ) :
    upto X w P (u + 1) k q = upto X w P u k q + ∑ r : Fin 1024, normed X w (1024 * u + r) k * lay (P (1024 * u + r)) q := by
  unfold upto
  rw [Nat.mul_add, Nat.mul_one, Finset.sum_range_add, Finset.sum_range (n := 1024)]

variable {m : (ℓ : Loc nD τ sig) → Buf (Elt Ideal) ℓ}
  {c : Dev nD} {X : ℕ → ℕ → EReal} {w : ℕ → EReal} {P : ℕ → ℕ → EReal}
  (R : Entries (m ((c : Thread nD τ).loc main_arg0)) (m ((c : Thread nD τ).loc main_arg1)) (m ((c : Thread nD τ).loc main_arg2)) X w P)
include R

theorem blk0 (t : Fin cfg0.N) (k r : Fin 1024) :
    iblk (F := Ideal) m c 0 t (ix2 k r) = normed X w (1024 * (t.val / 17) + r) k := by
  have ht : t.val < 68 := t.isLt
  have E : iblk (F := Ideal) m c 0 t (ix2 k r) = V (F := Ideal) m c main_v44 (ix2 k ⟨1024 * (t.val / 17) + r, by omega⟩) := by
    blk_ext [iblk, idx_val t]
  rw [E, V44 R]

theorem lane1 (t : Fin cfg0.N) (h : t.val % 17 ≤ 2) (r : Fin 1024) (l : Fin 256) :
    lane (iblk (F := Ideal) m c 1 t) r l = lay (P (1024 * (t.val / 17) + r)) (256 * (t.val % 17) + l) := by
  have ht : t.val < 68 := t.isLt
  have E : iblk (F := Ideal) m c 1 t (ix3 ⟨l / 64, by omega⟩ r ⟨l % 64, by omega⟩)
      = V (F := Ideal) m c main_v39 (ix3 ⟨4 * (t.val % 17) + l / 64, by omega⟩ ⟨1024 * (t.val / 17) + r, by omega⟩ ⟨l % 64, by omega⟩) := by
    blk_ext [iblk, idx_val t]
  unfold lane
  rw [E, V39 R]
  dsimp only
  exact congrArg (lay _) (by omega)

theorem lane2 (t : Fin cfg0.N) (h : t.val % 17 = 3) (r : Fin 1024) (l : Fin 256) :
    lane (iblk (F := Ideal) m c 2 t) r l = lay (P (1024 * (t.val / 17) + r)) (256 * (t.val % 17) + l) := by
  have ht : t.val < 68 := t.isLt
  have E : iblk (F := Ideal) m c 2 t (ix3 ⟨l / 64, by omega⟩ r ⟨l % 64, by omega⟩)
      = V (F := Ideal) m c main_v40 (ix3 ⟨4 * (t.val % 17 - 3) + l / 64, by omega⟩ ⟨1024 * (t.val / 17) + r, by omega⟩ ⟨l % 64, by omega⟩) := by
    blk_ext [iblk, idx_val t]
  unfold lane
  rw [E, V40 R]
  dsimp only
  exact congrArg (lay _) (by omega)

theorem lane3 (t : Fin cfg0.N) (h : 4 ≤ t.val % 17 ∧ t.val % 17 ≤ 7) (r : Fin 1024) (l : Fin 256) :
    lane (X0_3 (F := Ideal) m c t) r l = lay (P (1024 * (t.val / 17) + r)) (256 * (t.val % 17) + l) := by
  have ht : t.val < 68 := t.isLt
  have E : X0_3 (F := Ideal) m c t (ix3 ⟨l / 64, by omega⟩ r ⟨l % 64, by omega⟩)
      = V (F := Ideal) m c main_v38 (ix3 ⟨4 * (t.val % 17 - 4) + l / 64, by omega⟩ ⟨1024 * (t.val / 17) + r, by omega⟩ ⟨l % 64, by omega⟩) := by
    unfold X0_3 Pipeline.Window.fill
    rw [dif_pos (moved0_3 t _)]
    blk_ext [iblk, idx_val t]
  unfold lane
  rw [E, V38 R _ (by dsimp only; omega)]
  dsimp only
  exact congrArg (lay _) (by omega)

theorem lane4 (t : Fin cfg0.N) (h : 8 ≤ t.val % 17 ∧ t.val % 17 ≤ 11) (r : Fin 1024) (l : Fin 256) :
    lane (iblk (F := Ideal) m c 4 t) r l = lay (P (1024 * (t.val / 17) + r)) (256 * (t.val % 17) + l) := by
  have ht : t.val < 68 := t.isLt
  have E : iblk (F := Ideal) m c 4 t (ix3 ⟨l / 64, by omega⟩ r ⟨l % 64, by omega⟩)
      = V (F := Ideal) m c main_v41 (ix3 ⟨4 * (t.val % 17 - 8) + l / 64, by omega⟩ ⟨1024 * (t.val / 17) + r, by omega⟩ ⟨l % 64, by omega⟩) := by
    blk_ext [iblk, idx_val t]
  unfold lane
  rw [E, V41 R]
  dsimp only
  exact congrArg (lay _) (by omega)

theorem lane5 (t : Fin cfg0.N) (h : 12 ≤ t.val % 17 ∧ t.val % 17 ≤ 15) (r : Fin 1024) (l : Fin 256) :
    lane (iblk (F := Ideal) m c 5 t) r l = lay (P (1024 * (t.val / 17) + r)) (256 * (t.val % 17) + l) := by
  have ht : t.val < 68 := t.isLt
  have E : iblk (F := Ideal) m c 5 t (ix3 ⟨l / 64, by omega⟩ r ⟨l % 64, by omega⟩)
      = V (F := Ideal) m c main_v42 (ix3 ⟨4 * (t.val % 17 - 12) + l / 64, by omega⟩ ⟨1024 * (t.val / 17) + r, by omega⟩ ⟨l % 64, by omega⟩) := by
    blk_ext [iblk, idx_val t]
  unfold lane
  rw [E, V42 R]
  dsimp only
  exact congrArg (lay _) (by omega)

theorem lane6 (t : Fin cfg0.N) (h : t.val % 17 = 16) (r : Fin 1024) (l : Fin 256) :
    lane (iblk (F := Ideal) m c 6 t) r l = lay (P (1024 * (t.val / 17) + r)) (256 * (t.val % 17) + l) := by
  have ht : t.val < 68 := t.isLt
  have E : iblk (F := Ideal) m c 6 t (ix3 ⟨l / 64, by omega⟩ r ⟨l % 64, by omega⟩)
      = V (F := Ideal) m c main_v43 (ix3 ⟨4 * (t.val % 17 - 16) + l / 64, by omega⟩ ⟨1024 * (t.val / 17) + r, by omega⟩ ⟨l % 64, by omega⟩) := by
    blk_ext [iblk, idx_val t]
  unfold lane
  rw [E, V43 R]
  dsimp only
  exact congrArg (lay _) (by omega)

/-- A point's product is the sum over its row tile. -/
theorem prod_value (t : Fin cfg0.N) {B : Vec Ideal S4x1024x64 .bf16}
    (h : ∀ r l, lane B r l = lay (P (1024 * (t.val / 17) + r)) (256 * (t.val % 17) + l)) (k : Fin 1024) (l : Fin 256) :
    prod (iblk (F := Ideal) m c 0 t) B k l
      = ∑ r : Fin 1024, normed X w (1024 * (t.val / 17) + r) k * lay (P (1024 * (t.val / 17) + r)) (256 * (t.val % 17) + l) := by
  unfold prod
  exact Finset.sum_congr rfl fun r _ => by rw [blk0 R, h]

/-- A point after the first adds its row tile to the block of its turn. -/
theorem plus_value (t : Fin cfg0.N) (h0 : 0 < t.val) {A : Vec Ideal S17x1024x256 .f32} {B : Vec Ideal S4x1024x64 .bf16}
    (hA : ∀ j k l, A (ix3 j k l) = upto X w P (seen (t.val - 1) j) k (256 * j + l))
    (h : ∀ r l, lane B r l = lay (P (1024 * (t.val / 17) + r)) (256 * (t.val % 17) + l)) (j : Fin 17) (k : Fin 1024) (l : Fin 256) :
    plus (t.val % 17) A (iblk (F := Ideal) m c 0 t) B j k l = upto X w P (seen t.val j) k (256 * j + l) := by
  unfold plus
  rw [hA, prod_value R t h]
  by_cases e : j.val = t.val % 17
  · obtain ⟨e1, e2⟩ := seen_turn h0 e
    rw [if_pos e, e1, e2, upto_succ, e]
  · rw [if_neg e, add_zero, seen_same h0 j.isLt e]

/-- The accumulator after each point. -/
theorem acc_value : ∀ (n : ℕ) (hn : n < cfg0.N) (j : Fin 17) (k : Fin 1024) (l : Fin 256),
    acc m c ⟨n, hn⟩ (ix3 j k l) = upto X w P (seen n j) k (256 * j + l) := by
  intro n
  induction n with
  | zero =>
    intro hn j k l
    rw [step_A m c ⟨0, hn⟩ rfl]
    unfold plus
    rw [prod_value R ⟨0, hn⟩ (lane1 R ⟨0, hn⟩ (by show 0 % 17 ≤ 2; omega)), seen_zero]
    have z : k0_pay2 (F := Ideal) (ix3 j k l) = 0 := by
      pointwise [k0_pay2]
    rw [z, zero_add]
    dsimp only
    rw [Nat.zero_mod, Nat.zero_div]
    by_cases e : j.val = 0
    · rw [if_pos e, if_pos e, upto_succ, e]
      simp [upto]
    · rw [if_neg e, if_neg e]
      simp [upto]
  | succ n ih =>
    intro hn j k l
    have ht : n + 1 < 68 := hn
    have hA : ∀ j k l, prev m c ⟨n + 1, hn⟩ (ix3 j k l) = upto X w P (seen n j) k (256 * j + l) := fun j k l =>
      ih (Nat.lt_of_succ_lt hn) j k l
    have hc : (n + 1) % 17 ≤ 2 ∨ (n + 1) % 17 = 3 ∨ (4 ≤ (n + 1) % 17 ∧ (n + 1) % 17 ≤ 7) ∨ (8 ≤ (n + 1) % 17 ∧ (n + 1) % 17 ≤ 11)
      ∨ (12 ≤ (n + 1) % 17 ∧ (n + 1) % 17 ≤ 15) ∨ ((n + 1) % 17 = 16 ∧ ¬ (n + 1) % 68 = 67) ∨ (n + 1) % 68 = 67 := by omega
    rcases hc with h | h | h | h | h | h | h
    · rw [step_B m c ⟨n + 1, hn⟩ (by dsimp only; omega)]
      exact plus_value R ⟨n + 1, hn⟩ (Nat.succ_pos n) hA (lane1 R ⟨n + 1, hn⟩ h) j k l
    · rw [step_C m c ⟨n + 1, hn⟩ h]
      exact plus_value R ⟨n + 1, hn⟩ (Nat.succ_pos n) hA (lane2 R ⟨n + 1, hn⟩ h) j k l
    · rw [step_D m c ⟨n + 1, hn⟩ h]
      exact plus_value R ⟨n + 1, hn⟩ (Nat.succ_pos n) hA (lane3 R ⟨n + 1, hn⟩ h) j k l
    · rw [step_E m c ⟨n + 1, hn⟩ h]
      exact plus_value R ⟨n + 1, hn⟩ (Nat.succ_pos n) hA (lane4 R ⟨n + 1, hn⟩ h) j k l
    · rw [step_F m c ⟨n + 1, hn⟩ h]
      exact plus_value R ⟨n + 1, hn⟩ (Nat.succ_pos n) hA (lane5 R ⟨n + 1, hn⟩ h) j k l
    · rw [step_G m c ⟨n + 1, hn⟩ h]
      exact plus_value R ⟨n + 1, hn⟩ (Nat.succ_pos n) hA (lane6 R ⟨n + 1, hn⟩ h.1) j k l
    · rw [step_H m c ⟨n + 1, hn⟩ h]
      exact plus_value R ⟨n + 1, hn⟩ (Nat.succ_pos n) hA (lane6 R ⟨n + 1, hn⟩ (by dsimp only; omega)) j k l

/-- The result array. -/
theorem result : hbG0 (F := Ideal) m c main_v45
    = fun y : S17x1024x256.Idx => lay (gradW X w P (y 1)) (256 * (y 0 : Fin 17).val + (y 2 : Fin 256).val) := by
  rw [hbG0_0]
  refine (out_H m c ⟨67, by decide⟩ rfl).trans ?_
  funext y
  idx_vars y
  refine (acc_value R 67 _ _ _ _).trans ?_
  have e : seen 67 y0 = 4 := by
    unfold seen
    rw [if_pos (by omega)]
  rw [e]
  exact lay_gradW X w P _ _

end Cert.Proj.DwK

end
-- ==== Proof.DwRef.lean ====
/-
  The reference of the input projection's weight gradient at an index.
-/
module

public import proofs.«01_k».proof.Proof.DwReal
public import proofs.«01_k».proof.Proof.Gen.DwReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.Proj.DwR

open Idealize.ShloMosaic Idealize.ShloMosaic.TcCoe Cert.DwReferenceIdeal Cert.DwReferenceIdeal.Read

variable {x0 : Vec Ideal S2x2048x1024 .f32} {x1 : Vec Ideal S1024 .f32} {x2 : Vec Ideal S2x2048x3992 .f32}
  {X : ℕ → ℕ → EReal} {w : ℕ → EReal} {P : ℕ → ℕ → EReal}
  (hx : ∀ (b : Fin 2) (t : Fin 2048) (k : Fin 1024), x0 (ix3 b t k) = X (2048 * b + t) k)
  (hn : ∀ k : Fin 1024, x1 (ix1 k) = w k)
  (hp : ∀ (b : Fin 2) (t : Fin 2048) (q : Fin 3992), x2 (ix3 b t q) = P (2048 * b + t) q)

include hx in
/-- One over the root of the mean square. -/
theorem v7 (b : Fin 2) (t : Fin 2048) (u : Fin 1) : val_main_v7 (F := Ideal) x0 (ix3 b t u)
    = root (X (2048 * b + t)) := by
  obtain rfl : u = 0 := Subsingleton.elim _ _
  pointwise [val_main_v7, val_main_v6, val_main_v5, val_main_cst_1, val_main_v4, val_main_v3, val_main_cst_0, val_main_v2,
    val_main_v1, val_main_cst, val_main_v0, hx]
  rfl

include hx hn in
/-- The normed row. -/
theorem v12 (b : Fin 2) (t : Fin 2048) (k : Fin 1024) : val_main_v12 (F := Ideal) x0 x1 (ix3 b t k)
    = normed X w (2048 * b + t) k := by
  pointwise [val_main_v12, val_main_v11, val_main_v10, val_main_v9, val_main_v8, v7 hx, hx, hn]
  rfl

include hx hn hp in
/-- The weight's gradient. -/
theorem v16 (k : Fin 1024) (q : Fin 3992) : val_main_v16 (F := Ideal) x0 x1 x2 (ix2 k q)
    = gradW X w P k q := by
  pointwise [val_main_v16, val_main_v15, v12 hx hn, hp]
  unfold gradW
  refine Fin.sum_mul_add_congr (f := fun n : Fin 4096 => normed X w n k * P n q) fun b t _ => ?_
  dsimp only
  rw [Nat.mul_comm b.val, mul_comm]

include hx hn hp in
/-- The reference's result. -/
theorem v35 (j : Fin 17) (k : Fin 1024) (l : Fin 256) : val_main_v35 (F := Ideal) x0 x1 x2 (ix3 j k l)
    = lay (gradW X w P k) (256 * j + l) := by
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_call0_v0, val_main_call1_v0, val_main_call2_v0, val_main_c, val_main_c_3, val_main_c_4, v16 hx hn hp]
  rw [Nat.mul_comm 256]
  exact lay_ladder _ _ rfl

end Cert.Proj.DwR

end
-- ==== Proof.DwClaim.lean ====
/-
  The claims about the input projection's weight gradient: the run that names the kernel's result array, the reference's frame and
  the equality of the two over the extended reals.
-/
module

public import proofs.«01_k».proof.Defs
public import proofs.«01_k».proof.Proof.DwAcc
public import proofs.«01_k».proof.Proof.DwRef
public import proofs.«01_k».proof.Proof.Entry
public import proofs.«01_k».proof.Proof.Gen.DwKernelIdeal
public import proofs.«01_k».proof.Proof.Gen.DwKernelIdeal.Frame
public import proofs.«01_k».proof.Proof.Gen.DwReferenceIdeal
public import proofs.«01_k».proof.Proof.Gen.DwReferenceIdeal.Run
public import proofs.«01_k».proof.Proof.Gen.DwReferenceIdeal.Read
public import Idealize.ShloMosaic.Adequacy
public import Idealize.ShloMosaic.Init

@[expose] public section

noncomputable section

namespace Cert.Proj

open Idealize.ShloMosaic Idealize.ShloMosaic.TcCoe Idealize.SL.Sem Cert.Entry

namespace DwK

open Cert.DwKernelIdeal Cert.DwKernelIdeal.Gen

/-- The run of the kernel's program with the result array named, the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v45) = hbG0 m c main_v45
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨h.2 c main_v45 (by decide),
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩)
    (run_main m ρ)

/-- Every array is given by its entries. -/
theorem entries (a0 : Vec Ideal S2x2048x1024 .f32) (a1 : Vec Ideal S1024 .f32) (a2 : Vec Ideal S2x2048x3992 .f32) :
    Entries a0 a1 a2 (row a0) (at1 a1) (row a2) := ⟨row_eq a0, at1_eq a1, row_eq a2⟩

end DwK

namespace DwR

/-- The reference runs, leaves its arguments as they are, and every counter ends at zero. -/
theorem frame_reference : quiescent_DwReferenceIdeal := fun m ρ _ =>
  (θ_run Cert.DwReferenceIdeal.defs _ _).mono
    (fun r h => ⟨fun c => (h c).2, sem_eq_zero_of_no_sems (by decide) r.2⟩)
    (Cert.DwReferenceIdeal.Value.run (F := Ideal) m ρ)

/-- Over the extended reals the kernel computes the gradient of the projection's weight. -/
theorem value : algebraic_DwKernelIdeal_DwReferenceIdeal := by
  intro m ρ m' ρ' _ hagree
  refine ⟨fun c => fun y : Cert.DwKernelIdeal.S17x1024x256.Idx => (lay (gradW
      (row (m ((c.tc : Thread Cert.DwKernelIdeal.nD Cert.DwKernelIdeal.τ).loc Cert.DwKernelIdeal.main_arg0)))
      (at1 (m ((c.tc : Thread Cert.DwKernelIdeal.nD Cert.DwKernelIdeal.τ).loc Cert.DwKernelIdeal.main_arg1)))
      (row (m ((c.tc : Thread Cert.DwKernelIdeal.nD Cert.DwKernelIdeal.τ).loc Cert.DwKernelIdeal.main_arg2))) (y 1))
      (256 * (y 0 : Fin 17).val + (y 2 : Fin 256).val) : EReal), ?_, ?_⟩
  · exact (θ_run Cert.DwKernelIdeal.defs _ _).mono
      (fun r h c => ⟨(h c).1.trans (DwK.result (DwK.entries _ _ _)), (h c).2⟩)
      (DwK.run_arrays m ρ)
  · refine (θ_run Cert.DwReferenceIdeal.defs _ _).mono (fun r h c => ?_) (Cert.DwReferenceIdeal.Value.run (F := Ideal) m' ρ')
    obtain ⟨e0, e1, e2⟩ := hagree c
    refine ⟨(h c).1.trans ((Cert.DwReferenceIdeal.Read.val_main_v35_eq m' c).trans ?_), (h c).2⟩
    rw [e0, e1, e2]
    funext y
    idx_vars y
    exact v35 (row_eq _) (at1_eq _) (row_eq _) _ _ _

end DwR

end Cert.Proj

end
-- ==== Proof.PostK.lean ====
/-
  The backward pass of the output norm with the gradient of the mixed heads: what the kernel's payloads compute, and
  the three arrays it leaves.
-/
module

public import proofs.«01_k».proof.Proof.NormAny
public import proofs.«01_k».proof.Proof.Gen.PostKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Out

/-- The gradient of the loss with respect to the output projection's result, row `n`. -/
def gradO (O : ℕ → ℕ → EReal) (w : ℕ → EReal) (G : ℕ → ℕ → EReal) (n k : ℕ) : EReal := Cert.NormAny.grad (O n) w (G n) k

/-- The gradient with respect to the mixed heads: the same times the transpose of the projection's weight. -/
def gradY (O : ℕ → ℕ → EReal) (w : ℕ → EReal) (W G : ℕ → ℕ → EReal) (n e : ℕ) : EReal := ∑ d : Fin 1024, gradO O w G n d * W e d

/-- What row `n` adds to the gradient of the norm's weight. -/
def termP (O G : ℕ → ℕ → EReal) (n k : ℕ) : EReal := G n k * (O n k * Cert.NormAny.inv (O n))

/-- The gradient of the norm's weight. -/
def gradP (O G : ℕ → ℕ → EReal) (k : ℕ) : EReal := ∑ n : Fin 4096, termP O G n k

namespace PostK

open Idealize.ShloMosaic Idealize.ShloMosaic.TcCoe Idealize.SL.Sem Cert.PostKernelIdeal Cert.PostKernelIdeal.Gen
open Idealize.ShloMosaic.Pipeline (Dat)

/-- The row of the gradient before the norm. -/
theorem pay10_eq {A B : Vec Ideal S1024x1024 .f32} {w : Vec Ideal S1x1024 .f32} {r : Fin 1024} {x g u : ℕ → EReal}
    (hA : ∀ k : Fin 1024, A (ix2 r k) = x k) (hB : ∀ k : Fin 1024, B (ix2 r k) = g k)
    (hw : ∀ k : Fin 1024, w (ix2 0 k) = u k) (k : Fin 1024) :
    k0_pay10 A w B (ix2 r k) = Cert.NormAny.grad x u g k := by
  pointwise [k0_pay10, k0_pay8, k0_pay7, k0_pay6, k0_pay5, hA, hB, hw]
  rfl

/-- The running row of the gradient of the norm's weight. -/
theorem pay9_eq {A B : Vec Ideal S1024x1024 .f32} {S : Vec Ideal S1x1024 .f32} {x g : ℕ → ℕ → EReal}
    (hA : ∀ r k : Fin 1024, A (ix2 r k) = x r k) (hB : ∀ r k : Fin 1024, B (ix2 r k) = g r k) (k : Fin 1024) :
    k0_pay9 A B S (ix2 0 k) = S (ix2 0 k) + (∑ r : Fin 1024, g r k * (x r k * Cert.NormAny.inv (x r))) := by
  pointwise [k0_pay9, k0_pay8, k0_pay7, k0_pay6, k0_pay5, hA, hB]
  rfl

/-- A row times the transpose of the weight. -/
theorem pay11_eq {A W : Vec Ideal S1024x1024 .bf16} {r : Fin 1024} {a : ℕ → EReal} {w : ℕ → ℕ → EReal}
    (hA : ∀ k : Fin 1024, A (ix2 r k) = a k) (hW : ∀ e k : Fin 1024, W (ix2 e k) = w e k) (e : Fin 1024) :
    k0_pay11 A W (ix2 r e) = ∑ d : Fin 1024, a d * w e d := by
  pointwise [k0_pay11, hA, hW]

variable (m : (ℓ : Loc nD τ sig) → Buf (Elt Ideal) ℓ) (c : Dev nD)

/-- The rows that a grid point writes to the first result. -/
theorem out_at (t : Fin cfg0.N) (y : S1024x1024.Idx) : (outsAt0 (F := Ideal) m c t.val t.isLt).1 y
    = k0_pay10 (iblk m c 1 t) (iblk m c 2 t) (iblk m c 0 t) y := by
  by_cases h : t.val % 4 = 0
  · rw [outsAt0_A m c t h]
    frame_out
  · rw [outsAt0_B m c t h]
    frame_out

set_option maxHeartbeats 1600000 in
/-- The rows that a grid point writes to the second result, group by group. -/
theorem heads_at (t : Fin cfg0.N) (y : S16x1024x64.Idx) (i : S1024x1024.Idx)
    (hi0 : (i 0 : ℕ) = y 1) (hi1 : (i 1 : ℕ) = 64 * (y 0 : ℕ) + y 2) : (outsAt0 (F := Ideal) m c t.val t.isLt).2.1 y
    = k0_pay11 (k0_pay10 (iblk m c 1 t) (iblk m c 2 t) (iblk m c 0 t)) (iblk m c 3 t) i := by
  by_cases h : t.val % 4 = 0
  · rw [outsAt0_A m c t h]
    frame_out
    clear h
    canon_tiles x h
    all_goals (open_payloads; pointwise; blk_ext)
  · rw [outsAt0_B m c t h]
    frame_out
    clear h
    canon_tiles x h
    all_goals (open_payloads; pointwise; blk_ext)

theorem sum_A (t : Fin cfg0.N) (h : t.val % 4 = 0) (k : Fin 1024) : (outsAt0 (F := Ideal) m c t.val t.isLt).2.2 (ix2 0 k)
    = k0_pay9 (iblk m c 1 t) (iblk m c 0 t) (k0_pay4 (F := Ideal)) (ix2 0 k) := by
  rw [outsAt0_A m c t h]
  frame_out

theorem sum_B (t : Fin cfg0.N) (h : ¬ t.val % 4 = 0) (k : Fin 1024) : (outsAt0 (F := Ideal) m c t.val t.isLt).2.2 (ix2 0 k)
    = k0_pay9 (iblk m c 1 t) (iblk m c 0 t)
        (outsAt0 (F := Ideal) m c (t.val - 1) (Nat.lt_of_le_of_lt (Nat.sub_le _ _) t.isLt)).2.2 (ix2 0 k) := by
  rw [outsAt0_B m c t h]
  frame_out

/-- The windows' block indices at each grid point. -/
theorem idx_val : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![0, t.val, 0] ∧ win0_6.index t = ![0, 0] :=
  (by decide +kernel : ∀ t : Fin grid0.N, _)

/-- Every entry of the four arguments is what the functions give at its row and column. -/
structure Args (a0 : Vec Ideal S2x2048x1024 .f32) (a1 : Vec Ideal S1024 .f32) (a2 : Vec Ideal S1024x1024 .f32)
    (a3 : Vec Ideal S2x2048x1024 .f32) (O : ℕ → ℕ → EReal) (w : ℕ → EReal) (W G : ℕ → ℕ → EReal) : Prop where
  o : ∀ b t k, a0 (ix3 b t k) = O (2048 * b + t) k
  n : ∀ k, a1 (ix1 k) = w k
  w : ∀ e k, a2 (ix2 e k) = W e k
  g : ∀ b t k, a3 (ix3 b t k) = G (2048 * b + t) k

variable {m c} {O : ℕ → ℕ → EReal} {w : ℕ → EReal} {W G : ℕ → ℕ → EReal}
  (R : Args (m ((c : Thread nD τ).loc main_arg0)) (m ((c : Thread nD τ).loc main_arg1)) (m ((c : Thread nD τ).loc main_arg2))
    (m ((c : Thread nD τ).loc main_arg3)) O w W G)
include R

/-- A block of the gradient after the norm. -/
theorem blk0 (t : Fin cfg0.N) (r k : Fin 1024) : iblk (F := Ideal) m c 0 t (ix2 r k) = G (1024 * t + r) k := by
  have ht : t.val < 4 := t.isLt
  have E : iblk (F := Ideal) m c 0 t (ix2 r k) = V (F := Ideal) m c main_v0 (ix2 ⟨1024 * t + r, by omega⟩ k) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.g]
  simp only [Nat.div_add_mod]

/-- A block of the norm's argument. -/
theorem blk1 (t : Fin cfg0.N) (r k : Fin 1024) : iblk (F := Ideal) m c 1 t (ix2 r k) = O (1024 * t + r) k := by
  have ht : t.val < 4 := t.isLt
  have E : iblk (F := Ideal) m c 1 t (ix2 r k) = V (F := Ideal) m c main_v1 (ix2 ⟨1024 * t + r, by omega⟩ k) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.o]
  simp only [Nat.div_add_mod]

/-- The norm's weight. -/
theorem blk2 (t : Fin cfg0.N) (k : Fin 1024) : iblk (F := Ideal) m c 2 t (ix2 0 k) = w k := by
  have E : iblk (F := Ideal) m c 2 t (ix2 0 k) = V (F := Ideal) m c main_v2 (ix2 0 k) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.n]

/-- The projection's weight. -/
theorem blk3 (t : Fin cfg0.N) (e k : Fin 1024) : iblk (F := Ideal) m c 3 t (ix2 e k) = W e k := by
  have E : iblk (F := Ideal) m c 3 t (ix2 e k) = V (F := Ideal) m c main_v3 (ix2 e k) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.w]

/-- The running row after each point: the sum over the rows met so far. -/
theorem sum_eq : ∀ (n : ℕ) (hn : n < cfg0.N) (k : Fin 1024), (outsAt0 (F := Ideal) m c n hn).2.2 (ix2 0 k)
    = ∑ q ∈ Finset.range (1024 * (n + 1)), termP O G q k := by
  intro n
  induction n with
  | zero =>
    intro hn k
    refine (sum_A m c ⟨0, hn⟩ rfl k).trans ?_
    rw [pay9_eq (x := fun r => O (1024 * 0 + r)) (g := fun r => G (1024 * 0 + r)) (blk1 R ⟨0, hn⟩) (blk0 R ⟨0, hn⟩) k]
    have z : k0_pay4 (F := Ideal) (ix2 0 k) = 0 := by
      pointwise [k0_pay4]
    rw [z, zero_add]
    rw [Finset.sum_range]
    simp only [Nat.mul_zero, Nat.zero_add]
    rfl
  | succ n ih =>
    intro hn k
    have ht : n + 1 < 4 := hn
    refine (sum_B m c ⟨n + 1, hn⟩ (by dsimp only; omega) k).trans ?_
    rw [pay9_eq (x := fun r => O (1024 * (n + 1) + r)) (g := fun r => G (1024 * (n + 1) + r)) (blk1 R ⟨n + 1, hn⟩) (blk0 R ⟨n + 1, hn⟩) k]
    rw [Nat.mul_add 1024 (n + 1) 1, Nat.mul_one, Finset.sum_range_add]
    refine congrArg₂ (· + ·) (ih (Nat.lt_of_succ_lt hn) k) ?_
    rw [Finset.sum_range]
    rfl

/-- The kernel's first result. -/
theorem final4 : (dats (F := Ideal) m 0 c).arrAt 4 cfg0.N
    = fun y : S4096x1024.Idx => gradO O w G (y 0) (y 1) := by
  refine (dats (F := Ideal) m 0 c).arrAt_eq_of_covers 4 _ (by decide +kernel) fun t hf y => ?_
  have ht : t.val < 4 := t.isLt
  blk_simp
  rw [after0_4]
  refine (out_at m c t _).trans ?_
  idx_vars y
  rw [pay10_eq (blk1 R t y0) (blk0 R t y0) (blk2 R t)]
  blk_simp [idx_val t]
  rw [show t.val * 1024 + y0.val = 1024 * t.val + y0.val by omega]
  rfl

/-- The kernel's second result. -/
theorem final5 : (dats (F := Ideal) m 0 c).arrAt 5 cfg0.N
    = fun y : S16x4096x64.Idx => gradY O w W G (y 1) (64 * (y 0).val + (y 2).val) := by
  refine (dats (F := Ideal) m 0 c).arrAt_eq_of_covers 5 _ (by decide +kernel) fun t hf y => ?_
  have ht : t.val < 4 := t.isLt
  blk_simp
  rw [after0_5]
  idx_vars y
  refine (heads_at m c t _ (ix2 y1 ⟨64 * y0.val + y2.val, by omega⟩) rfl rfl).trans ?_
  rw [pay11_eq (pay10_eq (blk1 R t y1) (blk0 R t y1) (blk2 R t)) (blk3 R t)]
  blk_simp [idx_val t]
  rw [show t.val * 1024 + y1.val = 1024 * t.val + y1.val by omega]
  rfl

/-- The kernel's third result. -/
theorem final6 : (dats (F := Ideal) m 0 c).arrAt 6 cfg0.N
    = fun y : S1x1024.Idx => gradP O G (y 1) := by
  refine (dats (F := Ideal) m 0 c).arrAt_eq_of_after_last 6 t0_3 (by decide +kernel) _ fun y => ?_
  blk_simp
  rw [after0_6]
  idx_vars y
  obtain rfl : y0 = 0 := Subsingleton.elim _ _
  refine (sum_eq R 3 _ _).trans ?_
  unfold gradP
  rw [Finset.sum_range]

end PostK

end Cert.Out

end
-- ==== Proof.PostClaim.lean ====
/-
  The claims about the output norm's backward pass: the reference at an index, its frame and the equality of the two programs over
  the extended reals.
-/
module

public import proofs.«01_k».proof.Defs
public import proofs.«01_k».proof.Proof.PostK
public import proofs.«01_k».proof.Proof.DhRef
public import proofs.«01_k».proof.Proof.Entry
public import proofs.«01_k».proof.Proof.Gen.PostKernelIdeal
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.PostReferenceIdeal.Read
public import Idealize.ShloMosaic.Adequacy
public import Idealize.ShloMosaic.Init

@[expose] public section

set_option maxRecDepth 16384

noncomputable section

namespace Cert.Out.PostR

open Idealize.ShloMosaic Idealize.ShloMosaic.TcCoe Idealize.SL.Sem Cert.Entry

section Reference

open Cert.PostReferenceIdeal Cert.PostReferenceIdeal.Read

variable {x0 : Vec Ideal S2x2048x1024 .f32} {x1 : Vec Ideal S1024 .f32} {x2 : Vec Ideal S1024x1024 .f32}
  {x3 : Vec Ideal S2x2048x1024 .f32} {O : ℕ → ℕ → EReal} {w : ℕ → EReal} {W G : ℕ → ℕ → EReal}
  (ho : ∀ (b : Fin 2) (t : Fin 2048) (k : Fin 1024), x0 (ix3 b t k) = O (2048 * b + t) k)
  (hn : ∀ k : Fin 1024, x1 (ix1 k) = w k)
  (hw : ∀ e k : Fin 1024, x2 (ix2 e k) = W e k)
  (hg : ∀ (b : Fin 2) (t : Fin 2048) (k : Fin 1024), x3 (ix3 b t k) = G (2048 * b + t) k)

include ho in
/-- The mean of the squares and the small number. -/
theorem v6 (b : Fin 2) (t : Fin 2048) : val_main_v6 (F := Ideal) x0 (ix3 b t 0) = Cert.NormAny.msq (O (2048 * b + t)) := by
  pointwise [val_main_v6, val_main_v5, val_main_cst_1, val_main_v4, val_main_v3, val_main_cst_0, val_main_v2, val_main_v1, val_main_cst, val_main_v0, ho]
  rfl

include ho in
/-- One over the root. -/
theorem v7 (b : Fin 2) (t : Fin 2048) : val_main_v7 (F := Ideal) x0 (ix3 b t 0) = Cert.NormAny.inv (O (2048 * b + t)) := by
  pointwise [val_main_v7, v6 ho]
  rfl

include ho in
/-- The derivative of one over the root. -/
theorem v10 (b : Fin 2) (t : Fin 2048) (u : Fin 1) : val_main_v10 (F := Ideal) x0 (ix3 b t u)
    = Ideal.ofBits .f32 0xBF000000#32 * Ideal.div (Cert.NormAny.inv (O (2048 * b + t))) (Cert.NormAny.msq (O (2048 * b + t))) := by
  obtain rfl : u = 0 := Subsingleton.elim _ _
  pointwise [val_main_v10, val_main_v9, val_main_cst_2, val_main_v8, v7 ho, v6 ho]

include hn hg in
/-- The gradient times the norm's weight. -/
theorem v20 (b : Fin 2) (t : Fin 2048) (k : Fin 1024) : val_main_v20 (F := Ideal) x1 x3 (ix3 b t k)
    = G (2048 * b + t) k * w k := by
  pointwise [val_main_v20, val_main_v19, val_main_v13, hg, hn]

include ho hn hg in
/-- The gradient at the mean of the squares, over the width. -/
theorem v31 (b : Fin 2) (t : Fin 2048) (k : Fin 1024) : val_main_v31 (F := Ideal) x0 x1 x3 (ix3 b t k)
    = Cert.NormAny.thread (O (2048 * b + t)) w (G (2048 * b + t)) := by
  pointwise [val_main_v31, val_main_v30, val_main_cst_7, val_main_v29, val_main_v28, val_main_cst_6, val_main_v27, v10 ho, val_main_v24, val_main_v23, val_main_cst_5,
    val_main_v22, v20 hn hg, ho]
  simp only [Finset.univ_unique, Finset.sum_singleton]
  rfl

include ho hn hg in
/-- The gradient before the norm. -/
theorem v35 (b : Fin 2) (t : Fin 2048) (k : Fin 1024) : val_main_v35 (F := Ideal) x0 x1 x3 (ix3 b t k)
    = gradO O w G (2048 * b + t) k := by
  pointwise [val_main_v35, val_main_v34, val_main_v33, val_main_v32, val_main_v26, val_main_v25,
    v31 ho hn hg, v20 hn hg, v7 ho, ho]
  rw [gradO, ← Cert.NormAny.grad_eq]

include ho hn hg in
/-- The reference's first result. -/
theorem v40 (n : Fin 4096) (k : Fin 1024) : val_main_v40 (F := Ideal) x0 x1 x3 (ix2 n k) = gradO O w G n k := by
  pointwise [val_main_v40, val_main_v39, v35 ho hn hg]
  simp only [Nat.div_add_mod]

include ho hn hw hg in
/-- The gradient of the mixed heads, as one row. -/
theorem v38 (b : Fin 2) (t : Fin 2048) (e : Fin 1024) : val_main_v38 (F := Ideal) x0 x1 x2 x3 (ix3 b t e)
    = gradY O w W G (2048 * b + t) e := by
  pointwise [val_main_v38, v35 ho hn hg, hw]
  rfl

include ho hn hw hg in
/-- The reference's second result. -/
theorem v42 (g : Fin 16) (n : Fin 4096) (l : Fin 64) : val_main_v42 (F := Ideal) x0 x1 x2 x3 (ix3 g n l)
    = gradY O w W G n (64 * g + l) := by
  pointwise [val_main_v42, val_main_v41, v38 ho hn hw hg]
  simp only [Nat.div_add_mod, Nat.mul_comm 64]

include ho hg in
/-- The reference's third result. -/
theorem v43 (k : Fin 1024) : val_main_v43 (F := Ideal) x0 x3 (ix2 0 k) = gradP O G k := by
  pointwise [val_main_v43, val_main_v21, val_main_cst_4, Cert.Proj.R.sum_unit, val_main_v18, val_main_v17, val_main_cst_3, Cert.Proj.R.sum_rows, val_main_v16,
    val_main_v12, val_main_v11, hg, v7 ho, ho]
  rw [Fintype.sum_prod_type]
  unfold gradP
  refine Fin.sum_mul_add_congr (f := fun n : Fin 4096 => termP O G n k) fun b t _ => ?_
  dsimp only
  rw [Nat.mul_comm b.val, termP, mul_comm]

end Reference

/-- The reference runs, leaves its arguments as they are, and every counter ends at zero. -/
theorem frame_reference : quiescent_PostReferenceIdeal := fun m ρ _ =>
  (θ_run Cert.PostReferenceIdeal.defs _ _).mono
    (fun r h => ⟨fun c => (h c).2.2.2, sem_eq_zero_of_no_sems (by decide) r.2⟩)
    (Cert.PostReferenceIdeal.Value.run (F := Ideal) m ρ)

/-- Over the extended reals the kernel computes the gradients of the output norm and of the mixed heads. -/
theorem value : algebraic_PostKernelIdeal_PostReferenceIdeal := by
  intro m ρ m' ρ' _ hagree
  refine ⟨fun c => fun y : Cert.PostKernelIdeal.S4096x1024.Idx => gradO
      (row (m ((c.tc : Thread Cert.PostKernelIdeal.nD Cert.PostKernelIdeal.τ).loc Cert.PostKernelIdeal.main_arg0)))
      (at1 (m ((c.tc : Thread Cert.PostKernelIdeal.nD Cert.PostKernelIdeal.τ).loc Cert.PostKernelIdeal.main_arg1)))
      (row (m ((c.tc : Thread Cert.PostKernelIdeal.nD Cert.PostKernelIdeal.τ).loc Cert.PostKernelIdeal.main_arg3))) (y 0) (y 1),
    fun c => fun y : Cert.PostKernelIdeal.S16x4096x64.Idx => gradY
      (row (m ((c.tc : Thread Cert.PostKernelIdeal.nD Cert.PostKernelIdeal.τ).loc Cert.PostKernelIdeal.main_arg0)))
      (at1 (m ((c.tc : Thread Cert.PostKernelIdeal.nD Cert.PostKernelIdeal.τ).loc Cert.PostKernelIdeal.main_arg1)))
      (at2 (m ((c.tc : Thread Cert.PostKernelIdeal.nD Cert.PostKernelIdeal.τ).loc Cert.PostKernelIdeal.main_arg2)))
      (row (m ((c.tc : Thread Cert.PostKernelIdeal.nD Cert.PostKernelIdeal.τ).loc Cert.PostKernelIdeal.main_arg3))) (y 1) (64 * (y 0).val + (y 2).val),
    fun c => fun y : Cert.PostKernelIdeal.S1x1024.Idx => gradP
      (row (m ((c.tc : Thread Cert.PostKernelIdeal.nD Cert.PostKernelIdeal.τ).loc Cert.PostKernelIdeal.main_arg0)))
      (row (m ((c.tc : Thread Cert.PostKernelIdeal.nD Cert.PostKernelIdeal.τ).loc Cert.PostKernelIdeal.main_arg3))) (y 1), ?_, ?_⟩
  · exact (θ_run Cert.PostKernelIdeal.defs _ _).mono
      (fun r h c => ⟨(h c).1.trans (PostK.final4 ⟨row_eq _, at1_eq _, at2_eq _, row_eq _⟩), (h c).2.1.trans (PostK.final5 ⟨row_eq _, at1_eq _, at2_eq _, row_eq _⟩),
        (h c).2.2.1.trans (PostK.final6 ⟨row_eq _, at1_eq _, at2_eq _, row_eq _⟩), (h c).2.2.2⟩)
      (Cert.PostKernelIdeal.Value.run_blocks (F := Ideal) m ρ)
  · refine (θ_run Cert.PostReferenceIdeal.defs _ _).mono (fun r h c => ?_) (Cert.PostReferenceIdeal.Value.run (F := Ideal) m' ρ')
    obtain ⟨e0, e1, e2, e3⟩ := hagree c
    refine ⟨(h c).1.trans ((Cert.PostReferenceIdeal.Read.val_main_v40_eq m' c).trans ?_),
      (h c).2.1.trans ((Cert.PostReferenceIdeal.Read.val_main_v42_eq m' c).trans ?_),
      (h c).2.2.1.trans ((Cert.PostReferenceIdeal.Read.val_main_v43_eq _ _).trans ?_), (h c).2.2.2⟩
    · rw [e0, e1, e3]
      funext y
      idx_vars y
      exact v40 (row_eq _) (at1_eq _) (row_eq _) _ _
    · rw [e0, e1, e2, e3]
      funext y
      idx_vars y
      exact v42 (row_eq _) (at1_eq _) (at2_eq _) (row_eq _) _ _ _
    · rw [e0, e3]
      funext y
      idx_vars y
      obtain rfl : y0 = 0 := Subsingleton.elim _ _
      exact v43 (row_eq _) (row_eq _) _

end Cert.Out.PostR

end
-- ==== Proof.OutK.lean ====
/-
  The output projection's weight gradient: the entry arrays, the product of each grid point and the result array.
-/
module

public import proofs.«01_k».proof.Proof.Gen.OutKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Out

/-- The gradient of the projection's weight: the products of the projection's input and the gradient over all rows. -/
def gradW (Y D : ℕ → ℕ → EReal) (e d : ℕ) : EReal := ∑ n : Fin 4096, Y n e * D n d

namespace OutK

open Idealize.ShloMosaic Idealize.ShloMosaic.TcCoe Idealize.SL.Sem Cert.OutKernelIdeal Cert.OutKernelIdeal.Gen
open Idealize.ShloMosaic.Pipeline (Dat)

/-- Four blocks by their number. -/
def pick (B0 B1 B2 B3 : Vec Ideal S4x1024x64 .bf16) : ℕ → Vec Ideal S4x1024x64 .bf16
  | 0 => B0
  | 1 => B1
  | 2 => B2
  | _ => B3

/-- Sixteen groups of 64 columns in four blocks, read at column `e`. -/
def wide (B : ℕ → Vec Ideal S4x1024x64 .bf16) (r e : Fin 1024) : EReal :=
  B (e / 256) (ix3 ⟨e / 64 % 4, by omega⟩ r ⟨e % 64, by omega⟩)

/-- Sixteen pieces of 64 columns side by side. -/
theorem cat (v : Fin 16 → FVec Ideal S1024x64 .bf16) (r e : Fin 1024) :
    concatenate S1024x1024 1 [⟨S1024x64, v 0⟩, ⟨S1024x64, v 1⟩, ⟨S1024x64, v 2⟩, ⟨S1024x64, v 3⟩, ⟨S1024x64, v 4⟩, ⟨S1024x64, v 5⟩,
        ⟨S1024x64, v 6⟩, ⟨S1024x64, v 7⟩, ⟨S1024x64, v 8⟩, ⟨S1024x64, v 9⟩, ⟨S1024x64, v 10⟩, ⟨S1024x64, v 11⟩, ⟨S1024x64, v 12⟩,
        ⟨S1024x64, v 13⟩, ⟨S1024x64, v 14⟩, ⟨S1024x64, v 15⟩]
      concatenates_S1024x64_S1024x64_S1024x64_S1024x64_S1024x64_S1024x64_S1024x64_S1024x64_S1024x64_S1024x64_S1024x64_S1024x64_S1024x64_S1024x64_S1024x64_S1024x64_S1024x1024_d1 (ix2 r e)
      = v ⟨e / 64, by omega⟩ (ix2 r ⟨e % 64, by omega⟩) :=
  concatenate_ofFn_apply (t := S1024x1024) (s₁ := S1024x64) 1 v _ rfl 64 rfl (ix2 r e) ⟨e / 64, by omega⟩ rfl
    (ix2 r ⟨e % 64, by omega⟩) rfl fun b hb => by
      match b with
      | ⟨0, _⟩ => rfl
      | ⟨1, _⟩ => exact absurd rfl hb

/-- A leading axis of one dropped. -/
theorem drop (v : FVec Ideal S1x1024x64 .bf16) (r : Fin 1024) (l : Fin 64) :
    shapeCast S1024x64 v shapeCasts_S1x1024x64_S1024x64 (ix2 r l) = v (ix3 0 r l) := by
  pointwise

/-- One group of a block, its leading axis dropped. -/
theorem group_ld (B : Vec Ideal S4x1024x64 .bf16) (q : Fin 4) {off : Fin 3 → ℕ} (inb) (h : off = ![q.val, 0, 0]) (r : Fin 1024) (l : Fin 64) :
    shapeCast S1024x64 (View.ld B (Rect.unit (s := S4x1024x64) off ![1, 1024, 64] inb)) shapeCasts_S1x1024x64_S1024x64 (ix2 r l)
      = B (ix3 q r l) := by
  subst h
  refine (drop _ r l).trans (View.ld_unit_apply_of B _ _ inb _ _ fun a => ?_)
  match a with
  | ⟨0, _⟩ => simp
  | ⟨1, _⟩ => simp
  | ⟨2, _⟩ => simp

/-- Every group lies in its block. -/
theorem inb (g : Fin 16) (a : Fin 3) : (![g.val % 4, 0, 0] : Fin 3 → ℕ) a + (![1, 1024, 64] : Fin 3 → ℕ) a ≤ S4x1024x64.size a := by
  revert g a
  decide

/-- The groups, loaded one by one, side by side. -/
theorem wide_ld (B0 B1 B2 B3 : Vec Ideal S4x1024x64 .bf16) (r e : Fin 1024) :
    k0_pay1 (F := Ideal)
      (k0_pay4 (View.ld B0 (Rect.unit ![0, 0, 0] ![1, 1024, 64] inb_S4x1024x64_S1x1024x64_0_0_0)))
      (k0_pay5 (View.ld B0 (Rect.unit ![1, 0, 0] ![1, 1024, 64] inb_S4x1024x64_S1x1024x64_1_0_0)))
      (k0_pay6 (View.ld B0 (Rect.unit ![2, 0, 0] ![1, 1024, 64] inb_S4x1024x64_S1x1024x64_2_0_0)))
      (k0_pay7 (View.ld B0 (Rect.unit ![3, 0, 0] ![1, 1024, 64] inb_S4x1024x64_S1x1024x64_3_0_0)))
      (k0_pay8 (View.ld B1 (Rect.unit ![0, 0, 0] ![1, 1024, 64] inb_S4x1024x64_S1x1024x64_0_0_0)))
      (k0_pay9 (View.ld B1 (Rect.unit ![1, 0, 0] ![1, 1024, 64] inb_S4x1024x64_S1x1024x64_1_0_0)))
      (k0_pay10 (View.ld B1 (Rect.unit ![2, 0, 0] ![1, 1024, 64] inb_S4x1024x64_S1x1024x64_2_0_0)))
      (k0_pay11 (View.ld B1 (Rect.unit ![3, 0, 0] ![1, 1024, 64] inb_S4x1024x64_S1x1024x64_3_0_0)))
      (k0_pay12 (View.ld B2 (Rect.unit ![0, 0, 0] ![1, 1024, 64] inb_S4x1024x64_S1x1024x64_0_0_0)))
      (k0_pay13 (View.ld B2 (Rect.unit ![1, 0, 0] ![1, 1024, 64] inb_S4x1024x64_S1x1024x64_1_0_0)))
      (View.ld B2 (Rect.unit ![2, 0, 0] ![1, 1024, 64] inb_S4x1024x64_S1x1024x64_2_0_0))
      (View.ld B2 (Rect.unit ![3, 0, 0] ![1, 1024, 64] inb_S4x1024x64_S1x1024x64_3_0_0))
      (View.ld B3 (Rect.unit ![0, 0, 0] ![1, 1024, 64] inb_S4x1024x64_S1x1024x64_0_0_0))
      (View.ld B3 (Rect.unit ![1, 0, 0] ![1, 1024, 64] inb_S4x1024x64_S1x1024x64_1_0_0))
      (View.ld B3 (Rect.unit ![2, 0, 0] ![1, 1024, 64] inb_S4x1024x64_S1x1024x64_2_0_0))
      (View.ld B3 (Rect.unit ![3, 0, 0] ![1, 1024, 64] inb_S4x1024x64_S1x1024x64_3_0_0)) (ix2 r e) = wide (pick B0 B1 B2 B3) r e := by
  refine (cat (fun g => shapeCast S1024x64 (View.ld (pick B0 B1 B2 B3 (g / 4)) (Rect.unit (s := S4x1024x64) ![g % 4, 0, 0] ![1, 1024, 64] (inb g)))
    shapeCasts_S1x1024x64_S1024x64) r e).trans ((group_ld _ ⟨e / 64 % 4, by omega⟩ _ rfl _ _).trans ?_)
  unfold wide
  dsimp only
  rw [Nat.div_div_eq_div_mul]

/-- One grid point's product on top of the accumulator. -/
theorem pay2_at (W : FVec Ideal S1024x1024 .bf16) (A : Vec Ideal S1024x1024 .f32) (D : Vec Ideal S1024x1024 .bf16) (e d : Fin 1024) :
    k0_pay2 (F := Ideal) W A D (ix2 e d) = A (ix2 e d) + ∑ r : Fin 1024, W (ix2 r e) * D (ix2 r d) := by
  pointwise [k0_pay2]

variable (m : (ℓ : Loc nD τ sig) → Buf (Elt Ideal) ℓ) (c : Dev nD)

/-- The product of one grid point. -/
def prod (t : Fin cfg0.N) (e d : Fin 1024) : EReal :=
  ∑ r : Fin 1024, wide (pick (iblk (F := Ideal) m c 0 t) (iblk m c 1 t) (iblk m c 2 t) (iblk m c 3 t)) r e
    * iblk (F := Ideal) m c 4 t (ix2 r d)

theorem step_A (t : Fin cfg0.N) (h : t.val % 4 = 0) (e d : Fin 1024) :
    outsAt0 (F := Ideal) m c t.val t.isLt (ix2 e d) = prod m c t e d := by
  rw [outsAt0_A m c t h]
  frame_out
  refine (pay2_at _ _ _ e d).trans ?_
  have z : k0_pay3 (F := Ideal) (ix2 e d) = 0 := by
    pointwise [k0_pay3]
  rw [z, zero_add]
  exact Finset.sum_congr rfl fun r _ => congrArg (· * _) (wide_ld _ _ _ _ r e)

theorem step_B (t : Fin cfg0.N) (h : ¬ t.val % 4 = 0) (e d : Fin 1024) :
    outsAt0 (F := Ideal) m c t.val t.isLt (ix2 e d)
      = outsAt0 (F := Ideal) m c (t.val - 1) (Nat.lt_of_le_of_lt (Nat.sub_le _ _) t.isLt) (ix2 e d) + prod m c t e d := by
  rw [outsAt0_B m c t h]
  frame_out
  refine (pay2_at _ _ _ e d).trans ?_
  exact congrArg (_ + ·) (Finset.sum_congr rfl fun r _ => congrArg (· * _) (wide_ld _ _ _ _ r e))

/-- The windows' block indices at each grid point. -/
theorem idx_val : ∀ t : Fin cfg0.N, win0_0.index t = ![0, t.val, 0] ∧ win0_1.index t = ![0, t.val, 0]
    ∧ win0_2.index t = ![0, t.val, 0] ∧ win0_3.index t = ![0, t.val, 0] ∧ win0_4.index t = ![t.val, 0] ∧ win0_5.index t = ![0, 0] :=
  (by decide +kernel : ∀ t : Fin grid0.N, _)

/-- Every entry of the two arguments is the number that the functions give at its row and column. -/
structure Entries (a0 a1 : Vec Ideal S2x2048x1024 .f32) (Y D : ℕ → ℕ → EReal) : Prop where
  y : ∀ b t e, a0 (ix3 b t e) = Y (2048 * b + t) e
  d : ∀ b t e, a1 (ix3 b t e) = D (2048 * b + t) e

variable {m c} {Y D : ℕ → ℕ → EReal}
  (R : Entries (m ((c : Thread nD τ).loc main_arg0)) (m ((c : Thread nD τ).loc main_arg1)) Y D)
include R

/-- The entry array of the groups 0 to 3. -/
theorem V4 (g : Fin 4) (n : Fin 4096) (l : Fin 64) : V (F := Ideal) m c main_v4 (ix3 g n l) = Y n (64 * (0 + g) + l) := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y n) (by omega)

/-- The entry array of the groups 4 to 7. -/
theorem V6 (g : Fin 4) (n : Fin 4096) (l : Fin 64) : V (F := Ideal) m c main_v6 (ix3 g n l) = Y n (64 * (4 + g) + l) := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y n) (by omega)

/-- The entry array of the groups 8 to 11. -/
theorem V8 (g : Fin 4) (n : Fin 4096) (l : Fin 64) : V (F := Ideal) m c main_v8 (ix3 g n l) = Y n (64 * (8 + g) + l) := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y n) (by omega)

/-- The entry array of the groups 12 to 15. -/
theorem V10 (g : Fin 4) (n : Fin 4096) (l : Fin 64) : V (F := Ideal) m c main_v10 (ix3 g n l) = Y n (64 * (12 + g) + l) := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y n) (by omega)

/-- The entry array of the gradient. -/
theorem V12 (n : Fin 4096) (d : Fin 1024) : V (F := Ideal) m c main_v12 (ix2 n d) = D n d := by
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.d]
  simp only [Nat.div_add_mod]

/-- A block of the groups 0 to 3. -/
theorem blk0 (t : Fin cfg0.N) (g : Fin 4) (r : Fin 1024) (l : Fin 64) :
    iblk (F := Ideal) m c 0 t (ix3 g r l) = Y (1024 * t + r) (64 * (0 + g) + l) := by
  have ht : t.val < 4 := t.isLt
  have E : iblk (F := Ideal) m c 0 t (ix3 g r l) = V (F := Ideal) m c main_v4 (ix3 g ⟨1024 * t + r, by omega⟩ l) := by
    blk_ext [iblk, idx_val t]
  rw [E, V4 R]

/-- A block of the groups 4 to 7. -/
theorem blk1 (t : Fin cfg0.N) (g : Fin 4) (r : Fin 1024) (l : Fin 64) :
    iblk (F := Ideal) m c 1 t (ix3 g r l) = Y (1024 * t + r) (64 * (4 + g) + l) := by
  have ht : t.val < 4 := t.isLt
  have E : iblk (F := Ideal) m c 1 t (ix3 g r l) = V (F := Ideal) m c main_v6 (ix3 g ⟨1024 * t + r, by omega⟩ l) := by
    blk_ext [iblk, idx_val t]
  rw [E, V6 R]

/-- A block of the groups 8 to 11. -/
theorem blk2 (t : Fin cfg0.N) (g : Fin 4) (r : Fin 1024) (l : Fin 64) :
    iblk (F := Ideal) m c 2 t (ix3 g r l) = Y (1024 * t + r) (64 * (8 + g) + l) := by
  have ht : t.val < 4 := t.isLt
  have E : iblk (F := Ideal) m c 2 t (ix3 g r l) = V (F := Ideal) m c main_v8 (ix3 g ⟨1024 * t + r, by omega⟩ l) := by
    blk_ext [iblk, idx_val t]
  rw [E, V8 R]

/-- A block of the groups 12 to 15. -/
theorem blk3 (t : Fin cfg0.N) (g : Fin 4) (r : Fin 1024) (l : Fin 64) :
    iblk (F := Ideal) m c 3 t (ix3 g r l) = Y (1024 * t + r) (64 * (12 + g) + l) := by
  have ht : t.val < 4 := t.isLt
  have E : iblk (F := Ideal) m c 3 t (ix3 g r l) = V (F := Ideal) m c main_v10 (ix3 g ⟨1024 * t + r, by omega⟩ l) := by
    blk_ext [iblk, idx_val t]
  rw [E, V10 R]

/-- A block of the gradient. -/
theorem blk4 (t : Fin cfg0.N) (r d : Fin 1024) : iblk (F := Ideal) m c 4 t (ix2 r d) = D (1024 * t + r) d := by
  have ht : t.val < 4 := t.isLt
  have E : iblk (F := Ideal) m c 4 t (ix2 r d) = V (F := Ideal) m c main_v12 (ix2 ⟨1024 * t + r, by omega⟩ d) := by
    blk_ext [iblk, idx_val t]
  rw [E, V12 R]

theorem wide_blk (t : Fin cfg0.N) (r e : Fin 1024) :
    wide (pick (iblk (F := Ideal) m c 0 t) (iblk m c 1 t) (iblk m c 2 t) (iblk m c 3 t)) r e = Y (1024 * t + r) e := by
  unfold wide
  rcases (by omega : e.val / 256 = 0 ∨ e.val / 256 = 1 ∨ e.val / 256 = 2 ∨ e.val / 256 = 3) with h | h | h | h
  all_goals rw [h]
  · exact (blk0 R t _ r _).trans (congrArg (Y _) (by dsimp only; omega))
  · exact (blk1 R t _ r _).trans (congrArg (Y _) (by dsimp only; omega))
  · exact (blk2 R t _ r _).trans (congrArg (Y _) (by dsimp only; omega))
  · exact (blk3 R t _ r _).trans (congrArg (Y _) (by dsimp only; omega))

/-- The product of one grid point: its 1024 rows. -/
theorem prod_value (t : Fin cfg0.N) (e d : Fin 1024) :
    prod m c t e d = ∑ r ∈ Finset.range 1024, Y (1024 * t + r) e * D (1024 * t + r) d := by
  unfold prod
  rw [Finset.sum_range]
  exact Finset.sum_congr rfl fun r _ => by rw [wide_blk R, blk4 R]

/-- The accumulator after each point: the products of the rows met so far. -/
theorem acc_value : ∀ (n : ℕ) (hn : n < cfg0.N) (e d : Fin 1024),
    outsAt0 (F := Ideal) m c n hn (ix2 e d) = ∑ k ∈ Finset.range (1024 * (n + 1)), Y k e * D k d := by
  intro n
  induction n with
  | zero =>
    intro hn e d
    refine (step_A m c ⟨0, hn⟩ rfl e d).trans ((prod_value R _ e d).trans ?_)
    simp
  | succ n ih =>
    intro hn e d
    have ht : n + 1 < 4 := hn
    refine (step_B m c ⟨n + 1, hn⟩ (by dsimp only; omega) e d).trans ?_
    rw [prod_value R, Nat.mul_add 1024 (n + 1) 1, Nat.mul_one, Finset.sum_range_add]
    exact congrArg (· + _) (ih (Nat.lt_of_succ_lt hn) e d)

/-- The result array. -/
theorem result : (dats (F := Ideal) m 0 c).arrAt 5 cfg0.N = fun y : S1024x1024.Idx => gradW Y D (y 0) (y 1) := by
  refine (dats (F := Ideal) m 0 c).arrAt_eq_of_after_last 5 t0_3 (by decide +kernel) _ fun y => ?_
  blk_simp
  rw [after0_5]
  idx_vars y
  refine (acc_value R 3 _ _ _).trans ?_
  unfold gradW
  rw [Finset.sum_range]

end OutK

end Cert.Out

end
-- ==== Proof.OutClaim.lean ====
/-
  The claims about the output projection's weight gradient: the reference at an index, its frame and the equality of the two
  programs over the extended reals.
-/
module

public import proofs.«01_k».proof.Defs
public import proofs.«01_k».proof.Proof.OutK
public import proofs.«01_k».proof.Proof.Entry
public import proofs.«01_k».proof.Proof.Gen.OutKernelIdeal
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import Idealize.ShloMosaic.Adequacy
public import Idealize.ShloMosaic.Init

@[expose] public section

set_option maxRecDepth 16384

noncomputable section

namespace Cert.Out.OutR

open Idealize.ShloMosaic Idealize.ShloMosaic.TcCoe Idealize.SL.Sem Cert.Entry

section Reference

open Cert.OutReferenceIdeal Cert.OutReferenceIdeal.Read

/-- The reference at an index. -/
theorem v3 {x0 x1 : Vec Ideal S2x2048x1024 .f32} {Y D : ℕ → ℕ → EReal}
    (hy : ∀ (b : Fin 2) (t : Fin 2048) (k : Fin 1024), x0 (ix3 b t k) = Y (2048 * b + t) k)
    (hd : ∀ (b : Fin 2) (t : Fin 2048) (k : Fin 1024), x1 (ix3 b t k) = D (2048 * b + t) k) (e d : Fin 1024) :
    val_main_v3 (F := Ideal) x0 x1 (ix2 e d) = gradW Y D e d := by
  pointwise [val_main_v3, val_main_v2, hy, hd]
  unfold gradW
  refine Fin.sum_mul_add_congr (f := fun n : Fin 4096 => Y n e * D n d) fun b t _ => ?_
  dsimp only
  rw [Nat.mul_comm b.val, mul_comm]

end Reference

/-- The reference runs, leaves its arguments as they are, and every counter ends at zero. -/
theorem frame_reference : quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run (F := Ideal) m ρ)

/-- Over the extended reals the kernel computes the gradient of the projection's weight. -/
theorem value : algebraic_OutKernelIdeal_OutReferenceIdeal := by
  intro m ρ m' ρ' _ hagree
  refine ⟨fun c => fun y : Cert.OutKernelIdeal.S1024x1024.Idx => (gradW
      (row (m ((c.tc : Thread Cert.OutKernelIdeal.nD Cert.OutKernelIdeal.τ).loc Cert.OutKernelIdeal.main_arg0)))
      (row (m ((c.tc : Thread Cert.OutKernelIdeal.nD Cert.OutKernelIdeal.τ).loc Cert.OutKernelIdeal.main_arg1))) (y 0) (y 1) : EReal), ?_, ?_⟩
  · exact (θ_run Cert.OutKernelIdeal.defs _ _).mono
      (fun r h c => ⟨(h c).1.trans (OutK.result ⟨row_eq _, row_eq _⟩), (h c).2⟩)
      (Cert.OutKernelIdeal.Value.run_blocks (F := Ideal) m ρ)
  · refine (θ_run Cert.OutReferenceIdeal.defs _ _).mono (fun r h c => ?_) (Cert.OutReferenceIdeal.Value.run (F := Ideal) m' ρ')
    obtain ⟨e0, e1⟩ := hagree c
    refine ⟨(h c).1.trans ((Cert.OutReferenceIdeal.Read.val_main_v3_eq _ _).trans ?_), (h c).2⟩
    rw [e0, e1]
    funext y
    idx_vars y
    exact v3 (row_eq _) (row_eq _) _ _

end Cert.Out.OutR

end
-- ==== Proof.Shift.lean ====
/-
  Columns of 2048 entries read a few rows further down or further up.
-/
module

public import Mathlib.Data.EReal.Operations

@[expose] public section

noncomputable section

namespace Cert.Shift

/-- A column of 2048 entries read `s` rows further down, zero past its end. -/
def ahead (s : ℕ) (f : ℕ → EReal) (t : ℕ) : EReal := if t + s < 2048 then f (t + s) else 0

/-- A column of 2048 entries read `s` rows further up, zero before its beginning. -/
def behind (s : ℕ) (f : ℕ → EReal) (t : ℕ) : EReal := if t < s then 0 else f (t - s)

theorem ahead_of_lt {s : ℕ} {f : ℕ → EReal} {t : ℕ} (h : t + s < 2048) : ahead s f t = f (t + s) := if_pos h
theorem ahead_of_le {s : ℕ} {f : ℕ → EReal} {t : ℕ} (h : ¬ t + s < 2048) : ahead s f t = 0 := if_neg h
theorem behind_of_lt {s : ℕ} {f : ℕ → EReal} {t : ℕ} (h : t < s) : behind s f t = 0 := if_pos h
theorem behind_of_le {s : ℕ} {f : ℕ → EReal} {t : ℕ} (h : ¬ t < s) : behind s f t = f (t - s) := if_neg h

end Cert.Shift

end
-- ==== Proof.ConvK.lean ====
/-
  The backward pass of the depthwise causal convolution of four taps: what one grid point of the kernel stores for its 64 columns,
  and the two arrays the kernel leaves.
-/
module

public import proofs.«01_k».proof.Proof.Shift
public import proofs.«01_k».proof.Proof.Gen.ConvKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Conv

open Cert.Shift

/-- The gradient of a column before the convolution with the taps `w`, from the gradient `d` after it. -/
def gradCol (d w : ℕ → EReal) (t : ℕ) : EReal := w 3 * d t + w 0 * ahead 3 d t + w 1 * ahead 2 d t + w 2 * ahead 1 d t

/-- The gradient of tap `i`. -/
def gradTap (d x : ℕ → EReal) (i : ℕ) : EReal := ∑ t : Fin 2048, d t * behind (3 - i) x t

namespace K

open Idealize.ShloMosaic Idealize.ShloMosaic.TcCoe Idealize.SL.Sem Cert.ConvKernelIdeal Cert.ConvKernelIdeal.Gen
open Idealize.ShloMosaic.Pipeline (Dat)

variable (x0 : Vec Ideal S1x2048x64 .f32) (x1 : Vec Ideal S1x4x64 .f32) (x2 : Vec Ideal S1x2048x64 .f32) (x d w : ℕ → ℕ → EReal)

/-- The block of the first result. -/
theorem grad_apply (h1 : ∀ (i : Fin 4) (l : Fin 64), x1 (ix3 0 i l) = w l i)
    (h2 : ∀ (r : Fin 2048) (l : Fin 64), x2 (ix3 0 r l) = d l r) (y : S1x2048x64.Idx) :
    out0_3 (F := Ideal) x0 x1 x2 y = gradCol (d (y 2)) (w (y 2)) (y 1) := by
  unfold_out out0_3
  canon_tiles v e
  all_goals
    open_payloads
    idx_vars v
    pointwise [h1, h2, hlo_ix]
    have g1 : (v1 : ℕ) < 2048 := v1.isLt
    rw [e1, e2]
    have i1 : ((v1 : ℕ) + 1 < 2048) → ((v1 : ℕ) + 2048 - 2047) % 2048 = v1 + 1 := by omega
    have i2 : ((v1 : ℕ) + 2 < 2048) → ((v1 : ℕ) + 2048 - 2046) % 2048 = v1 + 2 := by omega
    have i3 : ((v1 : ℕ) + 3 < 2048) → ((v1 : ℕ) + 2048 - 2045) % 2048 = v1 + 3 := by omega
    word_cmp
    split_ifs <;> first | (exfalso; omega) |
    (simp (disch := omega) only [i1, i2, i3, Nat.zero_add, gradCol, mul_zero, add_zero, ahead_of_lt, ahead_of_le])

/-- The block of the second result. -/
theorem tap_apply (h0 : ∀ (r : Fin 2048) (l : Fin 64), x0 (ix3 0 r l) = x l r)
    (h2 : ∀ (r : Fin 2048) (l : Fin 64), x2 (ix3 0 r l) = d l r) (y : S1x1x4x64.Idx) :
    out0_4 (F := Ideal) x0 x1 x2 y = gradTap (d (y 3)) (x (y 3)) (y 2) := by
  unfold_out out0_4
  canon_tiles v e
  all_goals
    open_payloads
    idx_vars v
    pointwise [h0, h2, hlo_ix]
    have g2 : (v2 : ℕ) = 0 := by omega
    rw [e2, e3, g2]
    unfold gradTap
    refine Finset.sum_congr rfl fun r _ => ?_
    have g1 : (r : ℕ) < 2048 := r.isLt
    have i1 : (1 ≤ (r : ℕ)) → ((r : ℕ) + 2048 - 1) % 2048 = r - 1 := by omega
    have i2 : (2 ≤ (r : ℕ)) → ((r : ℕ) + 2048 - 2) % 2048 = r - 2 := by omega
    have i3 : (3 ≤ (r : ℕ)) → ((r : ℕ) + 2048 - 3) % 2048 = r - 3 := by omega
    try word_cmp
    try split_ifs
    all_goals
      simp (disch := omega) only [i1, i2, i3, Nat.add_zero, Nat.sub_self, Nat.sub_zero, Nat.reduceSub, Nat.reduceAdd, mul_zero, behind_of_lt, behind_of_le]

variable (m : (ℓ : Loc nD τ sig) → Buf (Elt Ideal) ℓ)

/-- Every entry of the three arguments is what the functions give at its sequence, row and column. -/
structure Args (a0 : Vec Ideal S2x2048x768 .f32) (a1 : Vec Ideal S4x768 .f32) (a2 : Vec Ideal S2x2048x768 .f32)
    (X : ℕ → ℕ → ℕ → EReal) (W : ℕ → ℕ → EReal) (D : ℕ → ℕ → ℕ → EReal) : Prop where
  x : ∀ b t q, a0 (ix3 b t q) = X b t q
  w : ∀ i q, a1 (ix2 i q) = W i q
  d : ∀ b t q, a2 (ix3 b t q) = D b t q

/-- The entry array of the columns. -/
theorem V0 (c : Dev nD) (g : Fin 68) (n : Fin 4096) (l : Fin 64) (h : (g : ℕ) < 12) :
    V (F := Ideal) m c main_v2 (ix3 g n l) = m ((c : Thread nD τ).loc main_arg0)
      (ix3 ⟨n / 2048, by omega⟩ ⟨n % 2048, by omega⟩ ⟨g * 64 + l, by omega⟩) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  rw [dif_pos h]

/-- The entry array of the taps. -/
theorem V1 (c : Dev nD) (g : Fin 12) (i : Fin 4) (l : Fin 64) :
    V (F := Ideal) m c main_v4 (ix3 g i l) = m ((c : Thread nD τ).loc main_arg1) (ix2 i ⟨g * 64 + l, by omega⟩) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The entry array of the gradient after the convolution. -/
theorem V2 (c : Dev nD) (g : Fin 12) (n : Fin 4096) (l : Fin 64) :
    V (F := Ideal) m c main_v6 (ix3 g n l) = m ((c : Thread nD τ).loc main_arg2)
      (ix3 ⟨n / 2048, by omega⟩ ⟨n % 2048, by omega⟩ ⟨g * 64 + l, by omega⟩) := by
  simp only [V, hostOps0, hostOps0_1, hostOps0_2, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The windows' block indices at each grid point. -/
theorem idx_val : ∀ t : Fin cfg0.N, win0_0.index t = ![t.val / 2, t.val % 2, 0] ∧ win0_1.index t = ![t.val / 2, 0, 0]
    ∧ win0_2.index t = ![t.val / 2, t.val % 2, 0] ∧ win0_3.index t = ![t.val / 2, t.val % 2, 0] ∧ win0_4.index t = ![t.val / 2, t.val % 2, 0, 0] :=
  (by decide +kernel : ∀ t : Fin grid0.N, _)

variable {m} {c : Dev nD} {X : ℕ → ℕ → ℕ → EReal} {W : ℕ → ℕ → EReal} {D : ℕ → ℕ → ℕ → EReal}
  (R : Args (m ((c : Thread nD τ).loc main_arg0)) (m ((c : Thread nD τ).loc main_arg1)) (m ((c : Thread nD τ).loc main_arg2)) X W D)
include R

/-- The block of columns at a grid point. -/
theorem blk0 (t : Fin cfg0.N) (r : Fin 2048) (l : Fin 64) :
    iblk (F := Ideal) m c 0 t (ix3 0 r l) = X (t.val % 2) r (64 * (t.val / 2) + l) := by
  have ht : t.val < 24 := t.isLt
  have E : iblk (F := Ideal) m c 0 t (ix3 0 r l)
      = V (F := Ideal) m c main_v2 (ix3 ⟨t.val / 2, by omega⟩ ⟨2048 * (t.val % 2) + r, by omega⟩ l) := by
    blk_ext [iblk, idx_val t]
  rw [E, V0 m c _ _ _ (by dsimp only; omega), R.x]
  dsimp only
  congr 1 <;> omega

/-- The block of taps at a grid point. -/
theorem blk1 (t : Fin cfg0.N) (i : Fin 4) (l : Fin 64) :
    iblk (F := Ideal) m c 1 t (ix3 0 i l) = W i (64 * (t.val / 2) + l) := by
  have ht : t.val < 24 := t.isLt
  have E : iblk (F := Ideal) m c 1 t (ix3 0 i l) = V (F := Ideal) m c main_v4 (ix3 ⟨t.val / 2, by omega⟩ i l) := by
    blk_ext [iblk, idx_val t]
  rw [E, V1, R.w]
  dsimp only
  congr 1
  omega

/-- The block of the gradient at a grid point. -/
theorem blk2 (t : Fin cfg0.N) (r : Fin 2048) (l : Fin 64) :
    iblk (F := Ideal) m c 2 t (ix3 0 r l) = D (t.val % 2) r (64 * (t.val / 2) + l) := by
  have ht : t.val < 24 := t.isLt
  have E : iblk (F := Ideal) m c 2 t (ix3 0 r l)
      = V (F := Ideal) m c main_v6 (ix3 ⟨t.val / 2, by omega⟩ ⟨2048 * (t.val % 2) + r, by omega⟩ l) := by
    blk_ext [iblk, idx_val t]
  rw [E, V2, R.d]
  dsimp only
  congr 1 <;> omega

/-- The kernel's first result. -/
theorem final3 : (dats (F := Ideal) m 0 c).arrAt 3 cfg0.N = fun y : S12x4096x64.Idx =>
    gradCol (fun t => D ((y 1).val / 2048) t (64 * (y 0).val + (y 2).val)) (fun i => W i (64 * (y 0).val + (y 2).val)) ((y 1).val % 2048) := by
  refine (dats (F := Ideal) m 0 c).arrAt_eq_of_covers 3 _ (by decide +kernel) fun t _ y => ?_
  have ht : t.val < 24 := t.isLt
  blk_simp
  rw [after0_3]
  refine (grad_apply (w := fun l i => W i (64 * (t.val / 2) + l)) (d := fun l r => D (t.val % 2) r (64 * (t.val / 2) + l))
    _ _ _ (blk1 R t) (blk2 R t) y).trans ?_
  idx_vars y
  blk_simp [idx_val t]
  have e1 : t.val / 2 * 1 + y0.val = t.val / 2 := by omega
  have e3 : (t.val % 2 * 2048 + y1.val) / 2048 = t.val % 2 := by omega
  have e4 : (t.val % 2 * 2048 + y1.val) % 2048 = y1.val := by omega
  simp only [e1, e3, e4, Nat.mul_zero, Nat.zero_mul, Nat.zero_add]

/-- The kernel's second result. -/
theorem final4 : (dats (F := Ideal) m 0 c).arrAt 4 cfg0.N = fun y : S12x2x4x64.Idx =>
    gradTap (fun t => D (y 1) t (64 * (y 0).val + (y 3).val)) (fun t => X (y 1) t (64 * (y 0).val + (y 3).val)) (y 2) := by
  refine (dats (F := Ideal) m 0 c).arrAt_eq_of_covers 4 _ (by decide +kernel) fun t _ y => ?_
  have ht : t.val < 24 := t.isLt
  blk_simp
  rw [after0_4]
  refine (tap_apply (x := fun l r => X (t.val % 2) r (64 * (t.val / 2) + l)) (d := fun l r => D (t.val % 2) r (64 * (t.val / 2) + l))
    _ _ _ (blk0 R t) (blk2 R t) y).trans ?_
  idx_vars y
  blk_simp [idx_val t]

end K

end Cert.Conv

end
-- ==== Proof.ConvClaim.lean ====
/-
  The claims about the backward pass of the depthwise convolution of four taps: the reference at an index, its frame and the
  equality of the two programs over the extended reals.
-/
module

public import proofs.«01_k».proof.Defs
public import proofs.«01_k».proof.Proof.ConvK
public import proofs.«01_k».proof.Proof.Entry
public import proofs.«01_k».proof.Proof.Gen.ConvKernelIdeal
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read
public import Idealize.ShloMosaic.Adequacy
public import Idealize.ShloMosaic.Init

@[expose] public section

set_option maxRecDepth 16384

noncomputable section

namespace Cert.Conv.R

open Idealize.ShloMosaic Idealize.ShloMosaic.TcCoe Idealize.SL.Sem Cert.Entry Cert.Shift

section Reference

open Cert.ConvReferenceIdeal Cert.ConvReferenceIdeal.Read

variable {x0 : Vec Ideal S2x2048x768 .f32} {x1 : Vec Ideal S4x768 .f32} {x2 : Vec Ideal S2x2048x768 .f32}
  {X : ℕ → ℕ → ℕ → EReal} {W : ℕ → ℕ → EReal} {D : ℕ → ℕ → ℕ → EReal}

/-- A sum over two axes of length one is its only term. -/
theorem sum_unit (h : S2x1x1x768.ReducesTo [1, 2] S2x768) (v : S2x1x1x768.Idx → EReal) (init : EReal) (b : Fin 2) (q : Fin 768) :
    Ideal.hostReduceAdd h v init (ix2 b q) = init + v (ix4 b 0 0 q) := by
  have E : Finset.univ.filter (fun i => h.drop i = (ix2 b q : S2x768.Idx)) = {ix4 b 0 0 q} := by
    ext i
    simp only [Finset.mem_filter, Finset.mem_univ, true_and, Finset.mem_singleton]
    constructor
    · intro e
      funext a; apply Fin.ext
      match a with
      | ⟨0, _⟩ => exact congrArg Fin.val (congrFun e 0)
      | ⟨1, _⟩ => exact Nat.lt_one_iff.mp (i 1).isLt
      | ⟨2, _⟩ => exact Nat.lt_one_iff.mp (i 2).isLt
      | ⟨3, _⟩ => exact congrArg Fin.val (congrFun e 1)
    · rintro rfl
      funext a; apply Fin.ext
      match a with
      | ⟨0, _⟩ => rfl
      | ⟨1, _⟩ => rfl
  rw [Ideal.hostReduceAdd, E, Finset.sum_singleton]

/-- The columns with three zeros before them. -/
theorem v3 (hx : ∀ (b : Fin 2) (t : Fin 2048) (q : Fin 768), x0 (ix3 b t q) = X b t q) (b : Fin 2) (u : Fin 1) (t : Fin 2051) (q : Fin 768) :
    val_main_v3 (F := Ideal) x0 (ix4 b u t q) = behind 3 (fun t => X b t q) t := by
  pointwise [val_main_v3, val_main_v2, val_main_v1, val_main_v0, val_main_cst, hx]
  simp only [behind]
  split_ifs <;> rfl

/-- The gradient of the columns, before it is laid out by groups. -/
theorem v86 (hw : ∀ (i : Fin 4) (q : Fin 768), x1 (ix2 i q) = W i q) (hd : ∀ (b : Fin 2) (t : Fin 2048) (q : Fin 768), x2 (ix3 b t q) = D b t q)
    (b : Fin 2) (u : Fin 1) (t : Fin 2048) (q : Fin 768) :
    val_main_v86 (F := Ideal) x1 x2 (ix4 b u t q) = gradCol (fun t => D b t q) (fun i => W i q) t := by
  pointwise [val_main_v86, val_main_v84, val_main_v83, val_main_cst_17, val_main_v78, val_main_v77, val_main_v76, val_main_v8, val_main_v7, val_main_v6,
    val_main_v72, val_main_v71, val_main_cst_13, val_main_v66, val_main_v65, val_main_v64, val_main_v17, val_main_v16, val_main_v15,
    val_main_v60, val_main_v59, val_main_cst_9, val_main_v54, val_main_v53, val_main_v52, val_main_v25, val_main_v24, val_main_v23,
    val_main_v48, val_main_cst_5, val_main_v44, val_main_v43, val_main_v42, val_main_v33, val_main_v32, val_main_v31, val_main_v38, hw, hd]
  have e0 : 3 + t.val - 3 = t.val := by omega
  have e1 : 3 + t.val - 2 = t.val + 1 := by omega
  have e2 : 3 + t.val - 1 = t.val + 2 := by omega
  simp only [e0, e1, e2]
  simp only [Nat.add_comm 3 t.val, gradCol, ahead]
  split_ifs
  all_goals first | (exfalso; omega) | skip
  all_goals try simp only [mul_zero, add_zero, zero_add]
  all_goals ac_rfl

/-- The gradient of the taps, before it is laid out by groups. -/
theorem v82 (hx : ∀ (b : Fin 2) (t : Fin 2048) (q : Fin 768), x0 (ix3 b t q) = X b t q) (hd : ∀ (b : Fin 2) (t : Fin 2048) (q : Fin 768), x2 (ix3 b t q) = D b t q)
    (b : Fin 2) (i : Fin 4) (q : Fin 768) :
    val_main_v82 (F := Ideal) x0 x2 (ix3 b i q) = gradTap (fun t => D b t q) (fun t => X b t q) i := by
  pointwise [val_main_v82, val_main_v81, val_main_cst_16, val_main_v80, val_main_v79, val_main_cst_15, val_main_v75, val_main_v74, val_main_cst_14, val_main_v73, val_main_v5,
    val_main_v70, val_main_v69, val_main_cst_12, val_main_v68, val_main_v67, val_main_cst_11, val_main_v63, val_main_v62, val_main_cst_10, val_main_v61, val_main_v14,
    val_main_v58, val_main_v57, val_main_cst_8, val_main_v56, val_main_v55, val_main_cst_7, val_main_v51, val_main_v50, val_main_cst_6, val_main_v49, val_main_v22,
    val_main_v47, val_main_cst_4, val_main_v46, val_main_v45, val_main_cst_3, val_main_v41, val_main_v40, val_main_cst_2, val_main_v39, val_main_v30,
    val_main_v38, v3 hx, hd, sum_unit]
  have E : ∀ (k t : ℕ), k ≤ 3 → behind 3 (fun t => X b t q) (k + t) = behind (3 - k) (fun t => X b t q) t := by
    intro k t hk
    have e : k + t - 3 = t - (3 - k) := by omega
    simp only [behind, e]
    split_ifs <;> first | (exfalso; omega) | rfl
  simp only [E 3 _ (by omega), E 2 _ (by omega), E 1 _ (by omega), gradTap]
  obtain ⟨i, hi⟩ := i
  interval_cases i <;> simp [mul_comm]

/-- The reference's first result. -/
theorem v90 (hw : ∀ (i : Fin 4) (q : Fin 768), x1 (ix2 i q) = W i q) (hd : ∀ (b : Fin 2) (t : Fin 2048) (q : Fin 768), x2 (ix3 b t q) = D b t q)
    (g : Fin 12) (n : Fin 4096) (l : Fin 64) : val_main_v90 (F := Ideal) x1 x2 (ix3 g n l)
    = gradCol (fun t => D (n.val / 2048) t (64 * g.val + l.val)) (fun i => W i (64 * g.val + l.val)) (n.val % 2048) := by
  pointwise [val_main_v90, val_main_v89, val_main_v88, val_main_v87]
  rw [v86 hw hd]
  simp only [Nat.mul_comm 64 g.val]

/-- The reference's second result. -/
theorem v92 (hx : ∀ (b : Fin 2) (t : Fin 2048) (q : Fin 768), x0 (ix3 b t q) = X b t q) (hd : ∀ (b : Fin 2) (t : Fin 2048) (q : Fin 768), x2 (ix3 b t q) = D b t q)
    (g : Fin 12) (b : Fin 2) (i : Fin 4) (l : Fin 64) : val_main_v92 (F := Ideal) x0 x2 (ix4 g b i l)
    = gradTap (fun t => D b t (64 * g.val + l.val)) (fun t => X b t (64 * g.val + l.val)) i := by
  pointwise [val_main_v92, val_main_v91, v82 hx hd]
  simp only [Nat.mul_comm 64 g.val]

end Reference

/-- The reference runs, leaves its arguments as they are, and every counter ends at zero. -/
theorem frame_reference : quiescent_ConvReferenceIdeal := fun m ρ _ =>
  (θ_run Cert.ConvReferenceIdeal.defs _ _).mono
    (fun r h => ⟨fun c => (h c).2.2, sem_eq_zero_of_no_sems (by decide) r.2⟩)
    (Cert.ConvReferenceIdeal.Value.run (F := Ideal) m ρ)

/-- Over the extended reals the kernel computes the two gradients of the convolution. -/
theorem value : algebraic_ConvKernelIdeal_ConvReferenceIdeal := by
  intro m ρ m' ρ' _ hagree
  refine ⟨fun c => fun y : Cert.ConvKernelIdeal.S12x4096x64.Idx => gradCol
      (fun t => at3 (m ((c.tc : Thread Cert.ConvKernelIdeal.nD Cert.ConvKernelIdeal.τ).loc Cert.ConvKernelIdeal.main_arg2)) ((y 1).val / 2048) t (64 * (y 0).val + (y 2).val))
      (fun i => at2 (m ((c.tc : Thread Cert.ConvKernelIdeal.nD Cert.ConvKernelIdeal.τ).loc Cert.ConvKernelIdeal.main_arg1)) i (64 * (y 0).val + (y 2).val)) ((y 1).val % 2048),
    fun c => fun y : Cert.ConvKernelIdeal.S12x2x4x64.Idx => gradTap
      (fun t => at3 (m ((c.tc : Thread Cert.ConvKernelIdeal.nD Cert.ConvKernelIdeal.τ).loc Cert.ConvKernelIdeal.main_arg2)) (y 1) t (64 * (y 0).val + (y 3).val))
      (fun t => at3 (m ((c.tc : Thread Cert.ConvKernelIdeal.nD Cert.ConvKernelIdeal.τ).loc Cert.ConvKernelIdeal.main_arg0)) (y 1) t (64 * (y 0).val + (y 3).val)) (y 2), ?_, ?_⟩
  · exact (θ_run Cert.ConvKernelIdeal.defs _ _).mono
      (fun r h c => ⟨(h c).1.trans (K.final3 ⟨at3_eq _, at2_eq _, at3_eq _⟩), (h c).2.1.trans (K.final4 ⟨at3_eq _, at2_eq _, at3_eq _⟩), (h c).2.2⟩)
      (Cert.ConvKernelIdeal.Value.run_blocks (F := Ideal) m ρ)
  · refine (θ_run Cert.ConvReferenceIdeal.defs _ _).mono (fun r h c => ?_) (Cert.ConvReferenceIdeal.Value.run (F := Ideal) m' ρ')
    obtain ⟨e0, e1, e2⟩ := hagree c
    refine ⟨(h c).1.trans ((Cert.ConvReferenceIdeal.Read.val_main_v90_eq _ _).trans ?_),
      (h c).2.1.trans ((Cert.ConvReferenceIdeal.Read.val_main_v92_eq m' c).trans ?_), (h c).2.2⟩
    · rw [e1, e2]
      funext y
      idx_vars y
      exact v90 (at2_eq _) (at3_eq _) _ _ _
    · rw [e0, e2]
      funext y
      idx_vars y
      exact v92 (at3_eq _) (at3_eq _) _ _ _ _

end Cert.Conv.R

end
-- ==== Proof.MixK.lean ====
/-
  The backward pass of the token shift: what one grid point of the kernel stores for its 64 columns, and the two arrays the kernel
  leaves.
-/
module

public import proofs.«01_k».proof.Proof.Shift
public import proofs.«01_k».proof.Proof.Gen.MixKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Mix

open Cert.Shift

/-- The gradient of a column before it is mixed, with the weight `u`, with its own row before. -/
def gradCol (d : ℕ → EReal) (u : EReal) (t : ℕ) : EReal := d t * (1 - u) + ahead 1 (fun t => d t * u) t

/-- The gradient of a column's weight. -/
def gradMu (d x : ℕ → EReal) : EReal := ∑ t : Fin 2048, d t * (behind 1 x t - x t)

namespace K

open Idealize.ShloMosaic Idealize.ShloMosaic.TcCoe Idealize.SL.Sem Cert.MixKernelIdeal Cert.MixKernelIdeal.Gen
open Idealize.ShloMosaic.Pipeline (Dat)

variable (x0 : Vec Ideal S1x2048x64 .f32) (x1 : Vec Ideal S1x1x64 .f32) (x2 : Vec Ideal S1x2048x64 .f32) (x d : ℕ → ℕ → EReal) (w : ℕ → EReal)

/-- The block of the first result. -/
theorem grad_apply (h1 : ∀ l : Fin 64, x1 (ix3 0 0 l) = w l)
    (h2 : ∀ (r : Fin 2048) (l : Fin 64), x2 (ix3 0 r l) = d l r) (y : S1x2048x64.Idx) :
    out0_3 (F := Ideal) x0 x1 x2 y = gradCol (d (y 2)) (w (y 2)) (y 1) := by
  unfold out0_3
  canon_tiles v e
  all_goals
    open_payloads
    idx_vars v
    pointwise [h1, h2, hlo_ix]
    have g1 : (v1 : ℕ) < 2048 := v1.isLt
    rw [e1, e2]
    have i1 : ((v1 : ℕ) + 1 < 2048) → ((v1 : ℕ) + 2048 - 2047) % 2048 = v1 + 1 := by omega
    word_cmp
    split_ifs <;> first | (exfalso; omega) |
    (simp (disch := omega) only [i1, Nat.zero_add, gradCol, mul_zero, add_zero, ahead_of_lt, ahead_of_le])

/-- The block of the second result. -/
theorem mu_apply (h0 : ∀ (r : Fin 2048) (l : Fin 64), x0 (ix3 0 r l) = x l r)
    (h2 : ∀ (r : Fin 2048) (l : Fin 64), x2 (ix3 0 r l) = d l r) (y : S1x1x1x64.Idx) :
    out0_4 (F := Ideal) x0 x1 x2 y = gradMu (d (y 3)) (x (y 3)) := by
  unfold out0_4
  canon_tiles v e
  all_goals
    open_payloads
    idx_vars v
    pointwise [h0, h2, hlo_ix]
    rw [e3]
    unfold gradMu
    refine Finset.sum_congr rfl fun r _ => ?_
    have g1 : (r : ℕ) < 2048 := r.isLt
    have i1 : (1 ≤ (r : ℕ)) → ((r : ℕ) + 2048 - 1) % 2048 = r - 1 := by omega
    try word_cmp
    try split_ifs
    all_goals
      simp (disch := omega) only [i1, Nat.add_zero, Nat.sub_self, Nat.sub_zero, Nat.reduceSub, Nat.reduceAdd, mul_zero, behind_of_lt, behind_of_le]

variable (m : (ℓ : Loc nD τ sig) → Buf (Elt Ideal) ℓ)

/-- Every entry of the three arguments is what the functions give at its sequence, row and column. -/
structure Args (a0 : Vec Ideal S2x2048x1152 .f32) (a1 : Vec Ideal S1152 .f32) (a2 : Vec Ideal S2x2048x1152 .f32)
    (X : ℕ → ℕ → ℕ → EReal) (W : ℕ → EReal) (D : ℕ → ℕ → ℕ → EReal) : Prop where
  x : ∀ b t q, a0 (ix3 b t q) = X b t q
  w : ∀ q, a1 (ix1 q) = W q
  d : ∀ b t q, a2 (ix3 b t q) = D b t q

/-- Where the host puts group `g` of the columns. -/
def place (g : ℕ) : ℕ := if g < 16 then 16 + g else 49 + g

/-- The entry array of the columns. -/
theorem V0 (c : Dev nD) (g : Fin 68) (e : Fin 18) (n : Fin 4096) (l : Fin 64) (h : (g : ℕ) = place e) :
    V (F := Ideal) m c main_v6 (ix3 g n l) = m ((c : Thread nD τ).loc main_arg0)
      (ix3 ⟨n / 2048, by omega⟩ ⟨n % 2048, by omega⟩ ⟨e * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  unfold place at h
  have ge := e.isLt
  split_ifs <;> first | (exfalso; split_ifs at h <;> omega) | skip
  all_goals
    refine congrArg _ (congrArg (ix3 _ _) (Fin.ext ?_))
    dsimp only
    split_ifs at h <;> omega

/-- The entry array of the weights. -/
theorem V1 (c : Dev nD) (g : Fin 18) (u : Fin 1) (l : Fin 64) :
    V (F := Ideal) m c main_v7 (ix3 g u l) = m ((c : Thread nD τ).loc main_arg1) (ix1 ⟨g * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The entry array of the gradient of the mixed columns. -/
theorem V2 (c : Dev nD) (g : Fin 18) (n : Fin 4096) (l : Fin 64) :
    V (F := Ideal) m c main_v9 (ix3 g n l) = m ((c : Thread nD τ).loc main_arg2)
      (ix3 ⟨n / 2048, by omega⟩ ⟨n % 2048, by omega⟩ ⟨g * 64 + l, by omega⟩) := by
  simp only [V, hostOps0, hostOps0_1, hostOps0_2, hostOps0_3, hostOps0_4, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise

/-- The windows' block indices at each grid point. -/
theorem idx_val : ∀ t : Fin cfg0.N, win0_0.index t = ![place (t.val / 2), t.val % 2, 0] ∧ win0_1.index t = ![t.val / 2, 0, 0]
    ∧ win0_2.index t = ![t.val / 2, t.val % 2, 0] ∧ win0_3.index t = ![t.val / 2, t.val % 2, 0] ∧ win0_4.index t = ![t.val / 2, t.val % 2, 0, 0] :=
  (by decide +kernel : ∀ t : Fin grid0.N, _)

theorem place_lt {g : ℕ} (h : g < 18) : place g < 68 := by unfold place; split_ifs <;> omega

variable {m} {c : Dev nD} {X : ℕ → ℕ → ℕ → EReal} {W : ℕ → EReal} {D : ℕ → ℕ → ℕ → EReal}
  (R : Args (m ((c : Thread nD τ).loc main_arg0)) (m ((c : Thread nD τ).loc main_arg1)) (m ((c : Thread nD τ).loc main_arg2)) X W D)
include R

/-- The block of columns at a grid point. -/
theorem blk0 (t : Fin cfg0.N) (r : Fin 2048) (l : Fin 64) :
    iblk (F := Ideal) m c 0 t (ix3 0 r l) = X (t.val % 2) r (64 * (t.val / 2) + l) := by
  have ht : t.val < 36 := t.isLt
  have E : iblk (F := Ideal) m c 0 t (ix3 0 r l)
      = V (F := Ideal) m c main_v6 (ix3 ⟨place (t.val / 2), place_lt (by omega)⟩ ⟨2048 * (t.val % 2) + r, by omega⟩ l) := by
    blk_ext [iblk, idx_val t]
  rw [E, V0 m c _ ⟨t.val / 2, by omega⟩ _ _ rfl, R.x]
  dsimp only
  congr 1 <;> omega

/-- The block of weights at a grid point. -/
theorem blk1 (t : Fin cfg0.N) (l : Fin 64) :
    iblk (F := Ideal) m c 1 t (ix3 0 0 l) = W (64 * (t.val / 2) + l) := by
  have ht : t.val < 36 := t.isLt
  have E : iblk (F := Ideal) m c 1 t (ix3 0 0 l) = V (F := Ideal) m c main_v7 (ix3 ⟨t.val / 2, by omega⟩ 0 l) := by
    blk_ext [iblk, idx_val t]
  rw [E, V1, R.w]
  dsimp only
  congr 1
  omega

/-- The block of the gradient at a grid point. -/
theorem blk2 (t : Fin cfg0.N) (r : Fin 2048) (l : Fin 64) :
    iblk (F := Ideal) m c 2 t (ix3 0 r l) = D (t.val % 2) r (64 * (t.val / 2) + l) := by
  have ht : t.val < 36 := t.isLt
  have E : iblk (F := Ideal) m c 2 t (ix3 0 r l)
      = V (F := Ideal) m c main_v9 (ix3 ⟨t.val / 2, by omega⟩ ⟨2048 * (t.val % 2) + r, by omega⟩ l) := by
    blk_ext [iblk, idx_val t]
  rw [E, V2, R.d]
  dsimp only
  congr 1 <;> omega

/-- The kernel's first result. -/
theorem final3 : (dats (F := Ideal) m 0 c).arrAt 3 cfg0.N = fun y : S18x4096x64.Idx =>
    gradCol (fun t => D ((y 1).val / 2048) t (64 * (y 0).val + (y 2).val)) (W (64 * (y 0).val + (y 2).val)) ((y 1).val % 2048) := by
  refine (dats (F := Ideal) m 0 c).arrAt_eq_of_covers 3 _ (by decide +kernel) fun t _ y => ?_
  have ht : t.val < 36 := t.isLt
  blk_simp
  rw [after0_3]
  refine (grad_apply (w := fun l => W (64 * (t.val / 2) + l)) (d := fun l r => D (t.val % 2) r (64 * (t.val / 2) + l))
    _ _ _ (blk1 R t) (blk2 R t) y).trans ?_
  idx_vars y
  blk_simp [idx_val t]
  have e1 : t.val / 2 * 1 + y0.val = t.val / 2 := by omega
  have e3 : (t.val % 2 * 2048 + y1.val) / 2048 = t.val % 2 := by omega
  have e4 : (t.val % 2 * 2048 + y1.val) % 2048 = y1.val := by omega
  simp only [e1, e3, e4, Nat.zero_mul, Nat.zero_add]

/-- The kernel's second result. -/
theorem final4 : (dats (F := Ideal) m 0 c).arrAt 4 cfg0.N = fun y : S18x2x1x64.Idx =>
    gradMu (fun t => D (y 1) t (64 * (y 0).val + (y 3).val)) (fun t => X (y 1) t (64 * (y 0).val + (y 3).val)) := by
  refine (dats (F := Ideal) m 0 c).arrAt_eq_of_covers 4 _ (by decide +kernel) fun t _ y => ?_
  have ht : t.val < 36 := t.isLt
  blk_simp
  rw [after0_4]
  refine (mu_apply (x := fun l r => X (t.val % 2) r (64 * (t.val / 2) + l)) (d := fun l r => D (t.val % 2) r (64 * (t.val / 2) + l))
    _ _ _ (blk0 R t) (blk2 R t) y).trans ?_
  idx_vars y
  blk_simp [idx_val t]

end K

end Cert.Mix

end
-- ==== Proof.MixClaim.lean ====
/-
  The claims about the backward pass of the token shift: the reference at an index, its frame and the equality of the two programs
  over the extended reals, for a finite gradient of the mixed columns.
-/
module

public import proofs.«01_k».proof.Defs
public import proofs.«01_k».proof.Proof.MixK
public import proofs.«01_k».proof.Proof.Entry
public import proofs.«01_k».proof.Proof.Finite
public import proofs.«01_k».proof.Proof.Gen.MixKernelIdeal
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_mix_finite
public import Idealize.ShloMosaic.Adequacy
public import Idealize.ShloMosaic.Init

@[expose] public section

set_option maxRecDepth 16384

noncomputable section

namespace Cert.Mix.R

open Idealize.ShloMosaic Idealize.ShloMosaic.TcCoe Idealize.SL.Sem Cert.Entry Cert.Shift

/-- For a real gradient the part that stays in its row is the gradient less the part that moves, whatever the weight. -/
theorem stay (d : ℝ) (u : EReal) : (d : EReal) * (1 - u) = d + -(u * d) := by
  induction u using EReal.rec with
  | bot =>
    have e : (1 : EReal) - ⊥ = ⊤ := by rw [sub_eq_add_neg, EReal.neg_bot]; exact EReal.coe_add_top 1
    rw [e]
    rcases lt_trichotomy d 0 with h | rfl | h
    · rw [EReal.coe_mul_top_of_neg h, EReal.bot_mul_coe_of_neg h, EReal.neg_top, EReal.add_bot]
    · simp
    · rw [EReal.coe_mul_top_of_pos h, EReal.bot_mul_coe_of_pos h, EReal.neg_bot, EReal.coe_add_top]
  | coe u =>
    rw [← EReal.coe_one, ← EReal.coe_sub, ← EReal.coe_mul, ← EReal.coe_mul, ← EReal.coe_neg, ← EReal.coe_add]
    exact congrArg _ (by ring)
  | top =>
    have e : (1 : EReal) - ⊤ = ⊥ := by rw [sub_eq_add_neg, EReal.neg_top]; exact EReal.add_bot 1
    rw [e]
    rcases lt_trichotomy d 0 with h | rfl | h
    · rw [EReal.coe_mul_bot_of_neg h, EReal.top_mul_coe_of_neg h, EReal.neg_bot, EReal.coe_add_top]
    · simp
    · rw [EReal.coe_mul_bot_of_pos h, EReal.top_mul_coe_of_pos h, EReal.neg_top, EReal.add_bot]

/-- Under the precondition every entry of the gradient of the mixed columns is a real number. -/
theorem real_of_finite {a0 : Vec Ideal Cert.Pre_mix_finite.S2x2048x1152 .f32} {a1 : Vec Ideal Cert.Pre_mix_finite.S1152 .f32}
    {a2 : Vec Ideal Cert.Pre_mix_finite.S2x2048x1152 .f32} (h : Cert.Pre_mix_finite.fn (F := Ideal) a0 a1 a2 = fun _ => 1#1) :
    ∀ i, a2 i = (((a2 i : EReal).toReal : ℝ) : EReal) := by
  have h0 := congrFun h (fun a => a.elim0)
  unfold Cert.Pre_mix_finite.fn at h0
  exact fun i => Cert.ShortConv.real_of_abs_lt (Host.reduce_andi_all _ _ _ _ _ h0 i)

section Reference

open Cert.MixReferenceIdeal Cert.MixReferenceIdeal.Read

variable {x0 : Vec Ideal S2x2048x1152 .f32} {x1 : Vec Ideal S1152 .f32} {x2 : Vec Ideal S2x2048x1152 .f32}
  {X : ℕ → ℕ → ℕ → EReal} {W : ℕ → EReal} {D : ℕ → ℕ → ℕ → EReal}

/-- A sum over two axes of length one is its only term. -/
theorem sum_unit (h : S2x1x1x1152.ReducesTo [1, 2] S2x1152) (v : S2x1x1x1152.Idx → EReal) (init : EReal) (b : Fin 2) (q : Fin 1152) :
    Ideal.hostReduceAdd h v init (ix2 b q) = init + v (ix4 b 0 0 q) := by
  have E : Finset.univ.filter (fun i => h.drop i = (ix2 b q : S2x1152.Idx)) = {ix4 b 0 0 q} := by
    ext i
    simp only [Finset.mem_filter, Finset.mem_univ, true_and, Finset.mem_singleton]
    constructor
    · intro e
      funext a; apply Fin.ext
      match a with
      | ⟨0, _⟩ => exact congrArg Fin.val (congrFun e 0)
      | ⟨1, _⟩ => exact Nat.lt_one_iff.mp (i 1).isLt
      | ⟨2, _⟩ => exact Nat.lt_one_iff.mp (i 2).isLt
      | ⟨3, _⟩ => exact congrArg Fin.val (congrFun e 1)
    · rintro rfl
      funext a; apply Fin.ext
      match a with
      | ⟨0, _⟩ => rfl
      | ⟨1, _⟩ => rfl
  rw [Ideal.hostReduceAdd, E, Finset.sum_singleton]

/-- The difference between the row before and the row itself. -/
theorem v6 (hx : ∀ (b : Fin 2) (t : Fin 2048) (q : Fin 1152), x0 (ix3 b t q) = X b t q) (b : Fin 2) (u : Fin 1) (t : Fin 2048) (q : Fin 1152) :
    val_main_v6 (F := Ideal) x0 (ix4 b u t q) = behind 1 (fun t => X b t q) t - X b t q := by
  pointwise [val_main_v6, val_main_v4, val_main_v3, val_main_v2, val_main_v1, val_main_v0, val_main_cst, hx]
  simp only [behind]
  split_ifs <;> rfl

/-- The gradient of the columns, before it is laid out by groups. -/
theorem v25 (hw : ∀ q : Fin 1152, x1 (ix1 q) = W q) (hd : ∀ (b : Fin 2) (t : Fin 2048) (q : Fin 1152), x2 (ix3 b t q) = D b t q)
    (hr : ∀ i, x2 i = (((x2 i : EReal).toReal : ℝ) : EReal)) (b : Fin 2) (u : Fin 1) (t : Fin 2048) (q : Fin 1152) :
    val_main_v25 (F := Ideal) x1 x2 (ix4 b u t q) = gradCol (fun t => D b t q) (W q) t := by
  pointwise [val_main_v25, val_main_v24, val_main_cst_3, val_main_v23, val_main_v21, val_main_v20, val_main_v15, val_main_v14, val_main_v13, val_main_v7,
    val_main_v12, hw, hd]
  have e : D b t q = ((D b t q).toReal : ℝ) := by rw [← hd]; exact hr _
  unfold gradCol ahead
  refine congrArg₂ _ ?_ ?_
  · dsimp only
    rw [e]
    exact (stay _ _).symm
  · split_ifs <;> first | (exfalso; omega) | rfl | (simp only [Nat.add_comm 1 t.val, mul_comm])

/-- The gradient of the weights, before it is laid out by groups. -/
theorem v19 (hx : ∀ (b : Fin 2) (t : Fin 2048) (q : Fin 1152), x0 (ix3 b t q) = X b t q) (hd : ∀ (b : Fin 2) (t : Fin 2048) (q : Fin 1152), x2 (ix3 b t q) = D b t q)
    (b : Fin 2) (q : Fin 1152) :
    val_main_v19 (F := Ideal) x0 x2 (ix2 b q) = gradMu (fun t => D b t q) (fun t => X b t q) := by
  pointwise [val_main_v19, val_main_cst_2, val_main_v18, val_main_v17, val_main_cst_1, val_main_v16, val_main_v12, v6 hx, hd, sum_unit]
  simp only [gradMu, zero_add]

/-- The reference's first result. -/
theorem v29 (hw : ∀ q : Fin 1152, x1 (ix1 q) = W q) (hd : ∀ (b : Fin 2) (t : Fin 2048) (q : Fin 1152), x2 (ix3 b t q) = D b t q)
    (hr : ∀ i, x2 i = (((x2 i : EReal).toReal : ℝ) : EReal)) (g : Fin 18) (n : Fin 4096) (l : Fin 64) : val_main_v29 (F := Ideal) x1 x2 (ix3 g n l)
    = gradCol (fun t => D (n.val / 2048) t (64 * g.val + l.val)) (W (64 * g.val + l.val)) (n.val % 2048) := by
  pointwise [val_main_v29, val_main_v28, val_main_v27, val_main_v26]
  rw [v25 hw hd hr]
  simp only [Nat.mul_comm 64 g.val]

/-- The reference's second result. -/
theorem v31 (hx : ∀ (b : Fin 2) (t : Fin 2048) (q : Fin 1152), x0 (ix3 b t q) = X b t q) (hd : ∀ (b : Fin 2) (t : Fin 2048) (q : Fin 1152), x2 (ix3 b t q) = D b t q)
    (g : Fin 18) (b : Fin 2) (i : Fin 1) (l : Fin 64) : val_main_v31 (F := Ideal) x0 x2 (ix4 g b i l)
    = gradMu (fun t => D b t (64 * g.val + l.val)) (fun t => X b t (64 * g.val + l.val)) := by
  pointwise [val_main_v31, val_main_v30, v19 hx hd]
  simp only [Nat.mul_comm 64 g.val]

end Reference

/-- The reference runs, leaves its arguments as they are, and every counter ends at zero. -/
theorem frame_reference : quiescent_MixReferenceIdeal := fun m ρ _ =>
  (θ_run Cert.MixReferenceIdeal.defs _ _).mono
    (fun r h => ⟨fun c => (h c).2.2, sem_eq_zero_of_no_sems (by decide) r.2⟩)
    (Cert.MixReferenceIdeal.Value.run (F := Ideal) m ρ)

/-- Over the extended reals the kernel computes the two gradients of the token shift. -/
theorem value : algebraic_MixKernelIdeal_MixReferenceIdeal_pre_mix_finite := by
  intro m ρ m' ρ' hpre hagree
  refine ⟨fun c => fun y : Cert.MixKernelIdeal.S18x4096x64.Idx => gradCol
      (fun t => at3 (m ((c.tc : Thread Cert.MixKernelIdeal.nD Cert.MixKernelIdeal.τ).loc Cert.MixKernelIdeal.main_arg2)) ((y 1).val / 2048) t (64 * (y 0).val + (y 2).val))
      (at1 (m ((c.tc : Thread Cert.MixKernelIdeal.nD Cert.MixKernelIdeal.τ).loc Cert.MixKernelIdeal.main_arg1)) (64 * (y 0).val + (y 2).val)) ((y 1).val % 2048),
    fun c => fun y : Cert.MixKernelIdeal.S18x2x1x64.Idx => gradMu
      (fun t => at3 (m ((c.tc : Thread Cert.MixKernelIdeal.nD Cert.MixKernelIdeal.τ).loc Cert.MixKernelIdeal.main_arg2)) (y 1) t (64 * (y 0).val + (y 3).val))
      (fun t => at3 (m ((c.tc : Thread Cert.MixKernelIdeal.nD Cert.MixKernelIdeal.τ).loc Cert.MixKernelIdeal.main_arg0)) (y 1) t (64 * (y 0).val + (y 3).val)), ?_, ?_⟩
  · exact (θ_run Cert.MixKernelIdeal.defs _ _).mono
      (fun r h c => ⟨(h c).1.trans (K.final3 ⟨at3_eq _, at1_eq _, at3_eq _⟩), (h c).2.1.trans (K.final4 ⟨at3_eq _, at1_eq _, at3_eq _⟩), (h c).2.2⟩)
      (Cert.MixKernelIdeal.Value.run_blocks (F := Ideal) m ρ)
  · refine (θ_run Cert.MixReferenceIdeal.defs _ _).mono (fun r h c => ?_) (Cert.MixReferenceIdeal.Value.run (F := Ideal) m' ρ')
    obtain ⟨e0, e1, e2⟩ := hagree c
    have hr := real_of_finite (hpre c)
    refine ⟨(h c).1.trans ((Cert.MixReferenceIdeal.Read.val_main_v29_eq _ _).trans ?_),
      (h c).2.1.trans ((Cert.MixReferenceIdeal.Read.val_main_v31_eq _ _).trans ?_), (h c).2.2⟩
    · rw [e1, e2]
      funext y
      idx_vars y
      exact v29 (at1_eq _) (at3_eq _) hr _ _ _
    · rw [e0, e2]
      funext y
      idx_vars y
      exact v31 (at3_eq _) (at3_eq _) _ _ _ _

end Cert.Mix.R

end
-- ==== Proof.OprojK.lean ====
/-
  The output projection and the norm after it: the entry arrays, the rows of each grid point and the two result arrays.
-/
module

public import proofs.«01_k».proof.Proof.NormAny
public import proofs.«01_k».proof.Proof.OutK
public import proofs.«01_k».proof.Proof.Gen.OprojKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.OutP

/-- The output projection: row `n` of the mixed heads times the weight. -/
def proj (Y W : ℕ → ℕ → EReal) (n d : ℕ) : EReal := ∑ e : Fin 1024, Y n e * W e d

/-- The residual stream after the projection: the stream before it and the projection's row after its norm. -/
def next (Y W X : ℕ → ℕ → EReal) (u : ℕ → EReal) (n d : ℕ) : EReal :=
  X n d + proj Y W n d * Cert.NormAny.inv (proj Y W n) * u d

namespace K

open Idealize.ShloMosaic Idealize.ShloMosaic.TcCoe Idealize.SL.Sem Cert.OprojKernelIdeal Cert.OprojKernelIdeal.Gen
open Idealize.ShloMosaic.Pipeline (Dat)
open Cert.Out.OutK (pick wide cat group_ld inb)

/-- Sixteen pieces of 64 columns times the weight. -/
theorem pay12_at (v : Fin 16 → FVec Ideal S1024x64 .bf16) (v22 v24 v26 v28 v30 : Vec Ideal S1x1024x64 .bf16) (W : Vec Ideal S1024x1024 .bf16)
    (h22 : shapeCast S1024x64 v22 shapeCasts_S1x1024x64_S1024x64 = v 11) (h24 : shapeCast S1024x64 v24 shapeCasts_S1x1024x64_S1024x64 = v 12)
    (h26 : shapeCast S1024x64 v26 shapeCasts_S1x1024x64_S1024x64 = v 13) (h28 : shapeCast S1024x64 v28 shapeCasts_S1x1024x64_S1024x64 = v 14)
    (h30 : shapeCast S1024x64 v30 shapeCasts_S1x1024x64_S1024x64 = v 15) (r d : Fin 1024) :
    k0_pay12 (F := Ideal) (v 0) (v 1) (v 2) (v 3) (v 4) (v 5) (v 6) (v 7) (v 8) (v 9) (v 10) v22 v24 v26 v28 v30 W (ix2 r d)
      = ∑ e : Fin 1024, v ⟨e / 64, by omega⟩ (ix2 r ⟨e % 64, by omega⟩) * W (ix2 e d) := by
  have E : k0_pay12 (F := Ideal) (v 0) (v 1) (v 2) (v 3) (v 4) (v 5) (v 6) (v 7) (v 8) (v 9) (v 10) v22 v24 v26 v28 v30 W
      = matmul (F := Ideal) dot_S1024x1024_S1024x1024_S1024x1024_1_0_0_1_n_n none
        (concatenate S1024x1024 1 [⟨S1024x64, v 0⟩, ⟨S1024x64, v 1⟩, ⟨S1024x64, v 2⟩, ⟨S1024x64, v 3⟩, ⟨S1024x64, v 4⟩, ⟨S1024x64, v 5⟩,
          ⟨S1024x64, v 6⟩, ⟨S1024x64, v 7⟩, ⟨S1024x64, v 8⟩, ⟨S1024x64, v 9⟩, ⟨S1024x64, v 10⟩, ⟨S1024x64, v 11⟩, ⟨S1024x64, v 12⟩,
          ⟨S1024x64, v 13⟩, ⟨S1024x64, v 14⟩, ⟨S1024x64, v 15⟩]
          concatenates_S1024x64_S1024x64_S1024x64_S1024x64_S1024x64_S1024x64_S1024x64_S1024x64_S1024x64_S1024x64_S1024x64_S1024x64_S1024x64_S1024x64_S1024x64_S1024x64_S1024x1024_d1)
        (shapeCast S1024x1024 (W : FVec Ideal S1024x1024 .bf16) shapeCasts_S1024x1024_S1024x1024 : FVec Ideal S1024x1024 .bf16)
        (constant (F := Ideal) S1024x1024 .f32 0x00000000#32) := by
    rw [← h22, ← h24, ← h26, ← h28, ← h30]
    rfl
  rw [E]
  have e1 := cat v r
  generalize concatenate S1024x1024 1 _ _ = C at e1 ⊢
  pointwise [e1]

/-- The product of one grid point: its rows of the sixteen groups times the weight. -/
theorem proj_ld (B0 B1 B2 B3 : Vec Ideal S4x1024x64 .bf16) (W : Vec Ideal S1024x1024 .bf16) (X : Vec Ideal S1024x1024 .f32)
    (u : Vec Ideal S1x1024 .f32) (r d : Fin 1024) :
    k0_pay12 (F := Ideal) (k0_pay14 B0 B1 B2 B3 W X u) (k0_pay15 B0 B1 B2 B3 W X u) (k0_pay16 B0 B1 B2 B3 W X u) (k0_pay17 B0 B1 B2 B3 W X u)
      (k0_pay18 B0 B1 B2 B3 W X u) (k0_pay19 B0 B1 B2 B3 W X u) (k0_pay20 B0 B1 B2 B3 W X u) (k0_pay21 B0 B1 B2 B3 W X u)
      (k0_pay22 B0 B1 B2 B3 W X u) (k0_pay23 B0 B1 B2 B3 W X u) (k0_pay24 B0 B1 B2 B3 W X u) (View.ld B2 r0_3) (View.ld B3 r0_0)
      (View.ld B3 r0_1) (View.ld B3 r0_2) (View.ld B3 r0_3) W (ix2 r d)
      = ∑ e : Fin 1024, wide (pick B0 B1 B2 B3) r e * W (ix2 e d) := by
  refine (pay12_at (fun g => shapeCast S1024x64 (View.ld (pick B0 B1 B2 B3 (g / 4)) (Rect.unit (s := S4x1024x64) ![g % 4, 0, 0] ![1, 1024, 64] (inb g)))
    shapeCasts_S1x1024x64_S1024x64) _ _ _ _ _ W rfl rfl rfl rfl rfl r d).trans (Finset.sum_congr rfl fun e _ => congrArg (· * _) ?_)
  refine (group_ld _ ⟨e / 64 % 4, by omega⟩ _ rfl _ _).trans ?_
  unfold wide
  dsimp only
  rw [Nat.div_div_eq_div_mul]

/-- The norm of a row of the product, on top of the stream. -/
theorem pay13_at {v1 v3 v5 v7 v9 v11 v13 v15 v17 v19 v21 : FVec Ideal S1024x64 .bf16} {v22 v24 v26 v28 v30 : Vec Ideal S1x1024x64 .bf16}
    {W : Vec Ideal S1024x1024 .bf16} {X : Vec Ideal S1024x1024 .f32} {u : Vec Ideal S1x1024 .f32} {r : Fin 1024} {p x g : ℕ → EReal}
    (hp : ∀ d : Fin 1024, k0_pay12 (F := Ideal) v1 v3 v5 v7 v9 v11 v13 v15 v17 v19 v21 v22 v24 v26 v28 v30 W (ix2 r d) = p d)
    (hx : ∀ d : Fin 1024, X (ix2 r d) = x d) (hu : ∀ d : Fin 1024, u (ix2 0 d) = g d) (d : Fin 1024) :
    k0_pay13 (F := Ideal) v1 v3 v5 v7 v9 v11 v13 v15 v17 v19 v21 v22 v24 v26 v28 v30 W X u (ix2 r d)
      = x d + p d * Cert.NormAny.inv p * g d := by
  unfold k0_pay13
  generalize k0_pay12 (F := Ideal) v1 v3 v5 v7 v9 v11 v13 v15 v17 v19 v21 v22 v24 v26 v28 v30 W = P at hp ⊢
  pointwise [hp, hx, hu]
  rfl

variable (m : (ℓ : Loc nD τ sig) → Buf (Elt Ideal) ℓ) (c : Dev nD)

/-- The windows' block indices at each grid point. -/
theorem idx_val : ∀ t : Fin cfg0.N, win0_0.index t = ![0, t.val, 0] ∧ win0_1.index t = ![0, t.val, 0]
    ∧ win0_2.index t = ![0, t.val, 0] ∧ win0_3.index t = ![0, t.val, 0] ∧ win0_4.index t = ![0, 0] ∧ win0_5.index t = ![t.val, 0]
    ∧ win0_6.index t = ![0, 0] ∧ win0_7.index t = ![t.val, 0] ∧ win0_8.index t = ![t.val, 0] :=
  (by decide +kernel : ∀ t : Fin grid0.N, _)

/-- Every entry of the four arguments is the number that the functions give at its row and column. -/
structure Entries (a0 : Vec Ideal S2x2048x1024 .f32) (a1 : Vec Ideal S1024x1024 .f32) (a2 : Vec Ideal S2x2048x1024 .f32)
    (a3 : Vec Ideal S1024 .f32) (Y W X : ℕ → ℕ → EReal) (u : ℕ → EReal) : Prop where
  y : ∀ b t e, a0 (ix3 b t e) = Y (2048 * b + t) e
  w : ∀ e d, a1 (ix2 e d) = W e d
  x : ∀ b t d, a2 (ix3 b t d) = X (2048 * b + t) d
  u : ∀ d, a3 (ix1 d) = u d

variable {m c} {Y W X : ℕ → ℕ → EReal} {u : ℕ → EReal}
  (R : Entries (m ((c : Thread nD τ).loc main_arg0)) (m ((c : Thread nD τ).loc main_arg1)) (m ((c : Thread nD τ).loc main_arg2))
    (m ((c : Thread nD τ).loc main_arg3)) Y W X u)
include R

/-- A block of the groups 0 to 3. -/
theorem blk0 (t : Fin cfg0.N) (g : Fin 4) (r : Fin 1024) (l : Fin 64) :
    iblk (F := Ideal) m c 0 t (ix3 g r l) = Y (1024 * t + r) (64 * (0 + g) + l) := by
  have ht : t.val < 4 := t.isLt
  have E : iblk (F := Ideal) m c 0 t (ix3 g r l) = V (F := Ideal) m c main_v4 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 4 to 7. -/
theorem blk1 (t : Fin cfg0.N) (g : Fin 4) (r : Fin 1024) (l : Fin 64) :
    iblk (F := Ideal) m c 1 t (ix3 g r l) = Y (1024 * t + r) (64 * (4 + g) + l) := by
  have ht : t.val < 4 := t.isLt
  have E : iblk (F := Ideal) m c 1 t (ix3 g r l) = V (F := Ideal) m c main_v6 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 8 to 11. -/
theorem blk2 (t : Fin cfg0.N) (g : Fin 4) (r : Fin 1024) (l : Fin 64) :
    iblk (F := Ideal) m c 2 t (ix3 g r l) = Y (1024 * t + r) (64 * (8 + g) + l) := by
  have ht : t.val < 4 := t.isLt
  have E : iblk (F := Ideal) m c 2 t (ix3 g r l) = V (F := Ideal) m c main_v8 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 12 to 15. -/
theorem blk3 (t : Fin cfg0.N) (g : Fin 4) (r : Fin 1024) (l : Fin 64) :
    iblk (F := Ideal) m c 3 t (ix3 g r l) = Y (1024 * t + r) (64 * (12 + g) + l) := by
  have ht : t.val < 4 := t.isLt
  have E : iblk (F := Ideal) m c 3 t (ix3 g r l) = V (F := Ideal) m c main_v10 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- The weight. -/
theorem blk4 (t : Fin cfg0.N) (e d : Fin 1024) : iblk (F := Ideal) m c 4 t (ix2 e d) = W e d := by
  have E : iblk (F := Ideal) m c 4 t (ix2 e d) = V (F := Ideal) m c main_v11 (ix2 e d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.w]

/-- A block of the residual stream. -/
theorem blk5 (t : Fin cfg0.N) (r d : Fin 1024) : iblk (F := Ideal) m c 5 t (ix2 r d) = X (1024 * t + r) d := by
  have ht : t.val < 4 := t.isLt
  have E : iblk (F := Ideal) m c 5 t (ix2 r d) = V (F := Ideal) m c main_v12 (ix2 ⟨1024 * t + r, by omega⟩ d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.x]
  simp only [Nat.div_add_mod]

/-- The norm's weight. -/
theorem blk6 (t : Fin cfg0.N) (d : Fin 1024) : iblk (F := Ideal) m c 6 t (ix2 0 d) = u d := by
  have E : iblk (F := Ideal) m c 6 t (ix2 0 d) = V (F := Ideal) m c main_v13 (ix2 0 d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.u]

theorem wide_blk (t : Fin cfg0.N) (r e : Fin 1024) :
    wide (pick (iblk (F := Ideal) m c 0 t) (iblk m c 1 t) (iblk m c 2 t) (iblk m c 3 t)) r e = Y (1024 * t + r) e := by
  unfold wide
  rcases (by omega : e.val / 256 = 0 ∨ e.val / 256 = 1 ∨ e.val / 256 = 2 ∨ e.val / 256 = 3) with h | h | h | h
  all_goals rw [h]
  · exact (blk0 R t _ r _).trans (congrArg (Y _) (by dsimp only; omega))
  · exact (blk1 R t _ r _).trans (congrArg (Y _) (by dsimp only; omega))
  · exact (blk2 R t _ r _).trans (congrArg (Y _) (by dsimp only; omega))
  · exact (blk3 R t _ r _).trans (congrArg (Y _) (by dsimp only; omega))

/-- The product of one grid point is the projection of its rows. -/
theorem proj_value (t : Fin cfg0.N) (r d : Fin 1024) :
    ∑ e : Fin 1024, wide (pick (iblk (F := Ideal) m c 0 t) (iblk m c 1 t) (iblk m c 2 t) (iblk m c 3 t)) r e * iblk (F := Ideal) m c 4 t (ix2 e d)
      = proj Y W (1024 * t + r) d :=
  Finset.sum_congr rfl fun e _ => by rw [wide_blk R, blk4 R]

/-- The kernel's first result. -/
theorem final7 : (dats (F := Ideal) m 0 c).arrAt 7 cfg0.N = fun y : S4096x1024.Idx => proj Y W (y 0) (y 1) := by
  refine (dats (F := Ideal) m 0 c).arrAt_eq_of_covers 7 _ (by decide +kernel) fun t hf y => ?_
  have ht : t.val < 4 := t.isLt
  blk_simp
  rw [after0_7]
  idx_vars y
  unfold out0_7
  refine (congrFun (View.canon_cons_unit_lit _ _ _ (by decide)) (ix2 y0 y1)).trans ?_
  rw [show ∀ X : Vec Ideal S1024x1024 .bf16, View.ld X r0_4 = X from fun X => View.ld_unit_lit _ X (by decide)]
  refine ((proj_ld _ _ _ _ _ _ _ y0 y1).trans (proj_value R t y0 y1)).trans ?_
  blk_simp [idx_val t]
  rw [show t.val * 1024 + y0.val = 1024 * t.val + y0.val by omega]

/-- The kernel's second result. -/
theorem final8 : (dats (F := Ideal) m 0 c).arrAt 8 cfg0.N = fun y : S4096x1024.Idx => next Y W X u (y 0) (y 1) := by
  refine (dats (F := Ideal) m 0 c).arrAt_eq_of_covers 8 _ (by decide +kernel) fun t hf y => ?_
  have ht : t.val < 4 := t.isLt
  blk_simp
  rw [after0_8]
  idx_vars y
  unfold out0_8
  refine (congrFun (View.canon_cons_unit_lit _ _ _ (by decide)) (ix2 y0 y1)).trans ?_
  rw [show ∀ X : Vec Ideal S1024x1024 .bf16, View.ld X r0_4 = X from fun X => View.ld_unit_lit _ X (by decide),
    show ∀ X : Vec Ideal S1024x1024 .f32, View.ld X r0_4 = X from fun X => View.ld_unit_lit _ X (by decide),
    show ∀ X : Vec Ideal S1x1024 .f32, View.ld X r0_5 = X from fun X => View.ld_unit_lit _ X (by decide)]
  refine (pay13_at (fun d => (proj_ld _ _ _ _ _ _ _ y0 d).trans (proj_value R t y0 d)) (blk5 R t y0) (blk6 R t) y1).trans ?_
  blk_simp [idx_val t]
  rw [show t.val * 1024 + y0.val = 1024 * t.val + y0.val by omega]
  rfl

end K

end Cert.OutP

end
-- ==== Proof.OprojClaim.lean ====
/-
  The claims about the output projection and the norm after it: the reference at an index, its frame and the equality of the two
  programs over the extended reals.
-/
module

public import proofs.«01_k».proof.Defs
public import proofs.«01_k».proof.Proof.OprojK
public import proofs.«01_k».proof.Proof.Entry
public import proofs.«01_k».proof.Proof.Gen.OprojKernelIdeal
public import proofs.«01_k».proof.Proof.Gen.OprojKernelIdeal.Value
public import proofs.«01_k».proof.Proof.Gen.OprojReferenceIdeal
public import proofs.«01_k».proof.Proof.Gen.OprojReferenceIdeal.Run
public import proofs.«01_k».proof.Proof.Gen.OprojReferenceIdeal.Read
public import Idealize.ShloMosaic.Adequacy
public import Idealize.ShloMosaic.Init

@[expose] public section

set_option maxRecDepth 16384

noncomputable section

namespace Cert.OutP

open Idealize.ShloMosaic Idealize.ShloMosaic.TcCoe Idealize.SL.Sem Cert.Entry

section Reference

open Cert.OprojReferenceIdeal Cert.OprojReferenceIdeal.Read

variable {x0 x2 : Vec Ideal S2x2048x1024 .f32} {x1 : Vec Ideal S1024x1024 .f32} {x3 : Vec Ideal S1024 .f32}
  {Y W X : ℕ → ℕ → EReal} {u : ℕ → EReal}
  (hy : ∀ (b : Fin 2) (t : Fin 2048) (k : Fin 1024), x0 (ix3 b t k) = Y (2048 * b + t) k)
  (hw : ∀ e d : Fin 1024, x1 (ix2 e d) = W e d)
  (hx : ∀ (b : Fin 2) (t : Fin 2048) (k : Fin 1024), x2 (ix3 b t k) = X (2048 * b + t) k)
  (hu : ∀ d : Fin 1024, x3 (ix1 d) = u d)

include hy hw in
/-- The projection of a row. -/
theorem v0 (b : Fin 2) (t : Fin 2048) (d : Fin 1024) : val_main_v0 (F := Ideal) x0 x1 (ix3 b t d) = proj Y W (2048 * b + t) d := by
  pointwise [val_main_v0, hy, hw]
  rfl

include hy hw in
/-- The reference's first result. -/
theorem v1 (n : Fin 4096) (d : Fin 1024) : val_main_v1 (F := Ideal) x0 x1 (ix2 n d) = proj Y W n d := by
  pointwise [val_main_v1, v0 hy hw]
  simp only [Nat.div_add_mod]

include hy hw in
/-- One over the root of the mean square of a projected row. -/
theorem v9 (b : Fin 2) (t : Fin 2048) : val_main_v9 (F := Ideal) x0 x1 (ix3 b t 0) = Cert.NormAny.inv (proj Y W (2048 * b + t)) := by
  pointwise [val_main_v9, val_main_v8, val_main_v7, val_main_cst_1, val_main_v6, val_main_v5, val_main_cst_0, val_main_v4, val_main_v3,
    val_main_cst, val_main_v2, v0 hy hw]
  rfl

include hy hw hx hu in
/-- The reference's second result. -/
theorem v16 (n : Fin 4096) (d : Fin 1024) : val_main_v16 (F := Ideal) x0 x1 x2 x3 (ix2 n d) = next Y W X u n d := by
  pointwise [val_main_v16, val_main_v15, val_main_v14, val_main_v13, val_main_v12, val_main_v11, val_main_v10, v9 hy hw, v0 hy hw, hx, hu]
  simp only [Nat.div_add_mod]
  rfl

end Reference

/-- The reference runs, leaves its arguments as they are, and every counter ends at zero. -/
theorem frame_reference : quiescent_OprojReferenceIdeal := fun m ρ _ =>
  (θ_run Cert.OprojReferenceIdeal.defs _ _).mono
    (fun r h => ⟨fun c => (h c).2.2, sem_eq_zero_of_no_sems (by decide) r.2⟩)
    (Cert.OprojReferenceIdeal.Value.run (F := Ideal) m ρ)

/-- Over the extended reals the kernel computes the output projection and the residual stream after its norm. -/
theorem value : algebraic_OprojKernelIdeal_OprojReferenceIdeal := by
  intro m ρ m' ρ' _ hagree
  refine ⟨fun c => fun y : Cert.OprojKernelIdeal.S4096x1024.Idx => (proj (row (m ((c.tc : Thread Cert.OprojKernelIdeal.nD Cert.OprojKernelIdeal.τ).loc Cert.OprojKernelIdeal.main_arg0))) (at2 (m ((c.tc : Thread Cert.OprojKernelIdeal.nD Cert.OprojKernelIdeal.τ).loc Cert.OprojKernelIdeal.main_arg1))) (y 0) (y 1) : EReal),
    fun c => fun y : Cert.OprojKernelIdeal.S4096x1024.Idx => (next (row (m ((c.tc : Thread Cert.OprojKernelIdeal.nD Cert.OprojKernelIdeal.τ).loc Cert.OprojKernelIdeal.main_arg0))) (at2 (m ((c.tc : Thread Cert.OprojKernelIdeal.nD Cert.OprojKernelIdeal.τ).loc Cert.OprojKernelIdeal.main_arg1))) (row (m ((c.tc : Thread Cert.OprojKernelIdeal.nD Cert.OprojKernelIdeal.τ).loc Cert.OprojKernelIdeal.main_arg2))) (at1 (m ((c.tc : Thread Cert.OprojKernelIdeal.nD Cert.OprojKernelIdeal.τ).loc Cert.OprojKernelIdeal.main_arg3))) (y 0) (y 1) : EReal), ?_, ?_⟩
  · exact (θ_run Cert.OprojKernelIdeal.defs _ _).mono
      (fun r h c => ⟨(h c).1.trans (K.final7 ⟨row_eq _, at2_eq _, row_eq _, at1_eq _⟩),
        (h c).2.1.trans (K.final8 ⟨row_eq _, at2_eq _, row_eq _, at1_eq _⟩), (h c).2.2⟩)
      (Cert.OprojKernelIdeal.Value.run_blocks (F := Ideal) m ρ)
  · refine (θ_run Cert.OprojReferenceIdeal.defs _ _).mono (fun r h c => ?_) (Cert.OprojReferenceIdeal.Value.run (F := Ideal) m' ρ')
    obtain ⟨e0, e1, e2, e3⟩ := hagree c
    refine ⟨(h c).1.trans ((Cert.OprojReferenceIdeal.Read.val_main_v1_eq _ _).trans ?_),
      (h c).2.1.trans ((Cert.OprojReferenceIdeal.Read.val_main_v16_eq _ _ _ _).trans ?_), (h c).2.2⟩
    · rw [e0, e1]
      funext y
      idx_vars y
      exact v1 (row_eq _) (at2_eq _) _ _
    · rw [e0, e1, e2, e3]
      funext y
      idx_vars y
      exact v16 (row_eq _) (at2_eq _) (row_eq _) (at1_eq _) _ _

end Cert.OutP

end
-- ==== Proof.NprojRun.lean ====
/-
The run of the fused norm and projection, one case per kind of column block.
-/
module

public import proofs.«01_k».proof.Proof.Gen.NprojKernelIdeal.Frame
public import proofs.«01_k».proof.Proof.Gen.NprojKernelIdeal.Skeleton

@[expose] public section

set_option maxRecDepth 16384

noncomputable section

namespace Cert.Nproj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.NprojKernelIdeal Cert.NprojKernelIdeal.Gen

variable {F : FTy → Type} [FloatOps F]

local notation "𝕄" => MT nD τ sig Unit (Elt F) ℕ (UR sig nD τ) ℕ

/-! ## What a point leaves -/

/-- The block of normalised rows as the body reads it. -/
def hl (h : Vec F S1024x1024 .bf16) : Vec F S1024x1024 .bf16 := View.ld h (Rect.unit (s := S1024x1024) ![0, 0] S1024x1024.size inb_S1024x1024_S1024x1024_0_0)

/-- The column block as the body reads it. -/
def wl (w : Vec F S1x1024x256 .bf16) : Vec F S1x1024x256 .bf16 := View.ld w (Rect.unit (s := S1x1024x256) ![0, 0, 0] S1x1024x256.size inb_S1x1024x256_S1x1024x256_0_0_0)

/-- The mixing weights as the body reads them. -/
def ul (w : Vec F S1x1x256 .f32) : Vec F S1x1x256 .f32 := View.ld w (Rect.unit (s := S1x1x256) ![0, 0, 0] S1x1x256.size inb_S1x1x256_S1x1x256_0_0_0)

/-- The product of the block's normalised rows with one column block. -/
def rw (h : Vec F S1024x1024 .bf16) (w : Vec F S1x1024x256 .bf16) : FVec F S1024x256 .f32 :=
  k0_pay28 h (wl w)

/-- The product, head by head. -/
def pL (h : Vec F S1024x1024 .bf16) (w : Vec F S1x1024x256 .bf16) : List (View.Piece (Elt F) S4x1024x64 .f32) :=
  [⟨Rect.unit ![3, 0, 0] S1x1024x64.size inb_S4x1024x64_S1x1024x64_3_0_0, k0_pay32 h (wl w)⟩,
    ⟨Rect.unit ![2, 0, 0] S1x1024x64.size inb_S4x1024x64_S1x1024x64_2_0_0, k0_pay31 h (wl w)⟩,
    ⟨Rect.unit ![1, 0, 0] S1x1024x64.size inb_S4x1024x64_S1x1024x64_1_0_0, k0_pay30 h (wl w)⟩,
    ⟨Rect.unit ![0, 0, 0] S1x1024x64.size inb_S4x1024x64_S1x1024x64_0_0_0, k0_pay29 h (wl w)⟩]

/-- The block of the projection a point leaves. -/
def pB (h : Vec F S1024x1024 .bf16) (w : Vec F S1x1024x256 .bf16) : Vec F S4x1024x64 .f32 := View.canon (pL h w)

/-- The normalised rows a row block begins with. -/
def hB (x : Vec F S1024x1024 .f32) (w : Vec F S1x1024 .f32) : Vec F S1024x1024 .bf16 :=
  View.canon [⟨Rect.unit (s := S1024x1024) ![0, 0] S1024x1024.size inb_S1024x1024_S1024x1024_0_0,
    k0_pay27 (View.ld x (Rect.unit (s := S1024x1024) ![0, 0] S1024x1024.size inb_S1024x1024_S1024x1024_0_0))
      (View.ld w (Rect.unit (s := S1x1024) ![0, 0] S1x1024.size inb_S1x1024_S1x1024_0_0))⟩]

/-- The convolved block, head by head, from the product `r`, the rows `tl` kept from the block before and the taps. -/
def cL (i : BitVec 32) (r : FVec F S1024x256 .f32) (tl : Vec F S1x8x256 .f32) (x : Vec F S1x4x256 .f32) : List (View.Piece (Elt F) S4x1024x64 .f32) :=
  [⟨Rect.unit ![3, 0, 0] S1x1024x64.size inb_S4x1024x64_S1x1024x64_3_0_0, k0_pay1 (k0_pay18 r (k0_pay9 i r tl) (k0_pay10 i r tl) (k0_pay11 i r tl)
      (View.ld x (Rect.unit (s := S1x4x256) ![0, 3, 0] S1x1x256.size inb_S1x4x256_S1x1x256_0_3_0)) (View.ld x (Rect.unit (s := S1x4x256) ![0, 0, 0] S1x1x256.size inb_S1x4x256_S1x1x256_0_0_0))
      (View.ld x (Rect.unit (s := S1x4x256) ![0, 1, 0] S1x1x256.size inb_S1x4x256_S1x1x256_0_1_0)) (View.ld x (Rect.unit (s := S1x4x256) ![0, 2, 0] S1x1x256.size inb_S1x4x256_S1x1x256_0_2_0)))⟩,
    ⟨Rect.unit ![2, 0, 0] S1x1024x64.size inb_S4x1024x64_S1x1024x64_2_0_0, k0_pay17 r (k0_pay9 i r tl) (k0_pay10 i r tl) (k0_pay11 i r tl)
      (View.ld x (Rect.unit (s := S1x4x256) ![0, 3, 0] S1x1x256.size inb_S1x4x256_S1x1x256_0_3_0)) (View.ld x (Rect.unit (s := S1x4x256) ![0, 0, 0] S1x1x256.size inb_S1x4x256_S1x1x256_0_0_0))
      (View.ld x (Rect.unit (s := S1x4x256) ![0, 1, 0] S1x1x256.size inb_S1x4x256_S1x1x256_0_1_0)) (View.ld x (Rect.unit (s := S1x4x256) ![0, 2, 0] S1x1x256.size inb_S1x4x256_S1x1x256_0_2_0))⟩,
    ⟨Rect.unit ![1, 0, 0] S1x1024x64.size inb_S4x1024x64_S1x1024x64_1_0_0, k0_pay16 r (k0_pay9 i r tl) (k0_pay10 i r tl) (k0_pay11 i r tl)
      (View.ld x (Rect.unit (s := S1x4x256) ![0, 3, 0] S1x1x256.size inb_S1x4x256_S1x1x256_0_3_0)) (View.ld x (Rect.unit (s := S1x4x256) ![0, 0, 0] S1x1x256.size inb_S1x4x256_S1x1x256_0_0_0))
      (View.ld x (Rect.unit (s := S1x4x256) ![0, 1, 0] S1x1x256.size inb_S1x4x256_S1x1x256_0_1_0)) (View.ld x (Rect.unit (s := S1x4x256) ![0, 2, 0] S1x1x256.size inb_S1x4x256_S1x1x256_0_2_0))⟩,
    ⟨Rect.unit ![0, 0, 0] S1x1024x64.size inb_S4x1024x64_S1x1024x64_0_0_0, k0_pay15 r (k0_pay9 i r tl) (k0_pay10 i r tl) (k0_pay11 i r tl)
      (View.ld x (Rect.unit (s := S1x4x256) ![0, 3, 0] S1x1x256.size inb_S1x4x256_S1x1x256_0_3_0)) (View.ld x (Rect.unit (s := S1x4x256) ![0, 0, 0] S1x1x256.size inb_S1x4x256_S1x1x256_0_0_0))
      (View.ld x (Rect.unit (s := S1x4x256) ![0, 1, 0] S1x1x256.size inb_S1x4x256_S1x1x256_0_1_0)) (View.ld x (Rect.unit (s := S1x4x256) ![0, 2, 0] S1x1x256.size inb_S1x4x256_S1x1x256_0_2_0))⟩]

/-- The mixed block, head by head. -/
def mL (i : BitVec 32) (r : FVec F S1024x256 .f32) (tl : Vec F S1x8x256 .f32) (x : Vec F S1x1x256 .f32) : List (View.Piece (Elt F) S4x1024x64 .f32) :=
  [⟨Rect.unit ![3, 0, 0] S1x1024x64.size inb_S4x1024x64_S1x1024x64_3_0_0, k0_pay5 (k0_pay20 i r tl (ul x))⟩,
    ⟨Rect.unit ![2, 0, 0] S1x1024x64.size inb_S4x1024x64_S1x1024x64_2_0_0, k0_pay4 (k0_pay20 i r tl (ul x))⟩,
    ⟨Rect.unit ![1, 0, 0] S1x1024x64.size inb_S4x1024x64_S1x1024x64_1_0_0, k0_pay3 (k0_pay20 i r tl (ul x))⟩,
    ⟨Rect.unit ![0, 0, 0] S1x1024x64.size inb_S4x1024x64_S1x1024x64_0_0_0, k0_pay2 (k0_pay21 i r tl (ul x))⟩]

/-- The gated short convolution's block. -/
def yB (i : BitVec 32) (r : FVec F S1024x256 .f32) (tl : Vec F S1x8x256 .f32) (x : Vec F S1x3x64 .f32) : Vec F S1x1024x64 .bf16 :=
  k0_pay6 r (k0_pay24 i r tl) (k0_pay25 i r tl) (k0_pay26 r (View.ld x (Rect.unit (s := S1x3x64) ![0, 2, 0] S1x1x64.size inb_S1x3x64_S1x1x64_0_2_0)))
    (View.ld x (Rect.unit (s := S1x3x64) ![0, 1, 0] S1x1x64.size inb_S1x3x64_S1x1x64_0_1_0)) (View.ld x (Rect.unit (s := S1x3x64) ![0, 0, 0] S1x1x64.size inb_S1x3x64_S1x1x64_0_0_0))

theorem cover4 (w3 w2 w1 w0 : Vec F S1x1024x64 .f32) (y : S4x1024x64.Idx) :
    ∃ p ∈ ([⟨Rect.unit ![3, 0, 0] S1x1024x64.size inb_S4x1024x64_S1x1024x64_3_0_0, w3⟩, ⟨Rect.unit ![2, 0, 0] S1x1024x64.size inb_S4x1024x64_S1x1024x64_2_0_0, w2⟩,
      ⟨Rect.unit ![1, 0, 0] S1x1024x64.size inb_S4x1024x64_S1x1024x64_1_0_0, w1⟩, ⟨Rect.unit ![0, 0, 0] S1x1024x64.size inb_S4x1024x64_S1x1024x64_0_0_0, w0⟩] :
        List (View.Piece (Elt F) S4x1024x64 .f32)), y ∈ p.1.set :=
  View.cover_of_tiledL (s := S4x1024x64) _ S1x1024x64.size (by sl_kernel_rfl) y

theorem covP (h : Vec F S1024x1024 .bf16) (w : Vec F S1x1024x256 .bf16) (y : S4x1024x64.Idx) : ∃ p ∈ pL h w, y ∈ p.1.set := cover4 _ _ _ _ y
theorem covC (i : BitVec 32) (r : FVec F S1024x256 .f32) (tl : Vec F S1x8x256 .f32) (x : Vec F S1x4x256 .f32) (y : S4x1024x64.Idx) :
    ∃ p ∈ cL i r tl x, y ∈ p.1.set := cover4 _ _ _ _ y
theorem covM (i : BitVec 32) (r : FVec F S1024x256 .f32) (tl : Vec F S1x8x256 .f32) (x : Vec F S1x1x256 .f32) (y : S4x1024x64.Idx) :
    ∃ p ∈ mL i r tl x, y ∈ p.1.set := cover4 _ _ _ _ y

theorem covH (u : Vec F S1024x1024 .bf16) (y : S1024x1024.Idx) :
    ∃ p ∈ ([⟨Rect.unit (s := S1024x1024) ![0, 0] S1024x1024.size inb_S1024x1024_S1024x1024_0_0, u⟩] : List (View.Piece (Elt F) S1024x1024 .bf16)), y ∈ p.1.set :=
  View.cover_of_tiledL (s := S1024x1024) _ S1024x1024.size (by sl_kernel_rfl) y

/-- The normalised rows, read back in the point that stores them. -/
theorem h_reread {κ : Kind} {sp : Space} (v : View sig κ sp S1024x1024 .bf16) (x : Vec F S1024x1024 .f32) (w : Vec F S1x1024 .f32) :
    v.readCov (Val := Elt F) [⟨Rect.unit (s := S1024x1024) ![0, 0] S1024x1024.size inb_S1024x1024_S1024x1024_0_0,
      k0_pay27 (View.ld x (Rect.unit (s := S1024x1024) ![0, 0] S1024x1024.size inb_S1024x1024_S1024x1024_0_0))
        (View.ld w (Rect.unit (s := S1x1024) ![0, 0] S1x1024.size inb_S1x1024_S1x1024_0_0))⟩]
      (Rect.unit (s := S1024x1024) ![0, 0] S1024x1024.size inb_S1024x1024_S1024x1024_0_0) = hl (hB x w) := by
  rw [View.readCov_eq_canon_ld v _ _ (covH _)]
  unfold hl hB
  with_reducible rfl

/-- One store into a buffer that holds `X` overlays its rectangle. -/
theorem read_one {κ : Kind} {sp : Space} {s : Shape} {e : EltTy} (v : View sig κ sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [r.overlay_of_not_mem _ _ hy]
    have hy' : y ∉ Finset.univ.map r.emb := by rwa [Rect.map_emb_univ]
    exact View.read_slice_write_of_not_mem r _ _ _ hy'

/-! ## The body, case by case -/

variable (c : Dev nD) (i : grid0.Coords)
  (a0 : Memref sig .tc .vmem S1024x1024 .f32) (h0 : a0.IsWhole)
  (a1 : Memref sig .tc .vmem S1x1024 .f32) (h1 : a1.IsWhole)
  (a2 : Memref sig .tc .vmem S1x1024x256 .bf16) (h2 : a2.IsWhole)
  (a3 : Memref sig .tc .vmem S1x4x256 .f32) (h3 : a3.IsWhole)
  (a4 : Memref sig .tc .vmem S1x1x256 .f32) (h4 : a4.IsWhole)
  (a5 : Memref sig .tc .vmem S1x3x64 .f32) (h5 : a5.IsWhole)
  (a6 : Memref sig .tc .vmem S1024x1024 .bf16) (h6 : a6.IsWhole)
  (a7 : Memref sig .tc .vmem S4x1024x64 .f32) (h7 : a7.IsWhole)
  (a8 : Memref sig .tc .vmem S4x1024x64 .f32) (h8 : a8.IsWhole)
  (a9 : Memref sig .tc .vmem S1x1024x64 .bf16) (h9 : a9.IsWhole)
  (a10 : Memref sig .tc .vmem S17x8x256 .f32) (h10 : a10.IsWhole)
set_option maxHeartbeats 2000000 in
/-- A column block that is only projected. -/
theorem runC (g1 : ¬ k0_cond1 i = 1#1) (g2 : ¬ k0_cond2 i = 1#1) (g3 : ¬ k0_cond3 i = 1#1) (g4 : ¬ k0_cond4 i = 1#1)
    (x2 : Vec F S1x1024x256 .bf16) (x6 : Vec F S1024x1024 .bf16) (E : Set ℕ) (K : PUnit → sProp 𝕄) :
    iprop(owns (c : Thread nD τ) a2 fullShare x2
      ∗ owns (c : Thread nD τ) a6 fullShare x6
      ∗ (∃ d, owns (c : Thread nD τ) a7 fullShare d)
      ∗ (iprop(owns (c : Thread nD τ) a2 fullShare x2
      ∗ owns (c : Thread nD τ) a6 fullShare x6
      ∗ owns (c : Thread nD τ) a7 fullShare (pB (hl x6) x2)) -∗ K ⟨⟩))
    ⊢ wp frame (wpE (defs₀ (F := F)) Variants.none c none) E (cc0_norm_proj i a0 h0 a1 h1 a2 h2 a3 h3 a4 h4 a5 h5 a6 h6 a7 h7 a8 h8 a9 h9 a10 h10) K := by
  simp only [cc0_norm_proj_eq_skeleton]; unfold cc0_norm_proj_skel
  simp only [k0_part5_eq_skeleton]
  unfold owns
  iintro ⟨⟨%f2, %e2, H2⟩, ⟨%f6, %e6, H6⟩, ⟨%d7, %f7, -, H7⟩, Hk⟩
  subst e2
  subst e6
  sl_exec (disch := first | sl_exact g1 | sl_exact g2 | sl_exact g3 | sl_exact g4)
  sl_step
  iapply Hk
  isplitl [H2]
  · iexists _; isplitr; · ipureintro; rfl
    iexact H2
  isplitl [H6]
  · iexists _; isplitr; · ipureintro; rfl
    iexact H6
  iexists _; isplitr; swap; · iexact H7
  ipureintro
  exact View.read_writes_eq_canon _ _ (pL _ _) (covP _ _)

set_option maxHeartbeats 2000000 in
/-- A convolved column block. -/
theorem runB (g1 : ¬ k0_cond1 i = 1#1) (g2 : k0_cond2 i = 1#1) (g3 : ¬ k0_cond3 i = 1#1) (g4 : ¬ k0_cond4 i = 1#1)
    (x2 : Vec F S1x1024x256 .bf16) (x3 : Vec F S1x4x256 .f32) (x6 : Vec F S1024x1024 .bf16) (X : Vec F S17x8x256 .f32) (E : Set ℕ) (K : PUnit → sProp 𝕄) :
    iprop(owns (c : Thread nD τ) a2 fullShare x2
      ∗ owns (c : Thread nD τ) a3 fullShare x3
      ∗ owns (c : Thread nD τ) a6 fullShare x6
      ∗ (∃ d, owns (c : Thread nD τ) a7 fullShare d)
      ∗ (∃ d, owns (c : Thread nD τ) a8 fullShare d)
      ∗ owns (c : Thread nD τ) a10 fullShare X
      ∗ (iprop(owns (c : Thread nD τ) a2 fullShare x2
      ∗ owns (c : Thread nD τ) a3 fullShare x3
      ∗ owns (c : Thread nD τ) a6 fullShare x6
      ∗ owns (c : Thread nD τ) a7 fullShare (pB (hl x6) x2)
      ∗ owns (c : Thread nD τ) a8 fullShare (View.canon (cL (BitVec.ofNat 32 (i 0).val) (rw (hl x6) x2) (View.ld X (Rect.unit (s := S17x8x256) (k0_off1 i) S1x8x256.size (k0_off1_inb i g2))) x3))
      ∗ owns (c : Thread nD τ) a10 fullShare ((Rect.unit (s := S17x8x256) (k0_off1 i) S1x8x256.size (k0_off1_inb i g2)).overlay X (k0_pay13 (k0_pay12 (rw (hl x6) x2))))) -∗ K ⟨⟩))
    ⊢ wp frame (wpE (defs₀ (F := F)) Variants.none c none) E (cc0_norm_proj i a0 h0 a1 h1 a2 h2 a3 h3 a4 h4 a5 h5 a6 h6 a7 h7 a8 h8 a9 h9 a10 h10) K := by
  simp only [cc0_norm_proj_eq_skeleton]; unfold cc0_norm_proj_skel
  simp only [k0_part5_eq_skeleton, k0_part1_eq_skeleton, k0_part2_eq_skeleton]
  unfold owns
  iintro ⟨⟨%f2, %e2, H2⟩, ⟨%f3, %e3, H3⟩, ⟨%f6, %e6, H6⟩, ⟨%d7, %f7, -, H7⟩, ⟨%d8, %f8, -, H8⟩, ⟨%f10, %e10, H10⟩, Hk⟩
  subst e2
  subst e3
  subst e6
  subst e10
  sl_exec (disch := first | sl_exact g1 | sl_exact g2 | sl_exact g3 | sl_exact g4)
  sl_step
  iapply Hk
  isplitl [H2]
  · iexists _; isplitr; · ipureintro; rfl
    iexact H2
  isplitl [H3]
  · iexists _; isplitr; · ipureintro; rfl
    iexact H3
  isplitl [H6]
  · iexists _; isplitr; · ipureintro; rfl
    iexact H6
  isplitl [H7]
  · iexists _; isplitr; swap; · iexact H7
    ipureintro
    exact View.read_writes_eq_canon _ _ (pL _ _) (covP _ _)
  isplitl [H8]
  · iexists _; isplitr; swap; · iexact H8
    ipureintro
    exact View.read_writes_eq_canon _ _ (cL _ _ _ _) (covC _ _ _ _)
  iexists _; isplitr; swap; · iexact H10
  ipureintro
  exact read_one _ _ _ _

set_option maxHeartbeats 2000000 in
/-- A mixed column block. -/
theorem runD (g1 : ¬ k0_cond1 i = 1#1) (g2 : ¬ k0_cond2 i = 1#1) (g3 : k0_cond3 i = 1#1) (g4 : ¬ k0_cond4 i = 1#1)
    (x2 : Vec F S1x1024x256 .bf16) (x4 : Vec F S1x1x256 .f32) (x6 : Vec F S1024x1024 .bf16) (X : Vec F S17x8x256 .f32) (E : Set ℕ) (K : PUnit → sProp 𝕄) :
    iprop(owns (c : Thread nD τ) a2 fullShare x2
      ∗ owns (c : Thread nD τ) a4 fullShare x4
      ∗ owns (c : Thread nD τ) a6 fullShare x6
      ∗ (∃ d, owns (c : Thread nD τ) a7 fullShare d)
      ∗ (∃ d, owns (c : Thread nD τ) a8 fullShare d)
      ∗ owns (c : Thread nD τ) a10 fullShare X
      ∗ (iprop(owns (c : Thread nD τ) a2 fullShare x2
      ∗ owns (c : Thread nD τ) a4 fullShare x4
      ∗ owns (c : Thread nD τ) a6 fullShare x6
      ∗ owns (c : Thread nD τ) a7 fullShare (pB (hl x6) x2)
      ∗ owns (c : Thread nD τ) a8 fullShare (View.canon (mL (BitVec.ofNat 32 (i 0).val) (rw (hl x6) x2) (View.ld X (Rect.unit (s := S17x8x256) (k0_off2 i) S1x8x256.size (k0_off2_inb i g3))) x4))
      ∗ owns (c : Thread nD τ) a10 fullShare ((Rect.unit (s := S17x8x256) (k0_off2 i) S1x8x256.size (k0_off2_inb i g3)).overlay X (k0_pay19 (rw (hl x6) x2)))) -∗ K ⟨⟩))
    ⊢ wp frame (wpE (defs₀ (F := F)) Variants.none c none) E (cc0_norm_proj i a0 h0 a1 h1 a2 h2 a3 h3 a4 h4 a5 h5 a6 h6 a7 h7 a8 h8 a9 h9 a10 h10) K := by
  simp only [cc0_norm_proj_eq_skeleton]; unfold cc0_norm_proj_skel
  simp only [k0_part5_eq_skeleton, k0_part3_eq_skeleton]
  unfold owns
  iintro ⟨⟨%f2, %e2, H2⟩, ⟨%f4, %e4, H4⟩, ⟨%f6, %e6, H6⟩, ⟨%d7, %f7, -, H7⟩, ⟨%d8, %f8, -, H8⟩, ⟨%f10, %e10, H10⟩, Hk⟩
  subst e2
  subst e4
  subst e6
  subst e10
  sl_exec (disch := first | sl_exact g1 | sl_exact g2 | sl_exact g3 | sl_exact g4)
  sl_step
  iapply Hk
  isplitl [H2]
  · iexists _; isplitr; · ipureintro; rfl
    iexact H2
  isplitl [H4]
  · iexists _; isplitr; · ipureintro; rfl
    iexact H4
  isplitl [H6]
  · iexists _; isplitr; · ipureintro; rfl
    iexact H6
  isplitl [H7]
  · iexists _; isplitr; swap; · iexact H7
    ipureintro
    exact View.read_writes_eq_canon _ _ (pL _ _) (covP _ _)
  isplitl [H8]
  · iexists _; isplitr; swap; · iexact H8
    ipureintro
    exact View.read_writes_eq_canon _ _ (mL _ _ _ _) (covM _ _ _ _)
  iexists _; isplitr; swap; · iexact H10
  ipureintro
  exact read_one _ _ _ _

set_option maxHeartbeats 2000000 in
/-- A column block of the gated short convolution. -/
theorem runE (g1 : ¬ k0_cond1 i = 1#1) (g2 : ¬ k0_cond2 i = 1#1) (g3 : ¬ k0_cond3 i = 1#1) (g4 : k0_cond4 i = 1#1)
    (x2 : Vec F S1x1024x256 .bf16) (x5 : Vec F S1x3x64 .f32) (x6 : Vec F S1024x1024 .bf16) (X : Vec F S17x8x256 .f32) (E : Set ℕ) (K : PUnit → sProp 𝕄) :
    iprop(owns (c : Thread nD τ) a2 fullShare x2
      ∗ owns (c : Thread nD τ) a5 fullShare x5
      ∗ owns (c : Thread nD τ) a6 fullShare x6
      ∗ (∃ d, owns (c : Thread nD τ) a7 fullShare d)
      ∗ (∃ d, owns (c : Thread nD τ) a9 fullShare d)
      ∗ owns (c : Thread nD τ) a10 fullShare X
      ∗ (iprop(owns (c : Thread nD τ) a2 fullShare x2
      ∗ owns (c : Thread nD τ) a5 fullShare x5
      ∗ owns (c : Thread nD τ) a6 fullShare x6
      ∗ owns (c : Thread nD τ) a7 fullShare (pB (hl x6) x2)
      ∗ owns (c : Thread nD τ) a9 fullShare (View.canon [⟨Rect.unit (s := S1x1024x64) ![0, 0, 0] S1x1024x64.size inb_S1x1024x64_S1x1024x64_0_0_0, yB (BitVec.ofNat 32 (i 0).val) (rw (hl x6) x2) (View.ld X (Rect.unit (s := S17x8x256) (k0_off3 i) S1x8x256.size (k0_off3_inb i g4))) x5⟩])
      ∗ owns (c : Thread nD τ) a10 fullShare ((Rect.unit (s := S17x8x256) (k0_off3 i) S1x8x256.size (k0_off3_inb i g4)).overlay X (k0_pay7 (rw (hl x6) x2)))) -∗ K ⟨⟩))
    ⊢ wp frame (wpE (defs₀ (F := F)) Variants.none c none) E (cc0_norm_proj i a0 h0 a1 h1 a2 h2 a3 h3 a4 h4 a5 h5 a6 h6 a7 h7 a8 h8 a9 h9 a10 h10) K := by
  simp only [cc0_norm_proj_eq_skeleton]; unfold cc0_norm_proj_skel
  simp only [k0_part5_eq_skeleton, k0_part4_eq_skeleton]
  unfold owns
  iintro ⟨⟨%f2, %e2, H2⟩, ⟨%f5, %e5, H5⟩, ⟨%f6, %e6, H6⟩, ⟨%d7, %f7, -, H7⟩, ⟨%d9, %f9, -, H9⟩, ⟨%f10, %e10, H10⟩, Hk⟩
  subst e2
  subst e5
  subst e6
  subst e10
  sl_exec (disch := first | sl_exact g1 | sl_exact g2 | sl_exact g3 | sl_exact g4)
  sl_step
  iapply Hk
  isplitl [H2]
  · iexists _; isplitr; · ipureintro; rfl
    iexact H2
  isplitl [H5]
  · iexists _; isplitr; · ipureintro; rfl
    iexact H5
  isplitl [H6]
  · iexists _; isplitr; · ipureintro; rfl
    iexact H6
  isplitl [H7]
  · iexists _; isplitr; swap; · iexact H7
    ipureintro
    exact View.read_writes_eq_canon _ _ (pL _ _) (covP _ _)
  isplitl [H9]
  · iexists _; isplitr; swap; · iexact H9
    ipureintro
    exact View.read_writes_eq_canon _ _ [_] (View.cover_of_tiledL _ S1x1024x64.size (by sl_kernel_rfl))
  iexists _; isplitr; swap; · iexact H10
  ipureintro
  exact read_one _ _ _ _

set_option maxHeartbeats 2000000 in
/-- The first column block of a row block: the rows are normalised, then convolved. -/
theorem runA (g1 : k0_cond1 i = 1#1) (g2 : k0_cond2 i = 1#1) (g3 : ¬ k0_cond3 i = 1#1) (g4 : ¬ k0_cond4 i = 1#1)
    (x0 : Vec F S1024x1024 .f32) (x1 : Vec F S1x1024 .f32) (x2 : Vec F S1x1024x256 .bf16) (x3 : Vec F S1x4x256 .f32) (X : Vec F S17x8x256 .f32) (E : Set ℕ) (K : PUnit → sProp 𝕄) :
    iprop(owns (c : Thread nD τ) a0 fullShare x0
      ∗ owns (c : Thread nD τ) a1 fullShare x1
      ∗ owns (c : Thread nD τ) a2 fullShare x2
      ∗ owns (c : Thread nD τ) a3 fullShare x3
      ∗ (∃ d, owns (c : Thread nD τ) a6 fullShare d)
      ∗ (∃ d, owns (c : Thread nD τ) a7 fullShare d)
      ∗ (∃ d, owns (c : Thread nD τ) a8 fullShare d)
      ∗ owns (c : Thread nD τ) a10 fullShare X
      ∗ (iprop(owns (c : Thread nD τ) a0 fullShare x0
      ∗ owns (c : Thread nD τ) a1 fullShare x1
      ∗ owns (c : Thread nD τ) a2 fullShare x2
      ∗ owns (c : Thread nD τ) a3 fullShare x3
      ∗ owns (c : Thread nD τ) a6 fullShare (hB x0 x1)
      ∗ owns (c : Thread nD τ) a7 fullShare (pB (hl (hB x0 x1)) x2)
      ∗ owns (c : Thread nD τ) a8 fullShare (View.canon (cL (BitVec.ofNat 32 (i 0).val) (rw (hl (hB x0 x1)) x2) (View.ld X (Rect.unit (s := S17x8x256) (k0_off1 i) S1x8x256.size (k0_off1_inb i g2))) x3))
      ∗ owns (c : Thread nD τ) a10 fullShare ((Rect.unit (s := S17x8x256) (k0_off1 i) S1x8x256.size (k0_off1_inb i g2)).overlay X (k0_pay13 (k0_pay12 (rw (hl (hB x0 x1)) x2))))) -∗ K ⟨⟩))
    ⊢ wp frame (wpE (defs₀ (F := F)) Variants.none c none) E (cc0_norm_proj i a0 h0 a1 h1 a2 h2 a3 h3 a4 h4 a5 h5 a6 h6 a7 h7 a8 h8 a9 h9 a10 h10) K := by
  simp only [cc0_norm_proj_eq_skeleton]; unfold cc0_norm_proj_skel
  simp only [k0_part5_eq_skeleton, k0_part1_eq_skeleton, k0_part2_eq_skeleton]
  unfold owns
  iintro ⟨⟨%f0, %e0, H0⟩, ⟨%f1, %e1, H1⟩, ⟨%f2, %e2, H2⟩, ⟨%f3, %e3, H3⟩, ⟨%d6, %f6, -, H6⟩, ⟨%d7, %f7, -, H7⟩, ⟨%d8, %f8, -, H8⟩, ⟨%f10, %e10, H10⟩, Hk⟩
  subst e0
  subst e1
  subst e2
  subst e3
  subst e10
  sl_exec (disch := first | sl_exact g1 | sl_exact g2 | sl_exact g3 | sl_exact g4)
  sl_step
  have hv : runA.sl.v3 c a0 a1 a6 f0 f1 = hl (hB (View.read (Elt F) a0.view f0) (View.read (Elt F) a1.view f1)) := by
    unfold runA.sl.v3
    exact h_reread _ _ _
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H6]
  · iexists _; isplitr; swap; · iexact H6
    ipureintro
    exact View.read_writes_eq_canon _ _ [_] (View.cover_of_tiledL _ S1024x1024.size (by sl_kernel_rfl))
  isplitl [H7]
  · iexists _; isplitr; swap; · iexact H7
    ipureintro
    exact (View.read_writes_eq_canon _ _ (pL (runA.sl.v3 c a0 a1 a6 f0 f1) (View.read (Elt F) a2.view f2)) (covP _ _)).trans (by rw [hv]; rfl)
  isplitl [H8]
  · iexists _; isplitr; swap; · iexact H8
    ipureintro
    exact (View.read_writes_eq_canon _ _ (cL (BitVec.ofNat 32 (i 0).val) (rw (runA.sl.v3 c a0 a1 a6 f0 f1) (View.read (Elt F) a2.view f2)) (View.ld (View.read (Elt F) a10.view f10) (Rect.unit (s := S17x8x256) (k0_off1 i) S1x8x256.size (k0_off1_inb i g2))) (View.read (Elt F) a3.view f3)) (covC _ _ _ _)).trans (by rw [hv])
  iexists _; isplitr; swap; · iexact H10
  ipureintro
  exact (read_one (F := F) a10.view f10 (Rect.unit (s := S17x8x256) (k0_off1 i) S1x8x256.size (k0_off1_inb i g2)) (k0_pay13 (k0_pay12 (rw (runA.sl.v3 c a0 a1 a6 f0 f1) (View.read (Elt F) a2.view f2))))).trans (by rw [hv])

end Cert.Nproj.Run

end
-- ==== Proof.NprojData.lean ====
/-
What each point of the fused norm and projection leaves, and what it keeps for the row block below.
-/
module

public import proofs.«01_k».proof.Proof.NprojRun
public import Idealize.ShloMosaic.Lib.Pipeline.TableIdle

@[expose] public section

set_option maxRecDepth 16384

noncomputable section

namespace Cert.Nproj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.NprojKernelIdeal Cert.NprojKernelIdeal.Gen

variable {F : FTy → Type} [FloatOps F]

local notation "𝕄" => MT nD τ sig Unit (Elt F) ℕ (UR sig nD τ) ℕ

/-! ## The points -/

theorem lt68 (t : Fin cfg0.N) : t.val < 68 := lt_of_lt_of_eq t.isLt (show cfg0.N = 68 from N_0)

/-- An earlier point. -/
def sub (t : Fin cfg0.N) (k : ℕ) : Fin cfg0.N := ⟨t.val - k, Nat.lt_of_le_of_lt (Nat.sub_le _ _) t.isLt⟩

/-- The first point of the row block. -/
def row0 (t : Fin cfg0.N) : Fin cfg0.N := sub t (t.val % 17)

/-- The points that keep rows for the row block below. -/
def shifting (n : ℕ) : Prop := n % 17 ≤ 2 ∨ (4 ≤ n % 17 ∧ n % 17 ≤ 11) ∨ n % 17 = 16

/-- The point that kept the rows this one takes: the same column block one row block above, in the same sequence. -/
def back (t : Fin cfg0.N) : Fin cfg0.N := if t.val / 17 % 2 = 0 then t else sub t 17

/-- The last point at or before this one that stores into the block of convolved or mixed rows. -/
def lv8 (t : Fin cfg0.N) : Fin cfg0.N :=
  if t.val % 17 = 3 then sub t 1 else if 8 ≤ t.val % 17 ∧ t.val % 17 ≤ 15 then sub t (t.val % 17 - 7) else t

/-- The last point at or before this one that stores into the block of the short convolution. -/
def lv9 (t : Fin cfg0.N) : Fin cfg0.N :=
  if t.val % 17 < 8 then row0 t else if t.val % 17 ≤ 11 then t else sub t (t.val % 17 - 11)

theorem cond1_iff : ∀ t : Fin cfg0.N, k0_cond1 (grid0.coords t) = 1#1 ↔ t.val % 17 = 0 := by decide +kernel
theorem cond2_iff : ∀ t : Fin cfg0.N, k0_cond2 (grid0.coords t) = 1#1 ↔ t.val % 17 ≤ 2 := by decide +kernel
theorem cond3_iff : ∀ t : Fin cfg0.N, k0_cond3 (grid0.coords t) = 1#1 ↔ ((4 ≤ t.val % 17 ∧ t.val % 17 ≤ 7) ∨ t.val % 17 = 16) := by decide +kernel
theorem cond4_iff : ∀ t : Fin cfg0.N, k0_cond4 (grid0.coords t) = 1#1 ↔ (8 ≤ t.val % 17 ∧ t.val % 17 ≤ 11) := by decide +kernel

theorem idle6_iff : ∀ t : Fin cfg0.N, cfg0.idle 6 (cfg0.grid.coords t) = true ↔ t.val % 17 ≠ 0 := by decide +kernel
theorem idle8_iff : ∀ t : Fin cfg0.N, cfg0.idle 8 (cfg0.grid.coords t) = true ↔ (t.val % 17 = 3 ∨ (8 ≤ t.val % 17 ∧ t.val % 17 ≤ 15)) := by decide +kernel
theorem idle9_iff : ∀ t : Fin cfg0.N, cfg0.idle 9 (cfg0.grid.coords t) = true ↔ (t.val % 17 < 8 ∨ 11 < t.val % 17) := by decide +kernel
theorem flush8_idle : ∀ t : Fin cfg0.N, (cfg0.win 8).flush t = true → cfg0.idle 8 (cfg0.grid.coords t) = true → cfg0.fresh 8 t.val = false ∧ t.val ≠ 0 := by decide +kernel
theorem flush9_idle : ∀ t : Fin cfg0.N, (cfg0.win 9).flush t = true → cfg0.idle 9 (cfg0.grid.coords t) = true → cfg0.fresh 9 t.val = false ∧ t.val ≠ 0 := by decide +kernel
theorem fresh9_first : ∀ t : Fin cfg0.N, t.val % 17 = 0 → cfg0.fresh 9 t.val = true := by decide +kernel
theorem fresh6 : ∀ t : Fin cfg0.N, t.val % 17 ≠ 0 → cfg0.fresh 6 t.val = false := by decide +kernel
theorem coord1 : ∀ t : Fin cfg0.N, (grid0.coords t 1).val = t.val % 17 := by decide +kernel
theorem coord0_even : ∀ t : Fin cfg0.N, t.val / 17 % 2 = 0 → BitVec.ofNat 32 (grid0.coords t 0).val = 0#32 ∨ BitVec.ofNat 32 (grid0.coords t 0).val = 2#32 := by decide +kernel

/-! ## What a point leaves -/

variable (m : (ℓ : Loc nD τ sig) → Buf (Elt F) ℓ) (c : Dev nD)

/-- The normalised rows of the point's row block. -/
def hAt (t : Fin cfg0.N) : Vec F S1024x1024 .bf16 := hB (iblk m c 0 (row0 t)) (iblk m c 1 (row0 t))

/-- Their product with the point's column block. -/
def rAt (t : Fin cfg0.N) : FVec F S1024x256 .f32 := rw (hl (hAt m c t)) (iblk m c 2 t)

/-- The rows the point keeps for the row block below. -/
def tlAt (t : Fin cfg0.N) : Vec F S1x8x256 .f32 :=
  if t.val % 17 ≤ 2 then k0_pay13 (k0_pay12 (rAt m c t)) else if 8 ≤ t.val % 17 ∧ t.val % 17 ≤ 11 then k0_pay7 (rAt m c t) else k0_pay19 (rAt m c t)

/-- The convolved or mixed block. -/
def sAt (t : Fin cfg0.N) : Vec F S4x1024x64 .f32 :=
  if t.val % 17 ≤ 2 then View.canon (cL (BitVec.ofNat 32 (grid0.coords t 0).val) (rAt m c t) (tlAt m c (back t)) (iblk m c 3 t))
  else View.canon (mL (BitVec.ofNat 32 (grid0.coords t 0).val) (rAt m c t) (tlAt m c (back t)) (iblk m c 4 t))

/-- The short convolution's block. -/
def yAt (t : Fin cfg0.N) : Vec F S1x1024x64 .bf16 :=
  View.canon [⟨Rect.unit (s := S1x1024x64) ![0, 0, 0] S1x1024x64.size inb_S1x1024x64_S1x1024x64_0_0_0,
    yB (BitVec.ofNat 32 (grid0.coords t 0).val) (rAt m c t) (tlAt m c (back t)) (iblk m c 5 t)⟩]

theorem row0_pred (t : Fin cfg0.N) (h : t.val % 17 ≠ 0) : row0 t = row0 (sub t 1) := by
  apply Fin.ext
  have := lt68 t
  show t.val - t.val % 17 = (t.val - 1) - (t.val - 1) % 17
  omega

theorem hAt_pred (t : Fin cfg0.N) (h : t.val % 17 ≠ 0) : hAt m c t = hAt m c (sub t 1) := by
  unfold hAt; rw [row0_pred t h]

theorem row0_self (t : Fin cfg0.N) (h : t.val % 17 = 0) : row0 t = t := by
  apply Fin.ext
  show t.val - t.val % 17 = t.val
  omega

theorem lv8_pred (t : Fin cfg0.N) (h : t.val % 17 = 3 ∨ (8 ≤ t.val % 17 ∧ t.val % 17 ≤ 15)) : lv8 t = lv8 (sub t 1) := by
  apply Fin.ext
  have := lt68 t
  unfold lv8 sub
  dsimp only
  split_ifs <;> dsimp only <;> omega

theorem lv8_self (t : Fin cfg0.N) (h : ¬ (t.val % 17 = 3 ∨ (8 ≤ t.val % 17 ∧ t.val % 17 ≤ 15))) : lv8 t = t := by
  unfold lv8; rw [if_neg (fun e => h (Or.inl e)), if_neg (fun e => h (Or.inr e))]

theorem lv9_pred (t : Fin cfg0.N) (h : t.val % 17 < 8 ∨ 11 < t.val % 17) (h0 : t.val % 17 ≠ 0) : lv9 t = lv9 (sub t 1) := by
  apply Fin.ext
  have := lt68 t
  unfold lv9 row0 sub
  dsimp only
  split_ifs <;> dsimp only <;> omega

theorem lv9_self (t : Fin cfg0.N) (h : 8 ≤ t.val % 17 ∧ t.val % 17 ≤ 11) : lv9 t = t := by
  unfold lv9; rw [if_neg (by omega), if_pos h.2]

/-! ## The first row block of a sequence takes nothing from the one above -/

theorem pay8_first (a : BitVec 32) (ha : a = 0#32 ∨ a = 2#32) (x x' : Vec F S1x8x256 .f32) : k0_pay8 a x = k0_pay8 a x' := by
  rcases ha with rfl | rfl <;> rfl

theorem pay23_first (a : BitVec 32) (ha : a = 0#32 ∨ a = 2#32) (x x' : Vec F S1x8x256 .f32) : k0_pay23 a x = k0_pay23 a x' := by
  rcases ha with rfl | rfl <;> rfl

theorem pay20_first (a : BitVec 32) (ha : a = 0#32 ∨ a = 2#32) (r : FVec F S1024x256 .f32) (x x' : Vec F S1x8x256 .f32) (u : Vec F S1x1x256 .f32) :
    k0_pay20 a r x u = k0_pay20 a r x' u := by
  rcases ha with rfl | rfl <;> rfl

theorem cL_first (a : BitVec 32) (ha : a = 0#32 ∨ a = 2#32) (r : FVec F S1024x256 .f32) (x x' : Vec F S1x8x256 .f32) (u : Vec F S1x4x256 .f32) :
    cL a r x u = cL a r x' u := by
  unfold cL k0_pay9 k0_pay10 k0_pay11
  rw [pay8_first a ha x x']

theorem mL_first (a : BitVec 32) (ha : a = 0#32 ∨ a = 2#32) (r : FVec F S1024x256 .f32) (x x' : Vec F S1x8x256 .f32) (u : Vec F S1x1x256 .f32) :
    mL a r x u = mL a r x' u := by
  unfold mL k0_pay21
  rw [pay20_first a ha r x x']

theorem yB_first (a : BitVec 32) (ha : a = 0#32 ∨ a = 2#32) (r : FVec F S1024x256 .f32) (x x' : Vec F S1x8x256 .f32) (u : Vec F S1x3x64 .f32) :
    yB a r x u = yB a r x' u := by
  unfold yB k0_pay24 k0_pay25
  rw [pay23_first a ha x x']

/-! ## The rows kept -/

/-- The rows one column block keeps. -/
def keptRect (j : ℕ) (hj : j < 17) : Rect S17x8x256 := Rect.unit (s := S17x8x256) ![j, 0, 0] S1x8x256.size (by
  intro a
  fin_cases a
  · show j + 1 ≤ 17; omega
  · show 0 + 8 ≤ 8; omega
  · show 0 + 256 ≤ 256; omega)

/-- Before point `n` the buffer holds, for every column block, the rows its last point kept. -/
def Kept (n : ℕ) (X : Vec F S17x8x256 .f32) : Prop :=
  ∀ t : Fin cfg0.N, shifting t.val → t.val < n → n ≤ t.val + 17 → View.ld X (keptRect (t.val % 17) (Nat.mod_lt _ (by decide))) = tlAt m c t

theorem kept_zero (X : Vec F S17x8x256 .f32) : Kept m c 0 X := fun t _ h _ => absurd h (Nat.not_lt_zero _)

/-- A point that keeps nothing. -/
theorem kept_skip (t : Fin cfg0.N) (X : Vec F S17x8x256 .f32) (h : Kept m c t.val X) (ht : ¬ shifting t.val) : Kept m c (t.val + 1) X := by
  intro t' hs hlt hle
  rcases Nat.lt_succ_iff_lt_or_eq.mp hlt with e | e
  · exact h t' hs e (by omega)
  · exact absurd (e ▸ hs) ht

/-- A point that keeps its own rows. -/
theorem kept_step (t : Fin cfg0.N) (X : Vec F S17x8x256 .f32) (h : Kept m c t.val X) (off : Fin 3 → ℕ) (hin) (hoff : off = ![t.val % 17, 0, 0])
    (p : Vec F S1x8x256 .f32) (hp : p = tlAt m c t) :
    Kept m c (t.val + 1) ((Rect.unit (s := S17x8x256) off S1x8x256.size hin).overlay X p) := by
  subst hoff
  subst hp
  intro t' hs hlt hle
  rcases Nat.lt_succ_iff_lt_or_eq.mp hlt with e | e
  · rw [← h t' hs e (by omega)]
    funext x
    show Rect.overlay _ X _ _ = X _
    refine Rect.overlay_of_not_mem _ _ _ fun hmem => ?_
    have h0 := Rect.mem_set_unit.mp hmem 0
    have hx := (x 0).isLt
    have e0 : ((keptRect (t'.val % 17) (Nat.mod_lt _ (by decide))).idx x 0).val = t'.val % 17 + 1 * (x 0).val := rfl
    have hx' : (x 0).val < 1 := hx
    have h1 : t.val % 17 ≤ ((keptRect (t'.val % 17) (Nat.mod_lt _ (by decide))).idx x 0).val := h0.1
    have h2 : ((keptRect (t'.val % 17) (Nat.mod_lt _ (by decide))).idx x 0).val < t.val % 17 + 1 := h0.2
    omega
  · have e' : t' = t := Fin.ext e
    subst e'
    funext x
    exact Rect.overlay_emb _ _ _ x

theorem ld_kept (X : Vec F S17x8x256 .f32) (j j' : ℕ) (hin) (hj' : j' < 17) (e : j = j') :
    View.ld X (Rect.unit (s := S17x8x256) ![j, 0, 0] S1x8x256.size hin) = View.ld X (keptRect j' hj') := by
  subst e; rfl

/-- The rows a point finds. -/
theorem kept_read (t : Fin cfg0.N) (X : Vec F S17x8x256 .f32) (h : Kept m c t.val X) (hs : shifting t.val) (off : Fin 3 → ℕ) (hin) (hoff : off = ![t.val % 17, 0, 0])
    (ho : t.val / 17 % 2 ≠ 0) : View.ld X (Rect.unit (s := S17x8x256) off S1x8x256.size hin) = tlAt m c (back t) := by
  subst hoff
  have hb : back t = sub t 17 := if_neg ho
  have hv : (sub t 17).val = t.val - 17 := rfl
  have := lt68 t
  have hm : (sub t 17).val % 17 = t.val % 17 := by rw [hv]; omega
  rw [hb, ← h (sub t 17) (by unfold shifting at hs ⊢; rw [hm]; exact hs) (by rw [hv]; omega) (by rw [hv]; omega)]
  exact ld_kept X _ _ hin _ hm.symm

end Cert.Nproj.Run

end
-- ==== Proof.NprojFrame.lean ====
/-
The frame of the fused norm and projection: every point's obligation, and the run.
-/
module

public import proofs.«01_k».proof.Proof.NprojData
public import Idealize.ShloMosaic.Lib.Claim
public import Idealize.ShloMosaic.Lib.Pipeline.TableIdle

@[expose] public section

set_option maxRecDepth 16384

noncomputable section

namespace Cert.Nproj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.NprojKernelIdeal Cert.NprojKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The buffer that carries rows from one row block to the next. -/
abbrev carry : Memref sig .tc .vmem S17x8x256 .f32 := Memref.whole cc0_scratch0

/-- Before point `n`: the carried rows are those kept, and the generator register is at some state. -/
def Phi (c : Dev nD) (n : ℕ) : sProp 𝕄 :=
  iprop((∃ X, ⌜Kept m c n X⌝ ∗ owns (c : Thread nD τ) carry fullShare X) ∗ (∃ r, prngReg c r))

/-- What the arrays hold at the start, and what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hAt m c t
    | ⟨7, _⟩ => pB (hl (hAt m c t)) (iblk m c 2 t)
    | ⟨8, _⟩ => sAt m c (lv8 t)
    | ⟨9, _⟩ => yAt m c (lv9 t)
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hAt m c t := by dsimp only [dats]
theorem after7 (c : Dev nD) (t : Fin cfg0.N) : (dats m 0 c).after 7 t = pB (hl (hAt m c t)) (iblk m c 2 t) := by dsimp only [dats]
theorem after8 (c : Dev nD) (t : Fin cfg0.N) : (dats m 0 c).after 8 t = sAt m c (lv8 t) := by dsimp only [dats]
theorem after9 (c : Dev nD) (t : Fin cfg0.N) : (dats m 0 c).after 9 t = yAt m c (lv9 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The windows a point leaves alone -/

theorem before6 (c : Dev nD) (t : Fin cfg0.N) (h : t.val % 17 ≠ 0) (d) : (dats m 0 c).before 6 t d = hAt m c t := by
  have e := Dat.before_out_traj (dats m 0 c) 6 rfl (fun _ _ => rfl) (fun t' _ hi _ => by
    rw [after6, after6]; exact hAt_pred m c t' ((idle6_iff t').mp hi)) t.val t rfl d
  rw [fresh6 t h, if_neg Bool.false_ne_true] at e
  rw [e, after6]
  exact (hAt_pred m c t h).symm

theorem before8 (c : Dev nD) (t : Fin cfg0.N) (hf : (cfg0.win 8).flush t = true) (hi : cfg0.idle 8 (cfg0.grid.coords t) = true) (d) :
    (dats m 0 c).before 8 t d = (dats m 0 c).after 8 t := by
  have e := Dat.before_out_traj (dats m 0 c) 8 rfl (fun _ _ => rfl) (fun t' _ hi' _ => by
    rw [after8, after8, lv8_pred t' ((idle8_iff t').mp hi')]; rfl) t.val t rfl d
  rw [(flush8_idle t hf hi).1, if_neg Bool.false_ne_true] at e
  rw [e, after8, after8, lv8_pred t ((idle8_iff t).mp hi)]
  rfl

theorem before9 (c : Dev nD) (t : Fin cfg0.N) (hf : (cfg0.win 9).flush t = true) (hi : cfg0.idle 9 (cfg0.grid.coords t) = true) (d) :
    (dats m 0 c).before 9 t d = (dats m 0 c).after 9 t := by
  have e := Dat.before_out_traj (dats m 0 c) 9 rfl (fun _ _ => rfl) (fun t' _ hi' hfr => by
    have h0 : t'.val % 17 ≠ 0 := fun h0 => absurd (fresh9_first t' h0) (by rw [hfr]; exact Bool.false_ne_true)
    rw [after9, after9, lv9_pred t' ((idle9_iff t').mp hi') h0]; rfl) t.val t rfl d
  have hfr := (flush9_idle t hf hi).1
  have h0 : t.val % 17 ≠ 0 := fun h0 => absurd (fresh9_first t h0) (by rw [hfr]; exact Bool.false_ne_true)
  rw [hfr, if_neg Bool.false_ne_true] at e
  rw [e, after9, after9, lv9_pred t ((idle9_iff t).mp hi) h0]
  rfl

theorem leave_live {c : Dev nD} (dat : Dat τ (Elt F) Unit ℕ (UR sig nD τ) ℕ cfg0 c) (w : Fin cfg0.W) (t : Fin cfg0.N) (hi : cfg0.idle w (cfg0.grid.coords t) = false) :
    dat.leavesExact w t = owns (c : Thread nD τ) ((cfg0.win w).stage (cfg0.slots t w)) fullShare (dat.after w t) := by
  unfold Dat.leavesExact; rw [hi]

theorem leave_idle {c : Dev nD} (dat : Dat τ (Elt F) Unit ℕ (UR sig nD τ) ℕ cfg0 c) (w : Fin cfg0.W) (t : Fin cfg0.N) (hi : cfg0.idle w (cfg0.grid.coords t) = true)
    (hk : (cfg0.win w).flush t = true → ∀ d, dat.before w t d = dat.after w t) (d) :
    owns (c : Thread nD τ) ((cfg0.win w).stage (cfg0.slots t w)) fullShare (dat.before w t d) ⊢ (dat.leavesExact w t : sProp 𝕄) := by
  unfold Dat.leavesExact
  rw [hi]
  cases hf : (cfg0.win w).flush t with
  | false => dsimp only; iintro H; iexists d; iexact H
  | true => dsimp only; rw [hk hf d]

theorem live0 : ∀ t : Fin cfg0.N, cfg0.idle 0 (cfg0.grid.coords t) = false := fun _ => rfl
theorem live1 : ∀ t : Fin cfg0.N, cfg0.idle 1 (cfg0.grid.coords t) = false := fun _ => rfl
theorem live2 : ∀ t : Fin cfg0.N, cfg0.idle 2 (cfg0.grid.coords t) = false := fun _ => rfl
theorem live3 : ∀ t : Fin cfg0.N, cfg0.idle 3 (cfg0.grid.coords t) = false := fun _ => rfl
theorem live4 : ∀ t : Fin cfg0.N, cfg0.idle 4 (cfg0.grid.coords t) = false := fun _ => rfl
theorem live5 : ∀ t : Fin cfg0.N, cfg0.idle 5 (cfg0.grid.coords t) = false := fun _ => rfl
theorem live7 : ∀ t : Fin cfg0.N, cfg0.idle 7 (cfg0.grid.coords t) = false := fun _ => rfl
theorem not_true {b : Bool} {p : Prop} (h : b = true ↔ p) (hp : ¬ p) : b = false := by
  cases b with
  | false => rfl
  | true => exact absurd (h.mp rfl) hp

theorem leave6 (c : Dev nD) (t : Fin cfg0.N) :
    owns (c : Thread nD τ) ((cfg0.win 6).stage (cfg0.slots t 6)) fullShare (hAt m c t) ⊢ ((dats m 0 c).leavesExact 6 t : sProp 𝕄) := by
  by_cases h : t.val % 17 = 0
  · rw [leave_live (dats m 0 c) 6 t (not_true (idle6_iff t) (fun hn => hn h)), after6]
  · have e := leave_idle (dats m 0 c) 6 t ((idle6_iff t).mpr h) (fun _ d => (before6 m c t h d).trans (after6 m c t).symm) (hAt m c t)
    rw [before6 m c t h] at e
    exact e

/-! ## What the runs leave, by name -/

theorem shift_lo (t : Fin cfg0.N) (h : t.val % 17 ≤ 2) : shifting t.val := Or.inl h

/-- The rows a point takes from the row block above, or any at the first one. -/
theorem take_eq {β : Type} (c : Dev nD) (t : Fin cfg0.N) (X : Vec F S17x8x256 .f32) (hX : Kept m c t.val X) (hs : shifting t.val)
    (off : Fin 3 → ℕ) (hin) (hoff : off = ![t.val % 17, 0, 0]) (f : BitVec 32 → Vec F S1x8x256 .f32 → β)
    (hf : ∀ a : BitVec 32, a = 0#32 ∨ a = 2#32 → ∀ x x', f a x = f a x') :
    f (BitVec.ofNat 32 (grid0.coords t 0).val) (View.ld X (Rect.unit (s := S17x8x256) off S1x8x256.size hin))
      = f (BitVec.ofNat 32 (grid0.coords t 0).val) (tlAt m c (back t)) := by
  by_cases ho : t.val / 17 % 2 = 0
  · exact hf _ (coord0_even t ho) _ _
  · rw [kept_read m c t X hX hs off hin hoff ho]

/-! ## The points, case by case -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first column block of a row block. -/
theorem pointA (c : Dev nD) (t : Fin cfg0.N) (hj : t.val % 17 = 0) :
    bodyPre m c t ⊢ wp frame (wpE (defs₀ (F := F)) Variants.none c none) Set.univ (bodyAt0 t) (fun _ => bodyPost m c t) := by
  have g1 : k0_cond1 (grid0.coords t) = 1#1 := (cond1_iff t).mpr (by omega)
  have g2 : k0_cond2 (grid0.coords t) = 1#1 := (cond2_iff t).mpr (by omega)
  have g3 : ¬ k0_cond3 (grid0.coords t) = 1#1 := fun h => absurd ((cond3_iff t).mp h) (by omega)
  have g4 : ¬ k0_cond4 (grid0.coords t) = 1#1 := fun h => absurd ((cond4_iff t).mp h) (by omega)
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leave_live (dats m 0 c) 0 t (live0 t), after0]
  rw [leave_live (dats m 0 c) 1 t (live1 t), after1]
  rw [leave_live (dats m 0 c) 2 t (live2 t), after2]
  rw [leave_live (dats m 0 c) 3 t (live3 t), after3]
  rw [leave_live (dats m 0 c) 4 t (live4 t), after4]
  rw [leave_live (dats m 0 c) 5 t (live5 t), after5]
  rw [leave_live (dats m 0 c) 7 t (live7 t), after7]
  rw [leave_live (dats m 0 c) 8 t (not_true (idle8_iff t) (by omega)), after8, lv8_self t (by omega)]
  unfold Phi
  iintro ⟨⟨⟨%X, %hX, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have eh : hB (iblk m c 0 t) (iblk m c 1 t) = hAt m c t := by unfold hAt; rw [row0_self t hj]
  have R := fun K => runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) carry (Memref.isWhole_whole _) g1 g2 g3 g4 (iblk m c 0 t) (iblk m c 1 t) (iblk m c 2 t) (iblk m c 3 t) X Set.univ K
  rw [eh] at R
  have es : View.canon (cL (BitVec.ofNat 32 (grid0.coords t 0).val) (rw (hl (hAt m c t)) (iblk m c 2 t)) (View.ld X (Rect.unit (s := S17x8x256) (k0_off1 (grid0.coords t)) S1x8x256.size (k0_off1_inb (grid0.coords t) g2))) (iblk m c 3 t)) = sAt m c t :=
    (take_eq m c t X hX (by unfold shifting; omega) _ _ ((k0_off1_eq _).trans (by rw [coord1])) (fun a x => View.canon (cL a (rw (hl (hAt m c t)) (iblk m c 2 t)) x (iblk m c 3 t))) (fun a ha x x' => by rw [cL_first a ha _ x x'])).trans (by unfold sAt; rw [if_pos (by omega)]; rfl)
  have hX' := kept_step m c t X hX (k0_off1 (grid0.coords t)) (k0_off1_inb (grid0.coords t) g2) ((k0_off1_eq _).trans (by rw [coord1])) (k0_pay13 (k0_pay12 (rw (hl (hAt m c t)) (iblk m c 2 t)))) (by unfold tlAt; rw [if_pos (by omega)]; rfl)
  simp only [es] at R
  iapply R
  isplitl [H0]
  · iexact H0
  isplitl [H1]
  · iexact H1
  isplitl [H2]
  · iexact H2
  isplitl [H3]
  · iexact H3
  isplitl [H6]
  · iexists _; iexact H6
  isplitl [H7]
  · iexists _; iexact H7
  isplitl [H8]
  · iexists _; iexact H8
  isplitl [HX]
  · iexact HX
  iintro ⟨H0, H1, H2, H3, H6, H7, H8, HX⟩
  isplitl [HX Hg]
  · isplitr [Hg]
    · iexists _; isplitr; swap; · iexact HX
      ipureintro; exact hX'
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leave6 m c t); iexact H6
  isplitl [H7]
  · iexact H7
  isplitl [H8]
  · iexact H8
  iapply (leave_idle (dats m 0 c) 9 t ((idle9_iff t).mpr (by omega)) (fun hf => before9 m c t hf ((idle9_iff t).mpr (by omega))) d9); iexact H9

set_option maxHeartbeats 4000000 in
/-- The other convolved column blocks. -/
theorem pointB (c : Dev nD) (t : Fin cfg0.N) (hj : t.val % 17 = 1 ∨ t.val % 17 = 2) :
    bodyPre m c t ⊢ wp frame (wpE (defs₀ (F := F)) Variants.none c none) Set.univ (bodyAt0 t) (fun _ => bodyPost m c t) := by
  have g1 : ¬ k0_cond1 (grid0.coords t) = 1#1 := fun h => absurd ((cond1_iff t).mp h) (by omega)
  have g2 : k0_cond2 (grid0.coords t) = 1#1 := (cond2_iff t).mpr (by omega)
  have g3 : ¬ k0_cond3 (grid0.coords t) = 1#1 := fun h => absurd ((cond3_iff t).mp h) (by omega)
  have g4 : ¬ k0_cond4 (grid0.coords t) = 1#1 := fun h => absurd ((cond4_iff t).mp h) (by omega)
  unfold bodyPre bodyPost bodyAt0
  simp only [before0, before1, before2, before3, before4, before5, before6 m c t (by omega)]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leave_live (dats m 0 c) 0 t (live0 t), after0]
  rw [leave_live (dats m 0 c) 1 t (live1 t), after1]
  rw [leave_live (dats m 0 c) 2 t (live2 t), after2]
  rw [leave_live (dats m 0 c) 3 t (live3 t), after3]
  rw [leave_live (dats m 0 c) 4 t (live4 t), after4]
  rw [leave_live (dats m 0 c) 5 t (live5 t), after5]
  rw [leave_live (dats m 0 c) 7 t (live7 t), after7]
  rw [leave_live (dats m 0 c) 8 t (not_true (idle8_iff t) (by omega)), after8, lv8_self t (by omega)]
  unfold Phi
  iintro ⟨⟨⟨%X, %hX, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have R := fun K => runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) carry (Memref.isWhole_whole _) g1 g2 g3 g4 (iblk m c 2 t) (iblk m c 3 t) (hAt m c t) X Set.univ K
  have es : View.canon (cL (BitVec.ofNat 32 (grid0.coords t 0).val) (rw (hl (hAt m c t)) (iblk m c 2 t)) (View.ld X (Rect.unit (s := S17x8x256) (k0_off1 (grid0.coords t)) S1x8x256.size (k0_off1_inb (grid0.coords t) g2))) (iblk m c 3 t)) = sAt m c t :=
    (take_eq m c t X hX (by unfold shifting; omega) _ _ ((k0_off1_eq _).trans (by rw [coord1])) (fun a x => View.canon (cL a (rw (hl (hAt m c t)) (iblk m c 2 t)) x (iblk m c 3 t))) (fun a ha x x' => by rw [cL_first a ha _ x x'])).trans (by unfold sAt; rw [if_pos (by omega)]; rfl)
  have hX' := kept_step m c t X hX (k0_off1 (grid0.coords t)) (k0_off1_inb (grid0.coords t) g2) ((k0_off1_eq _).trans (by rw [coord1])) (k0_pay13 (k0_pay12 (rw (hl (hAt m c t)) (iblk m c 2 t)))) (by unfold tlAt; rw [if_pos (by omega)]; rfl)
  simp only [es] at R
  iapply R
  isplitl [H2]
  · iexact H2
  isplitl [H3]
  · iexact H3
  isplitl [H6]
  · iexact H6
  isplitl [H7]
  · iexists _; iexact H7
  isplitl [H8]
  · iexists _; iexact H8
  isplitl [HX]
  · iexact HX
  iintro ⟨H2, H3, H6, H7, H8, HX⟩
  isplitl [HX Hg]
  · isplitr [Hg]
    · iexists _; isplitr; swap; · iexact HX
      ipureintro; exact hX'
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leave6 m c t); iexact H6
  isplitl [H7]
  · iexact H7
  isplitl [H8]
  · iexact H8
  iapply (leave_idle (dats m 0 c) 9 t ((idle9_iff t).mpr (by omega)) (fun hf => before9 m c t hf ((idle9_iff t).mpr (by omega))) d9); iexact H9

set_option maxHeartbeats 4000000 in
/-- The column blocks left as they are. -/
theorem pointC (c : Dev nD) (t : Fin cfg0.N) (hj : t.val % 17 = 3 ∨ (12 ≤ t.val % 17 ∧ t.val % 17 ≤ 15)) :
    bodyPre m c t ⊢ wp frame (wpE (defs₀ (F := F)) Variants.none c none) Set.univ (bodyAt0 t) (fun _ => bodyPost m c t) := by
  have g1 : ¬ k0_cond1 (grid0.coords t) = 1#1 := fun h => absurd ((cond1_iff t).mp h) (by omega)
  have g2 : ¬ k0_cond2 (grid0.coords t) = 1#1 := fun h => absurd ((cond2_iff t).mp h) (by omega)
  have g3 : ¬ k0_cond3 (grid0.coords t) = 1#1 := fun h => absurd ((cond3_iff t).mp h) (by omega)
  have g4 : ¬ k0_cond4 (grid0.coords t) = 1#1 := fun h => absurd ((cond4_iff t).mp h) (by omega)
  unfold bodyPre bodyPost bodyAt0
  simp only [before0, before1, before2, before3, before4, before5, before6 m c t (by omega)]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leave_live (dats m 0 c) 0 t (live0 t), after0]
  rw [leave_live (dats m 0 c) 1 t (live1 t), after1]
  rw [leave_live (dats m 0 c) 2 t (live2 t), after2]
  rw [leave_live (dats m 0 c) 3 t (live3 t), after3]
  rw [leave_live (dats m 0 c) 4 t (live4 t), after4]
  rw [leave_live (dats m 0 c) 5 t (live5 t), after5]
  rw [leave_live (dats m 0 c) 7 t (live7 t), after7]
  unfold Phi
  iintro ⟨⟨⟨%X, %hX, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have R := fun K => runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) carry (Memref.isWhole_whole _) g1 g2 g3 g4 (iblk m c 2 t) (hAt m c t) Set.univ K
  have hX' := kept_skip m c t X hX (by unfold shifting; omega)
  iapply R
  isplitl [H2]
  · iexact H2
  isplitl [H6]
  · iexact H6
  isplitl [H7]
  · iexists _; iexact H7
  iintro ⟨H2, H6, H7⟩
  isplitl [HX Hg]
  · isplitr [Hg]
    · iexists _; isplitr; swap; · iexact HX
      ipureintro; exact hX'
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leave6 m c t); iexact H6
  isplitl [H7]
  · iexact H7
  isplitl [H8]
  · iapply (leave_idle (dats m 0 c) 8 t ((idle8_iff t).mpr (by omega)) (fun hf => before8 m c t hf ((idle8_iff t).mpr (by omega))) d8); iexact H8
  iapply (leave_idle (dats m 0 c) 9 t ((idle9_iff t).mpr (by omega)) (fun hf => before9 m c t hf ((idle9_iff t).mpr (by omega))) d9); iexact H9

set_option maxHeartbeats 4000000 in
/-- The mixed column blocks. -/
theorem pointD (c : Dev nD) (t : Fin cfg0.N) (hj : (4 ≤ t.val % 17 ∧ t.val % 17 ≤ 7) ∨ t.val % 17 = 16) :
    bodyPre m c t ⊢ wp frame (wpE (defs₀ (F := F)) Variants.none c none) Set.univ (bodyAt0 t) (fun _ => bodyPost m c t) := by
  have g1 : ¬ k0_cond1 (grid0.coords t) = 1#1 := fun h => absurd ((cond1_iff t).mp h) (by omega)
  have g2 : ¬ k0_cond2 (grid0.coords t) = 1#1 := fun h => absurd ((cond2_iff t).mp h) (by omega)
  have g3 : k0_cond3 (grid0.coords t) = 1#1 := (cond3_iff t).mpr (by omega)
  have g4 : ¬ k0_cond4 (grid0.coords t) = 1#1 := fun h => absurd ((cond4_iff t).mp h) (by omega)
  unfold bodyPre bodyPost bodyAt0
  simp only [before0, before1, before2, before3, before4, before5, before6 m c t (by omega)]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leave_live (dats m 0 c) 0 t (live0 t), after0]
  rw [leave_live (dats m 0 c) 1 t (live1 t), after1]
  rw [leave_live (dats m 0 c) 2 t (live2 t), after2]
  rw [leave_live (dats m 0 c) 3 t (live3 t), after3]
  rw [leave_live (dats m 0 c) 4 t (live4 t), after4]
  rw [leave_live (dats m 0 c) 5 t (live5 t), after5]
  rw [leave_live (dats m 0 c) 7 t (live7 t), after7]
  rw [leave_live (dats m 0 c) 8 t (not_true (idle8_iff t) (by omega)), after8, lv8_self t (by omega)]
  unfold Phi
  iintro ⟨⟨⟨%X, %hX, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have R := fun K => runD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) carry (Memref.isWhole_whole _) g1 g2 g3 g4 (iblk m c 2 t) (iblk m c 4 t) (hAt m c t) X Set.univ K
  have es : View.canon (mL (BitVec.ofNat 32 (grid0.coords t 0).val) (rw (hl (hAt m c t)) (iblk m c 2 t)) (View.ld X (Rect.unit (s := S17x8x256) (k0_off2 (grid0.coords t)) S1x8x256.size (k0_off2_inb (grid0.coords t) g3))) (iblk m c 4 t)) = sAt m c t :=
    (take_eq m c t X hX (by unfold shifting; omega) _ _ ((k0_off2_eq _).trans (by rw [coord1])) (fun a x => View.canon (mL a (rw (hl (hAt m c t)) (iblk m c 2 t)) x (iblk m c 4 t))) (fun a ha x x' => by rw [mL_first a ha _ x x'])).trans (by unfold sAt; rw [if_neg (by omega)]; rfl)
  have hX' := kept_step m c t X hX (k0_off2 (grid0.coords t)) (k0_off2_inb (grid0.coords t) g3) ((k0_off2_eq _).trans (by rw [coord1])) (k0_pay19 (rw (hl (hAt m c t)) (iblk m c 2 t))) (by unfold tlAt; rw [if_neg (by omega), if_neg (by omega)]; rfl)
  simp only [es] at R
  iapply R
  isplitl [H2]
  · iexact H2
  isplitl [H4]
  · iexact H4
  isplitl [H6]
  · iexact H6
  isplitl [H7]
  · iexists _; iexact H7
  isplitl [H8]
  · iexists _; iexact H8
  isplitl [HX]
  · iexact HX
  iintro ⟨H2, H4, H6, H7, H8, HX⟩
  isplitl [HX Hg]
  · isplitr [Hg]
    · iexists _; isplitr; swap; · iexact HX
      ipureintro; exact hX'
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leave6 m c t); iexact H6
  isplitl [H7]
  · iexact H7
  isplitl [H8]
  · iexact H8
  iapply (leave_idle (dats m 0 c) 9 t ((idle9_iff t).mpr (by omega)) (fun hf => before9 m c t hf ((idle9_iff t).mpr (by omega))) d9); iexact H9

set_option maxHeartbeats 4000000 in
/-- The column blocks of the gated short convolution. -/
theorem pointE (c : Dev nD) (t : Fin cfg0.N) (hj : 8 ≤ t.val % 17 ∧ t.val % 17 ≤ 11) :
    bodyPre m c t ⊢ wp frame (wpE (defs₀ (F := F)) Variants.none c none) Set.univ (bodyAt0 t) (fun _ => bodyPost m c t) := by
  have g1 : ¬ k0_cond1 (grid0.coords t) = 1#1 := fun h => absurd ((cond1_iff t).mp h) (by omega)
  have g2 : ¬ k0_cond2 (grid0.coords t) = 1#1 := fun h => absurd ((cond2_iff t).mp h) (by omega)
  have g3 : ¬ k0_cond3 (grid0.coords t) = 1#1 := fun h => absurd ((cond3_iff t).mp h) (by omega)
  have g4 : k0_cond4 (grid0.coords t) = 1#1 := (cond4_iff t).mpr (by omega)
  unfold bodyPre bodyPost bodyAt0
  simp only [before0, before1, before2, before3, before4, before5, before6 m c t (by omega)]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leave_live (dats m 0 c) 0 t (live0 t), after0]
  rw [leave_live (dats m 0 c) 1 t (live1 t), after1]
  rw [leave_live (dats m 0 c) 2 t (live2 t), after2]
  rw [leave_live (dats m 0 c) 3 t (live3 t), after3]
  rw [leave_live (dats m 0 c) 4 t (live4 t), after4]
  rw [leave_live (dats m 0 c) 5 t (live5 t), after5]
  rw [leave_live (dats m 0 c) 7 t (live7 t), after7]
  rw [leave_live (dats m 0 c) 9 t (not_true (idle9_iff t) (by omega)), after9, lv9_self t (by omega)]
  unfold Phi
  iintro ⟨⟨⟨%X, %hX, HX⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have R := fun K => runE c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) carry (Memref.isWhole_whole _) g1 g2 g3 g4 (iblk m c 2 t) (iblk m c 5 t) (hAt m c t) X Set.univ K
  have es : View.canon [⟨Rect.unit (s := S1x1024x64) ![0, 0, 0] S1x1024x64.size inb_S1x1024x64_S1x1024x64_0_0_0, yB (BitVec.ofNat 32 (grid0.coords t 0).val) (rw (hl (hAt m c t)) (iblk m c 2 t)) (View.ld X (Rect.unit (s := S17x8x256) (k0_off3 (grid0.coords t)) S1x8x256.size (k0_off3_inb (grid0.coords t) g4))) (iblk m c 5 t)⟩] = yAt m c t :=
    (take_eq m c t X hX (by unfold shifting; omega) _ _ ((k0_off3_eq _).trans (by rw [coord1])) (fun a x => View.canon [⟨Rect.unit (s := S1x1024x64) ![0, 0, 0] S1x1024x64.size inb_S1x1024x64_S1x1024x64_0_0_0, yB a (rw (hl (hAt m c t)) (iblk m c 2 t)) x (iblk m c 5 t)⟩]) (fun a ha x x' => by rw [yB_first a ha _ x x'])).trans (by unfold yAt; rfl)
  have hX' := kept_step m c t X hX (k0_off3 (grid0.coords t)) (k0_off3_inb (grid0.coords t) g4) ((k0_off3_eq _).trans (by rw [coord1])) (k0_pay7 (rw (hl (hAt m c t)) (iblk m c 2 t))) (by unfold tlAt; rw [if_neg (by omega), if_pos (by omega)]; rfl)
  simp only [es] at R
  iapply R
  isplitl [H2]
  · iexact H2
  isplitl [H5]
  · iexact H5
  isplitl [H6]
  · iexact H6
  isplitl [H7]
  · iexists _; iexact H7
  isplitl [H9]
  · iexists _; iexact H9
  isplitl [HX]
  · iexact HX
  iintro ⟨H2, H5, H6, H7, H9, HX⟩
  isplitl [HX Hg]
  · isplitr [Hg]
    · iexists _; isplitr; swap; · iexact HX
      ipureintro; exact hX'
    · iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leave6 m c t); iexact H6
  isplitl [H7]
  · iexact H7
  isplitl [H8]
  · iapply (leave_idle (dats m 0 c) 8 t ((idle8_iff t).mpr (by omega)) (fun hf => before8 m c t hf ((idle8_iff t).mpr (by omega))) d8); iexact H8
  iexact H9

theorem point (c : Dev nD) (t : Fin cfg0.N) :
    bodyPre m c t ⊢ wp frame (wpE (defs₀ (F := F)) Variants.none c none) Set.univ (bodyAt0 t) (fun _ => bodyPost m c t) := by
  by_cases hA : t.val % 17 = 0
  · exact pointA m c t hA
  by_cases hB : t.val % 17 = 1 ∨ t.val % 17 = 2
  · exact pointB m c t hB
  by_cases hD : (4 ≤ t.val % 17 ∧ t.val % 17 ≤ 7) ∨ t.val % 17 = 16
  · exact pointD m c t hD
  by_cases hE : 8 ≤ t.val % 17 ∧ t.val % 17 ≤ 11
  · exact pointE m c t hE
  exact pointC m c t (by omega)

/-! ## The run -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point m c t) rfl .rfl fun _ => .rfl

theorem rest_eq (c : Dev nD) :
    (Pipeline.ΦA spec0 c : sProp 𝕄) = iprop((∃ d, owns (c : Thread nD τ) carry fullShare d) ∗ (∃ r, prngReg c r)) := by
  unfold Pipeline.ΦA; rw [scopedRest0_eq]; simp only [carry, owns_whole]; rfl

theorem enter (c : Dev nD) : Pipeline.ΦA spec0 c ⊢ (dats m 0 c).Φ 0 := by
  rw [show (dats m 0 c).Φ 0 = Phi m c 0 from rfl, rest_eq]
  unfold Phi
  iintro ⟨⟨%X, HX⟩, Hg⟩
  isplitl [HX]
  · iexists X; isplitr
    · ipureintro; exact kept_zero m c X
    · iexact HX
  iexact Hg

theorem exits (c : Dev nD) : (dats m 0 c).Φ (Fin.last cfg0.N) ⊢ Pipeline.ΦA spec0 c := by
  rw [show (dats m 0 c).Φ (Fin.last cfg0.N) = Phi m c cfg0.N from rfl, rest_eq]
  unfold Phi
  iintro ⟨⟨%X, -, HX⟩, Hg⟩
  isplitl [HX]
  · iexists X; iexact HX
  iexact Hg

set_option backward.isDefEq.respectTransparency.types false in
/-- Every run ends, each array at what the proof data computes, and every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := exits m)

theorem run_post : θ_run defs (onTc (τ := τ) (main (F := F))) (s₀ m ρ) (Pipeline.FramePost cfgs (dats m) 0 (V m)) :=
  (θ_run defs _ _).mono (fun _ h => h.1) (run m ρ)

/-- The arguments end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run m ρ))

end Cert.Nproj.Run

end
-- ==== Proof.NprojSame.lean ====
/-
  The fused norm and projection: its frame at the float words. Before and after idealisation the program has the same
  text, so the run proved over any float values serves for both.
-/
module

public import proofs.«01_k».proof.Proof.NprojFrame
public import proofs.«01_k».proof.Proof.Gen.NprojKernel.Frame
public import proofs.«01_k».proof.Defs

@[expose] public section

set_option maxHeartbeats 400000
set_option maxRecDepth 16384

noncomputable section

namespace Cert.Nproj

open Idealize.ShloMosaic

/-- The kernels' body tables of the two programs are the same. -/
theorem same_table : Cert.NprojKernel.defs₀ (F := Bits) = Cert.NprojKernelIdeal.defs₀ (F := Bits) := by
  funext p ℓ a
  cases p with
  | tc => match ℓ, a with
    | 0, (t, s) => rfl
  | scScalar _ => rfl
  | scVector _ _ => rfl

/-- So are the body tables with the pipeline's labels. -/
theorem same_defs : Cert.NprojKernel.defs (F := Bits) = Cert.NprojKernelIdeal.defs (F := Bits) :=
  congrArg (Pipeline.defs (Cert.NprojKernel.pcfgs (F := Bits))) same_table

/-- So are the host programs. -/
theorem same_main : Cert.NprojKernel.main (F := Bits) = Cert.NprojKernelIdeal.main (F := Bits) := rfl

/-- The arguments end unchanged, and every semaphore ends at zero. -/
theorem frame_kernel : Cert.quiescent_NprojKernel := fun m ρ _ => by
  rw [same_defs, same_main]
  exact Cert.Nproj.Run.frame (F := Bits) m ρ

end Cert.Nproj

end
-- ==== Proof.NprojHost.lean ====
/-
  The fused norm and projection: the arrays the kernel takes, from the arguments, and the block of each that a grid point reads.
-/
module

public import proofs.«01_k».proof.Proof.Lay
public import proofs.«01_k».proof.Proof.NprojData
public import Idealize.ShloMosaic.Lib.Pipeline.ValueKit
public import Idealize.ShloMosaic.Lib.Pointwise
public import Idealize.ShloMosaic.Lib.Claim

@[expose] public section

set_option maxRecDepth 16384

noncomputable section

namespace Cert.Nproj.Host

open Idealize.ShloMosaic Idealize.ShloMosaic.TcCoe Idealize.SL.Sem Cert.NprojKernelIdeal Cert.NprojKernelIdeal.Gen
open Idealize.ShloMosaic.Pipeline (Dat)
open Cert.Proj (lay lay_ladder)
open Cert.Nproj.Run (row0 lt68)

/-- The mixing weight of a column among the 2048 shifted ones: zero for the columns that are not mixed. -/
def mixing (U : ℕ → EReal) (q : ℕ) : EReal :=
  if q < 1792 then U (q - 768) else if 1856 ≤ q ∧ q < 1984 then U (1024 + (q - 1856)) else 0

/-- Every entry of the six arguments is the number that the functions give at its row and column. -/
structure Entries (a0 : Vec Ideal S2x2048x1024 .f32) (a1 : Vec Ideal S1024 .f32) (a2 : Vec Ideal S1024x3992 .f32) (a3 : Vec Ideal S4x768 .f32)
    (a4 : Vec Ideal S1152 .f32) (a5 : Vec Ideal S3x256 .f32) (X : ℕ → ℕ → EReal) (u : ℕ → EReal) (W C : ℕ → ℕ → EReal) (U : ℕ → EReal) (S : ℕ → ℕ → EReal) : Prop where
  x : ∀ b t k, a0 (ix3 b t k) = X (2048 * b + t) k
  u : ∀ k, a1 (ix1 k) = u k
  w : ∀ k e, a2 (ix2 k e) = W k e
  c : ∀ i q, a3 (ix2 i q) = C i q
  m : ∀ q, a4 (ix1 q) = U q
  s : ∀ i q, a5 (ix2 i q) = S i q

variable {m : (ℓ : Loc nD τ sig) → Buf (Elt Ideal) ℓ} {c : Dev nD} {X : ℕ → ℕ → EReal} {u : ℕ → EReal} {W C : ℕ → ℕ → EReal} {U : ℕ → EReal} {S : ℕ → ℕ → EReal}
  (R : Entries (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) X u W C U S)
include R

/-- The rows. -/
theorem V39 (n : Fin 4096) (k : Fin 1024) : V (F := Ideal) m c main_v39 (ix2 n k) = X n k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.x]
  simp only [Nat.div_add_mod]

/-- The norm's weight. -/
theorem V40 (k : Fin 1024) : V (F := Ideal) m c main_v40 (ix2 0 k) = u k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.u]

/-- The weight's columns in the order of the groups. -/
theorem V19 (j : Fin 17) (k : Fin 1024) (e : Fin 256) : V (F := Ideal) m c main_v19 (ix3 j k e) = lay (W k) (256 * j + e) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.w]
  exact lay_ladder _ _ (by omega)

/-- The convolution's taps. -/
theorem V25 (j : Fin 17) (h : j.val < 3) (i : Fin 4) (e : Fin 256) : V (F := Ideal) m c main_v25 (ix3 j i e) = C i (256 * j + e) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.c]
  rw [dif_pos h]
  exact congrArg (C i) (by omega)

/-- The mixing weights. -/
theorem V36 (j : Fin 17) (e : Fin 256) (h : (4 ≤ j.val ∧ j.val < 8) ∨ j.val = 16) :
    V (F := Ideal) m c main_v36 (ix3 j 0 e) = mixing U (if j.val = 16 then 1792 + e else 256 * j - 256 + e) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise
  after_results_simp
  pointwise [R.m]
  have he := e.isLt
  unfold mixing
  rcases h with hj | hj
  · rw [if_neg (show ¬ j.val = 16 by omega), dif_neg (by omega), dif_pos (by omega), if_pos (by omega)]
    exact congrArg U (by omega)
  · rw [if_pos hj, dif_neg (by omega), dif_neg (by omega), dif_neg (by omega), if_neg (by omega)]
    by_cases h1 : 64 ≤ e.val ∧ e.val < 192
    · rw [dif_pos (by omega), if_pos (by omega)]
      exact congrArg U (by omega)
    · rw [dif_neg (by omega), if_neg (by omega)]
      simp [FloatOps.sitofp]

/-- The short convolution's taps. -/
theorem V38 (a : Fin 4) (i : Fin 3) (l : Fin 64) : V (F := Ideal) m c main_v38 (ix3 a i l) = S i (64 * a + l) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.s]
  exact congrArg (S i) (by omega)

end Cert.Nproj.Host

end
-- ==== Proof.NprojPay.lean ====
/-
  The fused norm and projection: what one grid point computes from its rows, its column block and the rows kept from the row block
  above, entry by entry over the extended reals.
-/
module

public import proofs.«01_k».proof.Proof.NormAny
public import proofs.«01_k».proof.Proof.NprojRun
public import Idealize.ShloMosaic.Lib.Pipeline.ValueKit
public import Idealize.ShloMosaic.Lib.Pointwise
public import Idealize.ShloMosaic.Lib.Claim

@[expose] public section

set_option maxRecDepth 16384

noncomputable section

namespace Cert.Nproj

/-- A column of a row block read `s` rows further up: the rows `g` kept from the block above end just before it. -/
def above (s : ℕ) (g f : ℕ → EReal) (i : ℕ) : EReal := if i < s then g (8 + i - s) else f (i - s)

/-- A column after the convolution of four taps, from the column and its three shifts. -/
def taps4 (w : ℕ → EReal) (f f1 f2 f3 : EReal) : EReal := w 3 * f + w 0 * f3 + w 1 * f2 + w 2 * f1

/-- An entry of the short convolution's result: gate, three taps, and the second gate. -/
def gated (w : ℕ → EReal) (b z g g1 g2 : EReal) : EReal :=
  b * (w 2 * g + w 1 * g1 + w 0 * g2) * (z * Idealize.ShloMosaic.Ideal.logistic z)

namespace Pay

open Idealize.ShloMosaic Idealize.ShloMosaic.TcCoe Cert.NprojKernelIdeal Cert.NprojKernelIdeal.Gen Cert.Nproj.Run

/-- The normalised rows. -/
theorem hB_at {x : Vec Ideal S1024x1024 .f32} {u : Vec Ideal S1x1024 .f32} {r : Fin 1024} {X g : ℕ → EReal}
    (hx : ∀ k : Fin 1024, x (ix2 r k) = X k) (hu : ∀ k : Fin 1024, u (ix2 0 k) = g k) (k : Fin 1024) :
    hl (F := Ideal) (hB (F := Ideal) x u) (ix2 r k) = X k * Cert.NormAny.inv X * g k := by
  unfold hl hB
  rw [show ∀ X : Vec Ideal S1024x1024 .bf16, View.ld X (Rect.unit (s := S1024x1024) ![0, 0] S1024x1024.size inb_S1024x1024_S1024x1024_0_0) = X from
      fun X => View.ld_unit_lit _ X (by decide),
    show ∀ X : Vec Ideal S1024x1024 .f32, View.ld X (Rect.unit (s := S1024x1024) ![0, 0] S1024x1024.size inb_S1024x1024_S1024x1024_0_0) = X from
      fun X => View.ld_unit_lit _ X (by decide),
    show ∀ X : Vec Ideal S1x1024 .f32, View.ld X (Rect.unit (s := S1x1024) ![0, 0] S1x1024.size inb_S1x1024_S1x1024_0_0) = X from
      fun X => View.ld_unit_lit _ X (by decide)]
  refine (congrFun (View.canon_cons_unit_lit _ _ _ (by decide)) (ix2 r k)).trans ?_
  pointwise [k0_pay27, hx, hu]
  rfl

/-- The product with one column block. -/
theorem rw_at {h : Vec Ideal S1024x1024 .bf16} {w : Vec Ideal S1x1024x256 .bf16} {r : Fin 1024} {H : ℕ → EReal} {W : ℕ → ℕ → EReal}
    (hh : ∀ k : Fin 1024, h (ix2 r k) = H k) (hw : ∀ (k : Fin 1024) (e : Fin 256), w (ix3 0 k e) = W k e) (e : Fin 256) :
    Run.rw (F := Ideal) h w (ix2 r e) = ∑ k : Fin 1024, H k * W k e := by
  unfold Run.rw wl
  rw [show ∀ X : Vec Ideal S1x1024x256 .bf16, View.ld X (Rect.unit (s := S1x1024x256) ![0, 0, 0] S1x1024x256.size inb_S1x1024x256_S1x1024x256_0_0_0) = X from
      fun X => View.ld_unit_lit _ X (by decide)]
  pointwise [k0_pay28, hh, hw]

/-- The product laid out by heads. -/
theorem pB_at {h : Vec Ideal S1024x1024 .bf16} {w : Vec Ideal S1x1024x256 .bf16} {f : ℕ → ℕ → EReal}
    (hr : ∀ (i : Fin 1024) (e : Fin 256), Run.rw (F := Ideal) h w (ix2 i e) = f i e) (y : S4x1024x64.Idx) :
    pB (F := Ideal) h w y = f (y 1) (64 * (y 0).val + (y 2).val) := by
  unfold pB pL
  unfold Run.rw at hr
  canon_tiles v e
  all_goals
    first | unfold k0_pay29 | unfold k0_pay30 | unfold k0_pay31 | unfold k0_pay32
    generalize k0_pay28 (F := Ideal) h (wl w) = P at hr ⊢
    idx_vars v
    pointwise [hr]
    rw [e1, e2, e0]
    first | rfl | (congr 1; omega)

/-- The rows kept, each case. -/
theorem pay13_at (r : FVec Ideal S1024x256 .f32) (i : Fin 8) (e : Fin 256) :
    k0_pay13 (F := Ideal) (k0_pay12 r) (ix3 0 i e) = r (ix2 ⟨1016 + i, by omega⟩ e) := by
  pointwise [k0_pay13, k0_pay12]

theorem pay7_at (r : FVec Ideal S1024x256 .f32) (i : Fin 8) (e : Fin 256) :
    k0_pay7 (F := Ideal) r (ix3 0 i e) = r (ix2 ⟨1016 + i, by omega⟩ e) := by
  pointwise [k0_pay7]

theorem pay19_at (r : FVec Ideal S1024x256 .f32) (i : Fin 8) (e : Fin 256) :
    k0_pay19 (F := Ideal) r (ix3 0 i e) = r (ix2 ⟨1016 + i, by omega⟩ e) := by
  pointwise [k0_pay19]

/-- The rows before the block: zero in the first row block of a sequence, the rows kept in the other. -/
theorem pay8_zero (a : BitVec 32) (ha : a = 0#32 ∨ a = 2#32) (x : Vec Ideal S1x8x256 .f32) (i : Fin 1024) (e : Fin 256) :
    k0_pay8 (F := Ideal) a x (ix2 i e) = 0 := by
  have E : k0_pay8 (F := Ideal) a x = concatenate S1024x256 0 [⟨S8x256, broadcast S8x256 (Scalar.ofBits (F := Ideal) .f32 0x00000000#32)⟩,
      ⟨S1016x256, broadcast S1016x256 (Scalar.ofBits (F := Ideal) .f32 0x00000000#32)⟩] concatenates_S8x256_S1016x256_S1024x256_d0 := by
    rcases ha with rfl | rfl <;> rfl
  rw [E]
  pointwise
  split_ifs <;> rfl

theorem pay8_kept (a : BitVec 32) (ha : a = 1#32 ∨ a = 3#32) (x : Vec Ideal S1x8x256 .f32) (i : Fin 1024) (e : Fin 256) (h : i.val < 8) :
    k0_pay8 (F := Ideal) a x (ix2 i e) = x (ix3 0 ⟨i, h⟩ e) := by
  have E : k0_pay8 (F := Ideal) a x = concatenate S1024x256 0 [⟨S8x256, shapeCast S8x256 x shapeCasts_S1x8x256_S8x256⟩,
      ⟨S1016x256, broadcast S1016x256 (Scalar.ofBits (F := Ideal) .f32 0x00000000#32)⟩] concatenates_S8x256_S1016x256_S1024x256_d0 := by
    rcases ha with rfl | rfl <;> rfl
  rw [E]
  pointwise
  rw [dif_pos h]

/-- The products of the rows before the block, in the same two cases. -/
theorem pay23_zero (a : BitVec 32) (ha : a = 0#32 ∨ a = 2#32) (x : Vec Ideal S1x8x256 .f32) (i : Fin 1024) (l : Fin 64) :
    k0_pay23 (F := Ideal) a x (ix2 i l) = 0 := by
  have E : k0_pay23 (F := Ideal) a x = concatenate S1024x64 0 [⟨S8x64, mulf
        (extractStridedSlice S8x64 ![0, 64] (broadcast S8x256 (Scalar.ofBits (F := Ideal) .f32 0x00000000#32)) slices_S8x256_o0_64_S8x64)
        (extractStridedSlice S8x64 ![0, 128] (broadcast S8x256 (Scalar.ofBits (F := Ideal) .f32 0x00000000#32)) slices_S8x256_o0_128_S8x64)⟩,
      ⟨S1016x64, broadcast S1016x64 (Scalar.ofBits (F := Ideal) .f32 0x00000000#32)⟩] concatenates_S8x64_S1016x64_S1024x64_d0 := by
    rcases ha with rfl | rfl <;> rfl
  rw [E]
  pointwise
  split_ifs <;> simp

theorem pay23_kept (a : BitVec 32) (ha : a = 1#32 ∨ a = 3#32) (x : Vec Ideal S1x8x256 .f32) (i : Fin 1024) (l : Fin 64) (h : i.val < 8) :
    k0_pay23 (F := Ideal) a x (ix2 i l) = x (ix3 0 ⟨i, h⟩ ⟨64 + l, by omega⟩) * x (ix3 0 ⟨i, h⟩ ⟨128 + l, by omega⟩) := by
  have E : k0_pay23 (F := Ideal) a x = concatenate S1024x64 0 [⟨S8x64, mulf
        (extractStridedSlice S8x64 ![0, 64] (shapeCast S8x256 (x : FVec Ideal S1x8x256 .f32) shapeCasts_S1x8x256_S8x256 : FVec Ideal S8x256 .f32) slices_S8x256_o0_64_S8x64)
        (extractStridedSlice S8x64 ![0, 128] (shapeCast S8x256 (x : FVec Ideal S1x8x256 .f32) shapeCasts_S1x8x256_S8x256 : FVec Ideal S8x256 .f32) slices_S8x256_o0_128_S8x64)⟩,
      ⟨S1016x64, broadcast S1016x64 (Scalar.ofBits (F := Ideal) .f32 0x00000000#32)⟩] concatenates_S8x64_S1016x64_S1024x64_d0 := by
    rcases ha with rfl | rfl <;> rfl
  rw [E]
  pointwise
  rw [dif_pos h]

section Shifts

variable {a : BitVec 32} {r : FVec Ideal S1024x256 .f32} {x : Vec Ideal S1x8x256 .f32} {f g : ℕ → ℕ → EReal}
  (hr : ∀ (i : Fin 1024) (e : Fin 256), r (ix2 i e) = f e i)
  (hx : ∀ (i : Fin 1024) (e : Fin 256), i.val < 8 → k0_pay8 (F := Ideal) a x (ix2 i e) = g e i)
include hr hx

theorem pay9_at (i : Fin 1024) (e : Fin 256) : k0_pay9 (F := Ideal) a r x (ix2 i e) = above 1 (g e) (f e) i := by
  have g1 : (i : ℕ) < 1024 := i.isLt
  unfold k0_pay9
  generalize k0_pay8 (F := Ideal) a x = P at hx ⊢
  pointwise [hr, hlo_ix]
  word_cmp
  unfold above
  split_ifs
  · rw [hx _ _ (by dsimp only; omega)]
    exact congrArg (g e) (by dsimp only; omega)
  · exact congrArg (f e) (by omega)

theorem pay10_at (i : Fin 1024) (e : Fin 256) : k0_pay10 (F := Ideal) a r x (ix2 i e) = above 2 (g e) (f e) i := by
  have g1 : (i : ℕ) < 1024 := i.isLt
  unfold k0_pay10
  generalize k0_pay8 (F := Ideal) a x = P at hx ⊢
  pointwise [hr, hlo_ix]
  word_cmp
  unfold above
  split_ifs
  · rw [hx _ _ (by dsimp only; omega)]
    exact congrArg (g e) (by dsimp only; omega)
  · exact congrArg (f e) (by omega)

theorem pay11_at (i : Fin 1024) (e : Fin 256) : k0_pay11 (F := Ideal) a r x (ix2 i e) = above 3 (g e) (f e) i := by
  have g1 : (i : ℕ) < 1024 := i.isLt
  unfold k0_pay11
  generalize k0_pay8 (F := Ideal) a x = P at hx ⊢
  pointwise [hr, hlo_ix]
  word_cmp
  unfold above
  split_ifs
  · rw [hx _ _ (by dsimp only; omega)]
    exact congrArg (g e) (by dsimp only; omega)
  · exact congrArg (f e) (by omega)

/-- The convolved block. -/
theorem cL_at {w : Vec Ideal S1x4x256 .f32} {W : ℕ → ℕ → EReal} (hw : ∀ (q : Fin 4) (e : Fin 256), w (ix3 0 q e) = W e q) (y : S4x1024x64.Idx) :
    View.canon (cL (F := Ideal) a r x w) y = taps4 (W (64 * (y 0).val + (y 2).val)) (f (64 * (y 0).val + (y 2).val) (y 1))
      (above 1 (g (64 * (y 0).val + (y 2).val)) (f (64 * (y 0).val + (y 2).val)) (y 1))
      (above 2 (g (64 * (y 0).val + (y 2).val)) (f (64 * (y 0).val + (y 2).val)) (y 1))
      (above 3 (g (64 * (y 0).val + (y 2).val)) (f (64 * (y 0).val + (y 2).val)) (y 1)) := by
  have p1 := pay9_at hr hx
  have p2 := pay10_at hr hx
  have p3 := pay11_at hr hx
  unfold cL
  generalize k0_pay9 (F := Ideal) a r x = P1 at p1 ⊢
  generalize k0_pay10 (F := Ideal) a r x = P2 at p2 ⊢
  generalize k0_pay11 (F := Ideal) a r x = P3 at p3 ⊢
  canon_tiles v e
  all_goals
    open_payloads
    idx_vars v
    pointwise [hr, hw, p1, p2, p3, hlo_ix]
    have hv : (v0 : ℕ) = 0 := by omega
    rw [e1, e2, e0, hv]
    simp only [Nat.add_zero, Nat.zero_add, Nat.mul_zero, Nat.reduceAdd, Nat.reduceMul, taps4]

/-- The mixed block. -/
theorem mL_at {u : Vec Ideal S1x1x256 .f32} {U : ℕ → EReal} (hu : ∀ e : Fin 256, u (ix3 0 0 e) = U e) (y : S4x1024x64.Idx) :
    View.canon (mL (F := Ideal) a r x u) y = f (64 * (y 0).val + (y 2).val) (y 1) + U (64 * (y 0).val + (y 2).val)
      * (above 1 (g (64 * (y 0).val + (y 2).val)) (f (64 * (y 0).val + (y 2).val)) (y 1) - f (64 * (y 0).val + (y 2).val) (y 1)) := by
  have p1 := pay9_at hr hx
  have E : ∀ (i : Fin 1024) (e : Fin 256), k0_pay20 (F := Ideal) a r x (ul u) (ix2 i e) = f e i + U e * (above 1 (g e) (f e) i - f e i) := by
    intro i e
    have E' : k0_pay20 (F := Ideal) a r x (ul u) = addf r (mulf (broadcastTo S1024x256 (shapeCast S1x256 (ul (F := Ideal) u) shapeCasts_S1x1x256_S1x256 : FVec Ideal S1x256 .f32) broadcasts_S1x256_S1024x256)
        (subf (k0_pay9 (F := Ideal) a r x) r)) := rfl
    rw [E', ul, show ∀ X : Vec Ideal S1x1x256 .f32, View.ld X (Rect.unit (s := S1x1x256) ![0, 0, 0] S1x1x256.size inb_S1x1x256_S1x1x256_0_0_0) = X from
      fun X => View.ld_unit_lit _ X (by decide)]
    generalize k0_pay9 (F := Ideal) a r x = P1 at p1 ⊢
    pointwise [hr, hu, p1]
  unfold mL k0_pay21
  generalize k0_pay20 (F := Ideal) a r x (ul u) = P at E ⊢
  canon_tiles v e
  all_goals
    open_payloads
    idx_vars v
    pointwise [E, hlo_ix]
    have hv : (v0 : ℕ) = 0 := by omega
    rw [e1, e2, e0, hv]
    try simp only [Nat.add_zero, Nat.zero_add, Nat.mul_zero, Nat.reduceAdd, Nat.reduceMul]

/-- The gated short convolution's block. -/
theorem yB_at (ha : (a = 0#32 ∨ a = 2#32) ∨ (a = 1#32 ∨ a = 3#32)) {w : Vec Ideal S1x3x64 .f32} {W : ℕ → ℕ → EReal} (hw : ∀ (q : Fin 3) (l : Fin 64), w (ix3 0 q l) = W l q) (i : Fin 1024) (l : Fin 64) :
    yB (F := Ideal) a r x w (ix3 0 i l) = gated (W l) (f l i) (f (192 + l) i) (f (64 + l) i * f (128 + l) i)
      (above 1 (fun i => g (64 + l) i * g (128 + l) i) (fun i => f (64 + l) i * f (128 + l) i) i)
      (above 2 (fun i => g (64 + l) i * g (128 + l) i) (fun i => f (64 + l) i * f (128 + l) i) i) := by
  have g1 : (i : ℕ) < 1024 := i.isLt
  have E : ∀ (i : Fin 1024) (l : Fin 64), i.val < 8 → k0_pay23 (F := Ideal) a x (ix2 i l) = g (64 + l) i * g (128 + l) i := by
    intro i l hi
    have e1 := hx i ⟨64 + l, by omega⟩ hi
    have e2 := hx i ⟨128 + l, by omega⟩ hi
    dsimp only at e1 e2
    rw [← e1, ← e2]
    rcases ha with ha | ha
    · rw [pay23_zero a ha, pay8_zero a ha, pay8_zero a ha, mul_zero]
    · rw [pay23_kept a ha x i l hi, pay8_kept a ha x i _ hi, pay8_kept a ha x i _ hi]
  unfold yB k0_pay24 k0_pay25
  generalize k0_pay23 (F := Ideal) a x = P at E ⊢
  pointwise [k0_pay6, k0_pay26, k0_pay22, hr, hw, hlo_ix]
  word_cmp
  have u1 : (if (i : ℕ) < 1 then P (ix2 ⟨((i : ℕ) + 1024 - 1017) % 1024, by omega⟩ l)
      else f (64 + l) (((i : ℕ) + 1024 - 1) % 1024) * f (128 + l) (((i : ℕ) + 1024 - 1) % 1024))
      = above 1 (fun i => g (64 + l) i * g (128 + l) i) (fun i => f (64 + l) i * f (128 + l) i) i := by
    unfold above
    split_ifs
    · rw [E _ _ (by dsimp only; omega)]
      dsimp only
      rw [show ((i : ℕ) + 1024 - 1017) % 1024 = 8 + i - 1 by omega]
    · rw [show ((i : ℕ) + 1024 - 1) % 1024 = i - 1 by omega]
  have u2 : (if (i : ℕ) < 2 then P (ix2 ⟨((i : ℕ) + 1024 - 1018) % 1024, by omega⟩ l)
      else f (64 + l) (((i : ℕ) + 1024 - 2) % 1024) * f (128 + l) (((i : ℕ) + 1024 - 2) % 1024))
      = above 2 (fun i => g (64 + l) i * g (128 + l) i) (fun i => f (64 + l) i * f (128 + l) i) i := by
    unfold above
    split_ifs
    · rw [E _ _ (by dsimp only; omega)]
      dsimp only
      rw [show ((i : ℕ) + 1024 - 1018) % 1024 = 8 + i - 2 by omega]
    · rw [show ((i : ℕ) + 1024 - 2) % 1024 = i - 2 by omega]
  rw [u1, u2]
  rfl

end Shifts

end Pay

end Cert.Nproj

end
-- ==== Proof.NprojK.lean ====
/-
  The fused norm and projection: what each grid point's blocks hold, and the four result arrays.
-/
module

public import proofs.«01_k».proof.Proof.NprojHost
public import proofs.«01_k».proof.Proof.NprojPay
public import proofs.«01_k».proof.Proof.NprojFrame

@[expose] public section

set_option maxRecDepth 16384

noncomputable section

namespace Cert.Nproj

/-! ## The mathematics -/

/-- The normalised rows. -/
def hid (X : ℕ → ℕ → EReal) (u : ℕ → EReal) (n k : ℕ) : EReal := X n k * Cert.NormAny.inv (X n) * u k

/-- Column `e` of the projection of row `n`. -/
def prj (X : ℕ → ℕ → EReal) (u : ℕ → EReal) (W : ℕ → ℕ → EReal) (n e : ℕ) : EReal := ∑ k : Fin 1024, hid X u n k * W k e

/-- The projection at place `q` of the groups. -/
def place (X : ℕ → ℕ → EReal) (u : ℕ → EReal) (W : ℕ → ℕ → EReal) (q n : ℕ) : EReal := Cert.Proj.lay (prj X u W n) q

/-- A column moved down by `s` rows within its sequence of 2048. -/
def up (s : ℕ) (f : ℕ → EReal) (n : ℕ) : EReal := if n % 2048 < s then 0 else f (n - s)

/-- A column of the convolved and mixed groups: the first 768 convolved, the others mixed with the row above. -/
def shifted (P : ℕ → ℕ → EReal) (C : ℕ → ℕ → EReal) (M : ℕ → EReal) (q n : ℕ) : EReal :=
  if q < 768 then taps4 (fun i => C i q) (P q n) (up 1 (P q) n) (up 2 (P q) n) (up 3 (P q) n)
  else P (if q < 1792 then q + 256 else q + 2304) n
    + M q * (up 1 (P (if q < 1792 then q + 256 else q + 2304)) n - P (if q < 1792 then q + 256 else q + 2304) n)

/-- The short convolution's result: group `a`, column `l`. -/
def short (P : ℕ → ℕ → EReal) (S : ℕ → ℕ → EReal) (a n l : ℕ) : EReal :=
  gated (fun i => S i (64 * a + l)) (P (2048 + 256 * a + l) n) (P (2048 + 256 * a + (192 + l)) n)
    (P (2048 + 256 * a + (64 + l)) n * P (2048 + 256 * a + (128 + l)) n)
    (up 1 (fun n => P (2048 + 256 * a + (64 + l)) n * P (2048 + 256 * a + (128 + l)) n) n)
    (up 2 (fun n => P (2048 + 256 * a + (64 + l)) n * P (2048 + 256 * a + (128 + l)) n) n)

/-- Laying out the weight's columns lays out the product's. -/
theorem sum_lay_weight (H : ℕ → EReal) (W : ℕ → ℕ → EReal) (q : ℕ) :
    ∑ k : Fin 1024, H k * Cert.Proj.lay (W k) q = Cert.Proj.lay (fun e => ∑ k : Fin 1024, H k * W k e) q := by
  unfold Cert.Proj.lay
  split_ifs <;> simp

/-- The rows of a column in row block `T`. -/
def within (F : ℕ → EReal) (T i : ℕ) : EReal := F (1024 * T + i)

/-- The eight rows of a column before row block `T`: zeros where the block begins a sequence. -/
def before (F : ℕ → EReal) (T i : ℕ) : EReal := if T % 2 = 0 then 0 else F (1024 * T - 8 + i)

theorem above_up (F : ℕ → EReal) (s T i : ℕ) (hs : s ≤ 8) (hi : i < 1024) : above s (before F T) (within F T) i = up s F (1024 * T + i) := by
  unfold above before within up
  by_cases h : T % 2 = 0
  · by_cases h1 : i < s
    · rw [if_pos h1, if_pos h, if_pos (by omega)]
    · rw [if_neg h1, if_neg (by omega)]
      exact congrArg F (by omega)
  · rw [if_neg h, if_neg (show ¬ (1024 * T + i) % 2048 < s by omega)]
    by_cases h1 : i < s
    · rw [if_pos h1]
      exact congrArg F (by omega)
    · rw [if_neg h1]
      exact congrArg F (by omega)

theorem before_mul (F G : ℕ → EReal) (T i : ℕ) : before F T i * before G T i = before (fun n => F n * G n) T i := by
  unfold before
  split_ifs <;> simp

namespace K

open Idealize.ShloMosaic Idealize.ShloMosaic.TcCoe Idealize.SL.Sem Cert.NprojKernelIdeal Cert.NprojKernelIdeal.Gen
open Idealize.ShloMosaic.Pipeline (Dat)
open Cert.Proj (lay)
open Cert.Nproj.Run Cert.Nproj.Host

/-- The block of convolved and mixed rows a point's last store goes to. -/
def slot8 (j : ℕ) : ℕ := if j ≤ 2 then j else if j ≤ 7 then j - 1 else 7

theorem coord0_odd : ∀ t : Fin cfg0.N, ¬ t.val / 17 % 2 = 0 →
    BitVec.ofNat 32 (grid0.coords t 0).val = 1#32 ∨ BitVec.ofNat 32 (grid0.coords t 0).val = 3#32 := by decide +kernel

/-- The windows' block indices at each grid point. -/
theorem idx_val : ∀ t : Fin cfg0.N, win0_0.index t = ![t.val / 17, 0] ∧ win0_1.index t = ![0, 0] ∧ win0_2.index t = ![t.val % 17, 0, 0]
    ∧ win0_6.index t = ![t.val / 17, 0] ∧ win0_7.index t = ![t.val % 17, t.val / 17, 0] ∧ win0_8.index t = ![slot8 ((lv8 t).val % 17), t.val / 17, 0] :=
  (by decide +kernel : ∀ t : Fin grid0.N, _)

theorem idx3 : ∀ t : Fin cfg0.N, t.val % 17 ≤ 2 → win0_3.index t = ![t.val % 17, 0, 0] := (by decide +kernel : ∀ t : Fin grid0.N, _)
theorem idx4 : ∀ t : Fin cfg0.N, (4 ≤ t.val % 17 ∧ t.val % 17 ≤ 7) ∨ t.val % 17 = 16 → win0_4.index t = ![t.val % 17, 0, 0] := (by decide +kernel : ∀ t : Fin grid0.N, _)
theorem idx5 : ∀ t : Fin cfg0.N, 8 ≤ t.val % 17 ∧ t.val % 17 ≤ 11 → win0_5.index t = ![t.val % 17 - 8, 0, 0] := (by decide +kernel : ∀ t : Fin grid0.N, _)
theorem idx9 : ∀ t : Fin cfg0.N, win0_9.flush t = true → 8 ≤ (lv9 t).val % 17 ∧ (lv9 t).val % 17 ≤ 11 ∧ (lv9 t).val / 17 = t.val / 17
    ∧ win0_9.index t = ![(lv9 t).val % 17 - 8, t.val / 17, 0] := (by decide +kernel : ∀ t : Fin grid0.N, _)
theorem lv8_val : ∀ t : Fin cfg0.N, (lv8 t).val / 17 = t.val / 17
    ∧ ((lv8 t).val % 17 ≤ 2 ∨ ((4 ≤ (lv8 t).val % 17 ∧ (lv8 t).val % 17 ≤ 7) ∨ (lv8 t).val % 17 = 16)) := (by decide +kernel : ∀ t : Fin grid0.N, _)

variable {m : (ℓ : Loc nD τ sig) → Buf (Elt Ideal) ℓ} {c : Dev nD} {X : ℕ → ℕ → EReal} {u : ℕ → EReal} {W C : ℕ → ℕ → EReal} {U : ℕ → EReal} {S : ℕ → ℕ → EReal}
  (R : Entries (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) X u W C U S)
include R

theorem blk0 (t : Fin cfg0.N) (r k : Fin 1024) : iblk (F := Ideal) m c 0 t (ix2 r k) = X (1024 * (t.val / 17) + r) k := by
  have ht := lt68 t
  have E : iblk (F := Ideal) m c 0 t (ix2 r k) = V (F := Ideal) m c main_v39 (ix2 ⟨1024 * (t.val / 17) + r, by omega⟩ k) := by
    blk_ext [iblk, idx_val t]
  rw [E, V39 R]

theorem blk1 (t : Fin cfg0.N) (k : Fin 1024) : iblk (F := Ideal) m c 1 t (ix2 0 k) = u k := by
  have E : iblk (F := Ideal) m c 1 t (ix2 0 k) = V (F := Ideal) m c main_v40 (ix2 0 k) := by
    blk_ext [iblk, idx_val t]
  rw [E, V40 R]

theorem blk2 (t : Fin cfg0.N) (k : Fin 1024) (e : Fin 256) : iblk (F := Ideal) m c 2 t (ix3 0 k e) = lay (W k) (256 * (t.val % 17) + e) := by
  have E : iblk (F := Ideal) m c 2 t (ix3 0 k e) = V (F := Ideal) m c main_v19 (ix3 ⟨t.val % 17, Nat.mod_lt _ (by decide)⟩ k e) := by
    blk_ext [iblk, idx_val t]
  rw [E, V19 R]

theorem blk3 (t : Fin cfg0.N) (h : t.val % 17 ≤ 2) (i : Fin 4) (e : Fin 256) : iblk (F := Ideal) m c 3 t (ix3 0 i e) = C i (256 * (t.val % 17) + e) := by
  have E : iblk (F := Ideal) m c 3 t (ix3 0 i e) = V (F := Ideal) m c main_v25 (ix3 ⟨t.val % 17, Nat.mod_lt _ (by decide)⟩ i e) := by
    blk_ext [iblk, idx3 t h]
  rw [E, V25 R _ (Nat.lt_succ_of_le h)]

theorem blk4 (t : Fin cfg0.N) (h : (4 ≤ t.val % 17 ∧ t.val % 17 ≤ 7) ∨ t.val % 17 = 16) (e : Fin 256) :
    iblk (F := Ideal) m c 4 t (ix3 0 0 e) = mixing U (if t.val % 17 = 16 then 1792 + e else 256 * (t.val % 17) - 256 + e) := by
  have E : iblk (F := Ideal) m c 4 t (ix3 0 0 e) = V (F := Ideal) m c main_v36 (ix3 ⟨t.val % 17, Nat.mod_lt _ (by decide)⟩ 0 e) := by
    blk_ext [iblk, idx4 t h]
  rw [E, V36 R _ _ (by dsimp only; omega)]

theorem blk5 (t : Fin cfg0.N) (h : 8 ≤ t.val % 17 ∧ t.val % 17 ≤ 11) (i : Fin 3) (l : Fin 64) :
    iblk (F := Ideal) m c 5 t (ix3 0 i l) = S i (64 * (t.val % 17 - 8) + l) := by
  have E : iblk (F := Ideal) m c 5 t (ix3 0 i l) = V (F := Ideal) m c main_v38 (ix3 ⟨t.val % 17 - 8, by omega⟩ i l) := by
    blk_ext [iblk, idx5 t h]
  rw [E, V38 R]

/-- The normalised rows of a point. -/
theorem hAt_at (t : Fin cfg0.N) (r k : Fin 1024) : hl (F := Ideal) (hAt m c t) (ix2 r k) = hid X u (1024 * (t.val / 17) + r) k := by
  have e : (row0 t).val / 17 = t.val / 17 := by
    show (t.val - t.val % 17) / 17 = t.val / 17
    omega
  have E := Pay.hB_at (x := iblk (F := Ideal) m c 0 (row0 t)) (u := iblk (F := Ideal) m c 1 (row0 t)) (r := r)
    (X := X (1024 * (t.val / 17) + r)) (g := u) (fun k => by rw [blk0 R, e]) (fun k => blk1 R _ k) k
  exact E

/-- The product of a point. -/
theorem rAt_at (t : Fin cfg0.N) (i : Fin 1024) (e : Fin 256) :
    rAt (F := Ideal) m c t (ix2 i e) = place X u W (256 * (t.val % 17) + e) (1024 * (t.val / 17) + i) := by
  have E := Pay.rw_at (h := hl (F := Ideal) (hAt m c t)) (w := iblk (F := Ideal) m c 2 t) (r := i) (H := hid X u (1024 * (t.val / 17) + i))
    (W := fun k e => lay (W k) (256 * (t.val % 17) + e)) (fun k => hAt_at R t i k) (fun k e => blk2 R t k e) e
  exact E.trans (sum_lay_weight _ _ _)

/-- The rows a point keeps. -/
theorem tlAt_at (t : Fin cfg0.N) (i : Fin 8) (e : Fin 256) :
    tlAt (F := Ideal) m c t (ix3 0 i e) = place X u W (256 * (t.val % 17) + e) (1024 * (t.val / 17) + (1016 + i)) := by
  have E := rAt_at R t ⟨1016 + i, by omega⟩ e
  unfold tlAt
  split_ifs
  · exact (Pay.pay13_at _ i e).trans E
  · exact (Pay.pay7_at _ i e).trans E
  · exact (Pay.pay19_at _ i e).trans E

/-- The rows a point takes from the row block above. -/
theorem taken (t : Fin cfg0.N) (i : Fin 1024) (e : Fin 256) (hi : i.val < 8) :
    k0_pay8 (F := Ideal) (BitVec.ofNat 32 (grid0.coords t 0).val) (tlAt (F := Ideal) m c (back t)) (ix2 i e)
      = before (place X u W (256 * (t.val % 17) + e)) (t.val / 17) i := by
  have ht := lt68 t
  unfold before
  by_cases h : t.val / 17 % 2 = 0
  · rw [if_pos h, Pay.pay8_zero _ (coord0_even t h)]
  · rw [if_neg h, Pay.pay8_kept _ (coord0_odd t h) _ _ _ hi, tlAt_at R]
    have hb : (back t).val = t.val - 17 := by
      unfold back; rw [if_neg h]; rfl
    rw [hb, show (t.val - 17) % 17 = t.val % 17 by omega]
    exact congrArg _ (by dsimp only; omega)

omit R in
/-- The word of the row block. -/
theorem word (t : Fin cfg0.N) :
    (BitVec.ofNat 32 (grid0.coords t 0).val = 0#32 ∨ BitVec.ofNat 32 (grid0.coords t 0).val = 2#32)
      ∨ (BitVec.ofNat 32 (grid0.coords t 0).val = 1#32 ∨ BitVec.ofNat 32 (grid0.coords t 0).val = 3#32) := by
  by_cases h : t.val / 17 % 2 = 0
  · exact Or.inl (coord0_even t h)
  · exact Or.inr (coord0_odd t h)

/-- The convolved block of a point. -/
theorem conv_at (t : Fin cfg0.N) (h : t.val % 17 ≤ 2) (y : S4x1024x64.Idx) :
    sAt (F := Ideal) m c t y = shifted (place X u W) C (mixing U) (256 * (t.val % 17) + (64 * (y 0).val + (y 2).val)) (1024 * (t.val / 17) + (y 1).val) := by
  have y0 : (y 0).val < 4 := (y 0).isLt
  have y1 : (y 1).val < 1024 := (y 1).isLt
  have y2 : (y 2).val < 64 := (y 2).isLt
  unfold sAt
  rw [if_pos h]
  refine (Pay.cL_at (f := fun e => within (place X u W (256 * (t.val % 17) + e)) (t.val / 17))
    (g := fun e => before (place X u W (256 * (t.val % 17) + e)) (t.val / 17)) (W := fun e i => C i (256 * (t.val % 17) + e))
    (fun i e => rAt_at R t i e) (fun i e hi => taken R t i e hi) (fun i e => blk3 R t h i e) y).trans ?_
  dsimp only
  rw [above_up _ 1 _ _ (by decide) y1, above_up _ 2 _ _ (by decide) y1, above_up _ 3 _ _ (by decide) y1]
  unfold shifted
  rw [if_pos (by omega)]
  rfl

/-- The mixed block of a point. -/
theorem mix_at (t : Fin cfg0.N) (h : (4 ≤ t.val % 17 ∧ t.val % 17 ≤ 7) ∨ t.val % 17 = 16) (y : S4x1024x64.Idx) :
    sAt (F := Ideal) m c t y = shifted (place X u W) C (mixing U) (256 * slot8 (t.val % 17) + (64 * (y 0).val + (y 2).val)) (1024 * (t.val / 17) + (y 1).val) := by
  have y0 : (y 0).val < 4 := (y 0).isLt
  have y1 : (y 1).val < 1024 := (y 1).isLt
  have y2 : (y 2).val < 64 := (y 2).isLt
  unfold sAt
  rw [if_neg (by omega)]
  refine (Pay.mL_at (f := fun e => within (place X u W (256 * (t.val % 17) + e)) (t.val / 17))
    (g := fun e => before (place X u W (256 * (t.val % 17) + e)) (t.val / 17))
    (U := fun e => mixing U (if t.val % 17 = 16 then 1792 + e else 256 * (t.val % 17) - 256 + e))
    (fun i e => rAt_at R t i e) (fun i e hi => taken R t i e hi) (fun e => blk4 R t h e) y).trans ?_
  dsimp only
  rw [above_up _ 1 _ _ (by decide) y1]
  have hq : (if t.val % 17 = 16 then 1792 + (64 * (y 0).val + (y 2).val) else 256 * (t.val % 17) - 256 + (64 * (y 0).val + (y 2).val))
      = 256 * slot8 (t.val % 17) + (64 * (y 0).val + (y 2).val) := by
    unfold slot8
    split_ifs <;> omega
  rw [hq]
  have hs : ¬ 256 * slot8 (t.val % 17) + (64 * (y 0).val + (y 2).val) < 768 := by
    rw [← hq]; split_ifs <;> omega
  have hp : (if 256 * slot8 (t.val % 17) + (64 * (y 0).val + (y 2).val) < 1792 then 256 * slot8 (t.val % 17) + (64 * (y 0).val + (y 2).val) + 256
      else 256 * slot8 (t.val % 17) + (64 * (y 0).val + (y 2).val) + 2304) = 256 * (t.val % 17) + (64 * (y 0).val + (y 2).val) := by
    rw [← hq]; split_ifs <;> omega
  unfold shifted
  rw [if_neg hs, hp]
  rfl

/-- The short convolution's block of a point. -/
theorem short_at (t : Fin cfg0.N) (h : 8 ≤ t.val % 17 ∧ t.val % 17 ≤ 11) (i : Fin 1024) (l : Fin 64) :
    yAt (F := Ideal) m c t (ix3 0 i l) = short (place X u W) S (t.val % 17 - 8) (1024 * (t.val / 17) + i) l := by
  unfold yAt
  refine (congrFun (View.canon_cons_unit_lit _ _ _ (by decide)) (ix3 0 i l)).trans ?_
  refine (Pay.yB_at (f := fun e => within (place X u W (256 * (t.val % 17) + e)) (t.val / 17))
    (g := fun e => before (place X u W (256 * (t.val % 17) + e)) (t.val / 17)) (W := fun l i => S i (64 * (t.val % 17 - 8) + l))
    (fun i e => rAt_at R t i e) (fun i e hi => taken R t i e hi) (word t) (fun i l => blk5 R t h i l) i l).trans ?_
  simp only [before_mul]
  have E : ∀ s : ℕ, s ≤ 8 → above s (before (fun n => place X u W (256 * (t.val % 17) + (64 + l)) n * place X u W (256 * (t.val % 17) + (128 + l)) n) (t.val / 17))
      (fun i => within (place X u W (256 * (t.val % 17) + (64 + l))) (t.val / 17) i * within (place X u W (256 * (t.val % 17) + (128 + l))) (t.val / 17) i) i
      = up s (fun n => place X u W (256 * (t.val % 17) + (64 + l)) n * place X u W (256 * (t.val % 17) + (128 + l)) n) (1024 * (t.val / 17) + i) :=
    fun s hs => above_up (fun n => place X u W (256 * (t.val % 17) + (64 + l)) n * place X u W (256 * (t.val % 17) + (128 + l)) n) s _ i hs i.isLt
  have E1 := E 1 (by decide)
  have E2 := E 2 (by decide)
  unfold short
  rw [show 2048 + 256 * (t.val % 17 - 8) = 256 * (t.val % 17) by omega, ← E1, ← E2]
  rfl

/-- The first result: the normalised rows. -/
theorem final6 : (dats (F := Ideal) m 0 c).arrAt 6 cfg0.N = fun y : S4096x1024.Idx => hid X u (y 0) (y 1) := by
  refine (dats (F := Ideal) m 0 c).arrAt_eq_of_covers 6 _ (by decide +kernel) fun t hf y => ?_
  blk_simp
  rw [after6]
  idx_vars y
  have E := hAt_at R t y0 y1
  unfold hl at E
  rw [show ∀ X : Vec Ideal S1024x1024 .bf16, View.ld X (Rect.unit (s := S1024x1024) ![0, 0] S1024x1024.size inb_S1024x1024_S1024x1024_0_0) = X from
      fun X => View.ld_unit_lit _ X (by decide)] at E
  refine E.trans ?_
  blk_simp [idx_val t]
  rw [show t.val / 17 * 1024 + y0.val = 1024 * (t.val / 17) + y0.val by omega]

/-- The second result: the projection by groups. -/
theorem final7 : (dats (F := Ideal) m 0 c).arrAt 7 cfg0.N = fun y : S68x4096x64.Idx => place X u W (64 * (y 0).val + (y 2).val) (y 1) := by
  refine (dats (F := Ideal) m 0 c).arrAt_eq_of_covers 7 _ (by decide +kernel) fun t hf y => ?_
  blk_simp
  rw [after7]
  refine (Pay.pB_at (f := fun i e => place X u W (256 * (t.val % 17) + e) (1024 * (t.val / 17) + i)) (fun i e => rAt_at R t i e) y).trans ?_
  idx_vars y
  blk_simp [idx_val t]
  rw [show t.val / 17 * 1024 + y1.val = 1024 * (t.val / 17) + y1.val by omega,
    show 64 * (t.val % 17 * 4 + y0.val) + y2.val = 256 * (t.val % 17) + (64 * y0.val + y2.val) by omega]

/-- The third result: the convolved and the mixed groups. -/
theorem final8 : (dats (F := Ideal) m 0 c).arrAt 8 cfg0.N
    = fun y : S32x4096x64.Idx => shifted (place X u W) C (mixing U) (64 * (y 0).val + (y 2).val) (y 1) := by
  refine (dats (F := Ideal) m 0 c).arrAt_eq_of_covers 8 _ (by decide +kernel) fun t hf y => ?_
  blk_simp
  rw [after8]
  obtain ⟨e1, e2⟩ := lv8_val t
  have E : sAt (F := Ideal) m c (lv8 t) y = shifted (place X u W) C (mixing U) (256 * slot8 ((lv8 t).val % 17) + (64 * (y 0).val + (y 2).val)) (1024 * ((lv8 t).val / 17) + (y 1).val) := by
    rcases e2 with e2 | e2
    · rw [conv_at R _ e2, slot8, if_pos e2]
    · exact mix_at R _ e2 y
  rw [E, e1]
  idx_vars y
  blk_simp [idx_val t]
  rw [show t.val / 17 * 1024 + y1.val = 1024 * (t.val / 17) + y1.val by omega,
    show 64 * (slot8 ((lv8 t).val % 17) * 4 + y0.val) + y2.val = 256 * slot8 ((lv8 t).val % 17) + (64 * y0.val + y2.val) by omega]

/-- The fourth result: the short convolution. -/
theorem final9 : (dats (F := Ideal) m 0 c).arrAt 9 cfg0.N = fun y : S4x4096x64.Idx => short (place X u W) S (y 0) (y 1) (y 2) := by
  refine (dats (F := Ideal) m 0 c).arrAt_eq_of_covers 9 _ (by decide +kernel) fun t hf y => ?_
  obtain ⟨h1, h2, h3, h4⟩ := idx9 t hf
  blk_simp
  rw [after9]
  idx_vars y
  have E := short_at R (lv9 t) ⟨h1, h2⟩ y1 y2
  rw [h3] at E
  have e0 : y0 = 0 := Fin.ext (Nat.lt_one_iff.mp y0.isLt)
  subst e0
  refine E.trans ?_
  blk_simp [h4]
  rw [show t.val / 17 * 1024 + y1.val = 1024 * (t.val / 17) + y1.val by omega]

end K

end Cert.Nproj

end
-- ==== Proof.NprojClaim.lean ====
/-
  The claims about the fused norm and projection: the reference at an index, its frame and the equality of the two programs over
  the extended reals.
-/
module

public import proofs.«01_k».proof.Defs
public import proofs.«01_k».proof.Proof.NprojK
public import proofs.«01_k».proof.Proof.Entry
public import proofs.«01_k».proof.Proof.Gen.NprojReferenceIdeal
public import proofs.«01_k».proof.Proof.Gen.NprojReferenceIdeal.Run
public import proofs.«01_k».proof.Proof.Gen.NprojReferenceIdeal.Read
public import Idealize.ShloMosaic.Adequacy
public import Idealize.ShloMosaic.Init

@[expose] public section

set_option maxRecDepth 16384

noncomputable section

namespace Cert.Nproj

open Idealize.ShloMosaic Idealize.ShloMosaic.TcCoe Idealize.SL.Sem Cert.Entry
open Cert.Proj (lay lay_ladder)
open Cert.Nproj.Host (mixing)

theorem up_at (s : ℕ) (f : ℕ → EReal) (b : ℕ) (t : Fin 2048) : up s f (2048 * b + t) = if t.val < s then 0 else f (2048 * b + (t - s)) := by
  have ht := t.isLt
  unfold up
  rw [show (2048 * b + t.val) % 2048 = t.val by omega]
  split_ifs
  · rfl
  · exact congrArg f (by omega)

section Places

variable (X : ℕ → ℕ → EReal) (u : ℕ → EReal) (W : ℕ → ℕ → EReal) (n : ℕ)

/-- The columns of the first group. -/
theorem place_gdn (q : ℕ) (h : q < 768) : place X u W q n = prj X u W n q := by
  unfold place lay; rw [if_pos (by omega)]

/-- The token-shifted columns, in their two runs. -/
theorem place_lo (q : ℕ) (h : 768 ≤ q) (h1 : q < 1792) : place X u W (q + 256) n = prj X u W n (1032 + (q - 768)) := by
  unfold place lay
  rw [if_neg (by omega), if_pos (by omega)]
  exact congrArg _ (by omega)

theorem place_hi (q : ℕ) (h : 1856 ≤ q) (h1 : q < 1984) : place X u W (q + 2304) n = prj X u W n (1032 + (1024 + (q - 1856))) := by
  unfold place lay
  rw [if_neg (by omega), if_neg (by omega), if_neg (by omega), if_neg (by omega), if_neg (by omega), if_neg (by omega), if_pos (by omega)]
  exact congrArg _ (by omega)

/-- The columns that are not mixed. -/
theorem place_ab (q : ℕ) (h : 1792 ≤ q) (h1 : q < 1856) : place X u W (q + 2304) n = if q - 1792 < 8 then prj X u W n (1024 + (q - 1792)) else 0 := by
  unfold place lay
  rw [if_neg (by omega), if_neg (by omega), if_neg (by omega), if_neg (by omega), if_neg (by omega), if_pos (by omega),
    show q + 2304 - 4096 = q - 1792 by omega]

theorem place_gd (q : ℕ) (h : 1984 ≤ q) : place X u W (q + 2304) n = if q - 1984 < 16 then prj X u W n (3976 + (q - 1984)) else 0 := by
  unfold place lay
  rw [if_neg (by omega), if_neg (by omega), if_neg (by omega), if_neg (by omega), if_neg (by omega), if_neg (by omega), if_neg (by omega),
    show q + 2304 - 4288 = q - 1984 by omega]

/-- The short convolution's columns. -/
theorem place_sc (i a l : ℕ) (ha : a < 4) (hi : i < 4) (hl : l < 64) :
    place X u W (2048 + 256 * a + (64 * i + l)) n = prj X u W n (2184 + (256 * i + (64 * a + l))) := by
  unfold place lay
  rw [if_neg (by omega), if_neg (by omega), if_pos (by omega)]
  exact congrArg _ (by omega)

end Places

section Reference

open Cert.NprojReferenceIdeal Cert.NprojReferenceIdeal.Read

variable {x0 : Vec Ideal S2x2048x1024 .f32} {x1 : Vec Ideal S1024 .f32} {x2 : Vec Ideal S1024x3992 .f32} {x3 : Vec Ideal S4x768 .f32}
  {x4 : Vec Ideal S1152 .f32} {x5 : Vec Ideal S3x256 .f32}
  {X : ℕ → ℕ → EReal} {u : ℕ → EReal} {W C : ℕ → ℕ → EReal} {U : ℕ → EReal} {S : ℕ → ℕ → EReal}
  (hx : ∀ (b : Fin 2) (t : Fin 2048) (k : Fin 1024), x0 (ix3 b t k) = X (2048 * b + t) k)
  (hu : ∀ k : Fin 1024, x1 (ix1 k) = u k)
  (hw : ∀ (k : Fin 1024) (e : Fin 3992), x2 (ix2 k e) = W k e)
  (hc : ∀ (i : Fin 4) (q : Fin 768), x3 (ix2 i q) = C i q)
  (hm : ∀ q : Fin 1152, x4 (ix1 q) = U q)
  (hs : ∀ (i : Fin 3) (q : Fin 256), x5 (ix2 i q) = S i q)

include hx in
/-- One over the root of the mean square of a row. -/
theorem v7 (b : Fin 2) (t : Fin 2048) : val_main_v7 (F := Ideal) x0 (ix3 b t 0) = Cert.NormAny.inv (X (2048 * b + t)) := by
  pointwise [val_main_v7, val_main_v6, val_main_v5, val_main_cst_1, val_main_v4, val_main_v3, val_main_cst_0, val_main_v2, val_main_v1,
    val_main_cst, val_main_v0, hx]
  rfl

include hx hu in
/-- The normalised rows. -/
theorem v12 (b : Fin 2) (t : Fin 2048) (k : Fin 1024) : val_main_v12 (F := Ideal) x0 x1 (ix3 b t k) = hid X u (2048 * b + t) k := by
  pointwise [val_main_v12, val_main_v11, val_main_v10, val_main_v9, val_main_v8, v7 hx, hx, hu]
  rfl

include hx hu hw in
/-- Their projection. -/
theorem v13 (b : Fin 2) (t : Fin 2048) (e : Fin 3992) : val_main_v13 (F := Ideal) x0 x1 x2 (ix3 b t e) = prj X u W (2048 * b + t) e := by
  pointwise [val_main_v13, v12 hx hu, hw]
  rfl

include hx hu hw in
/-- The columns to convolve, with three zeros before them. -/
theorem v23 (b : Fin 2) (t : Fin 2051) (q : Fin 768) : val_main_v23 (F := Ideal) x0 x1 x2 (ix3 b t q)
    = if t.val < 3 then 0 else prj X u W (2048 * b + (t - 3)) q := by
  pointwise [val_main_v23, val_main_v22, val_main_cst_2, val_main_v21, val_main_v14, v13 hx hu hw]
  split_ifs <;> rfl

include hx hu hw hc in
/-- The convolved columns. -/
theorem v52 (b : Fin 2) (t : Fin 2048) (q : Fin 768) : val_main_v52 (F := Ideal) x0 x1 x2 x3 (ix3 b t q)
    = taps4 (fun i => C i q) (prj X u W (2048 * b + t) q) (up 1 (fun n => prj X u W n q) (2048 * b + t))
      (up 2 (fun n => prj X u W n q) (2048 * b + t)) (up 3 (fun n => prj X u W n q) (2048 * b + t)) := by
  have ht := t.isLt
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34,
    val_main_v33, val_main_v32, val_main_v31, val_main_v30, val_main_cst_3, val_main_v29, val_main_v28, val_main_v27, val_main_v26, val_main_v25,
    val_main_v24, v23 hx hu hw, hc]
  rw [up_at, up_at, up_at]
  have e0 : 3 + t.val - 3 = t.val := by omega
  have e1 : 2 + t.val - 3 = t.val - 1 := by omega
  have e2 : 1 + t.val - 3 = t.val - 2 := by omega
  simp only [e0, e1, e2, taps4, show ¬ 3 + t.val < 3 by omega, show (2 + t.val < 3) = (t.val < 1) from propext (by omega),
    show (1 + t.val < 3) = (t.val < 2) from propext (by omega), if_false]
  ac_rfl

include hx hu hw hm in
/-- The token-shifted columns. -/
theorem v60 (b : Fin 2) (t : Fin 2048) (q : Fin 1152) : val_main_v60 (F := Ideal) x0 x1 x2 x4 (ix3 b t q)
    = prj X u W (2048 * b + t) (1032 + q) + U q * (up 1 (fun n => prj X u W n (1032 + q)) (2048 * b + t) - prj X u W (2048 * b + t) (1032 + q)) := by
  pointwise [val_main_v60, val_main_v59, val_main_v58, val_main_v57, val_main_v56, val_main_v55, val_main_v54, val_main_v53, val_main_cst_4, val_main_v16,
    v13 hx hu hw, hm]
  rw [up_at]
  split_ifs <;> rfl

include hx hu hw in
/-- The product of the two factors, with two zeros before it. -/
theorem v67 (b : Fin 2) (t : Fin 2050) (q : Fin 256) : val_main_v67 (F := Ideal) x0 x1 x2 (ix3 b t q)
    = if t.val < 2 then 0 else prj X u W (2048 * b + (t - 2)) (2184 + (256 + q)) * prj X u W (2048 * b + (t - 2)) (2184 + (512 + q)) := by
  pointwise [val_main_v67, val_main_v66, val_main_cst_5, val_main_v65, val_main_v63, val_main_v62, val_main_v17, v13 hx hu hw]
  split_ifs <;> rfl

include hx hu hw hs in
/-- The short convolution between its gates. -/
theorem v92 (b : Fin 2) (t : Fin 2048) (q : Fin 256) : val_main_v92 (F := Ideal) x0 x1 x2 x5 (ix3 b t q)
    = gated (fun i => S i q) (prj X u W (2048 * b + t) (2184 + q)) (prj X u W (2048 * b + t) (2184 + (768 + q)))
      (prj X u W (2048 * b + t) (2184 + (256 + q)) * prj X u W (2048 * b + t) (2184 + (512 + q)))
      (up 1 (fun n => prj X u W n (2184 + (256 + q)) * prj X u W n (2184 + (512 + q))) (2048 * b + t))
      (up 2 (fun n => prj X u W n (2184 + (256 + q)) * prj X u W n (2184 + (512 + q))) (2048 * b + t)) := by
  have ht := t.isLt
  pointwise [val_main_v92, val_main_v91, val_main_call0_v5, val_main_call0_v4, val_main_call0_cst_0, val_main_call0_v3, val_main_call0_v2,
    val_main_call0_cst, val_main_call0_v1, val_main_call0_v0, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_cst_6, val_main_v73, val_main_v72, val_main_v71, val_main_v70, val_main_v69, val_main_v68, val_main_v64, val_main_v61,
    val_main_v17, v67 hx hu hw, v13 hx hu hw, hs]
  rw [up_at, up_at]
  simp only [show 1 + t.val - 2 = t.val - 1 by omega, show (1 + t.val < 2) = (t.val < 1) from propext (by omega)]
  unfold gated Ideal.logistic
  beta_reduce
  ac_rfl

include hx hu hw in
/-- The groups' columns. -/
theorem v103 (b : Fin 2) (t : Fin 2048) (q : Fin 4352) : val_main_v103 (F := Ideal) x0 x1 x2 (ix3 b t q) = place X u W q (2048 * b + t) := by
  pointwise [val_main_v103, val_main_v102, val_main_v101, val_main_v100, val_main_v99, val_main_v98, val_main_v97, val_main_v96, val_main_v95,
    val_main_v94, val_main_v93, val_main_v20, val_main_v19, val_main_v18, val_main_v17, val_main_v16, val_main_v15, val_main_v14,
    val_main_cst_7, val_main_cst_8, val_main_cst_9, v13 hx hu hw]
  have hq := q.isLt
  simp only [Nat.sub_sub, Nat.reduceAdd]
  unfold place lay
  by_cases h1 : q.val < 1024
  · rw [dif_pos h1, if_pos h1]
  rw [dif_neg h1, if_neg h1]
  by_cases h2 : q.val < 2048
  · rw [dif_pos (by omega), if_pos h2]
  rw [dif_neg (by omega), if_neg h2]
  by_cases h3 : q.val < 3072
  · rw [dif_pos (by omega), if_pos h3]
  rw [dif_neg (by omega), if_neg h3]
  by_cases h4 : q.val < 3584
  · rw [dif_pos (by omega), if_pos h4]
    by_cases h : (q.val - 3072) % 64 < 32
    · rw [dif_pos (by omega), if_pos h]
    · rw [dif_neg (by omega), if_neg h]
  rw [dif_neg (by omega), if_neg h4]
  by_cases h5 : q.val < 4096
  · rw [dif_pos (by omega), if_pos h5]
  rw [dif_neg (by omega), if_neg h5]
  by_cases h6 : q.val < 4160
  · rw [dif_pos (by omega), if_pos h6]
    by_cases h : q.val - 4096 < 8
    · rw [dif_pos h, if_pos h]
    · rw [dif_neg h, if_neg h]
  rw [dif_neg (by omega), if_neg h6]
  by_cases h7 : q.val < 4288
  · rw [dif_pos (by omega), if_pos h7]
    exact congrArg _ (by omega)
  rw [dif_neg (by omega), if_neg h7]
  by_cases h : q.val - 4288 < 16
  · rw [dif_pos h, if_pos h]
  · rw [dif_neg h, if_neg h]

include hx hu hw hc hm in
/-- The convolved and mixed groups' columns. -/
theorem v106 (b : Fin 2) (t : Fin 2048) (q : Fin 2048) : val_main_v106 (F := Ideal) x0 x1 x2 x3 x4 (ix3 b t q)
    = shifted (place X u W) C (mixing U) q (2048 * b + t) := by
  pointwise [val_main_v106, val_main_v105, val_main_v104, val_main_v100, val_main_v99, val_main_v20, val_main_v15, val_main_cst_8, val_main_cst_9,
    v13 hx hu hw, v52 hx hu hw hc, v60 hx hu hw hm]
  have hq := q.isLt
  simp only [Nat.sub_sub, Nat.reduceAdd]
  unfold shifted
  by_cases h1 : q.val < 768
  · rw [dif_pos h1, if_pos h1]
    simp only [place_gdn X u W _ _ h1, show place X u W q.val = fun n => prj X u W n q.val from funext fun n => place_gdn X u W n _ h1]
  rw [dif_neg h1, if_neg h1]
  by_cases h2 : q.val < 1792
  · rw [dif_pos (by omega), if_pos h2,
      show place X u W (q.val + 256) = fun n => prj X u W n (1032 + (q.val - 768)) from funext fun n => place_lo X u W n _ (by omega) h2,
      show mixing U q.val = U (q.val - 768) from if_pos h2]
  rw [dif_neg (by omega), if_neg h2]
  have hz : ¬ (1856 ≤ q.val ∧ q.val < 1984) → mixing U q.val = 0 := fun h => by unfold mixing; rw [if_neg h2, if_neg h]
  by_cases h3 : q.val < 1856
  · rw [dif_pos (by omega), hz (by omega), zero_mul, add_zero, place_ab X u W _ _ (by omega) h3]
    rfl
  rw [dif_neg (by omega)]
  by_cases h4 : q.val < 1984
  · rw [dif_pos (by omega),
      show place X u W (q.val + 2304) = fun n => prj X u W n (1032 + (1024 + (q.val - 1856))) from funext fun n => place_hi X u W n _ (by omega) h4,
      show mixing U q.val = U (1024 + (q.val - 1856)) by unfold mixing; rw [if_neg h2, if_pos (by omega)]]
  · rw [dif_neg (by omega), hz (by omega), zero_mul, add_zero, place_gd X u W _ _ (by omega)]
    rfl

include hx hu in
/-- The reference's first result. -/
theorem v108 (n : Fin 4096) (k : Fin 1024) : val_main_v108 (F := Ideal) x0 x1 (ix2 n k) = hid X u n k := by
  pointwise [val_main_v108, val_main_v107, v12 hx hu]
  simp only [Nat.div_add_mod]

include hx hu hw in
/-- The reference's second result. -/
theorem v110 (g : Fin 68) (n : Fin 4096) (l : Fin 64) : val_main_v110 (F := Ideal) x0 x1 x2 (ix3 g n l) = place X u W (64 * g.val + l.val) n := by
  pointwise [val_main_v110, val_main_v109, v103 hx hu hw]
  simp only [Nat.div_add_mod, Nat.mul_comm 64 g.val]

include hx hu hw hc hm in
/-- The reference's third result. -/
theorem v112 (g : Fin 32) (n : Fin 4096) (l : Fin 64) : val_main_v112 (F := Ideal) x0 x1 x2 x3 x4 (ix3 g n l)
    = shifted (place X u W) C (mixing U) (64 * g.val + l.val) n := by
  pointwise [val_main_v112, val_main_v111, v106 hx hu hw hc hm]
  simp only [Nat.div_add_mod, Nat.mul_comm 64 g.val]

include hx hu hw hs in
/-- The reference's fourth result. -/
theorem v115 (a : Fin 4) (n : Fin 4096) (l : Fin 64) : val_main_v115 (F := Ideal) x0 x1 x2 x5 (ix3 a n l) = short (place X u W) S a n l := by
  pointwise [val_main_v115, val_main_v114, val_main_v113, v92 hx hu hw hs]
  simp only [Nat.div_add_mod]
  have e0 : ∀ n : ℕ, place X u W (2048 + 256 * a.val + l.val) n = prj X u W n (2184 + (a.val * 64 + l.val)) := fun n =>
    (congrArg (fun q => place X u W q n) (by omega)).trans ((place_sc X u W n 0 a l a.isLt (by decide) l.isLt).trans (congrArg _ (by omega)))
  have e1 : ∀ n : ℕ, place X u W (2048 + 256 * a.val + (64 + l.val)) n = prj X u W n (2184 + (256 + (a.val * 64 + l.val))) := fun n =>
    (place_sc X u W n 1 a l a.isLt (by decide) l.isLt).trans (congrArg _ (by omega))
  have e2 : ∀ n : ℕ, place X u W (2048 + 256 * a.val + (128 + l.val)) n = prj X u W n (2184 + (512 + (a.val * 64 + l.val))) := fun n =>
    (place_sc X u W n 2 a l a.isLt (by decide) l.isLt).trans (congrArg _ (by omega))
  have e3 : ∀ n : ℕ, place X u W (2048 + 256 * a.val + (192 + l.val)) n = prj X u W n (2184 + (768 + (a.val * 64 + l.val))) := fun n =>
    (place_sc X u W n 3 a l a.isLt (by decide) l.isLt).trans (congrArg _ (by omega))
  unfold short
  simp only [e0, e1, e2, e3, Nat.mul_comm 64 a.val]

end Reference

/-- The reference runs, leaves its arguments as they are, and every counter ends at zero. -/
theorem frame_reference : quiescent_NprojReferenceIdeal := fun m ρ _ =>
  (θ_run Cert.NprojReferenceIdeal.defs _ _).mono
    (fun r h => ⟨fun c => (h c).2.2.2.2, sem_eq_zero_of_no_sems (by decide) r.2⟩)
    (Cert.NprojReferenceIdeal.Value.run (F := Ideal) m ρ)

section Kernel

open Cert.NprojKernelIdeal Cert.NprojKernelIdeal.Gen

/-- The kernel runs, its four results hold the last write-backs, and its arguments stay as they are. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41_0) = (Run.dats (F := Ideal) m 0 c).arrAt 6 cfg0.N
      ∧ r.2.mem ((c.tc : Thread nD τ).loc main_v41_1) = (Run.dats (F := Ideal) m 0 c).arrAt 7 cfg0.N
      ∧ r.2.mem ((c.tc : Thread nD τ).loc main_v41_2) = (Run.dats (F := Ideal) m 0 c).arrAt 8 cfg0.N
      ∧ r.2.mem ((c.tc : Thread nD τ).loc main_v41_3) = (Run.dats (F := Ideal) m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 6, (h.1 c).1 7, (h.1 c).1 8, (h.1 c).1 9, h.2.1 c⟩)
    (θ_run_and (Run.run_post (F := Ideal) m ρ) (Run.frame (F := Ideal) m ρ))

end Kernel

/-- Over the extended reals the kernel computes the normalised rows, their projection, the convolved and mixed columns and the short
    convolution. -/
theorem value : algebraic_NprojKernelIdeal_NprojReferenceIdeal := by
  intro m ρ m' ρ' _ hagree
  refine ⟨fun c => fun y : Cert.NprojKernelIdeal.S4096x1024.Idx => (hid (row (m ((c.tc : Thread Cert.NprojKernelIdeal.nD Cert.NprojKernelIdeal.τ).loc Cert.NprojKernelIdeal.main_arg0))) (at1 (m ((c.tc : Thread Cert.NprojKernelIdeal.nD Cert.NprojKernelIdeal.τ).loc Cert.NprojKernelIdeal.main_arg1))) (y 0) (y 1) : EReal),
    fun c => fun y : Cert.NprojKernelIdeal.S68x4096x64.Idx => ((place (row (m ((c.tc : Thread Cert.NprojKernelIdeal.nD Cert.NprojKernelIdeal.τ).loc Cert.NprojKernelIdeal.main_arg0))) (at1 (m ((c.tc : Thread Cert.NprojKernelIdeal.nD Cert.NprojKernelIdeal.τ).loc Cert.NprojKernelIdeal.main_arg1))) (at2 (m ((c.tc : Thread Cert.NprojKernelIdeal.nD Cert.NprojKernelIdeal.τ).loc Cert.NprojKernelIdeal.main_arg2)))) (64 * (y 0).val + (y 2).val) (y 1) : EReal),
    fun c => fun y : Cert.NprojKernelIdeal.S32x4096x64.Idx => (shifted (place (row (m ((c.tc : Thread Cert.NprojKernelIdeal.nD Cert.NprojKernelIdeal.τ).loc Cert.NprojKernelIdeal.main_arg0))) (at1 (m ((c.tc : Thread Cert.NprojKernelIdeal.nD Cert.NprojKernelIdeal.τ).loc Cert.NprojKernelIdeal.main_arg1))) (at2 (m ((c.tc : Thread Cert.NprojKernelIdeal.nD Cert.NprojKernelIdeal.τ).loc Cert.NprojKernelIdeal.main_arg2)))) (at2 (m ((c.tc : Thread Cert.NprojKernelIdeal.nD Cert.NprojKernelIdeal.τ).loc Cert.NprojKernelIdeal.main_arg3))) (mixing (at1 (m ((c.tc : Thread Cert.NprojKernelIdeal.nD Cert.NprojKernelIdeal.τ).loc Cert.NprojKernelIdeal.main_arg4)))) (64 * (y 0).val + (y 2).val) (y 1) : EReal),
    fun c => fun y : Cert.NprojKernelIdeal.S4x4096x64.Idx => (short (place (row (m ((c.tc : Thread Cert.NprojKernelIdeal.nD Cert.NprojKernelIdeal.τ).loc Cert.NprojKernelIdeal.main_arg0))) (at1 (m ((c.tc : Thread Cert.NprojKernelIdeal.nD Cert.NprojKernelIdeal.τ).loc Cert.NprojKernelIdeal.main_arg1))) (at2 (m ((c.tc : Thread Cert.NprojKernelIdeal.nD Cert.NprojKernelIdeal.τ).loc Cert.NprojKernelIdeal.main_arg2)))) (at2 (m ((c.tc : Thread Cert.NprojKernelIdeal.nD Cert.NprojKernelIdeal.τ).loc Cert.NprojKernelIdeal.main_arg5))) (y 0) (y 1) (y 2) : EReal), ?_, ?_⟩
  · refine (θ_run Cert.NprojKernelIdeal.defs _ _).mono (fun r h c => ?_) (run_results m ρ)
    have E := Host.Entries.mk (row_eq (m ((c.tc : Thread Cert.NprojKernelIdeal.nD Cert.NprojKernelIdeal.τ).loc Cert.NprojKernelIdeal.main_arg0)))
      (at1_eq (m ((c.tc : Thread Cert.NprojKernelIdeal.nD Cert.NprojKernelIdeal.τ).loc Cert.NprojKernelIdeal.main_arg1)))
      (at2_eq (m ((c.tc : Thread Cert.NprojKernelIdeal.nD Cert.NprojKernelIdeal.τ).loc Cert.NprojKernelIdeal.main_arg2)))
      (at2_eq (m ((c.tc : Thread Cert.NprojKernelIdeal.nD Cert.NprojKernelIdeal.τ).loc Cert.NprojKernelIdeal.main_arg3)))
      (at1_eq (m ((c.tc : Thread Cert.NprojKernelIdeal.nD Cert.NprojKernelIdeal.τ).loc Cert.NprojKernelIdeal.main_arg4)))
      (at2_eq (m ((c.tc : Thread Cert.NprojKernelIdeal.nD Cert.NprojKernelIdeal.τ).loc Cert.NprojKernelIdeal.main_arg5)))
    exact ⟨(h c).1.trans (K.final6 E), (h c).2.1.trans (K.final7 E), (h c).2.2.1.trans (K.final8 E), (h c).2.2.2.1.trans (K.final9 E), (h c).2.2.2.2⟩
  · refine (θ_run Cert.NprojReferenceIdeal.defs _ _).mono (fun r h c => ?_) (Cert.NprojReferenceIdeal.Value.run (F := Ideal) m' ρ')
    obtain ⟨e0, e1, e2, e3, e4, e5⟩ := hagree c
    refine ⟨(h c).1.trans ((Cert.NprojReferenceIdeal.Read.val_main_v108_eq _ _).trans ?_),
      (h c).2.1.trans ((Cert.NprojReferenceIdeal.Read.val_main_v110_eq m' c).trans ?_),
      (h c).2.2.1.trans ((Cert.NprojReferenceIdeal.Read.val_main_v112_eq m' c).trans ?_),
      (h c).2.2.2.1.trans ((Cert.NprojReferenceIdeal.Read.val_main_v115_eq m' c).trans ?_), (h c).2.2.2.2⟩
    · rw [e0, e1]
      funext y
      idx_vars y
      exact v108 (row_eq _) (at1_eq _) _ _
    · rw [e0, e1, e2]
      funext y
      idx_vars y
      exact v110 (row_eq _) (at1_eq _) (at2_eq _) _ _ _
    · rw [e0, e1, e2, e3, e4]
      funext y
      idx_vars y
      exact v112 (row_eq _) (at1_eq _) (at2_eq _) (at2_eq _) (at1_eq _) _ _ _
    · rw [e0, e1, e2, e5]
      funext y
      idx_vars y
      exact v115 (row_eq _) (at1_eq _) (at2_eq _) (at2_eq _) _ _ _

end Cert.Nproj

end
-- ==== Proof.Adam.lean ====
/-
  One entry of the optimiser's step, and the sum of the eight devices' parts of a gradient.
-/
module

public import Idealize.ShloMosaic.Lib.Pipeline.ValueKit
public import Idealize.ShloMosaic.Lib.Pointwise

@[expose] public section

noncomputable section

namespace Cert.Adam

open Idealize.ShloMosaic

/-- The number that a float32 word stands for. -/
abbrev word (b : BitVec 32) : EReal := Scalar.ofBits (F := Ideal) .f32 b

/-- The gradient: the sum of the devices' parts. -/
def total (p : ℕ → EReal) : EReal := p 0 + p 1 + p 2 + p 3 + p 4 + p 5 + p 6 + p 7

theorem sum_eq_total (p : ℕ → EReal) : ∑ k : Fin 8, p k = total p := Fin.sum_univ_eight _

/-- The new first moment, of the gradient and the first moment before. -/
def mom (g m : EReal) : EReal := word 0x3F666666#32 * m + word 0x3DCCCCCD#32 * g

/-- The new second moment, of the gradient and the second moment before. -/
def vel (g v : EReal) : EReal := word 0x3F7FBE77#32 * v + word 0x3A83126F#32 * (g * g)

/-- The weight's change. -/
def delta (g w m v : EReal) : EReal :=
  word 0xBA83126F#32 * (FloatOps.divf (F := Ideal) (φ := .f32) (FloatOps.divf (F := Ideal) (φ := .f32) (mom g m) (word 0x3F26BD02#32))
    (Ideal.sqrt (FloatOps.divf (F := Ideal) (φ := .f32) (vel g v) (word 0x3C231ACC#32)) + word 0x322BCC77#32) + word 0x3C23D70A#32 * w)

end Cert.Adam

end
-- ==== Proof.WinK.lean ====
/-
  The optimiser's step on the input projection: the blocks of each grid point and the four result arrays.
-/
module

public import proofs.«01_k».proof.Proof.Adam
public import proofs.«01_k».proof.Proof.Gen.WinKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Adam.Win

open Idealize.ShloMosaic Idealize.ShloMosaic.TcCoe Cert.WinKernelIdeal Cert.WinKernelIdeal.Gen

/-- One device's part of a block. -/
theorem part_ld (B : Vec Ideal S8x128x499 .bf16) (k : ℕ) (hk : k < 8) (h : ∀ a, (![k, 0, 0] : Fin 3 → ℕ) a + ![1, 128, 499] a ≤ S8x128x499.size a)
    (r : Fin 128) (d : Fin 499) : View.ld B (Rect.unit (s := S8x128x499) ![k, 0, 0] ![1, 128, 499] h) (ix3 0 r d) = B (ix3 ⟨k, hk⟩ r d) := by
  refine congrArg B (funext fun a => Fin.ext ?_)
  match a with
  | ⟨0, _⟩ => exact Nat.add_zero k
  | ⟨1, _⟩ => exact (Nat.zero_add _).trans (Nat.one_mul _)
  | ⟨2, _⟩ => exact (Nat.zero_add _).trans (Nat.one_mul _)

/-- The gradient's entry of a block. -/
theorem grad_at (B : Vec Ideal S8x128x499 .bf16) (w m v : Vec Ideal S128x499 .f32) (p : ℕ → EReal) (r : Fin 128) (d : Fin 499)
    (hp : ∀ k : Fin 8, B (ix3 k r d) = p k) : k0_pay5 (F := Ideal) B w m v (ix2 r d) = total p := by
  pointwise [k0_pay5, k0_pay4, part_ld, hp]
  rfl

theorem mom_at (g m : FVec Ideal S128x499 .f32) (y : S128x499.Idx) : k0_pay1 (F := Ideal) g m y = mom (g y) (m y) := rfl

theorem vel_at (g v : FVec Ideal S128x499 .f32) (y : S128x499.Idx) : k0_pay2 (F := Ideal) g v y = vel (g y) (v y) := rfl

theorem delta_at (g w m v : FVec Ideal S128x499 .f32) (y : S128x499.Idx) :
    k0_pay3 (F := Ideal) g w m v y = delta (g y) (w y) (m y) (v y) := rfl

/-- The windows' block indices at each grid point. -/
theorem idx_val : ∀ t : Fin cfg0.N, win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Every entry of the four arguments is the number that the functions give at its place. -/
structure Entries (a0 : Vec Ideal S8x1024x499 .f32) (a1 a2 a3 : Vec Ideal S1024x499 .f32) (P : ℕ → ℕ → ℕ → EReal) (W M V : ℕ → ℕ → EReal) :
    Prop where
  p : ∀ k n d, a0 (ix3 k n d) = P k n d
  w : ∀ n d, a1 (ix2 n d) = W n d
  m : ∀ n d, a2 (ix2 n d) = M n d
  v : ∀ n d, a3 (ix2 n d) = V n d

variable {m : (ℓ : Loc nD τ sig) → Buf (Elt Ideal) ℓ} {c : Dev nD} {P : ℕ → ℕ → ℕ → EReal} {W M U : ℕ → ℕ → EReal}
  (R : Entries (m ((c : Thread nD τ).loc main_arg0)) (m ((c : Thread nD τ).loc main_arg1)) (m ((c : Thread nD τ).loc main_arg2))
    (m ((c : Thread nD τ).loc main_arg3)) P W M U)
include R

/-- A block of the devices' parts. -/
theorem blk0 (t : Fin cfg0.N) (k : Fin 8) (r : Fin 128) (d : Fin 499) : iblk (F := Ideal) m c 0 t (ix3 k r d) = P k (128 * t + r) d := by
  have ht : t.val < 8 := t.isLt
  have E : iblk (F := Ideal) m c 0 t (ix3 k r d) = V (F := Ideal) m c main_v0 (ix3 k ⟨128 * t + r, by omega⟩ d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.p]

/-- A block of the weight. -/
theorem blk1 (t : Fin cfg0.N) (r : Fin 128) (d : Fin 499) : iblk (F := Ideal) m c 1 t (ix2 r d) = W (128 * t + r) d := by
  have ht : t.val < 8 := t.isLt
  have E : iblk (F := Ideal) m c 1 t (ix2 r d) = V (F := Ideal) m c main_arg1 (ix2 ⟨128 * t + r, by omega⟩ d) := by
    blk_ext [iblk, idx_val t]
  rw [E, V_main_arg1, R.w]

/-- A block of the first moment. -/
theorem blk2 (t : Fin cfg0.N) (r : Fin 128) (d : Fin 499) : iblk (F := Ideal) m c 2 t (ix2 r d) = M (128 * t + r) d := by
  have ht : t.val < 8 := t.isLt
  have E : iblk (F := Ideal) m c 2 t (ix2 r d) = V (F := Ideal) m c main_arg2 (ix2 ⟨128 * t + r, by omega⟩ d) := by
    blk_ext [iblk, idx_val t]
  rw [E, V_main_arg2, R.m]

/-- A block of the second moment. -/
theorem blk3 (t : Fin cfg0.N) (r : Fin 128) (d : Fin 499) : iblk (F := Ideal) m c 3 t (ix2 r d) = U (128 * t + r) d := by
  have ht : t.val < 8 := t.isLt
  have E : iblk (F := Ideal) m c 3 t (ix2 r d) = V (F := Ideal) m c main_arg3 (ix2 ⟨128 * t + r, by omega⟩ d) := by
    blk_ext [iblk, idx_val t]
  rw [E, V_main_arg3, R.v]

/-- The gradient's entry of one grid point. -/
theorem grad_blk (t : Fin cfg0.N) (w m' v : Vec Ideal S128x499 .f32) (r : Fin 128) (d : Fin 499) :
    k0_pay5 (F := Ideal) (iblk m c 0 t) w m' v (ix2 r d) = total fun k => P k (128 * t + r) d :=
  grad_at _ w m' v (fun k => P k (128 * t + r) d) r d fun k => blk0 R t k r d

/-- The kernel's first result: the gradient. -/
theorem final4 : (dats (F := Ideal) m 0 c).arrAt 4 cfg0.N = fun y : S1024x499.Idx => total fun k => P k (y 0) (y 1) := by
  refine (dats (F := Ideal) m 0 c).arrAt_eq_of_covers 4 _ (by decide +kernel) fun t hf y => ?_
  have ht : t.val < 8 := t.isLt
  blk_simp
  rw [after0_4]
  idx_vars y
  unfold out0_4
  refine (congrFun (View.canon_cons_unit_lit _ _ _ (by decide)) (ix2 y0 y1)).trans ?_
  refine (grad_blk R t (iblk m c 1 t) (iblk m c 2 t) (iblk m c 3 t) y0 y1).trans ?_
  blk_simp [idx_val t]
  rw [show t.val * 128 + y0.val = 128 * t.val + y0.val by omega]

/-- The kernel's second result: the weight's change. -/
theorem final5 : (dats (F := Ideal) m 0 c).arrAt 5 cfg0.N
    = fun y : S1024x499.Idx => delta (total fun k => P k (y 0) (y 1)) (W (y 0) (y 1)) (M (y 0) (y 1)) (U (y 0) (y 1)) := by
  refine (dats (F := Ideal) m 0 c).arrAt_eq_of_covers 5 _ (by decide +kernel) fun t hf y => ?_
  have ht : t.val < 8 := t.isLt
  blk_simp
  rw [after0_5]
  idx_vars y
  unfold out0_5
  refine (congrFun (View.canon_cons_unit_lit _ _ _ (by decide)) (ix2 y0 y1)).trans ?_
  rw [delta_at, show ∀ X : Vec Ideal S128x499 .f32, View.ld X r0_8 = X from fun X => View.ld_unit_lit _ X (by decide), grad_blk R,
    show ∀ X : Vec Ideal S128x499 .f32, View.ld X r0_8 = X from fun X => View.ld_unit_lit _ X (by decide),
    show ∀ X : Vec Ideal S128x499 .f32, View.ld X r0_8 = X from fun X => View.ld_unit_lit _ X (by decide), blk1 R, blk2 R, blk3 R]
  blk_simp [idx_val t]
  rw [show t.val * 128 + y0.val = 128 * t.val + y0.val by omega]

/-- The kernel's third result: the new first moment. -/
theorem final6 : (dats (F := Ideal) m 0 c).arrAt 6 cfg0.N
    = fun y : S1024x499.Idx => mom (total fun k => P k (y 0) (y 1)) (M (y 0) (y 1)) := by
  refine (dats (F := Ideal) m 0 c).arrAt_eq_of_covers 6 _ (by decide +kernel) fun t hf y => ?_
  have ht : t.val < 8 := t.isLt
  blk_simp
  rw [after0_6]
  idx_vars y
  unfold out0_6
  refine (congrFun (View.canon_cons_unit_lit _ _ _ (by decide)) (ix2 y0 y1)).trans ?_
  rw [mom_at, show ∀ X : Vec Ideal S128x499 .f32, View.ld X r0_8 = X from fun X => View.ld_unit_lit _ X (by decide), grad_blk R, blk2 R]
  blk_simp [idx_val t]
  rw [show t.val * 128 + y0.val = 128 * t.val + y0.val by omega]

/-- The kernel's fourth result: the new second moment. -/
theorem final7 : (dats (F := Ideal) m 0 c).arrAt 7 cfg0.N
    = fun y : S1024x499.Idx => vel (total fun k => P k (y 0) (y 1)) (U (y 0) (y 1)) := by
  refine (dats (F := Ideal) m 0 c).arrAt_eq_of_covers 7 _ (by decide +kernel) fun t hf y => ?_
  have ht : t.val < 8 := t.isLt
  blk_simp
  rw [after0_7]
  idx_vars y
  unfold out0_7
  refine (congrFun (View.canon_cons_unit_lit _ _ _ (by decide)) (ix2 y0 y1)).trans ?_
  rw [vel_at, show ∀ X : Vec Ideal S128x499 .f32, View.ld X r0_8 = X from fun X => View.ld_unit_lit _ X (by decide), grad_blk R, blk3 R]
  blk_simp [idx_val t]
  rw [show t.val * 128 + y0.val = 128 * t.val + y0.val by omega]

end Cert.Adam.Win

end
-- ==== Proof.WinClaim.lean ====
/-
  The claims about the optimiser's step on the input projection: the reference at an index, its frame and the equality of the two
  programs over the extended reals.
-/
module

public import proofs.«01_k».proof.Defs
public import proofs.«01_k».proof.Proof.WinK
public import proofs.«01_k».proof.Proof.Entry
public import proofs.«01_k».proof.Proof.Gen.WinKernelIdeal
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import Idealize.ShloMosaic.Adequacy
public import Idealize.ShloMosaic.Init

@[expose] public section

set_option maxRecDepth 16384

noncomputable section

namespace Cert.Adam.Win

open Idealize.ShloMosaic Idealize.ShloMosaic.TcCoe Idealize.SL.Sem Cert.Entry

section Reference

open Cert.WinReferenceIdeal Cert.WinReferenceIdeal.Read

/-- The reference's gradient is the sum of the devices' parts. -/
theorem ref_grad (x0 : Vec Ideal S8x1024x499 .f32) (n : Fin 1024) (d : Fin 499) :
    val_main_v0 (F := Ideal) x0 (ix2 n d) = total fun k => at3 x0 k n d := by
  pointwise [val_main_v0, val_main_cst, at3_eq]
  exact sum_eq_total fun k => at3 x0 k n d

variable (x0 : Vec Ideal S8x1024x499 .f32) (x1 x2 x3 : Vec Ideal S1024x499 .f32)

theorem ref_delta (n : Fin 1024) (d : Fin 499) : val_main_v24 (F := Ideal) x0 x1 x2 x3 (ix2 n d)
    = delta (total fun k => at3 x0 k n d) (at2 x1 n d) (at2 x2 n d) (at2 x3 n d) := by
  rw [← ref_grad, ← at2_eq x1, ← at2_eq x2, ← at2_eq x3]
  rfl

theorem ref_mom (n : Fin 1024) (d : Fin 499) :
    val_main_v5 (F := Ideal) x0 x2 (ix2 n d) = mom (total fun k => at3 x0 k n d) (at2 x2 n d) := by
  rw [← ref_grad, ← at2_eq x2]
  rfl

theorem ref_vel (n : Fin 1024) (d : Fin 499) :
    val_main_v11 (F := Ideal) x0 x3 (ix2 n d) = vel (total fun k => at3 x0 k n d) (at2 x3 n d) := by
  rw [← ref_grad, ← at2_eq x3]
  rfl

end Reference

/-- The reference runs, leaves its arguments as they are, and every counter ends at zero. -/
theorem frame_reference : quiescent_WinReferenceIdeal := fun m ρ _ =>
  (θ_run Cert.WinReferenceIdeal.defs _ _).mono
    (fun r h => ⟨fun c => (h c).2.2.2.2, sem_eq_zero_of_no_sems (by decide) r.2⟩)
    (Cert.WinReferenceIdeal.Value.run (F := Ideal) m ρ)

section Value

open Cert.WinKernelIdeal

/-- Over the extended reals the kernel computes the summed gradient, the weight's change and the new moments. -/
theorem value : algebraic_WinKernelIdeal_WinReferenceIdeal := by
  intro m ρ m' ρ' _ hagree
  have R (c : Dev nD) : Entries _ _ _ _ _ _ _ _ := ⟨at3_eq (m ((c.tc : Thread nD τ).loc main_arg0)), at2_eq (m ((c.tc : Thread nD τ).loc main_arg1)),
    at2_eq (m ((c.tc : Thread nD τ).loc main_arg2)), at2_eq (m ((c.tc : Thread nD τ).loc main_arg3))⟩
  refine ⟨_, _, _, _, (θ_run Cert.WinKernelIdeal.defs _ _).mono
    (fun r h c => ⟨(h c).1.trans (final4 (R c)), (h c).2.1.trans (final5 (R c)), (h c).2.2.1.trans (final6 (R c)),
      (h c).2.2.2.1.trans (final7 (R c)), (h c).2.2.2.2⟩)
    (Cert.WinKernelIdeal.Value.run_blocks (F := Ideal) m ρ), ?_⟩
  refine (θ_run Cert.WinReferenceIdeal.defs _ _).mono (fun r h c => ?_) (Cert.WinReferenceIdeal.Value.run (F := Ideal) m' ρ')
  obtain ⟨e0, e1, e2, e3⟩ := hagree c
  refine ⟨(h c).1.trans ((Cert.WinReferenceIdeal.Read.val_main_v0_eq _).trans ?_),
    (h c).2.1.trans ((Cert.WinReferenceIdeal.Read.val_main_v24_eq _ _ _ _).trans ?_),
    (h c).2.2.1.trans ((Cert.WinReferenceIdeal.Read.val_main_v5_eq _ _).trans ?_),
    (h c).2.2.2.1.trans ((Cert.WinReferenceIdeal.Read.val_main_v11_eq _ _).trans ?_), (h c).2.2.2.2⟩
  · rw [e0]
    funext y
    idx_vars y
    exact ref_grad _ _ _
  · rw [e0, e1, e2, e3]
    funext y
    idx_vars y
    exact ref_delta _ _ _ _ _ _
  · rw [e0, e2]
    funext y
    idx_vars y
    exact ref_mom _ _ _ _
  · rw [e0, e3]
    funext y
    idx_vars y
    exact ref_vel _ _ _ _

end Value

end Cert.Adam.Win

end
-- ==== Proof.WoutK.lean ====
/-
  The optimiser's step on the output projection: the blocks of each grid point and the four result arrays.
-/
module

public import proofs.«01_k».proof.Proof.Adam
public import proofs.«01_k».proof.Proof.Gen.WoutKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Adam.Wout

open Idealize.ShloMosaic Idealize.ShloMosaic.TcCoe Cert.WoutKernelIdeal Cert.WoutKernelIdeal.Gen

/-- One device's part of a block. -/
theorem part_ld (B : Vec Ideal S8x128x1024 .bf16) (k : ℕ) (hk : k < 8) (h : ∀ a, (![k, 0, 0] : Fin 3 → ℕ) a + ![1, 128, 1024] a ≤ S8x128x1024.size a)
    (r : Fin 128) (d : Fin 1024) : View.ld B (Rect.unit (s := S8x128x1024) ![k, 0, 0] ![1, 128, 1024] h) (ix3 0 r d) = B (ix3 ⟨k, hk⟩ r d) := by
  refine congrArg B (funext fun a => Fin.ext ?_)
  match a with
  | ⟨0, _⟩ => exact Nat.add_zero k
  | ⟨1, _⟩ => exact (Nat.zero_add _).trans (Nat.one_mul _)
  | ⟨2, _⟩ => exact (Nat.zero_add _).trans (Nat.one_mul _)

/-- The gradient's entry of a block. -/
theorem grad_at (B : Vec Ideal S8x128x1024 .bf16) (w m v : Vec Ideal S128x1024 .f32) (p : ℕ → EReal) (r : Fin 128) (d : Fin 1024)
    (hp : ∀ k : Fin 8, B (ix3 k r d) = p k) : k0_pay5 (F := Ideal) B w m v (ix2 r d) = total p := by
  pointwise [k0_pay5, k0_pay4, part_ld, hp]
  rfl

theorem mom_at (g m : FVec Ideal S128x1024 .f32) (y : S128x1024.Idx) : k0_pay1 (F := Ideal) g m y = mom (g y) (m y) := rfl

theorem vel_at (g v : FVec Ideal S128x1024 .f32) (y : S128x1024.Idx) : k0_pay2 (F := Ideal) g v y = vel (g y) (v y) := rfl

theorem delta_at (g w m v : FVec Ideal S128x1024 .f32) (y : S128x1024.Idx) :
    k0_pay3 (F := Ideal) g w m v y = delta (g y) (w y) (m y) (v y) := rfl

/-- The windows' block indices at each grid point. -/
theorem idx_val : ∀ t : Fin cfg0.N, win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Every entry of the four arguments is the number that the functions give at its place. -/
structure Entries (a0 : Vec Ideal S8x128x1024 .f32) (a1 a2 a3 : Vec Ideal S128x1024 .f32) (P : ℕ → ℕ → ℕ → EReal) (W M V : ℕ → ℕ → EReal) :
    Prop where
  p : ∀ k n d, a0 (ix3 k n d) = P k n d
  w : ∀ n d, a1 (ix2 n d) = W n d
  m : ∀ n d, a2 (ix2 n d) = M n d
  v : ∀ n d, a3 (ix2 n d) = V n d

variable {m : (ℓ : Loc nD τ sig) → Buf (Elt Ideal) ℓ} {c : Dev nD} {P : ℕ → ℕ → ℕ → EReal} {W M U : ℕ → ℕ → EReal}
  (R : Entries (m ((c : Thread nD τ).loc main_arg0)) (m ((c : Thread nD τ).loc main_arg1)) (m ((c : Thread nD τ).loc main_arg2))
    (m ((c : Thread nD τ).loc main_arg3)) P W M U)
include R

/-- A block of the devices' parts. -/
theorem blk0 (t : Fin cfg0.N) (k : Fin 8) (r : Fin 128) (d : Fin 1024) : iblk (F := Ideal) m c 0 t (ix3 k r d) = P k (128 * t + r) d := by
  have ht : t.val < 1 := t.isLt
  have E : iblk (F := Ideal) m c 0 t (ix3 k r d) = V (F := Ideal) m c main_v0 (ix3 k ⟨128 * t + r, by omega⟩ d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.p]

/-- A block of the weight. -/
theorem blk1 (t : Fin cfg0.N) (r : Fin 128) (d : Fin 1024) : iblk (F := Ideal) m c 1 t (ix2 r d) = W (128 * t + r) d := by
  have ht : t.val < 1 := t.isLt
  have E : iblk (F := Ideal) m c 1 t (ix2 r d) = V (F := Ideal) m c main_arg1 (ix2 ⟨128 * t + r, by omega⟩ d) := by
    blk_ext [iblk, idx_val t]
  rw [E, V_main_arg1, R.w]

/-- A block of the first moment. -/
theorem blk2 (t : Fin cfg0.N) (r : Fin 128) (d : Fin 1024) : iblk (F := Ideal) m c 2 t (ix2 r d) = M (128 * t + r) d := by
  have ht : t.val < 1 := t.isLt
  have E : iblk (F := Ideal) m c 2 t (ix2 r d) = V (F := Ideal) m c main_arg2 (ix2 ⟨128 * t + r, by omega⟩ d) := by
    blk_ext [iblk, idx_val t]
  rw [E, V_main_arg2, R.m]

/-- A block of the second moment. -/
theorem blk3 (t : Fin cfg0.N) (r : Fin 128) (d : Fin 1024) : iblk (F := Ideal) m c 3 t (ix2 r d) = U (128 * t + r) d := by
  have ht : t.val < 1 := t.isLt
  have E : iblk (F := Ideal) m c 3 t (ix2 r d) = V (F := Ideal) m c main_arg3 (ix2 ⟨128 * t + r, by omega⟩ d) := by
    blk_ext [iblk, idx_val t]
  rw [E, V_main_arg3, R.v]

/-- The gradient's entry of one grid point. -/
theorem grad_blk (t : Fin cfg0.N) (w m' v : Vec Ideal S128x1024 .f32) (r : Fin 128) (d : Fin 1024) :
    k0_pay5 (F := Ideal) (iblk m c 0 t) w m' v (ix2 r d) = total fun k => P k (128 * t + r) d :=
  grad_at _ w m' v (fun k => P k (128 * t + r) d) r d fun k => blk0 R t k r d

/-- The kernel's first result: the gradient. -/
theorem final4 : (dats (F := Ideal) m 0 c).arrAt 4 cfg0.N = fun y : S128x1024.Idx => total fun k => P k (y 0) (y 1) := by
  refine (dats (F := Ideal) m 0 c).arrAt_eq_of_covers 4 _ (by decide +kernel) fun t hf y => ?_
  have ht : t.val < 1 := t.isLt
  blk_simp
  rw [after0_4]
  idx_vars y
  unfold out0_4
  refine (congrFun (View.canon_cons_unit_lit _ _ _ (by decide)) (ix2 y0 y1)).trans ?_
  refine (grad_blk R t (iblk m c 1 t) (iblk m c 2 t) (iblk m c 3 t) y0 y1).trans ?_
  blk_simp [idx_val t]
  rw [Nat.mul_zero, Nat.zero_add]

/-- The kernel's second result: the weight's change. -/
theorem final5 : (dats (F := Ideal) m 0 c).arrAt 5 cfg0.N
    = fun y : S128x1024.Idx => delta (total fun k => P k (y 0) (y 1)) (W (y 0) (y 1)) (M (y 0) (y 1)) (U (y 0) (y 1)) := by
  refine (dats (F := Ideal) m 0 c).arrAt_eq_of_covers 5 _ (by decide +kernel) fun t hf y => ?_
  have ht : t.val < 1 := t.isLt
  blk_simp
  rw [after0_5]
  idx_vars y
  unfold out0_5
  refine (congrFun (View.canon_cons_unit_lit _ _ _ (by decide)) (ix2 y0 y1)).trans ?_
  rw [delta_at, show ∀ X : Vec Ideal S128x1024 .f32, View.ld X r0_8 = X from fun X => View.ld_unit_lit _ X (by decide), grad_blk R,
    show ∀ X : Vec Ideal S128x1024 .f32, View.ld X r0_8 = X from fun X => View.ld_unit_lit _ X (by decide),
    show ∀ X : Vec Ideal S128x1024 .f32, View.ld X r0_8 = X from fun X => View.ld_unit_lit _ X (by decide), blk1 R, blk2 R, blk3 R]
  blk_simp [idx_val t]
  rw [Nat.mul_zero, Nat.zero_add]

/-- The kernel's third result: the new first moment. -/
theorem final6 : (dats (F := Ideal) m 0 c).arrAt 6 cfg0.N
    = fun y : S128x1024.Idx => mom (total fun k => P k (y 0) (y 1)) (M (y 0) (y 1)) := by
  refine (dats (F := Ideal) m 0 c).arrAt_eq_of_covers 6 _ (by decide +kernel) fun t hf y => ?_
  have ht : t.val < 1 := t.isLt
  blk_simp
  rw [after0_6]
  idx_vars y
  unfold out0_6
  refine (congrFun (View.canon_cons_unit_lit _ _ _ (by decide)) (ix2 y0 y1)).trans ?_
  rw [mom_at, show ∀ X : Vec Ideal S128x1024 .f32, View.ld X r0_8 = X from fun X => View.ld_unit_lit _ X (by decide), grad_blk R, blk2 R]
  blk_simp [idx_val t]
  rw [Nat.mul_zero, Nat.zero_add]

/-- The kernel's fourth result: the new second moment. -/
theorem final7 : (dats (F := Ideal) m 0 c).arrAt 7 cfg0.N
    = fun y : S128x1024.Idx => vel (total fun k => P k (y 0) (y 1)) (U (y 0) (y 1)) := by
  refine (dats (F := Ideal) m 0 c).arrAt_eq_of_covers 7 _ (by decide +kernel) fun t hf y => ?_
  have ht : t.val < 1 := t.isLt
  blk_simp
  rw [after0_7]
  idx_vars y
  unfold out0_7
  refine (congrFun (View.canon_cons_unit_lit _ _ _ (by decide)) (ix2 y0 y1)).trans ?_
  rw [vel_at, show ∀ X : Vec Ideal S128x1024 .f32, View.ld X r0_8 = X from fun X => View.ld_unit_lit _ X (by decide), grad_blk R, blk3 R]
  blk_simp [idx_val t]
  rw [Nat.mul_zero, Nat.zero_add]

end Cert.Adam.Wout

end
-- ==== Proof.WoutClaim.lean ====
/-
  The claims about the optimiser's step on the output projection: the reference at an index, its frame and the equality of the two
  programs over the extended reals.
-/
module

public import proofs.«01_k».proof.Defs
public import proofs.«01_k».proof.Proof.WoutK
public import proofs.«01_k».proof.Proof.Entry
public import proofs.«01_k».proof.Proof.Gen.WoutKernelIdeal
public import proofs.«01_k».proof.Proof.Gen.WoutKernelIdeal.Value
public import proofs.«01_k».proof.Proof.Gen.WoutReferenceIdeal
public import proofs.«01_k».proof.Proof.Gen.WoutReferenceIdeal.Run
public import proofs.«01_k».proof.Proof.Gen.WoutReferenceIdeal.Read
public import Idealize.ShloMosaic.Adequacy
public import Idealize.ShloMosaic.Init

@[expose] public section

set_option maxRecDepth 16384

noncomputable section

namespace Cert.Adam.Wout

open Idealize.ShloMosaic Idealize.ShloMosaic.TcCoe Idealize.SL.Sem Cert.Entry

section Reference

open Cert.WoutReferenceIdeal Cert.WoutReferenceIdeal.Read

/-- The reference's gradient is the sum of the devices' parts. -/
theorem ref_grad (x0 : Vec Ideal S8x128x1024 .f32) (n : Fin 128) (d : Fin 1024) :
    val_main_v0 (F := Ideal) x0 (ix2 n d) = total fun k => at3 x0 k n d := by
  pointwise [val_main_v0, val_main_cst, at3_eq]
  exact sum_eq_total fun k => at3 x0 k n d

variable (x0 : Vec Ideal S8x128x1024 .f32) (x1 x2 x3 : Vec Ideal S128x1024 .f32)

theorem ref_delta (n : Fin 128) (d : Fin 1024) : val_main_v24 (F := Ideal) x0 x1 x2 x3 (ix2 n d)
    = delta (total fun k => at3 x0 k n d) (at2 x1 n d) (at2 x2 n d) (at2 x3 n d) := by
  rw [← ref_grad, ← at2_eq x1, ← at2_eq x2, ← at2_eq x3]
  rfl

theorem ref_mom (n : Fin 128) (d : Fin 1024) :
    val_main_v5 (F := Ideal) x0 x2 (ix2 n d) = mom (total fun k => at3 x0 k n d) (at2 x2 n d) := by
  rw [← ref_grad, ← at2_eq x2]
  rfl

theorem ref_vel (n : Fin 128) (d : Fin 1024) :
    val_main_v11 (F := Ideal) x0 x3 (ix2 n d) = vel (total fun k => at3 x0 k n d) (at2 x3 n d) := by
  rw [← ref_grad, ← at2_eq x3]
  rfl

end Reference

/-- The reference runs, leaves its arguments as they are, and every counter ends at zero. -/
theorem frame_reference : quiescent_WoutReferenceIdeal := fun m ρ _ =>
  (θ_run Cert.WoutReferenceIdeal.defs _ _).mono
    (fun r h => ⟨fun c => (h c).2.2.2.2, sem_eq_zero_of_no_sems (by decide) r.2⟩)
    (Cert.WoutReferenceIdeal.Value.run (F := Ideal) m ρ)

section Value

open Cert.WoutKernelIdeal

/-- Over the extended reals the kernel computes the summed gradient, the weight's change and the new moments. -/
theorem value : algebraic_WoutKernelIdeal_WoutReferenceIdeal := by
  intro m ρ m' ρ' _ hagree
  have R (c : Dev nD) : Entries _ _ _ _ _ _ _ _ := ⟨at3_eq (m ((c.tc : Thread nD τ).loc main_arg0)), at2_eq (m ((c.tc : Thread nD τ).loc main_arg1)),
    at2_eq (m ((c.tc : Thread nD τ).loc main_arg2)), at2_eq (m ((c.tc : Thread nD τ).loc main_arg3))⟩
  refine ⟨_, _, _, _, (θ_run Cert.WoutKernelIdeal.defs _ _).mono
    (fun r h c => ⟨(h c).1.trans (final4 (R c)), (h c).2.1.trans (final5 (R c)), (h c).2.2.1.trans (final6 (R c)),
      (h c).2.2.2.1.trans (final7 (R c)), (h c).2.2.2.2⟩)
    (Cert.WoutKernelIdeal.Value.run_blocks (F := Ideal) m ρ), ?_⟩
  refine (θ_run Cert.WoutReferenceIdeal.defs _ _).mono (fun r h c => ?_) (Cert.WoutReferenceIdeal.Value.run (F := Ideal) m' ρ')
  obtain ⟨e0, e1, e2, e3⟩ := hagree c
  refine ⟨(h c).1.trans ((Cert.WoutReferenceIdeal.Read.val_main_v0_eq _).trans ?_),
    (h c).2.1.trans ((Cert.WoutReferenceIdeal.Read.val_main_v24_eq _ _ _ _).trans ?_),
    (h c).2.2.1.trans ((Cert.WoutReferenceIdeal.Read.val_main_v5_eq _ _).trans ?_),
    (h c).2.2.2.1.trans ((Cert.WoutReferenceIdeal.Read.val_main_v11_eq _ _).trans ?_), (h c).2.2.2.2⟩
  · rw [e0]
    funext y
    idx_vars y
    exact ref_grad _ _ _
  · rw [e0, e1, e2, e3]
    funext y
    idx_vars y
    exact ref_delta _ _ _ _ _ _
  · rw [e0, e2]
    funext y
    idx_vars y
    exact ref_mom _ _ _ _
  · rw [e0, e3]
    funext y
    idx_vars y
    exact ref_vel _ _ _ _

end Value

end Cert.Adam.Wout

end
-- ==== Proof.RestClaim.lean ====
/-
  The claims about the optimiser's step on the small weights: the reference's frame and the equality of the two programs over the
  extended reals.
-/
module

public import proofs.«01_k».proof.Defs
public import proofs.«01_k».proof.Proof.Gen.RestKernelIdeal
public import proofs.«01_k».proof.Proof.Gen.RestKernelIdeal.Value
public import proofs.«01_k».proof.Proof.Gen.RestReferenceIdeal
public import proofs.«01_k».proof.Proof.Gen.RestReferenceIdeal.Run
public import proofs.«01_k».proof.Proof.Gen.RestReferenceIdeal.Read
public import Idealize.ShloMosaic.Adequacy
public import Idealize.ShloMosaic.Init

@[expose] public section

set_option maxRecDepth 16384

noncomputable section

namespace Cert.Adam.Rest

open Idealize.ShloMosaic Idealize.ShloMosaic.TcCoe Idealize.SL.Sem

/-- The reference runs, leaves its arguments as they are, and every counter ends at zero. -/
theorem frame_reference : quiescent_RestReferenceIdeal := fun m ρ _ =>
  (θ_run Cert.RestReferenceIdeal.defs _ _).mono
    (fun r h => ⟨fun c => (h c).2.2.2, sem_eq_zero_of_no_sems (by decide) r.2⟩)
    (Cert.RestReferenceIdeal.Value.run (F := Ideal) m ρ)

/-- Over the extended reals the kernel computes the weights' changes and the new moments of the optimiser's step. -/
theorem value : algebraic_RestKernelIdeal_RestReferenceIdeal := by
  intro m ρ m' ρ' _ hagree
  refine ⟨_, _, _, Cert.RestKernelIdeal.Value.run (F := Ideal) m ρ, ?_⟩
  refine (θ_run Cert.RestReferenceIdeal.defs _ _).mono (fun r h c => ?_) (Cert.RestReferenceIdeal.Value.run (F := Ideal) m' ρ')
  obtain ⟨e0, e1, e2, e3⟩ := hagree c
  refine ⟨(h c).1.trans ?_, (h c).2.1.trans ?_, (h c).2.2.1.trans ?_, (h c).2.2.2⟩
  · rw [e0, e1, e2, e3]
    rfl
  · rw [e1, e2]
    rfl
  · rw [e1, e3]
    rfl

end Cert.Adam.Rest

end
-- ==== Proof.Loss.lean ====
/-
  The loss and its gradient in the last layer's residual stream: half the sum over the rows of the mean of the squares, as the kernel
  adds it up and as the reference states it.
-/
module

public import proofs.«01_k».proof.Proof.OprojK

@[expose] public section

noncomputable section

namespace Cert.Head

open Idealize.ShloMosaic

/-- The distance of the last layer's residual stream from the target. -/
def err (Y W X : ℕ → ℕ → EReal) (u : ℕ → EReal) (T : ℕ → ℕ → EReal) (n d : ℕ) : EReal := Cert.OutP.next Y W X u n d - T n d

/-- The sum of a row's squares. -/
def sq (e : ℕ → EReal) : EReal := ∑ d : Fin 1024, e d * e d

/-- A sum of squares as a part of the loss. -/
def weigh (s : EReal) : EReal := s * Ideal.ofBits .f32 0x3A000000#32

/-- An entry's part in the gradient. -/
def slope (e : EReal) : EReal := e * Ideal.ofBits .f32 0x3A800000#32

/-- The loss. -/
def loss (Y W X : ℕ → ℕ → EReal) (u : ℕ → EReal) (T : ℕ → ℕ → EReal) : EReal := weigh (∑ n : Fin 4096, sq (err Y W X u T n))

theorem sq_nonneg (e : ℕ → EReal) : 0 ≤ sq e := Finset.sum_nonneg fun _ _ => Cert.NormAny.self_nonneg _

theorem weigh_add {a b : EReal} (ha : 0 ≤ a) (hb : 0 ≤ b) : weigh (a + b) = weigh a + weigh b :=
  EReal.right_distrib_of_nonneg ha hb

/-- A sum of nonnegative numbers times a number. -/
theorem sum_mul {ι : Type} (s : Finset ι) (f : ι → EReal) (hf : ∀ i, 0 ≤ f i) (c : EReal) : (∑ i ∈ s, f i) * c = ∑ i ∈ s, f i * c := by
  classical
  induction s using Finset.induction_on with
  | empty => simp
  | insert i s hi ih =>
    rw [Finset.sum_insert hi, Finset.sum_insert hi, EReal.right_distrib_of_nonneg (hf i) (Finset.sum_nonneg fun j _ => hf j), ih]

theorem word_tick : Ideal.ofBits .f32 0x3A000000#32 = ((1 / 2048 : ℝ) : EReal) := by
  unfold Ideal.ofBits Ideal.ieee
  simp [-EReal.coe_mul, -EReal.coe_neg]
  norm_num

theorem word_share : Ideal.ofBits .f32 0x3A800000#32 = ((1 / 1024 : ℝ) : EReal) := by
  unfold Ideal.ofBits Ideal.ieee
  simp [-EReal.coe_mul, -EReal.coe_neg]
  norm_num

theorem word_half : Ideal.ofBits .f32 0x3F000000#32 = ((1 / 2 : ℝ) : EReal) := by
  unfold Ideal.ofBits Ideal.ieee
  simp [-EReal.coe_mul, -EReal.coe_neg]
  norm_num

theorem word_two : Ideal.ofBits .f32 0x40000000#32 = ((2 : ℝ) : EReal) := by
  unfold Ideal.ofBits Ideal.ieee
  simp [-EReal.coe_mul, -EReal.coe_neg]
  norm_num

/-- The gradient as the chain rule arranges it. -/
theorem slope_eq (e : EReal) : Ideal.div (Ideal.ofBits .f32 0x3F000000#32) (Ideal.ofBits .f32 0x44800000#32)
    * (Ideal.ofBits .f32 0x40000000#32 * e) = slope e := by
  rw [slope, Cert.NormAny.div_width, word_half, word_two, word_share, ← mul_assoc, ← EReal.coe_mul, ← EReal.coe_mul,
    mul_comm e]
  norm_num

/-- The loss as half the sum of the rows' means. -/
theorem half_means {ι : Type} (s : Finset ι) (f : ι → EReal) (hf : ∀ i, 0 ≤ f i) :
    Ideal.ofBits .f32 0x3F000000#32 * ∑ i ∈ s, Ideal.div (f i) (Ideal.ofBits .f32 0x44800000#32) = weigh (∑ i ∈ s, f i) := by
  simp only [Cert.NormAny.div_width]
  rw [← sum_mul s f hf, weigh, word_half, word_tick, mul_comm, mul_assoc, ← EReal.coe_mul]
  norm_num

end Cert.Head

end
-- ==== Proof.HeadK.lean ====
/-
  The last layer's output projection with the loss: the entry arrays, the rows of each grid point and the three result arrays.
-/
module

public import proofs.«01_k».proof.Proof.Loss
public import proofs.«01_k».proof.Proof.Gen.HeadKernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Head.K

open Idealize.ShloMosaic Idealize.ShloMosaic.TcCoe Idealize.SL.Sem Cert.HeadKernelIdeal Cert.HeadKernelIdeal.Gen
open Idealize.ShloMosaic.Pipeline (Dat)
open Cert.Out.OutK (pick wide cat group_ld inb)
open Cert.OutP (proj next)

/-- One group of a block. -/
abbrev grp (B : Vec Ideal S4x1024x64 .bf16) (g : ℕ) (h : ∀ a, (![g, 0, 0] : Fin 3 → ℕ) a + (![1, 1024, 64] : Fin 3 → ℕ) a ≤ S4x1024x64.size a) :
    Vec Ideal S1x1024x64 .bf16 := View.ld B (Rect.unit (s := S4x1024x64) ![g, 0, 0] ![1, 1024, 64] h)

/-- The product of one grid point: its rows of the sixteen groups times the weight. -/
def prod (B0 B1 B2 B3 : Vec Ideal S4x1024x64 .bf16) (W : Vec Ideal S1024x1024 .bf16) : FVec Ideal S1024x1024 .f32 :=
  k0_pay15 (F := Ideal) (k0_pay4 (grp B0 0 inb_S4x1024x64_S1x1024x64_0_0_0)) (k0_pay5 (grp B0 1 inb_S4x1024x64_S1x1024x64_1_0_0))
    (k0_pay6 (grp B0 2 inb_S4x1024x64_S1x1024x64_2_0_0)) (k0_pay7 (grp B0 3 inb_S4x1024x64_S1x1024x64_3_0_0))
    (k0_pay8 (grp B1 0 inb_S4x1024x64_S1x1024x64_0_0_0)) (k0_pay9 (grp B1 1 inb_S4x1024x64_S1x1024x64_1_0_0))
    (k0_pay10 (grp B1 2 inb_S4x1024x64_S1x1024x64_2_0_0)) (k0_pay11 (grp B1 3 inb_S4x1024x64_S1x1024x64_3_0_0))
    (k0_pay12 (grp B2 0 inb_S4x1024x64_S1x1024x64_0_0_0)) (k0_pay13 (grp B2 1 inb_S4x1024x64_S1x1024x64_1_0_0))
    (k0_pay14 (grp B2 2 inb_S4x1024x64_S1x1024x64_2_0_0)) (grp B2 3 inb_S4x1024x64_S1x1024x64_3_0_0)
    (grp B3 0 inb_S4x1024x64_S1x1024x64_0_0_0) (grp B3 1 inb_S4x1024x64_S1x1024x64_1_0_0)
    (grp B3 2 inb_S4x1024x64_S1x1024x64_2_0_0) (grp B3 3 inb_S4x1024x64_S1x1024x64_3_0_0) W

/-- The residual stream after the projection. -/
def strm (B0 B1 B2 B3 : Vec Ideal S4x1024x64 .bf16) (W : Vec Ideal S1024x1024 .bf16) (X : Vec Ideal S1024x1024 .f32)
    (u : Vec Ideal S1x1024 .f32) : FVec Ideal S1024x1024 .f32 :=
  k0_pay16 (F := Ideal) (k0_pay4 (grp B0 0 inb_S4x1024x64_S1x1024x64_0_0_0)) (k0_pay5 (grp B0 1 inb_S4x1024x64_S1x1024x64_1_0_0))
    (k0_pay6 (grp B0 2 inb_S4x1024x64_S1x1024x64_2_0_0)) (k0_pay7 (grp B0 3 inb_S4x1024x64_S1x1024x64_3_0_0))
    (k0_pay8 (grp B1 0 inb_S4x1024x64_S1x1024x64_0_0_0)) (k0_pay9 (grp B1 1 inb_S4x1024x64_S1x1024x64_1_0_0))
    (k0_pay10 (grp B1 2 inb_S4x1024x64_S1x1024x64_2_0_0)) (k0_pay11 (grp B1 3 inb_S4x1024x64_S1x1024x64_3_0_0))
    (k0_pay12 (grp B2 0 inb_S4x1024x64_S1x1024x64_0_0_0)) (k0_pay13 (grp B2 1 inb_S4x1024x64_S1x1024x64_1_0_0))
    (k0_pay14 (grp B2 2 inb_S4x1024x64_S1x1024x64_2_0_0)) (grp B2 3 inb_S4x1024x64_S1x1024x64_3_0_0)
    (grp B3 0 inb_S4x1024x64_S1x1024x64_0_0_0) (grp B3 1 inb_S4x1024x64_S1x1024x64_1_0_0)
    (grp B3 2 inb_S4x1024x64_S1x1024x64_2_0_0) (grp B3 3 inb_S4x1024x64_S1x1024x64_3_0_0) W X u

/-- Sixteen pieces of 64 columns times the weight. -/
theorem pay15_at (v : Fin 16 → FVec Ideal S1024x64 .bf16) (v22 v24 v26 v28 v30 : Vec Ideal S1x1024x64 .bf16) (W : Vec Ideal S1024x1024 .bf16)
    (h22 : shapeCast S1024x64 v22 shapeCasts_S1x1024x64_S1024x64 = v 11) (h24 : shapeCast S1024x64 v24 shapeCasts_S1x1024x64_S1024x64 = v 12)
    (h26 : shapeCast S1024x64 v26 shapeCasts_S1x1024x64_S1024x64 = v 13) (h28 : shapeCast S1024x64 v28 shapeCasts_S1x1024x64_S1024x64 = v 14)
    (h30 : shapeCast S1024x64 v30 shapeCasts_S1x1024x64_S1024x64 = v 15) (r d : Fin 1024) :
    k0_pay15 (F := Ideal) (v 0) (v 1) (v 2) (v 3) (v 4) (v 5) (v 6) (v 7) (v 8) (v 9) (v 10) v22 v24 v26 v28 v30 W (ix2 r d)
      = ∑ e : Fin 1024, v ⟨e / 64, by omega⟩ (ix2 r ⟨e % 64, by omega⟩) * W (ix2 e d) := by
  have E : k0_pay15 (F := Ideal) (v 0) (v 1) (v 2) (v 3) (v 4) (v 5) (v 6) (v 7) (v 8) (v 9) (v 10) v22 v24 v26 v28 v30 W
      = matmul (F := Ideal) dot_S1024x1024_S1024x1024_S1024x1024_1_0_0_1_n_n none
        (concatenate S1024x1024 1 [⟨S1024x64, v 0⟩, ⟨S1024x64, v 1⟩, ⟨S1024x64, v 2⟩, ⟨S1024x64, v 3⟩, ⟨S1024x64, v 4⟩, ⟨S1024x64, v 5⟩,
          ⟨S1024x64, v 6⟩, ⟨S1024x64, v 7⟩, ⟨S1024x64, v 8⟩, ⟨S1024x64, v 9⟩, ⟨S1024x64, v 10⟩, ⟨S1024x64, v 11⟩, ⟨S1024x64, v 12⟩,
          ⟨S1024x64, v 13⟩, ⟨S1024x64, v 14⟩, ⟨S1024x64, v 15⟩]
          concatenates_S1024x64_S1024x64_S1024x64_S1024x64_S1024x64_S1024x64_S1024x64_S1024x64_S1024x64_S1024x64_S1024x64_S1024x64_S1024x64_S1024x64_S1024x64_S1024x64_S1024x1024_d1)
        (shapeCast S1024x1024 (W : FVec Ideal S1024x1024 .bf16) shapeCasts_S1024x1024_S1024x1024 : FVec Ideal S1024x1024 .bf16)
        (constant (F := Ideal) S1024x1024 .f32 0x00000000#32) := by
    rw [← h22, ← h24, ← h26, ← h28, ← h30]
    rfl
  rw [E]
  have e1 := cat v r
  generalize concatenate S1024x1024 1 _ _ = C at e1 ⊢
  pointwise [e1]

theorem prod_at (B0 B1 B2 B3 : Vec Ideal S4x1024x64 .bf16) (W : Vec Ideal S1024x1024 .bf16) (r d : Fin 1024) :
    prod B0 B1 B2 B3 W (ix2 r d) = ∑ e : Fin 1024, wide (pick B0 B1 B2 B3) r e * W (ix2 e d) := by
  refine (pay15_at (fun g => shapeCast S1024x64 (View.ld (pick B0 B1 B2 B3 (g / 4)) (Rect.unit (s := S4x1024x64) ![g % 4, 0, 0] ![1, 1024, 64] (inb g)))
    shapeCasts_S1x1024x64_S1024x64) _ _ _ _ _ W rfl rfl rfl rfl rfl r d).trans (Finset.sum_congr rfl fun e _ => congrArg (· * _) ?_)
  refine (group_ld _ ⟨e / 64 % 4, by omega⟩ _ rfl _ _).trans ?_
  unfold wide
  dsimp only
  rw [Nat.div_div_eq_div_mul]

theorem strm_at {B0 B1 B2 B3 : Vec Ideal S4x1024x64 .bf16} {W : Vec Ideal S1024x1024 .bf16} {X : Vec Ideal S1024x1024 .f32}
    {u : Vec Ideal S1x1024 .f32} {r : Fin 1024} {p x g : ℕ → EReal} (hp : ∀ d : Fin 1024, prod B0 B1 B2 B3 W (ix2 r d) = p d)
    (hx : ∀ d : Fin 1024, X (ix2 r d) = x d) (hu : ∀ d : Fin 1024, u (ix2 0 d) = g d) (d : Fin 1024) :
    strm B0 B1 B2 B3 W X u (ix2 r d) = x d + p d * Cert.NormAny.inv p * g d := by
  unfold strm k0_pay16
  unfold prod at hp
  generalize k0_pay15 (F := Ideal) _ _ _ _ _ _ _ _ _ _ _ _ _ _ _ _ _ = P at hp ⊢
  pointwise [hp, hx, hu]
  rfl

/-- The gradient of the loss in a row. -/
theorem pay2_at (X T : FVec Ideal S1024x1024 .f32) (y : S1024x1024.Idx) : k0_pay2 (F := Ideal) X T y = slope (X y - T y) := by
  idx_vars y
  pointwise [k0_pay2, k0_pay1]
  rfl

/-- The running loss. -/
theorem pay3_at {X T : FVec Ideal S1024x1024 .f32} {S : Vec Ideal S1x128 .f32} {x t : ℕ → ℕ → EReal}
    (hX : ∀ r k : Fin 1024, X (ix2 r k) = x r k) (hT : ∀ r k : Fin 1024, T (ix2 r k) = t r k) (l : Fin 128) :
    k0_pay3 (F := Ideal) X T S (ix2 0 l) = S (ix2 0 l) + weigh (∑ r : Fin 1024, sq (fun k => x r k - t r k)) := by
  pointwise [k0_pay3, k0_pay1, hX, hT]
  rfl

variable (m : (ℓ : Loc nD τ sig) → Buf (Elt Ideal) ℓ) (c : Dev nD)

/-- The product of grid point `t`. -/
abbrev prodT (t : Fin cfg0.N) : FVec Ideal S1024x1024 .f32 := prod (iblk (F := Ideal) m c 0 t) (iblk m c 1 t) (iblk m c 2 t) (iblk m c 3 t) (iblk m c 4 t)

/-- The stream of grid point `t`. -/
abbrev strmT (t : Fin cfg0.N) : FVec Ideal S1024x1024 .f32 :=
  strm (iblk (F := Ideal) m c 0 t) (iblk m c 1 t) (iblk m c 2 t) (iblk m c 3 t) (iblk m c 4 t) (iblk m c 5 t) (iblk m c 6 t)

theorem out_at (t : Fin cfg0.N) (y : S1024x1024.Idx) : (outsAt0 (F := Ideal) m c t.val t.isLt).1 y = prodT m c t y := by
  by_cases h : t.val % 4 = 0
  · rw [outsAt0_A m c t h]
    frame_out
    rfl
  · rw [outsAt0_B m c t h]
    frame_out
    rfl

theorem grad_at (t : Fin cfg0.N) (y : S1024x1024.Idx) : (outsAt0 (F := Ideal) m c t.val t.isLt).2.1 y
    = k0_pay2 (strmT m c t) (iblk m c 7 t) y := by
  by_cases h : t.val % 4 = 0
  · rw [outsAt0_A m c t h]
    frame_out
    rfl
  · rw [outsAt0_B m c t h]
    frame_out
    rfl

theorem sum_A (t : Fin cfg0.N) (h : t.val % 4 = 0) (k : Fin 128) : (outsAt0 (F := Ideal) m c t.val t.isLt).2.2 (ix2 0 k)
    = k0_pay3 (strmT m c t) (iblk m c 7 t) (k0_pay17 (F := Ideal)) (ix2 0 k) := by
  rw [outsAt0_A m c t h]
  frame_out
  rfl

theorem sum_B (t : Fin cfg0.N) (h : ¬ t.val % 4 = 0) (k : Fin 128) : (outsAt0 (F := Ideal) m c t.val t.isLt).2.2 (ix2 0 k)
    = k0_pay3 (strmT m c t) (iblk m c 7 t)
        (outsAt0 (F := Ideal) m c (t.val - 1) (Nat.lt_of_le_of_lt (Nat.sub_le _ _) t.isLt)).2.2 (ix2 0 k) := by
  rw [outsAt0_B m c t h]
  frame_out
  rfl

/-- The windows' block indices at each grid point. -/
theorem idx_val : ∀ t : Fin cfg0.N, win0_0.index t = ![0, t.val, 0] ∧ win0_1.index t = ![0, t.val, 0]
    ∧ win0_2.index t = ![0, t.val, 0] ∧ win0_3.index t = ![0, t.val, 0] ∧ win0_4.index t = ![0, 0] ∧ win0_5.index t = ![t.val, 0]
    ∧ win0_6.index t = ![0, 0] ∧ win0_7.index t = ![t.val, 0] ∧ win0_8.index t = ![t.val, 0] ∧ win0_9.index t = ![t.val, 0]
    ∧ win0_10.index t = ![0, 0] :=
  (by decide +kernel : ∀ t : Fin grid0.N, _)

/-- Every entry of the five arguments is the number that the functions give at its row and column. -/
structure Entries (a0 : Vec Ideal S2x2048x1024 .f32) (a1 : Vec Ideal S1024x1024 .f32) (a2 : Vec Ideal S2x2048x1024 .f32)
    (a3 : Vec Ideal S1024 .f32) (a4 : Vec Ideal S2x2048x1024 .f32) (Y W X : ℕ → ℕ → EReal) (u : ℕ → EReal) (T : ℕ → ℕ → EReal) : Prop where
  y : ∀ b t e, a0 (ix3 b t e) = Y (2048 * b + t) e
  w : ∀ e d, a1 (ix2 e d) = W e d
  x : ∀ b t d, a2 (ix3 b t d) = X (2048 * b + t) d
  u : ∀ d, a3 (ix1 d) = u d
  t : ∀ b t d, a4 (ix3 b t d) = T (2048 * b + t) d

variable {m c} {Y W X : ℕ → ℕ → EReal} {u : ℕ → EReal} {T : ℕ → ℕ → EReal}
  (R : Entries (m ((c : Thread nD τ).loc main_arg0)) (m ((c : Thread nD τ).loc main_arg1)) (m ((c : Thread nD τ).loc main_arg2))
    (m ((c : Thread nD τ).loc main_arg3)) (m ((c : Thread nD τ).loc main_arg4)) Y W X u T)
include R

/-- A block of the groups 0 to 3. -/
theorem blk0 (t : Fin cfg0.N) (g : Fin 4) (r : Fin 1024) (l : Fin 64) :
    iblk (F := Ideal) m c 0 t (ix3 g r l) = Y (1024 * t + r) (64 * (0 + g) + l) := by
  have ht : t.val < 4 := t.isLt
  have E : iblk (F := Ideal) m c 0 t (ix3 g r l) = V (F := Ideal) m c main_v4 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 4 to 7. -/
theorem blk1 (t : Fin cfg0.N) (g : Fin 4) (r : Fin 1024) (l : Fin 64) :
    iblk (F := Ideal) m c 1 t (ix3 g r l) = Y (1024 * t + r) (64 * (4 + g) + l) := by
  have ht : t.val < 4 := t.isLt
  have E : iblk (F := Ideal) m c 1 t (ix3 g r l) = V (F := Ideal) m c main_v6 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 8 to 11. -/
theorem blk2 (t : Fin cfg0.N) (g : Fin 4) (r : Fin 1024) (l : Fin 64) :
    iblk (F := Ideal) m c 2 t (ix3 g r l) = Y (1024 * t + r) (64 * (8 + g) + l) := by
  have ht : t.val < 4 := t.isLt
  have E : iblk (F := Ideal) m c 2 t (ix3 g r l) = V (F := Ideal) m c main_v8 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- A block of the groups 12 to 15. -/
theorem blk3 (t : Fin cfg0.N) (g : Fin 4) (r : Fin 1024) (l : Fin 64) :
    iblk (F := Ideal) m c 3 t (ix3 g r l) = Y (1024 * t + r) (64 * (12 + g) + l) := by
  have ht : t.val < 4 := t.isLt
  have E : iblk (F := Ideal) m c 3 t (ix3 g r l) = V (F := Ideal) m c main_v10 (ix3 g ⟨1024 * t + r, by omega⟩ l) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.y]
  simp only [Nat.div_add_mod]
  exact congrArg (Y _) (by omega)

/-- The weight. -/
theorem blk4 (t : Fin cfg0.N) (e d : Fin 1024) : iblk (F := Ideal) m c 4 t (ix2 e d) = W e d := by
  have E : iblk (F := Ideal) m c 4 t (ix2 e d) = V (F := Ideal) m c main_v11 (ix2 e d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.w]

/-- A block of the residual stream. -/
theorem blk5 (t : Fin cfg0.N) (r d : Fin 1024) : iblk (F := Ideal) m c 5 t (ix2 r d) = X (1024 * t + r) d := by
  have ht : t.val < 4 := t.isLt
  have E : iblk (F := Ideal) m c 5 t (ix2 r d) = V (F := Ideal) m c main_v12 (ix2 ⟨1024 * t + r, by omega⟩ d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.x]
  simp only [Nat.div_add_mod]

/-- The norm's weight. -/
theorem blk6 (t : Fin cfg0.N) (d : Fin 1024) : iblk (F := Ideal) m c 6 t (ix2 0 d) = u d := by
  have E : iblk (F := Ideal) m c 6 t (ix2 0 d) = V (F := Ideal) m c main_v13 (ix2 0 d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.u]

theorem wide_blk (t : Fin cfg0.N) (r e : Fin 1024) :
    wide (pick (iblk (F := Ideal) m c 0 t) (iblk m c 1 t) (iblk m c 2 t) (iblk m c 3 t)) r e = Y (1024 * t + r) e := by
  unfold wide
  rcases (by omega : e.val / 256 = 0 ∨ e.val / 256 = 1 ∨ e.val / 256 = 2 ∨ e.val / 256 = 3) with h | h | h | h
  all_goals rw [h]
  · exact (blk0 R t _ r _).trans (congrArg (Y _) (by dsimp only; omega))
  · exact (blk1 R t _ r _).trans (congrArg (Y _) (by dsimp only; omega))
  · exact (blk2 R t _ r _).trans (congrArg (Y _) (by dsimp only; omega))
  · exact (blk3 R t _ r _).trans (congrArg (Y _) (by dsimp only; omega))

/-- A block of the target. -/
theorem blk7 (t : Fin cfg0.N) (r d : Fin 1024) : iblk (F := Ideal) m c 7 t (ix2 r d) = T (1024 * t + r) d := by
  have ht : t.val < 4 := t.isLt
  have E : iblk (F := Ideal) m c 7 t (ix2 r d) = V (F := Ideal) m c main_v14 (ix2 ⟨1024 * t + r, by omega⟩ d) := by
    blk_ext [iblk, idx_val t]
  rw [E]
  simp only [V, hostOps0, List.flatten_cons, List.flatten_nil, List.append_nil, List.cons_append,
      List.nil_append, StableHlo.TRef.binary, StableHlo.TRef.nullary, StableHlo.TRef.unary, StableHlo.TRef.toBuf, StableHlo.TRef.ofBuf, cast_eq]
  after_results_simp
  pointwise [R.t]
  simp only [Nat.div_add_mod]

/-- The product of one grid point is the projection of its rows. -/
theorem proj_value (t : Fin cfg0.N) (r d : Fin 1024) :
    ∑ e : Fin 1024, wide (pick (iblk (F := Ideal) m c 0 t) (iblk m c 1 t) (iblk m c 2 t) (iblk m c 3 t)) r e * iblk (F := Ideal) m c 4 t (ix2 e d)
      = proj Y W (1024 * t + r) d :=
  Finset.sum_congr rfl fun e _ => by rw [wide_blk R, blk4 R]

theorem prodT_at (t : Fin cfg0.N) (r d : Fin 1024) : prodT m c t (ix2 r d) = proj Y W (1024 * t + r) d :=
  (prod_at _ _ _ _ _ r d).trans (proj_value R t r d)

theorem strmT_at (t : Fin cfg0.N) (r d : Fin 1024) : strmT m c t (ix2 r d) = next Y W X u (1024 * t + r) d :=
  strm_at (prodT_at R t r) (blk5 R t r) (blk6 R t) d

/-- The running loss after each point: of the rows met so far. -/
theorem sum_eq : ∀ (n : ℕ) (hn : n < cfg0.N) (k : Fin 128), (outsAt0 (F := Ideal) m c n hn).2.2 (ix2 0 k)
    = weigh (∑ q ∈ Finset.range (1024 * (n + 1)), sq (err Y W X u T q)) := by
  intro n
  induction n with
  | zero =>
    intro hn k
    refine (sum_A m c ⟨0, hn⟩ rfl k).trans ?_
    rw [pay3_at (x := fun r => next Y W X u (1024 * 0 + r)) (t := fun r => T (1024 * 0 + r)) (strmT_at R ⟨0, hn⟩) (blk7 R ⟨0, hn⟩) k]
    have z : k0_pay17 (F := Ideal) (ix2 0 k) = 0 := by
      pointwise [k0_pay17]
    rw [z, zero_add]
    rw [Finset.sum_range]
    simp only [Nat.mul_zero, Nat.zero_add]
    rfl
  | succ n ih =>
    intro hn k
    have ht : n + 1 < 4 := hn
    refine (sum_B m c ⟨n + 1, hn⟩ (by dsimp only; omega) k).trans ?_
    rw [pay3_at (x := fun r => next Y W X u (1024 * (n + 1) + r)) (t := fun r => T (1024 * (n + 1) + r)) (strmT_at R ⟨n + 1, hn⟩)
      (blk7 R ⟨n + 1, hn⟩) k]
    rw [Nat.mul_add 1024 (n + 1) 1, Nat.mul_one, Finset.sum_range_add, weigh_add (Finset.sum_nonneg fun _ _ => sq_nonneg _) (Finset.sum_nonneg fun _ _ => sq_nonneg _)]
    refine congrArg₂ (· + ·) (ih (Nat.lt_of_succ_lt hn) k) ?_
    rw [Finset.sum_range]
    rfl

/-- The kernel's first result. -/
theorem final8 : (dats (F := Ideal) m 0 c).arrAt 8 cfg0.N = fun y : S4096x1024.Idx => proj Y W (y 0) (y 1) := by
  refine (dats (F := Ideal) m 0 c).arrAt_eq_of_covers 8 _ (by decide +kernel) fun t hf y => ?_
  have ht : t.val < 4 := t.isLt
  blk_simp
  rw [after0_8]
  refine (out_at m c t _).trans ?_
  idx_vars y
  refine (prodT_at R t y0 y1).trans ?_
  blk_simp [idx_val t]
  rw [show t.val * 1024 + y0.val = 1024 * t.val + y0.val by omega]

/-- The kernel's second result. -/
theorem final9 : (dats (F := Ideal) m 0 c).arrAt 9 cfg0.N = fun y : S4096x1024.Idx => slope (err Y W X u T (y 0) (y 1)) := by
  refine (dats (F := Ideal) m 0 c).arrAt_eq_of_covers 9 _ (by decide +kernel) fun t hf y => ?_
  have ht : t.val < 4 := t.isLt
  blk_simp
  rw [after0_9]
  refine (grad_at m c t _).trans ?_
  idx_vars y
  refine (pay2_at _ _ _).trans ?_
  rw [strmT_at R t y0 y1, blk7 R t y0 y1]
  blk_simp [idx_val t]
  rw [show t.val * 1024 + y0.val = 1024 * t.val + y0.val by omega]
  rfl

/-- The kernel's third result. -/
theorem final10 : (dats (F := Ideal) m 0 c).arrAt 10 cfg0.N = fun _ : S1x128.Idx => loss Y W X u T := by
  refine (dats (F := Ideal) m 0 c).arrAt_eq_of_after_last 10 t0_3 (by decide +kernel) _ fun y => ?_
  blk_simp
  rw [after0_10]
  idx_vars y
  obtain rfl : y0 = 0 := Subsingleton.elim _ _
  refine (sum_eq R 3 _ _).trans ?_
  unfold loss
  rw [Finset.sum_range]

end Cert.Head.K

end
-- ==== Proof.HeadClaim.lean ====
/-
  The claims about the last layer's output projection with the loss: the reference at an index, its frame and the equality of the two
  programs over the extended reals.
-/
module

public import proofs.«01_k».proof.Defs
public import proofs.«01_k».proof.Proof.HeadK
public import proofs.«01_k».proof.Proof.Entry
public import proofs.«01_k».proof.Proof.Gen.HeadKernelIdeal
public import proofs.«01_k».proof.Proof.Gen.HeadKernelIdeal.Value
public import proofs.«01_k».proof.Proof.Gen.HeadReferenceIdeal
public import proofs.«01_k».proof.Proof.Gen.HeadReferenceIdeal.Run
public import proofs.«01_k».proof.Proof.Gen.HeadReferenceIdeal.Read
public import Idealize.ShloMosaic.Adequacy
public import Idealize.ShloMosaic.Init

@[expose] public section

set_option maxRecDepth 16384

noncomputable section

namespace Cert.Head

open Idealize.ShloMosaic Idealize.ShloMosaic.TcCoe Idealize.SL.Sem Cert.Entry
open Cert.OutP (proj next)

section Reference

open Cert.HeadReferenceIdeal Cert.HeadReferenceIdeal.Read

variable {x0 x2 x4 : Vec Ideal S2x2048x1024 .f32} {x1 : Vec Ideal S1024x1024 .f32} {x3 : Vec Ideal S1024 .f32}
  {Y W X : ℕ → ℕ → EReal} {u : ℕ → EReal} {T : ℕ → ℕ → EReal}
  (hy : ∀ (b : Fin 2) (t : Fin 2048) (k : Fin 1024), x0 (ix3 b t k) = Y (2048 * b + t) k)
  (hw : ∀ e d : Fin 1024, x1 (ix2 e d) = W e d)
  (hx : ∀ (b : Fin 2) (t : Fin 2048) (k : Fin 1024), x2 (ix3 b t k) = X (2048 * b + t) k)
  (hu : ∀ d : Fin 1024, x3 (ix1 d) = u d)
  (ht : ∀ (b : Fin 2) (t : Fin 2048) (k : Fin 1024), x4 (ix3 b t k) = T (2048 * b + t) k)

include hy hw in
/-- The projection of a row. -/
theorem v0 (b : Fin 2) (t : Fin 2048) (d : Fin 1024) : val_main_v0 (F := Ideal) x0 x1 (ix3 b t d) = proj Y W (2048 * b + t) d := by
  pointwise [val_main_v0, hy, hw]
  rfl

include hy hw in
/-- The reference's first result. -/
theorem v30 (n : Fin 4096) (d : Fin 1024) : val_main_v30 (F := Ideal) x0 x1 (ix2 n d) = proj Y W n d := by
  pointwise [val_main_v30, v0 hy hw]
  simp only [Nat.div_add_mod]

include hy hw in
/-- One over the root of the mean square of a projected row. -/
theorem v8 (b : Fin 2) (t : Fin 2048) : val_main_v8 (F := Ideal) x0 x1 (ix3 b t 0) = Cert.NormAny.inv (proj Y W (2048 * b + t)) := by
  pointwise [val_main_v8, val_main_v7, val_main_cst_1, val_main_v6, val_main_v5, val_main_cst_0, val_main_v4, val_main_v3,
    val_main_cst, val_main_v2, val_main_v1, v0 hy hw]
  rfl

include hy hw hx hu ht in
/-- The distance from the target. -/
theorem v15 (b : Fin 2) (t : Fin 2048) (d : Fin 1024) :
    val_main_v15 (F := Ideal) x0 x1 x2 x3 x4 (ix3 b t d) = err Y W X u T (2048 * b + t) d := by
  pointwise [val_main_v15, val_main_v14, val_main_v13, val_main_v12, val_main_v11, val_main_v10, val_main_v9, v8 hy hw, v0 hy hw, hx, hu, ht]
  rfl

include hy hw hx hu ht in
/-- The reference's second result. -/
theorem v31 (n : Fin 4096) (d : Fin 1024) :
    val_main_v31 (F := Ideal) x0 x1 x2 x3 x4 (ix2 n d) = slope (err Y W X u T n d) := by
  pointwise [val_main_v31, val_main_v29, val_main_v28, val_main_v27, val_main_v26, val_main_v25, val_main_v24, val_main_v18, val_main_v17,
    val_main_cst_9, val_main_cst_8, val_main_cst_7, val_main_cst_2, v15 hy hw hx hu ht]
  simp only [Nat.div_add_mod]
  exact slope_eq _

include hy hw hx hu ht in
/-- The mean of a row's squares. -/
theorem v21 (b : Fin 2) (t : Fin 2048) : val_main_v21 (F := Ideal) x0 x1 x2 x3 x4 (ix2 b t)
    = Ideal.div (sq (err Y W X u T (2048 * b + t))) (Ideal.ofBits .f32 0x44800000#32) := by
  pointwise [val_main_v21, val_main_v20, val_main_v19, val_main_v16, val_main_cst_4, val_main_cst_3, v15 hy hw hx hu ht]
  rfl

/-- The rows of the two sequences, one after the other. -/
theorem sum_rows (f : ℕ → EReal) : ∑ j : S2x2048.Idx, f (2048 * (j 0).val + (j 1).val) = ∑ n : Fin 4096, f n := by
  rw [sum_idx2, Fin.sum_univ_two, ← Finset.sum_range (n := 4096), show 4096 = 2048 + 2048 from rfl, Finset.sum_range_add, Finset.sum_range,
    Finset.sum_range]
  refine congrArg₂ (· + ·) (Finset.sum_congr rfl fun t _ => congrArg f ?_) rfl
  exact Nat.zero_add _

include hy hw hx hu ht in
/-- The reference's third result. -/
theorem v32 (i : Fin 1) (l : Fin 128) : val_main_v32 (F := Ideal) x0 x1 x2 x3 x4 (ix2 i l) = loss Y W X u T := by
  rw [val_main_v32_apply, val_main_v23_apply, val_main_v22_apply]
  have e : (∑ j : S2x2048.Idx, val_main_v21 (F := Ideal) x0 x1 x2 x3 x4 j)
      = ∑ j : S2x2048.Idx, Ideal.div (sq (err Y W X u T (2048 * (j 0).val + (j 1).val))) (Ideal.ofBits .f32 0x44800000#32) := by
    refine Finset.sum_congr rfl fun j _ => ?_
    idx_vars j
    exact v21 hy hw hx hu ht _ _
  have z : val_main_cst_5 (F := Ideal) (Shape.Idx.first Cert.HeadReferenceIdeal.Gen.h_S_) = 0 := Ideal.ofBits_zero_f32
  rw [e, z, zero_add]
  refine (half_means Finset.univ (fun j : S2x2048.Idx => sq (err Y W X u T (2048 * (j 0).val + (j 1).val))) fun _ => sq_nonneg _).trans ?_
  rw [sum_rows fun n => sq (err Y W X u T n)]
  rfl

end Reference

/-- The reference runs, leaves its arguments as they are, and every counter ends at zero. -/
theorem frame_reference : quiescent_HeadReferenceIdeal := fun m ρ _ =>
  (θ_run Cert.HeadReferenceIdeal.defs _ _).mono
    (fun r h => ⟨fun c => (h c).2.2.2, sem_eq_zero_of_no_sems (by decide) r.2⟩)
    (Cert.HeadReferenceIdeal.Value.run (F := Ideal) m ρ)

section Value

open Cert.HeadKernelIdeal

/-- Over the extended reals the kernel computes the last layer's output projection, the loss's gradient and the loss. -/
theorem value : algebraic_HeadKernelIdeal_HeadReferenceIdeal := by
  intro m ρ m' ρ' _ hagree
  have R (c : Dev nD) : K.Entries _ _ _ _ _ _ _ _ _ _ := ⟨row_eq (m ((c.tc : Thread nD τ).loc main_arg0)), at2_eq (m ((c.tc : Thread nD τ).loc main_arg1)),
    row_eq (m ((c.tc : Thread nD τ).loc main_arg2)), at1_eq (m ((c.tc : Thread nD τ).loc main_arg3)),
    row_eq (m ((c.tc : Thread nD τ).loc main_arg4))⟩
  refine ⟨_, _, _, (θ_run Cert.HeadKernelIdeal.defs _ _).mono
    (fun r h c => ⟨(h c).1.trans (K.final8 (R c)), (h c).2.1.trans (K.final9 (R c)), (h c).2.2.1.trans (K.final10 (R c)), (h c).2.2.2⟩)
    (Cert.HeadKernelIdeal.Value.run_blocks (F := Ideal) m ρ), ?_⟩
  refine (θ_run Cert.HeadReferenceIdeal.defs _ _).mono (fun r h c => ?_) (Cert.HeadReferenceIdeal.Value.run (F := Ideal) m' ρ')
  obtain ⟨e0, e1, e2, e3, e4⟩ := hagree c
  refine ⟨(h c).1.trans ((Cert.HeadReferenceIdeal.Read.val_main_v30_eq _ _).trans ?_),
    (h c).2.1.trans ((Cert.HeadReferenceIdeal.Read.val_main_v31_eq _ _ _ _ _).trans ?_),
    (h c).2.2.1.trans ((Cert.HeadReferenceIdeal.Read.val_main_v32_eq _ _ _ _ _).trans ?_), (h c).2.2.2⟩
  · rw [e0, e1]
    funext y
    idx_vars y
    exact v30 (row_eq _) (at2_eq _) _ _
  · rw [e0, e1, e2, e3, e4]
    funext y
    idx_vars y
    exact v31 (row_eq _) (at2_eq _) (row_eq _) (at1_eq _) (row_eq _) _ _
  · rw [e0, e1, e2, e3, e4]
    funext y
    idx_vars y
    exact v32 (row_eq _) (at2_eq _) (row_eq _) (at1_eq _) (row_eq _) _ _

end Value

end Cert.Head

end
-- ==== Proof.lean ====
/-
  The proof of the certificate's claims: the short convolution's gradient here, the other calls in their own modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DhKernel
public import proofs.«01_k».proof.Proof.Gen.DhKernel.Skeleton
public import proofs.«01_k».proof.Proof.Gen.DhKernel.Launch
public import proofs.«01_k».proof.Proof.Gen.DhKernel.Points
public import proofs.«01_k».proof.Proof.Gen.DhKernel.Frame
public import proofs.«01_k».proof.Proof.Gen.DhKernelIdeal
public import proofs.«01_k».proof.Proof.Gen.DhKernelIdeal.Skeleton
public import proofs.«01_k».proof.Proof.Gen.DhKernelIdeal.Launch
public import proofs.«01_k».proof.Proof.Gen.DhKernelIdeal.Points
public import proofs.«01_k».proof.Proof.Gen.DhKernelIdeal.Frame
public import proofs.«01_k».proof.Proof.Gen.DhReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DhReferenceIdeal.Run
public import proofs.«01_k».proof.Proof.Gen.DhReferenceIdeal.Read
public import proofs.«01_k».proof.Proof.KArray
public import proofs.«01_k».proof.Proof.RPure
public import proofs.«01_k».proof.Proof.Finite
public import proofs.«01_k».proof.Proof.DhClaim
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.DwReferenceIdeal.Run
public import proofs.«01_k».proof.Proof.Gen.DwReferenceIdeal.Read
public import proofs.«01_k».proof.Proof.DwClaim
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.PostClaim
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutClaim
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvKernelIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.ConvClaim
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Pre_mix_finite
public import proofs.«01_k».proof.Proof.MixClaim
public import proofs.«01_k».proof.Proof.Gen.OprojKernel
public import proofs.«01_k».proof.Proof.Gen.OprojKernel.Skeleton
public import proofs.«01_k».proof.Proof.Gen.OprojKernel.Launch
public import proofs.«01_k».proof.Proof.Gen.OprojKernel.Points
public import proofs.«01_k».proof.Proof.Gen.OprojKernel.Frame
public import proofs.«01_k».proof.Proof.Gen.OprojKernelIdeal
public import proofs.«01_k».proof.Proof.Gen.OprojKernelIdeal.Skeleton
public import proofs.«01_k».proof.Proof.Gen.OprojKernelIdeal.Launch
public import proofs.«01_k».proof.Proof.Gen.OprojKernelIdeal.Points
public import proofs.«01_k».proof.Proof.Gen.OprojKernelIdeal.Frame
public import proofs.«01_k».proof.Proof.Gen.OprojKernelIdeal.Value
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.OprojClaim
public import proofs.«01_k».proof.Proof.Gen.NprojKernel
public import proofs.«01_k».proof.Proof.Gen.NprojKernel.Skeleton
public import proofs.«01_k».proof.Proof.Gen.NprojKernel.Launch
public import proofs.«01_k».proof.Proof.Gen.NprojKernel.Points
public import proofs.«01_k».proof.Proof.Gen.NprojKernel.Frame
public import proofs.«01_k».proof.Proof.Gen.NprojKernelIdeal
public import proofs.«01_k».proof.Proof.Gen.NprojKernelIdeal.Skeleton
public import proofs.«01_k».proof.Proof.Gen.NprojKernelIdeal.Launch
public import proofs.«01_k».proof.Proof.Gen.NprojKernelIdeal.Points
public import proofs.«01_k».proof.Proof.Gen.NprojKernelIdeal.Frame
public import proofs.«01_k».proof.Proof.Gen.NprojReferenceIdeal
public import proofs.«01_k».proof.Proof.Gen.NprojReferenceIdeal.Run
public import proofs.«01_k».proof.Proof.Gen.NprojReferenceIdeal.Read
public import proofs.«01_k».proof.Proof.NprojFrame
public import proofs.«01_k».proof.Proof.NprojSame
public import proofs.«01_k».proof.Proof.NprojClaim
public import proofs.«01_k».proof.Proof.Gen.WinKernel
public import proofs.«01_k».proof.Proof.Gen.WinKernel.Skeleton
public import proofs.«01_k».proof.Proof.Gen.WinKernel.Launch
public import proofs.«01_k».proof.Proof.Gen.WinKernel.Points
public import proofs.«01_k».proof.Proof.Gen.WinKernel.Frame
public import proofs.«01_k».proof.Proof.Gen.WinKernelIdeal
public import proofs.«01_k».proof.Proof.Gen.WinKernelIdeal.Skeleton
public import proofs.«01_k».proof.Proof.Gen.WinKernelIdeal.Launch
public import proofs.«01_k».proof.Proof.Gen.WinKernelIdeal.Points
public import proofs.«01_k».proof.Proof.Gen.WinKernelIdeal.Frame
public import proofs.«01_k».proof.Proof.Gen.WinKernelIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.WinClaim
public import proofs.«01_k».proof.Proof.Gen.WoutKernel
public import proofs.«01_k».proof.Proof.Gen.WoutKernel.Skeleton
public import proofs.«01_k».proof.Proof.Gen.WoutKernel.Launch
public import proofs.«01_k».proof.Proof.Gen.WoutKernel.Points
public import proofs.«01_k».proof.Proof.Gen.WoutKernel.Frame
public import proofs.«01_k».proof.Proof.Gen.WoutKernelIdeal
public import proofs.«01_k».proof.Proof.Gen.WoutKernelIdeal.Skeleton
public import proofs.«01_k».proof.Proof.Gen.WoutKernelIdeal.Launch
public import proofs.«01_k».proof.Proof.Gen.WoutKernelIdeal.Points
public import proofs.«01_k».proof.Proof.Gen.WoutKernelIdeal.Frame
public import proofs.«01_k».proof.Proof.Gen.WoutKernelIdeal.Value
public import proofs.«01_k».proof.Proof.Gen.WoutReferenceIdeal
public import proofs.«01_k».proof.Proof.Gen.WoutReferenceIdeal.Run
public import proofs.«01_k».proof.Proof.Gen.WoutReferenceIdeal.Read
public import proofs.«01_k».proof.Proof.WoutClaim
public import proofs.«01_k».proof.Proof.Gen.RestKernel
public import proofs.«01_k».proof.Proof.Gen.RestKernel.Skeleton
public import proofs.«01_k».proof.Proof.Gen.RestKernel.Launch
public import proofs.«01_k».proof.Proof.Gen.RestKernel.Points
public import proofs.«01_k».proof.Proof.Gen.RestKernel.Frame
public import proofs.«01_k».proof.Proof.Gen.RestKernelIdeal
public import proofs.«01_k».proof.Proof.Gen.RestKernelIdeal.Skeleton
public import proofs.«01_k».proof.Proof.Gen.RestKernelIdeal.Launch
public import proofs.«01_k».proof.Proof.Gen.RestKernelIdeal.Points
public import proofs.«01_k».proof.Proof.Gen.RestKernelIdeal.Frame
public import proofs.«01_k».proof.Proof.Gen.RestKernelIdeal.Value
public import proofs.«01_k».proof.Proof.Gen.RestReferenceIdeal
public import proofs.«01_k».proof.Proof.Gen.RestReferenceIdeal.Run
public import proofs.«01_k».proof.Proof.Gen.RestReferenceIdeal.Read
public import proofs.«01_k».proof.Proof.RestClaim
public import proofs.«01_k».proof.Proof.Gen.HeadKernel
public import proofs.«01_k».proof.Proof.Gen.HeadKernel.Skeleton
public import proofs.«01_k».proof.Proof.Gen.HeadKernel.Launch
public import proofs.«01_k».proof.Proof.Gen.HeadKernel.Points
public import proofs.«01_k».proof.Proof.Gen.HeadKernel.Frame
public import proofs.«01_k».proof.Proof.Gen.HeadKernelIdeal
public import proofs.«01_k».proof.Proof.Gen.HeadKernelIdeal.Skeleton
public import proofs.«01_k».proof.Proof.Gen.HeadKernelIdeal.Launch
public import proofs.«01_k».proof.Proof.Gen.HeadKernelIdeal.Points
public import proofs.«01_k».proof.Proof.Gen.HeadKernelIdeal.Frame
public import proofs.«01_k».proof.Proof.Gen.HeadKernelIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.HeadClaim
public import Idealize.ShloMosaic.Adequacy
public import Idealize.ShloMosaic.Init

@[expose] public section

noncomputable section

-- Every frame also says that every semaphore counter ends at zero.

namespace Cert.Proof

open Idealize.ShloMosaic Idealize.SL.Sem Cert.Kernel Cert.ShortConv

/-- Finite arguments are their real numbers. -/
theorem reals {a0 : Vec Ideal Cert.KernelIdeal.S2x2048x1024 .f32} {a1 : Vec Ideal Cert.KernelIdeal.S3x256 .f32}
    {a2 : Vec Ideal Cert.KernelIdeal.S2x2048x256 .f32} (h : Cert.Pre_finite.fn (F := Ideal) a0 a1 a2 = fun _ => 1#1) :
    Cert.ShortConv.K.Reals a0 a1 a2 (real3 a0) (real2 a1) (real3 a2) := by
  obtain ⟨h0, h1, h2⟩ := Cert.ShortConv.real_of_finite h
  exact ⟨real3_eq h0, real2_eq h1, real3_eq h2⟩

/-- The reference runs, leaves its arguments as they are, and every counter ends at zero. -/
theorem frame_reference : quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

/-- Over the real numbers the kernel computes the gradient of the gated short convolution. -/
theorem value : algebraic_KernelIdeal_ReferenceIdeal_pre_finite := by
  intro m ρ m' ρ' hpre hagree
  refine ⟨fun c => fun y : Cert.KernelIdeal.S16x4096x64.Idx => ((Cert.ShortConv.gradAt (real3 (m ((c.tc : Thread Cert.KernelIdeal.nD Cert.KernelIdeal.τ).loc Cert.KernelIdeal.main_arg0)))
      (real2 (m ((c.tc : Thread Cert.KernelIdeal.nD Cert.KernelIdeal.τ).loc Cert.KernelIdeal.main_arg1)))
      (real3 (m ((c.tc : Thread Cert.KernelIdeal.nD Cert.KernelIdeal.τ).loc Cert.KernelIdeal.main_arg2))) (y 0) (y 1) (y 2) : ℝ) : EReal),
    fun c => fun y : Cert.KernelIdeal.S4x2x3x64.Idx => ((Cert.ShortConv.tapAt (real3 (m ((c.tc : Thread Cert.KernelIdeal.nD Cert.KernelIdeal.τ).loc Cert.KernelIdeal.main_arg0)))
      (real3 (m ((c.tc : Thread Cert.KernelIdeal.nD Cert.KernelIdeal.τ).loc Cert.KernelIdeal.main_arg2))) (y 0) (y 1) (y 2) (y 3) : ℝ) : EReal), ?_, ?_⟩
  · exact (θ_run Cert.KernelIdeal.defs _ _).mono
      (fun r h c => ⟨(h c).1.trans (Cert.ShortConv.K.final3 (reals (hpre c))), (h c).2.1.trans (Cert.ShortConv.K.final4 (reals (hpre c))), (h c).2.2⟩)
      (Cert.KernelIdeal.Value.run_blocks (F := Ideal) m ρ)
  · refine (θ_run Cert.ReferenceIdeal.defs _ _).mono (fun r h c => ?_) (Cert.ReferenceIdeal.Value.run (F := Ideal) m' ρ')
    obtain ⟨e0, e1, e2⟩ := hagree c
    have R := reals (hpre c)
    refine ⟨(h c).1.trans ((Cert.ReferenceIdeal.Read.val_main_v87_eq m' c).trans ?_), (h c).2.1.trans ((Cert.ReferenceIdeal.Read.val_main_v89_eq m' c).trans ?_), (h c).2.2⟩
    · rw [e0, e1, e2]
      funext y
      idx_vars y
      exact Cert.ShortConv.R.v87 R.p R.w R.d _ _ _
    · rw [e0, e2]
      funext y
      idx_vars y
      exact Cert.ShortConv.R.v89 R.p R.d _ _ _ _

/-- Every claim of the certificate. -/
theorem claim : Cert.Claim := ⟨Cert.Kernel.Gen.facts,
  Cert.KernelIdeal.Gen.facts,
  Cert.ReferenceIdeal.Gen.facts,
  Cert.DhKernel.Gen.facts,
  Cert.DhKernelIdeal.Gen.facts,
  Cert.DhReferenceIdeal.Gen.facts,
  Cert.DwKernel.Gen.facts,
  Cert.DwKernelIdeal.Gen.facts,
  Cert.DwReferenceIdeal.Gen.facts,
  Cert.PostKernel.Gen.facts,
  Cert.PostKernelIdeal.Gen.facts,
  Cert.PostReferenceIdeal.Gen.facts,
  Cert.OutKernel.Gen.facts,
  Cert.OutKernelIdeal.Gen.facts,
  Cert.OutReferenceIdeal.Gen.facts,
  Cert.ConvKernel.Gen.facts,
  Cert.ConvKernelIdeal.Gen.facts,
  Cert.ConvReferenceIdeal.Gen.facts,
  Cert.MixKernel.Gen.facts,
  Cert.MixKernelIdeal.Gen.facts,
  Cert.MixReferenceIdeal.Gen.facts,
  Cert.OprojKernel.Gen.facts,
  Cert.OprojKernelIdeal.Gen.facts,
  Cert.OprojReferenceIdeal.Gen.facts,
  Cert.NprojKernel.Gen.facts,
  Cert.NprojKernelIdeal.Gen.facts,
  Cert.NprojReferenceIdeal.Gen.facts,
  Cert.WinKernel.Gen.facts,
  Cert.WinKernelIdeal.Gen.facts,
  Cert.WinReferenceIdeal.Gen.facts,
  Cert.WoutKernel.Gen.facts,
  Cert.WoutKernelIdeal.Gen.facts,
  Cert.WoutReferenceIdeal.Gen.facts,
  Cert.RestKernel.Gen.facts,
  Cert.RestKernelIdeal.Gen.facts,
  Cert.RestReferenceIdeal.Gen.facts,
  Cert.HeadKernel.Gen.facts,
  Cert.HeadKernelIdeal.Gen.facts,
  Cert.HeadReferenceIdeal.Gen.facts,
  Cert.Pre_finite.Gen.facts,
  Cert.Pre_mix_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.DhKernel.Gen.frame m ρ,
  fun m ρ _ => Cert.DhKernelIdeal.Gen.frame m ρ,
  Cert.Proj.frame_reference,
  fun m ρ _ => Cert.DwKernel.Gen.frame m ρ,
  fun m ρ _ => Cert.DwKernelIdeal.Gen.frame m ρ,
  Cert.Proj.DwR.frame_reference,
  fun m ρ _ => Cert.PostKernel.Gen.frame m ρ,
  fun m ρ _ => Cert.PostKernelIdeal.Gen.frame m ρ,
  Cert.Out.PostR.frame_reference,
  fun m ρ _ => Cert.OutKernel.Gen.frame m ρ,
  fun m ρ _ => Cert.OutKernelIdeal.Gen.frame m ρ,
  Cert.Out.OutR.frame_reference,
  fun m ρ _ => Cert.ConvKernel.Gen.frame m ρ,
  fun m ρ _ => Cert.ConvKernelIdeal.Gen.frame m ρ,
  Cert.Conv.R.frame_reference,
  fun m ρ _ => Cert.MixKernel.Gen.frame m ρ,
  fun m ρ _ => Cert.MixKernelIdeal.Gen.frame m ρ,
  fun m ρ _ => Cert.MixKernelIdeal.Gen.frame m ρ,
  Cert.Mix.R.frame_reference,
  fun m ρ _ => Cert.Mix.R.frame_reference m ρ trivial,
  fun m ρ _ => Cert.OprojKernel.Gen.frame m ρ,
  fun m ρ _ => Cert.OprojKernelIdeal.Gen.frame m ρ,
  Cert.OutP.frame_reference,
  Cert.Nproj.frame_kernel,
  fun m ρ _ => Cert.Nproj.Run.frame m ρ,
  Cert.Nproj.frame_reference,
  fun m ρ _ => Cert.WinKernel.Gen.frame m ρ,
  fun m ρ _ => Cert.WinKernelIdeal.Gen.frame m ρ,
  Cert.Adam.Win.frame_reference,
  fun m ρ _ => Cert.WoutKernel.Gen.frame m ρ,
  fun m ρ _ => Cert.WoutKernelIdeal.Gen.frame m ρ,
  Cert.Adam.Wout.frame_reference,
  fun m ρ _ => Cert.RestKernel.Gen.frame m ρ,
  fun m ρ _ => Cert.RestKernelIdeal.Gen.frame m ρ,
  Cert.Adam.Rest.frame_reference,
  fun m ρ _ => Cert.HeadKernel.Gen.frame m ρ,
  fun m ρ _ => Cert.HeadKernelIdeal.Gen.frame m ρ,
  Cert.Head.frame_reference,
  trivial,
  value,
  trivial,
  Cert.Proj.value,
  trivial,
  Cert.Proj.DwR.value,
  trivial,
  Cert.Out.PostR.value,
  trivial,
  Cert.Out.OutR.value,
  trivial,
  Cert.Conv.R.value,
  trivial,
  Cert.Mix.R.value,
  trivial,
  Cert.OutP.value,
  trivial,
  Cert.Nproj.value,
  trivial,
  Cert.Adam.Win.value,
  trivial,
  Cert.Adam.Wout.value,
  trivial,
  Cert.Adam.Rest.value,
  trivial,
  Cert.Head.value⟩

end Cert.Proof

end
